-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "ln2" .f32 0x3F317218#32 ((Real.log 2 : ℝ) : EReal)

def preserves_Reference_ReferenceIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v99_0)) (v1 : (c : Dev Cert.KernelIdeal.nD) → Buf (Elt Ideal) ((c.tc : Thread Cert.KernelIdeal.nD Cert.KernelIdeal.τ).loc Cert.KernelIdeal.main_v99_1)) (v2 : (c : Dev Cert.KernelIdeal.nD) → Buf (Elt Ideal) ((c.tc : Thread Cert.KernelIdeal.nD Cert.KernelIdeal.τ).loc Cert.KernelIdeal.main_v99_2)) (v3 : (c : Dev Cert.KernelIdeal.nD) → Buf (Elt Ideal) ((c.tc : Thread Cert.KernelIdeal.nD Cert.KernelIdeal.τ).loc Cert.KernelIdeal.main_v99_3)) (v4 : (c : Dev Cert.KernelIdeal.nD) → Buf (Elt Ideal) ((c.tc : Thread Cert.KernelIdeal.nD Cert.KernelIdeal.τ).loc Cert.KernelIdeal.main_v99_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99_0) = v0 c
          ∧ r.2.mem ((c.tc : Thread Cert.KernelIdeal.nD Cert.KernelIdeal.τ).loc Cert.KernelIdeal.main_v99_1) = v1 c
          ∧ r.2.mem ((c.tc : Thread Cert.KernelIdeal.nD Cert.KernelIdeal.τ).loc Cert.KernelIdeal.main_v99_2) = v2 c
          ∧ r.2.mem ((c.tc : Thread Cert.KernelIdeal.nD Cert.KernelIdeal.τ).loc Cert.KernelIdeal.main_v99_3) = v3 c
          ∧ r.2.mem ((c.tc : Thread Cert.KernelIdeal.nD Cert.KernelIdeal.τ).loc Cert.KernelIdeal.main_v99_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v87) = v3 c
          ∧ r.2.mem ((c.tc : Thread Cert.ReferenceIdeal.nD Cert.ReferenceIdeal.τ).loc Cert.ReferenceIdeal.main_v88) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ preserves_Reference_ReferenceIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8192x2048 : Shape := ⟨2, ![8192, 2048]⟩
abbrev S16x8192 : Shape := ⟨2, ![16, 8192]⟩
abbrev S_ : Shape := ⟨0, ![]⟩

class Facts : Prop where
  bcast_S_S8192x2048 : S_.BroadcastsInDim S8192x2048 (![] : Fin 0 → Fin S8192x2048.rank)
  bcast_S_S16x8192 : S_.BroadcastsInDim S16x8192 (![] : Fin 0 → Fin S16x8192.rank)

variable [Facts]

def fn {F : FTy → Type} [FloatOps F] (main_arg0 : FVec F S8192x2048 .f32) (main_arg1 : FVec F S8192x2048 .f32) (main_arg2 : FVec F S8192x2048 .f32) (main_arg3 : FVec F S8192x2048 .f32) (main_arg4 : FVec F S16x8192 .f32) (main_arg5 : FVec F S8192x2048 .f32) : IVec S8192x2048 1 × IVec S8192x2048 1 × IVec S8192x2048 1 × IVec S16x8192 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  let main_v9 : FVec F S16x8192 .f32 := Host.absf main_arg4
  let main_cst_2 : FVec F S_ .f32 := constant S_ .f32 0x7F800000#32
  let main_v10 : FVec F S16x8192 .f32 := broadcastInDim S16x8192 ![] bcast_S_S16x8192 main_cst_2
  let main_v11 : IVec S16x8192 1 := cmpf .olt main_v9 main_v10
  let main_v12 : FVec F S8192x2048 .f32 := Host.absf main_arg5
  let main_cst_3 : FVec F S_ .f32 := constant S_ .f32 0x7F800000#32
  let main_v13 : FVec F S8192x2048 .f32 := broadcastInDim S8192x2048 ![] bcast_S_S8192x2048 main_cst_3
  let main_v14 : IVec S8192x2048 1 := cmpf .olt main_v12 main_v13
  (main_v2, main_v5, main_v8, main_v11, main_v14)
-- ==== Kernel.lean ====
abbrev S8192x2048 : Shape := ⟨2, ![8192, 2048]⟩
abbrev S16x8192 : Shape := ⟨2, ![16, 8192]⟩
abbrev S8192x16x128 : Shape := ⟨3, ![8192, 16, 128]⟩
abbrev S16x8192x8192 : Shape := ⟨3, ![16, 8192, 8192]⟩
abbrev S_ : Shape := ⟨0, ![]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192x1 : Shape := ⟨3, ![16, 8192, 1]⟩
abbrev S16x8192x128 : Shape := ⟨3, ![16, 8192, 128]⟩
abbrev S16x8192x6 : Shape := ⟨3, ![16, 8192, 6]⟩
abbrev S16x8192x3 : Shape := ⟨3, ![16, 8192, 3]⟩
abbrev S512x256 : Shape := ⟨2, ![512, 256]⟩
abbrev S8192x256 : Shape := ⟨2, ![8192, 256]⟩
abbrev S2x1x8192 : Shape := ⟨3, ![2, 1, 8192]⟩
abbrev S2x1x512 : Shape := ⟨3, ![2, 1, 512]⟩
abbrev S2x8192x256 : Shape := ⟨3, ![2, 8192, 256]⟩
abbrev S2x512x256 : Shape := ⟨3, ![2, 512, 256]⟩
abbrev S2x512x128 : Shape := ⟨3, ![2, 512, 128]⟩
abbrev S2x512x512 : Shape := ⟨3, ![2, 512, 512]⟩
abbrev S512x128 : Shape := ⟨2, ![512, 128]⟩
abbrev S512x512 : Shape := ⟨2, ![512, 512]⟩
abbrev S1x512x512 : Shape := ⟨3, ![1, 512, 512]⟩
abbrev S1x512x128 : Shape := ⟨3, ![1, 512, 128]⟩
abbrev S1x512x256 : Shape := ⟨3, ![1, 512, 256]⟩
abbrev S128x512 : Shape := ⟨2, ![128, 512]⟩
abbrev S1x512 : Shape := ⟨2, ![1, 512]⟩
abbrev S1x1x512 : Shape := ⟨3, ![1, 1, 512]⟩
abbrev S1x8192x128 : Shape := ⟨3, ![1, 8192, 128]⟩
abbrev S8192x128 : Shape := ⟨2, ![8192, 128]⟩

abbrev nBuf : Space → Nat
  | .hbm => 130
  | .vmem => 25
  | .smem => 0
  | _ => 0

abbrev hbmTy0_0 (i : Nat) : BufTy := match i % 128 with
  | 0 => ⟨S8192x2048, .f32⟩
  | 1 => ⟨S8192x2048, .f32⟩
  | 2 => ⟨S8192x2048, .f32⟩
  | 3 => ⟨S8192x2048, .f32⟩
  | 4 => ⟨S16x8192, .f32⟩
  | 5 => ⟨S8192x2048, .f32⟩
  | 6 => ⟨S8192x16x128, .f32⟩
  | 7 => ⟨S8192x16x128, .f32⟩
  | 8 => ⟨S16x8192x8192, .f32⟩
  | 9 => ⟨S_, .f32⟩
  | 10 => ⟨S16x8192x8192, .f32⟩
  | 11 => ⟨S16x8192x8192, .f32⟩
  | 12 => ⟨S16x1x8192, .f32⟩
  | 13 => ⟨S16x8192x8192, .f32⟩
  | 14 => ⟨S16x8192x8192, .f32⟩
  | 15 => ⟨S8192, .i32⟩
  | 16 => ⟨S1x8192, .i32⟩
  | 17 => ⟨S8192x1, .i32⟩
  | 18 => ⟨S8192x8192, .i32⟩
  | 19 => ⟨S8192x8192, .i32⟩
  | 20 => ⟨S8192x8192, .i1⟩
  | 21 => ⟨S_, .f32⟩
  | 22 => ⟨S_, .f32⟩
  | 23 => ⟨S16x8192x8192, .i1⟩
  | 24 => ⟨S16x8192x8192, .f32⟩
  | 25 => ⟨S16x8192x8192, .f32⟩
  | 26 => ⟨S_, .f32⟩
  | 27 => ⟨S16x8192, .f32⟩
  | 28 => ⟨S16x8192x1, .f32⟩
  | 29 => ⟨S16x8192x8192, .f32⟩
  | 30 => ⟨S16x8192x8192, .f32⟩
  | 31 => ⟨S16x8192x8192, .f32⟩
  | 32 => ⟨S_, .f32⟩
  | 33 => ⟨S16x8192, .f32⟩
  | 34 => ⟨S16x8192x1, .f32⟩
  | 35 => ⟨S16x8192x8192, .f32⟩
  | 36 => ⟨S16x8192x8192, .f32⟩
  | 37 => ⟨S8192x16x128, .f32⟩
  | 38 => ⟨S16x8192x128, .f32⟩
  | 39 => ⟨S16x8192, .f32⟩
  | 40 => ⟨S16x8192, .f32⟩
  | 41 => ⟨S_, .f32⟩
  | 42 => ⟨S_, .f32⟩
  | 43 => ⟨S16x8192, .f32⟩
  | 44 => ⟨S16x8192, .f32⟩
  | 45 => ⟨S_, .f32⟩
  | 46 => ⟨S8192x2048, .f32⟩
  | 47 => ⟨S8192x2048, .f32⟩
  | 48 => ⟨S_, .f32⟩
  | 49 => ⟨S_, .f32⟩
  | 50 => ⟨S8192x2048, .f32⟩
  | 51 => ⟨S8192x2048, .f32⟩
  | 52 => ⟨S8192x8192, .f32⟩
  | 53 => ⟨S8192x8192, .bf16⟩
  | 54 => ⟨S_, .bf16⟩
  | 55 => ⟨S16x8192, .bf16⟩
  | 56 => ⟨S16x8192, .f32⟩
  | 57 => ⟨S_, .f32⟩
  | 58 => ⟨S_, .f32⟩
  | 59 => ⟨S16x8192, .f32⟩
  | 60 => ⟨S16x8192, .f32⟩
  | 61 => ⟨S16x8192, .bf16⟩
  | 62 => ⟨S16x8192, .f32⟩
  | 63 => ⟨S16x8192, .f32⟩
  | 64 => ⟨S16x8192, .bf16⟩
  | 65 => ⟨S16x8192, .f32⟩
  | 66 => ⟨S16x8192, .f32⟩
  | 67 => ⟨S16x8192, .bf16⟩
  | 68 => ⟨S_, .bf16⟩
  | 69 => ⟨S16x8192, .bf16⟩
  | 70 => ⟨S16x8192x1, .bf16⟩
  | 71 => ⟨S16x8192x1, .bf16⟩
  | 72 => ⟨S16x8192x1, .bf16⟩
  | 73 => ⟨S16x8192x1, .bf16⟩
  | 74 => ⟨S16x8192x1, .bf16⟩
  | 75 => ⟨S16x8192x1, .bf16⟩
  | 76 => ⟨S16x8192x6, .bf16⟩
  | 77 => ⟨S_, .i32⟩
  | 78 => ⟨S_, .bf16⟩
  | 79 => ⟨S16x8192x128, .bf16⟩
  | 80 => ⟨S8192x16x128, .bf16⟩
  | 81 => ⟨S8192x2048, .bf16⟩
  | 82 => ⟨S16x8192, .f32⟩
  | 83 => ⟨S16x8192, .bf16⟩
  | 84 => ⟨S16x8192, .f32⟩
  | 85 => ⟨S16x8192, .f32⟩
  | 86 => ⟨S16x8192, .bf16⟩
  | 87 => ⟨S16x8192, .f32⟩
  | 88 => ⟨S16x8192, .f32⟩
  | 89 => ⟨S16x8192, .bf16⟩
  | 90 => ⟨S16x8192x1, .bf16⟩
  | 91 => ⟨S16x8192x1, .bf16⟩
  | 92 => ⟨S16x8192x1, .bf16⟩
  | 93 => ⟨S16x8192x1, .bf16⟩
  | 94 => ⟨S16x8192x1, .bf16⟩
  | 95 => ⟨S16x8192x1, .bf16⟩
  | 96 => ⟨S16x8192x6, .bf16⟩
  | 97 => ⟨S_, .i32⟩
  | 98 => ⟨S_, .bf16⟩
  | 99 => ⟨S16x8192x128, .bf16⟩
  | 100 => ⟨S8192x16x128, .bf16⟩
  | 101 => ⟨S8192x2048, .bf16⟩
  | 102 => ⟨S8192x16x128, .f32⟩
  | 103 => ⟨S16x8192x128, .f32⟩
  | 104 => ⟨S16x8192x128, .f32⟩
  | 105 => ⟨S_, .f32⟩
  | 106 => ⟨S16x8192, .f32⟩
  | 107 => ⟨S16x8192, .f32⟩
  | 108 => ⟨S16x8192, .bf16⟩
  | 109 => ⟨S16x8192, .f32⟩
  | 110 => ⟨S16x8192, .f32⟩
  | 111 => ⟨S16x8192, .bf16⟩
  | 112 => ⟨S16x8192, .f32⟩
  | 113 => ⟨S16x8192, .f32⟩
  | 114 => ⟨S16x8192, .bf16⟩
  | 115 => ⟨S16x8192x1, .bf16⟩
  | 116 => ⟨S16x8192x1, .bf16⟩
  | 117 => ⟨S16x8192x1, .bf16⟩
  | 118 => ⟨S16x8192x3, .bf16⟩
  | 119 => ⟨S_, .i32⟩
  | 120 => ⟨S_, .bf16⟩
  | 121 => ⟨S16x8192x128, .bf16⟩
  | 122 => ⟨S8192x16x128, .bf16⟩
  | 123 => ⟨S8192x2048, .bf16⟩
  | 124 => ⟨S8192x2048, .bf16⟩
  | 125 => ⟨S8192x2048, .bf16⟩
  | 126 => ⟨S16x1x8192, .f32⟩
  | 127 => ⟨S8192x2048, .bf16⟩
  | _ => ⟨S8192x2048, .f32⟩

abbrev hbmTy0_1 (i : Nat) : BufTy := match i % 128 with
  | 0 => ⟨S8192x2048, .bf16⟩
  | 1 => ⟨S16x1x8192, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S8192x256, .bf16⟩
  | .local _ .vmem, ⟨7, _⟩ => ⟨S8192x256, .bf16⟩
  | .local _ .vmem, ⟨8, _⟩ => ⟨S8192x256, .bf16⟩
  | .local _ .vmem, ⟨9, _⟩ => ⟨S8192x256, .bf16⟩
  | .local _ .vmem, ⟨10, _⟩ => ⟨S8192x256, .bf16⟩
  | .local _ .vmem, ⟨11, _⟩ => ⟨S8192x256, .bf16⟩
  | .local _ .vmem, ⟨12, _⟩ => ⟨S2x1x8192, .f32⟩
  | .local _ .vmem, ⟨13, _⟩ => ⟨S2x1x8192, .f32⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S2x1x512, .f32⟩
  | .local _ .vmem, ⟨19, _⟩ => ⟨S2x1x512, .f32⟩
  | .local _ .vmem, ⟨20, _⟩ => ⟨S2x8192x256, .f32⟩
  | .local _ .vmem, ⟨21, _⟩ => ⟨S2x512x256, .f32⟩
  | .local _ .vmem, ⟨22, _⟩ => ⟨S2x512x128, .f32⟩
  | .local _ .vmem, ⟨23, _⟩ => ⟨S2x512x512, .bf16⟩
  | .local _ .vmem, ⟨24, _⟩ => ⟨S2x512x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c : Ref sig .tc := ⟨.hbm, 77, rfl⟩
abbrev main_call1_v0 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_9 : Ref sig .tc := ⟨.hbm, 97, rfl⟩
abbrev main_call2_v0 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_10 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_c_11 : Ref sig .tc := ⟨.hbm, 119, rfl⟩
abbrev main_call3_v0 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99_0 : Ref sig .tc := ⟨.hbm, 125, rfl⟩
abbrev main_v99_1 : Ref sig .tc := ⟨.hbm, 126, rfl⟩
abbrev main_v99_2 : Ref sig .tc := ⟨.hbm, 127, rfl⟩
abbrev main_v99_3 : Ref sig .tc := ⟨.hbm, 128, rfl⟩
abbrev main_v99_4 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v26 : BitVec 32 := Scalar.muli arg1 c512_i32
  v26
def k0_off1 (i : grid0.Coords) : Fin 2 → Nat :=
  let arg1 : BitVec 32 := BitVec.ofNat 32 (i 1).val
  let c512_i32 : BitVec 32 := 512#32
  let v26 : BitVec 32 := Scalar.muli arg1 c512_i32
  let v27 : BitVec 32 := v26
  let v36 : Index := Scalar.indexCast v27
  let c0_19 : Index := 0#32
  ![v36.toNat, 0]
def k0_off2 (i : grid0.Coords) : Fin 2 → Nat :=
  let arg1 : BitVec 32 := BitVec.ofNat 32 (i 1).val
  let c512_i32 : BitVec 32 := 512#32
  let v26 : BitVec 32 := Scalar.muli arg1 c512_i32
  let v27 : BitVec 32 := v26
  let v75 : Index := Scalar.indexCast v27
  let c128_37 : Index := 128#32
  ![v75.toNat, 128]
@[reducible] def k0_t1_loop (i : grid0.Coords) : Scf.Loop 32 :=
  let arg1 : BitVec 32 := BitVec.ofNat 32 (i 1).val
  let c1_i32_49 : BitVec 32 := 1#32
  let v106 : BitVec 32 := Scalar.addi arg1 c1_i32_49
  let c16_i32 : BitVec 32 := 16#32
  let v107 : BitVec 32 := Scalar.subi c16_i32 v106
  let c1_i32_51 : BitVec 32 := 1#32
  let v109 : BitVec 32 := Scalar.divsi v107 c1_i32_51
  let v110 : BitVec 32 := Scalar.muli v109 c1_i32_51
  let v111 : BitVec 32 := Scalar.addi v106 v110
  let c1_i32_52 : BitVec 32 := 1#32
  ⟨v106, v111, c1_i32_52⟩
def k0_mult2 (i : grid0.Coords) (k0_t1 : Fin (k0_t1_loop i).trips) : BitVec 32 :=
  let arg1 : BitVec 32 := BitVec.ofNat 32 (i 1).val
  let c1_i32_49 : BitVec 32 := 1#32
  let v106 : BitVec 32 := Scalar.addi arg1 c1_i32_49
  let c1_i32_52 : BitVec 32 := 1#32
  let arg19 : BitVec 32 := Scf.iv v106 c1_i32_52 k0_t1
  let c512_i32_162 : BitVec 32 := 512#32
  let v223 : BitVec 32 := Scalar.muli arg19 c512_i32_162
  v223
def k0_mult3 (i : grid0.Coords) (k0_t1 : Fin (k0_t1_loop i).trips) : BitVec 32 :=
  let arg1 : BitVec 32 := BitVec.ofNat 32 (i 1).val
  let c1_i32_49 : BitVec 32 := 1#32
  let v106 : BitVec 32 := Scalar.addi arg1 c1_i32_49
  let c1_i32_52 : BitVec 32 := 1#32
  let arg19 : BitVec 32 := Scf.iv v106 c1_i32_52 k0_t1
  let c1_i32_163 : BitVec 32 := 1#32
  let v225 : BitVec 32 := Scalar.subi arg19 c1_i32_163
  let c512_i32_164 : BitVec 32 := 512#32
  let v226 : BitVec 32 := Scalar.muli v225 c512_i32_164
  v226
def k0_off3 (i : grid0.Coords) (k0_t1 : Fin (k0_t1_loop i).trips) : Fin 2 → Nat :=
  let arg1 : BitVec 32 := BitVec.ofNat 32 (i 1).val
  let c1_i32_49 : BitVec 32 := 1#32
  let v106 : BitVec 32 := Scalar.addi arg1 c1_i32_49
  let c1_i32_52 : BitVec 32 := 1#32
  let arg19 : BitVec 32 := Scf.iv v106 c1_i32_52 k0_t1
  let c1_i32_163 : BitVec 32 := 1#32
  let v225 : BitVec 32 := Scalar.subi arg19 c1_i32_163
  let c512_i32_164 : BitVec 32 := 512#32
  let v226 : BitVec 32 := Scalar.muli v225 c512_i32_164
  let v227 : BitVec 32 := v226
  let v232 : Index := Scalar.indexCast v227
  let c0_171 : Index := 0#32
  ![v232.toNat, 0]
def k0_off4 (i : grid0.Coords) (k0_t1 : Fin (k0_t1_loop i).trips) : Fin 3 → Nat :=
  let c0_187 : Index := 0#32
  let arg1 : BitVec 32 := BitVec.ofNat 32 (i 1).val
  let c1_i32_49 : BitVec 32 := 1#32
  let v106 : BitVec 32 := Scalar.addi arg1 c1_i32_49
  let c1_i32_52 : BitVec 32 := 1#32
  let arg19 : BitVec 32 := Scf.iv v106 c1_i32_52 k0_t1
  let c1_i32_163 : BitVec 32 := 1#32
  let v225 : BitVec 32 := Scalar.subi arg19 c1_i32_163
  let c512_i32_164 : BitVec 32 := 512#32
  let v226 : BitVec 32 := Scalar.muli v225 c512_i32_164
  let v227 : BitVec 32 := v226
  let v253 : Index := Scalar.indexCast v227
  let c0_188 : Index := 0#32
  ![0, v253.toNat, 0]
def k0_off5 (i : grid0.Coords) (k0_t1 : Fin (k0_t1_loop i).trips) : Fin 2 → Nat :=
  let arg1 : BitVec 32 := BitVec.ofNat 32 (i 1).val
  let c1_i32_49 : BitVec 32 := 1#32
  let v106 : BitVec 32 := Scalar.addi arg1 c1_i32_49
  let c1_i32_52 : BitVec 32 := 1#32
  let arg19 : BitVec 32 := Scf.iv v106 c1_i32_52 k0_t1
  let c1_i32_163 : BitVec 32 := 1#32
  let v225 : BitVec 32 := Scalar.subi arg19 c1_i32_163
  let c512_i32_164 : BitVec 32 := 512#32
  let v226 : BitVec 32 := Scalar.muli v225 c512_i32_164
  let v227 : BitVec 32 := v226
  let v271 : Index := Scalar.indexCast v227
  let c128_203 : Index := 128#32
  ![v271.toNat, 128]
def k0_off6 (i : grid0.Coords) (k0_t1 : Fin (k0_t1_loop i).trips) : Fin 3 → Nat :=
  let c1_219 : Index := 1#32
  let arg1 : BitVec 32 := BitVec.ofNat 32 (i 1).val
  let c1_i32_49 : BitVec 32 := 1#32
  let v106 : BitVec 32 := Scalar.addi arg1 c1_i32_49
  let c1_i32_52 : BitVec 32 := 1#32
  let arg19 : BitVec 32 := Scf.iv v106 c1_i32_52 k0_t1
  let c1_i32_163 : BitVec 32 := 1#32
  let v225 : BitVec 32 := Scalar.subi arg19 c1_i32_163
  let c512_i32_164 : BitVec 32 := 512#32
  let v226 : BitVec 32 := Scalar.muli v225 c512_i32_164
  let v227 : BitVec 32 := v226
  let v292 : Index := Scalar.indexCast v227
  let c0_220 : Index := 0#32
  ![1, v292.toNat, 0]
def k0_off7 (i : grid0.Coords) (k0_t1 : Fin (k0_t1_loop i).trips) : Fin 2 → Nat :=
  let arg1 : BitVec 32 := BitVec.ofNat 32 (i 1).val
  let c1_i32_49 : BitVec 32 := 1#32
  let v106 : BitVec 32 := Scalar.addi arg1 c1_i32_49
  let c1_i32_52 : BitVec 32 := 1#32
  let arg19 : BitVec 32 := Scf.iv v106 c1_i32_52 k0_t1
  let c512_i32_162 : BitVec 32 := 512#32
  let v223 : BitVec 32 := Scalar.muli arg19 c512_i32_162
  let v224 : BitVec 32 := v223
  let v314 : Index := Scalar.indexCast v224
  let c0_235 : Index := 0#32
  ![v314.toNat, 0]
def k0_off8 (i : grid0.Coords) (k0_t1 : Fin (k0_t1_loop i).trips) : Fin 2 → Nat :=
  let arg1 : BitVec 32 := BitVec.ofNat 32 (i 1).val
  let c1_i32_49 : BitVec 32 := 1#32
  let v106 : BitVec 32 := Scalar.addi arg1 c1_i32_49
  let c1_i32_52 : BitVec 32 := 1#32
  let arg19 : BitVec 32 := Scf.iv v106 c1_i32_52 k0_t1
  let c512_i32_162 : BitVec 32 := 512#32
  let v223 : BitVec 32 := Scalar.muli arg19 c512_i32_162
  let v224 : BitVec 32 := v223
  let v348 : Index := Scalar.indexCast v224
  let c128_253 : Index := 128#32
  ![v348.toNat, 128]
@[reducible] def k0_t2_loop (i : grid0.Coords) : Scf.Loop 32 :=
  let arg1 : BitVec 32 := BitVec.ofNat 32 (i 1).val
  let c1_i32_49 : BitVec 32 := 1#32
  let v106 : BitVec 32 := Scalar.addi arg1 c1_i32_49
  let c16_i32 : BitVec 32 := 16#32
  let v107 : BitVec 32 := Scalar.subi c16_i32 v106
  let c1_i32_51 : BitVec 32 := 1#32
  let v109 : BitVec 32 := Scalar.divsi v107 c1_i32_51
  let v110 : BitVec 32 := Scalar.muli v109 c1_i32_51
  let v111 : BitVec 32 := Scalar.addi v106 v110
  let v108 : BitVec 32 := Scalar.addi v106 v107
  let c1_i32_53 : BitVec 32 := 1#32
  ⟨v111, v108, c1_i32_53⟩
def k0_mult4 (i : grid0.Coords) (k0_t2 : Fin (k0_t2_loop i).trips) : BitVec 32 :=
  let arg1 : BitVec 32 := BitVec.ofNat 32 (i 1).val
  let c1_i32_49 : BitVec 32 := 1#32
  let v106 : BitVec 32 := Scalar.addi arg1 c1_i32_49
  let c16_i32 : BitVec 32 := 16#32
  let v107 : BitVec 32 := Scalar.subi c16_i32 v106
  let c1_i32_51 : BitVec 32 := 1#32
  let v109 : BitVec 32 := Scalar.divsi v107 c1_i32_51
  let v110 : BitVec 32 := Scalar.muli v109 c1_i32_51
  let v111 : BitVec 32 := Scalar.addi v106 v110
  let c1_i32_53 : BitVec 32 := 1#32
  let arg19 : BitVec 32 := Scf.iv v111 c1_i32_53 k0_t2
  let c512_i32_162 : BitVec 32 := 512#32
  let v223 : BitVec 32 := Scalar.muli arg19 c512_i32_162
  v223
def k0_mult5 (i : grid0.Coords) (k0_t2 : Fin (k0_t2_loop i).trips) : BitVec 32 :=
  let arg1 : BitVec 32 := BitVec.ofNat 32 (i 1).val
  let c1_i32_49 : BitVec 32 := 1#32
  let v106 : BitVec 32 := Scalar.addi arg1 c1_i32_49
  let c16_i32 : BitVec 32 := 16#32
  let v107 : BitVec 32 := Scalar.subi c16_i32 v106
  let c1_i32_51 : BitVec 32 := 1#32
  let v109 : BitVec 32 := Scalar.divsi v107 c1_i32_51
  let v110 : BitVec 32 := Scalar.muli v109 c1_i32_51
  let v111 : BitVec 32 := Scalar.addi v106 v110
  let c1_i32_53 : BitVec 32 := 1#32
  let arg19 : BitVec 32 := Scf.iv v111 c1_i32_53 k0_t2
  let c1_i32_163 : BitVec 32 := 1#32
  let v225 : BitVec 32 := Scalar.subi arg19 c1_i32_163
  let c512_i32_164 : BitVec 32 := 512#32
  let v226 : BitVec 32 := Scalar.muli v225 c512_i32_164
  v226
def k0_off9 (i : grid0.Coords) (k0_t2 : Fin (k0_t2_loop i).trips) : Fin 2 → Nat :=
  let arg1 : BitVec 32 := BitVec.ofNat 32 (i 1).val
  let c1_i32_49 : BitVec 32 := 1#32
  let v106 : BitVec 32 := Scalar.addi arg1 c1_i32_49
  let c16_i32 : BitVec 32 := 16#32
  let v107 : BitVec 32 := Scalar.subi c16_i32 v106
  let c1_i32_51 : BitVec 32 := 1#32
  let v109 : BitVec 32 := Scalar.divsi v107 c1_i32_51
  let v110 : BitVec 32 := Scalar.muli v109 c1_i32_51
  let v111 : BitVec 32 := Scalar.addi v106 v110
  let c1_i32_53 : BitVec 32 := 1#32
  let arg19 : BitVec 32 := Scf.iv v111 c1_i32_53 k0_t2
  let c1_i32_163 : BitVec 32 := 1#32
  let v225 : BitVec 32 := Scalar.subi arg19 c1_i32_163
  let c512_i32_164 : BitVec 32 := 512#32
  let v226 : BitVec 32 := Scalar.muli v225 c512_i32_164
  let v227 : BitVec 32 := v226
  let v232 : Index := Scalar.indexCast v227
  let c0_171 : Index := 0#32
  ![v232.toNat, 0]
def k0_off10 (i : grid0.Coords) (k0_t2 : Fin (k0_t2_loop i).trips) : Fin 3 → Nat :=
  let c0_187 : Index := 0#32
  let arg1 : BitVec 32 := BitVec.ofNat 32 (i 1).val
  let c1_i32_49 : BitVec 32 := 1#32
  let v106 : BitVec 32 := Scalar.addi arg1 c1_i32_49
  let c16_i32 : BitVec 32 := 16#32
  let v107 : BitVec 32 := Scalar.subi c16_i32 v106
  let c1_i32_51 : BitVec 32 := 1#32
  let v109 : BitVec 32 := Scalar.divsi v107 c1_i32_51
  let v110 : BitVec 32 := Scalar.muli v109 c1_i32_51
  let v111 : BitVec 32 := Scalar.addi v106 v110
  let c1_i32_53 : BitVec 32 := 1#32
  let arg19 : BitVec 32 := Scf.iv v111 c1_i32_53 k0_t2
  let c1_i32_163 : BitVec 32 := 1#32
  let v225 : BitVec 32 := Scalar.subi arg19 c1_i32_163
  let c512_i32_164 : BitVec 32 := 512#32
  let v226 : BitVec 32 := Scalar.muli v225 c512_i32_164
  let v227 : BitVec 32 := v226
  let v253 : Index := Scalar.indexCast v227
  let c0_188 : Index := 0#32
  ![0, v253.toNat, 0]
def k0_off11 (i : grid0.Coords) (k0_t2 : Fin (k0_t2_loop i).trips) : Fin 2 → Nat :=
  let arg1 : BitVec 32 := BitVec.ofNat 32 (i 1).val
  let c1_i32_49 : BitVec 32 := 1#32
  let v106 : BitVec 32 := Scalar.addi arg1 c1_i32_49
  let c16_i32 : BitVec 32 := 16#32
  let v107 : BitVec 32 := Scalar.subi c16_i32 v106
  let c1_i32_51 : BitVec 32 := 1#32
  let v109 : BitVec 32 := Scalar.divsi v107 c1_i32_51
  let v110 : BitVec 32 := Scalar.muli v109 c1_i32_51
  let v111 : BitVec 32 := Scalar.addi v106 v110
  let c1_i32_53 : BitVec 32 := 1#32
  let arg19 : BitVec 32 := Scf.iv v111 c1_i32_53 k0_t2
  let c1_i32_163 : BitVec 32 := 1#32
  let v225 : BitVec 32 := Scalar.subi arg19 c1_i32_163
  let c512_i32_164 : BitVec 32 := 512#32
  let v226 : BitVec 32 := Scalar.muli v225 c512_i32_164
  let v227 : BitVec 32 := v226
  let v271 : Index := Scalar.indexCast v227
  let c128_203 : Index := 128#32
  ![v271.toNat, 128]
def k0_off12 (i : grid0.Coords) (k0_t2 : Fin (k0_t2_loop i).trips) : Fin 3 → Nat :=
  let c1_219 : Index := 1#32
  let arg1 : BitVec 32 := BitVec.ofNat 32 (i 1).val
  let c1_i32_49 : BitVec 32 := 1#32
  let v106 : BitVec 32 := Scalar.addi arg1 c1_i32_49
  let c16_i32 : BitVec 32 := 16#32
  let v107 : BitVec 32 := Scalar.subi c16_i32 v106
  let c1_i32_51 : BitVec 32 := 1#32
  let v109 : BitVec 32 := Scalar.divsi v107 c1_i32_51
  let v110 : BitVec 32 := Scalar.muli v109 c1_i32_51
  let v111 : BitVec 32 := Scalar.addi v106 v110
  let c1_i32_53 : BitVec 32 := 1#32
  let arg19 : BitVec 32 := Scf.iv v111 c1_i32_53 k0_t2
  let c1_i32_163 : BitVec 32 := 1#32
  let v225 : BitVec 32 := Scalar.subi arg19 c1_i32_163
  let c512_i32_164 : BitVec 32 := 512#32
  let v226 : BitVec 32 := Scalar.muli v225 c512_i32_164
  let v227 : BitVec 32 := v226
  let v292 : Index := Scalar.indexCast v227
  let c0_220 : Index := 0#32
  ![1, v292.toNat, 0]
def k0_off13 (i : grid0.Coords) (k0_t2 : Fin (k0_t2_loop i).trips) : Fin 2 → Nat :=
  let arg1 : BitVec 32 := BitVec.ofNat 32 (i 1).val
  let c1_i32_49 : BitVec 32 := 1#32
  let v106 : BitVec 32 := Scalar.addi arg1 c1_i32_49
  let c16_i32 : BitVec 32 := 16#32
  let v107 : BitVec 32 := Scalar.subi c16_i32 v106
  let c1_i32_51 : BitVec 32 := 1#32
  let v109 : BitVec 32 := Scalar.divsi v107 c1_i32_51
  let v110 : BitVec 32 := Scalar.muli v109 c1_i32_51
  let v111 : BitVec 32 := Scalar.addi v106 v110
  let c1_i32_53 : BitVec 32 := 1#32
  let arg19 : BitVec 32 := Scf.iv v111 c1_i32_53 k0_t2
  let c512_i32_162 : BitVec 32 := 512#32
  let v223 : BitVec 32 := Scalar.muli arg19 c512_i32_162
  let v224 : BitVec 32 := v223
  let v314 : Index := Scalar.indexCast v224
  let c0_235 : Index := 0#32
  ![v314.toNat, 0]
def k0_off14 (i : grid0.Coords) (k0_t2 : Fin (k0_t2_loop i).trips) : Fin 2 → Nat :=
  let arg1 : BitVec 32 := BitVec.ofNat 32 (i 1).val
  let c1_i32_49 : BitVec 32 := 1#32
  let v106 : BitVec 32 := Scalar.addi arg1 c1_i32_49
  let c16_i32 : BitVec 32 := 16#32
  let v107 : BitVec 32 := Scalar.subi c16_i32 v106
  let c1_i32_51 : BitVec 32 := 1#32
  let v109 : BitVec 32 := Scalar.divsi v107 c1_i32_51
  let v110 : BitVec 32 := Scalar.muli v109 c1_i32_51
  let v111 : BitVec 32 := Scalar.addi v106 v110
  let c1_i32_53 : BitVec 32 := 1#32
  let arg19 : BitVec 32 := Scf.iv v111 c1_i32_53 k0_t2
  let c512_i32_162 : BitVec 32 := 512#32
  let v223 : BitVec 32 := Scalar.muli arg19 c512_i32_162
  let v224 : BitVec 32 := v223
  let v348 : Index := Scalar.indexCast v224
  let c128_253 : Index := 128#32
  ![v348.toNat, 128]
def k0_cond2 (i : grid0.Coords) : BitVec 1 :=
  let arg1 : BitVec 32 := BitVec.ofNat 32 (i 1).val
  let c15_i32 : BitVec 32 := 15#32
  let v220 : BitVec 1 := Scalar.cmpi .eq arg1 c15_i32
  let v221 : BitVec 32 := Scalar.extui v220
  let c0_i32_161 : BitVec 32 := 0#32
  let v222 : BitVec 1 := Scalar.cmpi .ne v221 c0_i32_161
  v222

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8192x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8192x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8192x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S8192x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S8192x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x1x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "ln2" => some ((Real.log 2 : ℝ) : EReal)
  | _ => none
-- ==== Reference.lean ====
abbrev S8192x2048 : Shape := ⟨2, ![8192, 2048]⟩
abbrev S16x8192 : Shape := ⟨2, ![16, 8192]⟩
abbrev S8192x16x128 : Shape := ⟨3, ![8192, 16, 128]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x128x8192 : Shape := ⟨3, ![16, 128, 8192]⟩
abbrev S16x8192x128 : Shape := ⟨3, ![16, 8192, 128]⟩

abbrev nBuf : Space → Nat
  | .hbm => 121
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S16x8192, .f32⟩
  | .hbm, ⟨5, _⟩ => ⟨S8192x2048, .f32⟩
  | .hbm, ⟨6, _⟩ => ⟨S8192x16x128, .f32⟩
  | .hbm, ⟨7, _⟩ => ⟨S8192x16x128, .f32⟩
  | .hbm, ⟨8, _⟩ => ⟨S16x8192x8192, .f32⟩
  | .hbm, ⟨9, _⟩ => ⟨S_, .f32⟩
  | .hbm, ⟨10, _⟩ => ⟨S16x8192x8192, .f32⟩
  | .hbm, ⟨11, _⟩ => ⟨S16x8192x8192, .f32⟩
  | .hbm, ⟨12, _⟩ => ⟨S16x8192x1, .f32⟩
  | .hbm, ⟨13, _⟩ => ⟨S16x1x8192, .f32⟩
  | .hbm, ⟨14, _⟩ => ⟨S16x8192x8192, .f32⟩
  | .hbm, ⟨15, _⟩ => ⟨S16x8192x8192, .f32⟩
  | .hbm, ⟨16, _⟩ => ⟨S16x8192x8192, .f32⟩
  | .hbm, ⟨17, _⟩ => ⟨S16x8192x8192, .f32⟩
  | .hbm, ⟨18, _⟩ => ⟨S8192, .i32⟩
  | .hbm, ⟨19, _⟩ => ⟨S1x8192, .i32⟩
  | .hbm, ⟨20, _⟩ => ⟨S8192x1, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S16x8192x8192, .i1⟩
  | .hbm, ⟨27, _⟩ => ⟨S16x8192x8192, .f32⟩
  | .hbm, ⟨28, _⟩ => ⟨S16x8192x8192, .f32⟩
  | .hbm, ⟨29, _⟩ => ⟨S_, .f32⟩
  | .hbm, ⟨30, _⟩ => ⟨S16x8192x8192, .f32⟩
  | .hbm, ⟨31, _⟩ => ⟨S_, .f32⟩
  | .hbm, ⟨32, _⟩ => ⟨S16x8192, .f32⟩
  | .hbm, ⟨33, _⟩ => ⟨S16x8192x1, .f32⟩
  | .hbm, ⟨34, _⟩ => ⟨S16x8192x8192, .f32⟩
  | .hbm, ⟨35, _⟩ => ⟨S16x8192x8192, .i1⟩
  | .hbm, ⟨36, _⟩ => ⟨S16x8192x8192, .f32⟩
  | .hbm, ⟨37, _⟩ => ⟨S_, .f32⟩
  | .hbm, ⟨38, _⟩ => ⟨S16x8192, .f32⟩
  | .hbm, ⟨39, _⟩ => ⟨S_, .f32⟩
  | .hbm, ⟨40, _⟩ => ⟨S16x8192, .f32⟩
  | .hbm, ⟨41, _⟩ => ⟨S16x8192, .f32⟩
  | .hbm, ⟨42, _⟩ => ⟨S_, .f32⟩
  | .hbm, ⟨43, _⟩ => ⟨S16x8192, .f32⟩
  | .hbm, ⟨44, _⟩ => ⟨S16x8192, .i1⟩
  | .hbm, ⟨45, _⟩ => ⟨S_, .f32⟩
  | .hbm, ⟨46, _⟩ => ⟨S16x8192, .f32⟩
  | .hbm, ⟨47, _⟩ => ⟨S16x8192, .i1⟩
  | .hbm, ⟨48, _⟩ => ⟨S_, .f32⟩
  | .hbm, ⟨49, _⟩ => ⟨S16x8192, .f32⟩
  | .hbm, ⟨50, _⟩ => ⟨S_, .f32⟩
  | .hbm, ⟨51, _⟩ => ⟨S16x8192, .f32⟩
  | .hbm, ⟨52, _⟩ => ⟨S_, .f32⟩
  | .hbm, ⟨53, _⟩ => ⟨S16x8192, .f32⟩
  | .hbm, ⟨54, _⟩ => ⟨S16x8192, .f32⟩
  | .hbm, ⟨55, _⟩ => ⟨S16x8192, .f32⟩
  | .hbm, ⟨56, _⟩ => ⟨S16x8192x1, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S_, .f32⟩
  | .hbm, ⟨61, _⟩ => ⟨S16x8192, .f32⟩
  | .hbm, ⟨62, _⟩ => ⟨S16x8192x1, .f32⟩
  | .hbm, ⟨63, _⟩ => ⟨S16x8192x8192, .f32⟩
  | .hbm, ⟨64, _⟩ => ⟨S16x8192x8192, .f32⟩
  | .hbm, ⟨65, _⟩ => ⟨S16x8192x1, .f32⟩
  | .hbm, ⟨66, _⟩ => ⟨S_, .f32⟩
  | .hbm, ⟨67, _⟩ => ⟨S16x8192x1, .f32⟩
  | .hbm, ⟨68, _⟩ => ⟨S16x8192x1, .f32⟩
  | .hbm, ⟨69, _⟩ => ⟨S8192x16x128, .f32⟩
  | .hbm, ⟨70, _⟩ => ⟨S16x128x8192, .f32⟩
  | .hbm, ⟨71, _⟩ => ⟨S8192x16x128, .f32⟩
  | .hbm, ⟨72, _⟩ => ⟨S8192x2048, .f32⟩
  | .hbm, ⟨73, _⟩ => ⟨S8192x16x128, .f32⟩
  | .hbm, ⟨74, _⟩ => ⟨S16x128x8192, .f32⟩
  | .hbm, ⟨75, _⟩ => ⟨S16x8192x8192, .f32⟩
  | .hbm, ⟨76, _⟩ => ⟨S16x128x8192, .f32⟩
  | .hbm, ⟨77, _⟩ => ⟨S8192x16x128, .f32⟩
  | .hbm, ⟨78, _⟩ => ⟨S8192x2048, .f32⟩
  | .hbm, ⟨79, _⟩ => ⟨S16x8192x8192, .f32⟩
  | .hbm, ⟨80, _⟩ => ⟨S16x8192x8192, .f32⟩
  | .hbm, ⟨81, _⟩ => ⟨S16x8192x8192, .f32⟩
  | .hbm, ⟨82, _⟩ => ⟨S_, .f32⟩
  | .hbm, ⟨83, _⟩ => ⟨S16x8192, .f32⟩
  | .hbm, ⟨84, _⟩ => ⟨S16x8192x1, .f32⟩
  | .hbm, ⟨85, _⟩ => ⟨S16x8192x1, .f32⟩
  | .hbm, ⟨86, _⟩ => ⟨S16x8192x8192, .f32⟩
  | .hbm, ⟨87, _⟩ => ⟨S16x8192x8192, .f32⟩
  | .hbm, ⟨88, _⟩ => ⟨S_, .f32⟩
  | .hbm, ⟨89, _⟩ => ⟨S16x8192, .f32⟩
  | .hbm, ⟨90, _⟩ => ⟨S16x8192x8192, .f32⟩
  | .hbm, ⟨91, _⟩ => ⟨S16x8192x8192, .f32⟩
  | .hbm, ⟨92, _⟩ => ⟨S16x8192x8192, .f32⟩
  | .hbm, ⟨93, _⟩ => ⟨S_, .f32⟩
  | .hbm, ⟨94, _⟩ => ⟨S16x8192x8192, .f32⟩
  | .hbm, ⟨95, _⟩ => ⟨S16x8192x8192, .f32⟩
  | .hbm, ⟨96, _⟩ => ⟨S_, .f32⟩
  | .hbm, ⟨97, _⟩ => ⟨S16x8192, .f32⟩
  | .hbm, ⟨98, _⟩ => ⟨S16x8192x1, .f32⟩
  | .hbm, ⟨99, _⟩ => ⟨S16x8192x8192, .f32⟩
  | .hbm, ⟨100, _⟩ => ⟨S_, .f32⟩
  | .hbm, ⟨101, _⟩ => ⟨S16x8192, .f32⟩
  | .hbm, ⟨102, _⟩ => ⟨S16x1x8192, .f32⟩
  | .hbm, ⟨103, _⟩ => ⟨S_, .f32⟩
  | .hbm, ⟨104, _⟩ => ⟨S16x8192, .f32⟩
  | .hbm, ⟨105, _⟩ => ⟨S_, .f32⟩
  | .hbm, ⟨106, _⟩ => ⟨S16x8192, .f32⟩
  | .hbm, ⟨107, _⟩ => ⟨S_, .f32⟩
  | .hbm, ⟨108, _⟩ => ⟨S16x8192x8192, .f32⟩
  | .hbm, ⟨109, _⟩ => ⟨S16x8192x8192, .f32⟩
  | .hbm, ⟨110, _⟩ => ⟨S16x8192x128, .f32⟩
  | .hbm, ⟨111, _⟩ => ⟨S8192x16x128, .f32⟩
  | .hbm, ⟨112, _⟩ => ⟨S16x8192x128, .f32⟩
  | .hbm, ⟨113, _⟩ => ⟨S8192x16x128, .f32⟩
  | .hbm, ⟨114, _⟩ => ⟨S8192x2048, .f32⟩
  | .hbm, ⟨115, _⟩ => ⟨S8192x2048, .f32⟩
  | .hbm, ⟨116, _⟩ => ⟨S8192x2048, .bf16⟩
  | .hbm, ⟨117, _⟩ => ⟨S16x1x8192, .f32⟩
  | .hbm, ⟨118, _⟩ => ⟨S8192x2048, .bf16⟩
  | .hbm, ⟨119, _⟩ => ⟨S8192x2048, .bf16⟩
  | .hbm, ⟨120, _⟩ => ⟨S16x1x8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_call0_v0 : Ref sig .tc := ⟨.hbm, 25, rfl⟩
abbrev main_v17_1 : Ref sig .tc := ⟨.hbm, 26, rfl⟩
abbrev main_call0_v2 : Ref sig .tc := ⟨.hbm, 27, rfl⟩
abbrev main_v17_0 : Ref sig .tc := ⟨.hbm, 28, rfl⟩
abbrev main_call0_cst : Ref sig .tc := ⟨.hbm, 29, rfl⟩
abbrev main_v17_2 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_cst_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_10 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_call1_cst : Ref sig .tc := ⟨.hbm, 93, rfl⟩
abbrev main_call1_v0 : Ref sig .tc := ⟨.hbm, 94, rfl⟩
abbrev main_v68 : Ref sig .tc := ⟨.hbm, 95, rfl⟩
abbrev main_cst_13 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_cst_16 : Ref sig .tc := ⟨.hbm, 105, rfl⟩
abbrev main_v75 : Ref sig .tc := ⟨.hbm, 106, rfl⟩
abbrev main_cst_17 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩

abbrev nD : Nat := 1
abbrev τ : Topo := Topo.v7x

variable {F : FTy → Type} [FloatOps F]
-- ==== Kernel2.lean ====
abbrev S8192x2048 : Shape := ⟨2, ![8192, 2048]⟩
abbrev S2048x8192 : Shape := ⟨2, ![2048, 8192]⟩
abbrev S512x2048 : Shape := ⟨2, ![512, 2048]⟩
abbrev S512x1024 : Shape := ⟨2, ![512, 1024]⟩
abbrev S2048x1024 : Shape := ⟨2, ![2048, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S2048x8192, .bf16⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S2048x1024, .bf16⟩
  | .local _ .vmem, ⟨11, _⟩ => ⟨S2048x1024, .bf16⟩
  | .local _ .vmem, ⟨12, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![1, 8, 16], ![false, false, false]⟩

def k0_cond6 (i : grid0.Coords) : BitVec 1 :=
  let arg2 : BitVec 32 := BitVec.ofNat 32 (i 2).val
  let c15_i32 : BitVec 32 := 15#32
  let v83 : BitVec 1 := Scalar.cmpi .eq arg2 c15_i32
  let v84 : BitVec 32 := Scalar.extui v83
  let c0_i32_34 : BitVec 32 := 0#32
  let v85 : BitVec 1 := Scalar.cmpi .ne v84 c0_i32_34
  v85

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg2.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg1 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg2.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg1 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg2.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S8192x2048 : Shape := ⟨2, ![8192, 2048]⟩
abbrev S_ : Shape := ⟨0, ![]⟩
abbrev S2048x8192 : Shape := ⟨2, ![2048, 8192]⟩
abbrev S8192x8192 : Shape := ⟨2, ![8192, 8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S2048x8192, .f32⟩
  | .hbm, ⟨12, _⟩ => ⟨S8192x8192, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x8192, .f32⟩
  | .hbm, ⟨18, _⟩ => ⟨S8192x2048, .f32⟩
  | .hbm, ⟨19, _⟩ => ⟨S2048x8192, .f32⟩
  | .hbm, ⟨20, _⟩ => ⟨S2048x8192, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel3.lean ====
abbrev S2048x8192 : Shape := ⟨2, ![2048, 8192]⟩
abbrev S8192x2048 : Shape := ⟨2, ![8192, 2048]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 6
  | .vmem => 13
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x2048, .bf16⟩
  | .local _ .vmem, ⟨11, _⟩ => ⟨S1024x2048, .bf16⟩
  | .local _ .vmem, ⟨12, _⟩ => ⟨S1024x2048, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 1, 8], ![false, false, false]⟩

def k0_cond6 (i : grid0.Coords) : BitVec 1 :=
  let arg2 : BitVec 32 := BitVec.ofNat 32 (i 2).val
  let c7_i32 : BitVec 32 := 7#32
  let v83 : BitVec 1 := Scalar.cmpi .eq arg2 c7_i32
  let v84 : BitVec 32 := Scalar.extui v83
  let c0_i32_34 : BitVec 32 := 0#32
  let v85 : BitVec 1 := Scalar.cmpi .ne v84 c0_i32_34
  v85

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference3Ideal.lean ====
abbrev S2048x8192 : Shape := ⟨2, ![2048, 8192]⟩
abbrev S8192x2048 : Shape := ⟨2, ![8192, 2048]⟩
abbrev S_ : Shape := ⟨0, ![]⟩
abbrev S8192x8192 : Shape := ⟨2, ![8192, 8192]⟩

abbrev nBuf : Space → Nat
  | .hbm => 20
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S2048x8192, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x8192, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x8192, .f32⟩
  | .hbm, ⟨18, _⟩ => ⟨S8192x2048, .f32⟩
  | .hbm, ⟨19, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel4.lean ====
abbrev S2048x8192 : Shape := ⟨2, ![2048, 8192]⟩
abbrev S8192x2048 : Shape := ⟨2, ![8192, 2048]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 7
  | .vmem => 15
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x2048, .bf16⟩
  | .hbm, ⟨6, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x2048, .bf16⟩
  | .local _ .vmem, ⟨11, _⟩ => ⟨S1024x2048, .bf16⟩
  | .local _ .vmem, ⟨12, _⟩ => ⟨S1024x2048, .bf16⟩
  | .local _ .vmem, ⟨13, _⟩ => ⟨S1024x2048, .bf16⟩
  | .local _ .vmem, ⟨14, _⟩ => ⟨S1024x2048, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 1, 8], ![false, false, false]⟩

def k0_cond6 (i : grid0.Coords) : BitVec 1 :=
  let arg2 : BitVec 32 := BitVec.ofNat 32 (i 2).val
  let c7_i32 : BitVec 32 := 7#32
  let v83 : BitVec 1 := Scalar.cmpi .eq arg2 c7_i32
  let v84 : BitVec 32 := Scalar.extui v83
  let c0_i32_34 : BitVec 32 := 0#32
  let v85 : BitVec 1 := Scalar.cmpi .ne v84 c0_i32_34
  v85

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference4Ideal.lean ====
abbrev S2048x8192 : Shape := ⟨2, ![2048, 8192]⟩
abbrev S8192x2048 : Shape := ⟨2, ![8192, 2048]⟩
abbrev S_ : Shape := ⟨0, ![]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .bf16⟩
  | .hbm, ⟨5, _⟩ => ⟨S8192x2048, .bf16⟩
  | .hbm, ⟨6, _⟩ => ⟨S2048x8192, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x8192, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x8192, .f32⟩
  | .hbm, ⟨20, _⟩ => ⟨S8192x2048, .f32⟩
  | .hbm, ⟨21, _⟩ => ⟨S8192x2048, .f32⟩
  | .hbm, ⟨22, _⟩ => ⟨S8192x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.RefFrame.lean ====
module

public import proofs.«01_k».proof.Defs
public import proofs.«01_k».proof.Proof.Gen.Reference
public import proofs.«01_k».proof.Proof.Gen.ReferenceIdeal.Run
public import Idealize.ShloMosaic.Lib.Quiescent

/-! The reference's runs end with the arguments unchanged and every counter at zero. -/

@[expose] public section

set_option maxRecDepth 16384
set_option maxHeartbeats 4000000

noncomputable section

namespace Cert.Proof

open Idealize.ShloMosaic Idealize.SL.Sem

/-- The reference, over the extended reals, terminates with its arguments unchanged and every counter at zero: it has no counter. -/
theorem frame_reference_ideal : Cert.quiescent_ReferenceIdeal := fun m g _ =>
  (θ_run Cert.ReferenceIdeal.defs _ _).mono (fun r h => ⟨fun c => (h c).2.2.2.2.2, sem_eq_zero_of_no_sems (by decide) _⟩) (Cert.ReferenceIdeal.Value.run (F := Ideal) m g)

/-- The reference, over machine numbers, likewise: the two programs have the same text. -/
theorem frame_reference : Cert.quiescent_Reference := fun m g _ =>
  (θ_run Cert.ReferenceIdeal.defs _ _).mono (fun r h => ⟨fun c => (h c).2.2.2.2.2, sem_eq_zero_of_no_sems (by decide) _⟩) (Cert.ReferenceIdeal.Value.run (F := Bits) m g)

end Cert.Proof

end
-- ==== Proof.Offs.lean ====
module

public import proofs.«01_k».proof.Proof.Gen.KernelIdeal.Loops

/-! Where the counted loop of the kernel body reads and writes: at key block `i 1` its trip `k` treats query block
`i 1 + 1 + k` and applies the tile of query block `i 1 + k`. -/

@[expose] public section

set_option maxRecDepth 16384

noncomputable section

namespace Cert.KernelIdeal.Fox

open Cert.KernelIdeal Cert.KernelIdeal.Gen
open Idealize.ShloMosaic

/-- The word of `n` read back is `n` below the word size. -/
theorem toNat_word (n : ℕ) (h : n < 4294967296) : (BitVec.ofNat 32 n).toNat = n := by
  rw [BitVec.toNat_ofNat]; exact Nat.mod_eq_of_lt h

/-- The loop makes one trip for each query block after the diagonal one. -/
theorem trips_t1 (i : grid0.Coords) : (k0_t1_loop i).trips = 15 - (i 1).val := by
  have h : ∀ a : Fin 16, (⟨Scalar.addi (BitVec.ofNat 32 a.val) 1#32,
      Scalar.addi (Scalar.addi (BitVec.ofNat 32 a.val) 1#32) (Scalar.muli (Scalar.divsi (Scalar.subi 16#32
        (Scalar.addi (BitVec.ofNat 32 a.val) 1#32)) 1#32) 1#32), 1#32⟩ : Scf.Loop 32).trips = 15 - a.val := by
    decide +kernel
  exact h (i 1)

/-- The remainder loop makes none. -/
theorem trips_t2 (i : grid0.Coords) : (k0_t2_loop i).trips = 0 := Nat.le_zero.mp (k0_t2_abs i).2.1

/-- A trip's number is below 15 less the key block. -/
theorem trip_lt (i : grid0.Coords) (k : Fin (k0_t1_loop i).trips) : k.val < 15 - (i 1).val :=
  lt_of_lt_of_eq k.isLt (trips_t1 i)

/-- The row offsets of a trip, over the key block and the trip's number. -/
theorem rows_trip : ∀ (a : Fin 16) (k : Fin 15), k.val < 15 - a.val →
    (Scalar.indexCast (Scalar.muli (Scalar.subi (Scf.iv (Scalar.addi (BitVec.ofNat 32 a.val) 1#32) 1#32 k.val) 1#32) 512#32)).toNat
        = (a.val + k.val) * 512 ∧
    (Scalar.indexCast (Scalar.muli (Scf.iv (Scalar.addi (BitVec.ofNat 32 a.val) 1#32) 1#32 k.val) 512#32)).toNat
        = (a.val + k.val + 1) * 512 := by
  decide +kernel

/-- The row offsets of a trip: those of the previous query block and of its own. -/
theorem rows_trip' (i : grid0.Coords) (k : Fin (k0_t1_loop i).trips) :
    (Scalar.indexCast (Scalar.muli (Scalar.subi (Scf.iv (Scalar.addi (BitVec.ofNat 32 (i 1).val) 1#32) 1#32 k.val) 1#32) 512#32)).toNat
        = ((i 1).val + k.val) * 512 ∧
    (Scalar.indexCast (Scalar.muli (Scf.iv (Scalar.addi (BitVec.ofNat 32 (i 1).val) 1#32) 1#32 k.val) 512#32)).toNat
        = ((i 1).val + k.val + 1) * 512 :=
  rows_trip (i 1) ⟨k.val, by have := trip_lt i k; omega⟩ (trip_lt i k)

/-- The previous query block, first head. -/
theorem off3_eq (i : grid0.Coords) (k : Fin (k0_t1_loop i).trips) : k0_off3 i k = ![((i 1).val + k.val) * 512, 0] := by
  unfold k0_off3; exact congrArg (fun n => ![n, 0]) (rows_trip' i k).1
/-- The previous query block's rows of the first head's query gradient. -/
theorem off4_eq (i : grid0.Coords) (k : Fin (k0_t1_loop i).trips) : k0_off4 i k = ![0, ((i 1).val + k.val) * 512, 0] := by
  unfold k0_off4; exact congrArg (fun n => ![0, n, 0]) (rows_trip' i k).1
/-- The previous query block, second head. -/
theorem off5_eq (i : grid0.Coords) (k : Fin (k0_t1_loop i).trips) : k0_off5 i k = ![((i 1).val + k.val) * 512, 128] := by
  unfold k0_off5; exact congrArg (fun n => ![n, 128]) (rows_trip' i k).1
/-- The previous query block's rows of the second head's query gradient. -/
theorem off6_eq (i : grid0.Coords) (k : Fin (k0_t1_loop i).trips) : k0_off6 i k = ![1, ((i 1).val + k.val) * 512, 0] := by
  unfold k0_off6; exact congrArg (fun n => ![1, n, 0]) (rows_trip' i k).1
/-- The trip's own query block, first head. -/
theorem off7_eq (i : grid0.Coords) (k : Fin (k0_t1_loop i).trips) : k0_off7 i k = ![((i 1).val + k.val + 1) * 512, 0] := by
  unfold k0_off7; exact congrArg (fun n => ![n, 0]) (rows_trip' i k).2
/-- The trip's own query block, second head. -/
theorem off8_eq (i : grid0.Coords) (k : Fin (k0_t1_loop i).trips) : k0_off8 i k = ![((i 1).val + k.val + 1) * 512, 128] := by
  unfold k0_off8; exact congrArg (fun n => ![n, 128]) (rows_trip' i k).2

/-- The row offset of the diagonal tile. -/
theorem rows_diag : ∀ a : Fin 16, (Scalar.indexCast (Scalar.muli (BitVec.ofNat 32 a.val) 512#32)).toNat = a.val * 512 := by
  decide +kernel

/-- The diagonal tile's rows, in the first half of the lanes. -/
theorem off1_eq (i : grid0.Coords) : k0_off1 i = ![(i 1).val * 512, 0] := by
  unfold k0_off1; exact congrArg (fun n => ![n, 0]) (rows_diag (i 1))
/-- The diagonal tile's rows, in the second half of the lanes. -/
theorem off2_eq (i : grid0.Coords) : k0_off2 i = ![(i 1).val * 512, 128] := by
  unfold k0_off2; exact congrArg (fun n => ![n, 128]) (rows_diag (i 1))

end Cert.KernelIdeal.Fox
-- ==== Proof.Trip.lean ====
module

public import proofs.«01_k».proof.Proof.Offs
public import Idealize.ShloMosaic.Lib.Pointwise
public import Idealize.ShloMosaic.Lib.WritesUnit

/-! One trip of the kernel body's counted loop, read at an index. -/

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

/-! ## The trip over the reals -/

/-- A trip's step of the value gradient: the last tile's weights times the rows of the output's gradient. -/
def trV (n : ℕ) (DO : ℕ → ℕ → ℝ) (p vS : ℕ → ℕ → ℕ → ℝ) (g r c : ℕ) : ℝ :=
  vS g r c + ∑ x ∈ Finset.range 512, p g r x * DO (n * 512 + x) (g * 128 + c)

/-- A trip's step of the key gradient, with the column sums in the upper lanes. -/
def trK (n : ℕ) (Q : ℕ → ℕ → ℝ) (s kS : ℕ → ℕ → ℕ → ℝ) (g r c : ℕ) : ℝ :=
  kS g r c + ∑ x ∈ Finset.range 512, s g r x * (if c < 128 then Q (n * 512 + x) (g * 128 + c) else 1)

/-- A trip's step of the query gradient, on the rows of one query block. -/
def trD (n : ℕ) (K : ℕ → ℕ → ℝ) (s D : ℕ → ℕ → ℕ → ℝ) (g r c : ℕ) : ℝ :=
  if n * 512 ≤ r ∧ r < n * 512 + 512 then
    D g r c + ∑ x ∈ Finset.range 512, s g x (r - n * 512) * (if c < 128 then K x (g * 128 + c) else 1)
  else D g r c

/-- The weights of a tile, before any mask. -/
def tileP (n : ℕ) (K KA Q QA : ℕ → ℕ → ℝ) (g r c : ℕ) : ℝ :=
  (2 : ℝ) ^ (∑ x ∈ Finset.range 128, K r (g * 128 + x) * Q (n * 512 + c) (g * 128 + x)
    + ∑ x ∈ Finset.range 128, KA r (g * 128 + x) * QA (n * 512 + c) (g * 128 + x))

/-- A tile of the gradient of the scores. -/
def tileS (n : ℕ) (K KA V Q QA DO DA E : ℕ → ℕ → ℝ) (g r c : ℕ) : ℝ :=
  tileP n K KA Q QA g r c *
    (∑ x ∈ Finset.range 128, V r (g * 128 + x) * DO (n * 512 + c) (g * 128 + x)
      + ∑ x ∈ Finset.range 128, E r x * DA (n * 512 + c) (g * 128 + x))

/-- A finite sum of reals is the same sum over the extended reals. -/
theorem coe_sum_fin (n : ℕ) (f : Fin n → ℝ) : ∑ x : Fin n, ((f x : ℝ) : EReal) = ((∑ x, f x : ℝ) : EReal) :=
  (map_sum (⟨⟨Real.toEReal, EReal.coe_zero⟩, EReal.coe_add⟩ : ℝ →+ EReal) f Finset.univ).symm

/-- A power of two of a real is real. -/
theorem exp2_coe (x : ℝ) : (FloatOps.exp2 (F := Ideal) (φ := .f32) ((x : ℝ) : EReal)) = (((2 : ℝ) ^ x : ℝ) : EReal) := rfl

variable (𝒱 : Variants) (dev : Dev nD) (bd : Option 𝒱.V) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S8192x256 .bf16) (harg8 : arg8.IsWhole) (arg9 : Memref sig .tc .vmem S8192x256 .bf16) (harg9 : arg9.IsWhole) (arg10 : Memref sig .tc .vmem S2x1x8192 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S2x1x512 .f32) (harg13 : arg13.IsWhole) (arg14 : Memref sig .tc .vmem S2x8192x256 .f32) (harg14 : arg14.IsWhole) (arg15 : Memref sig .tc .vmem S2x512x256 .f32) (harg15 : arg15.IsWhole) (arg16 : Memref sig .tc .vmem S2x512x128 .f32) (harg16 : arg16.IsWhole) (arg17 : Memref sig .tc .vmem S2x512x512 .bf16) (harg17 : arg17.IsWhole) (arg18 : Memref sig .tc .vmem S2x512x512 .bf16) (harg18 : arg18.IsWhole) (v13 : FVec Ideal S512x128 .bf16) (v14 : FVec Ideal S512x128 .bf16) (v106 : BitVec 32) (c1_i32_51 : BitVec 32) (v109 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (k : Fin (k0_t1_loop i).trips) (f_arg14 : BufTy.Contents (Elt Ideal) arg14.view.ty) (f_arg15 : BufTy.Contents (Elt Ideal) arg15.view.ty) (f_arg16 : BufTy.Contents (Elt Ideal) arg16.view.ty) (f_arg17 : BufTy.Contents (Elt Ideal) arg17.view.ty) (f_arg18 : BufTy.Contents (Elt Ideal) arg18.view.ty)

/-- After a trip, what the gradient of v has accumulated for the first head of the pair. -/
theorem trip_dv0 {K KA V Q QA DO DA E : ℕ → ℕ → ℝ} {p s vS kS : ℕ → ℕ → ℕ → ℝ}
    (h7 : ∀ a b, arg7.view.read (Elt Ideal) X_arg7 (ix2 a b) = ((DO a.val b.val : ℝ) : EReal)) (h16 : ∀ a b d, arg16.view.read (Elt Ideal) f_arg16 (ix3 a b d) = ((vS a.val b.val d.val : ℝ) : EReal)) (h17 : ∀ a b d, arg17.view.read (Elt Ideal) f_arg17 (ix3 a b d) = ((p a.val b.val d.val : ℝ) : EReal))  (r : Fin 512) (c : Fin 128) :
    arg16.view.read (Elt Ideal) (arg16.view.writes (Elt Ideal) f_arg16 (tripL_k0_t1 (F := Ideal) 𝒱 dev bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 k f_arg14 f_arg15 f_arg16 f_arg17 f_arg18).2.2.1) (ix3 0 r c)
      = ((trV ((i 1).val + k.val) DO p vS 0 r.val c.val : ℝ) : EReal) := by
  unfold tripL_k0_t1 trip_k0_t1
  dsimp only
  rw [View.read_writes_cons_unit_of_not_mem _ _ _ _ _ _ rfl 0 (Or.inl (by show (0:ℕ) < 1; omega)),
    View.read_writes_cons_unit_of_mem _ _ _ _ _ _ (ix3 (0 : Fin 1) r c) rfl (by intro a; match a with | ⟨0, _⟩ => rfl | ⟨1, _⟩ => exact (Nat.zero_add _).symm | ⟨2, _⟩ => exact (Nat.zero_add _).symm)]
  sl_unfold_words
  unfold_payloads
  simp only [View.readAt_eq_ld]
  pointwise
  simp only [h7, h16, h17, dite_eq_ite, ← EReal.coe_mul, coe_sum_fin, ← EReal.coe_add, exp2_coe, (rows_trip' i k).1, (rows_trip' i k).2]
  refine congrArg Real.toEReal ?_
  simp only [trV, trK, tileP, tileS, Finset.sum_range]
  try simp only [Fin.val_zero, Fin.val_one, Nat.zero_mul, Nat.zero_add, Nat.one_mul, Nat.add_comm 128]

/-- After a trip, what the gradient of v has accumulated for the second head. -/
theorem trip_dv1 {K KA V Q QA DO DA E : ℕ → ℕ → ℝ} {p s vS kS : ℕ → ℕ → ℕ → ℝ}
    (h7 : ∀ a b, arg7.view.read (Elt Ideal) X_arg7 (ix2 a b) = ((DO a.val b.val : ℝ) : EReal)) (h16 : ∀ a b d, arg16.view.read (Elt Ideal) f_arg16 (ix3 a b d) = ((vS a.val b.val d.val : ℝ) : EReal)) (h17 : ∀ a b d, arg17.view.read (Elt Ideal) f_arg17 (ix3 a b d) = ((p a.val b.val d.val : ℝ) : EReal))  (r : Fin 512) (c : Fin 128) :
    arg16.view.read (Elt Ideal) (arg16.view.writes (Elt Ideal) f_arg16 (tripL_k0_t1 (F := Ideal) 𝒱 dev bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 k f_arg14 f_arg15 f_arg16 f_arg17 f_arg18).2.2.1) (ix3 1 r c)
      = ((trV ((i 1).val + k.val) DO p vS 1 r.val c.val : ℝ) : EReal) := by
  unfold tripL_k0_t1 trip_k0_t1
  dsimp only
  rw [View.read_writes_cons_unit_of_mem _ _ _ _ _ _ (ix3 (0 : Fin 1) r c) rfl (by intro a; match a with | ⟨0, _⟩ => rfl | ⟨1, _⟩ => exact (Nat.zero_add _).symm | ⟨2, _⟩ => exact (Nat.zero_add _).symm)]
  sl_unfold_words
  unfold_payloads
  simp only [View.readAt_eq_ld]
  pointwise
  simp only [h7, h16, h17, dite_eq_ite, ← EReal.coe_mul, coe_sum_fin, ← EReal.coe_add, exp2_coe, (rows_trip' i k).1, (rows_trip' i k).2]
  refine congrArg Real.toEReal ?_
  simp only [trV, trK, tileP, tileS, Finset.sum_range]
  try simp only [Fin.val_zero, Fin.val_one, Nat.zero_mul, Nat.zero_add, Nat.one_mul, Nat.add_comm 128]

/-- After a trip, what the gradient of k has accumulated for the first head. -/
theorem trip_dk0 {K KA V Q QA DO DA E : ℕ → ℕ → ℝ} {p s vS kS : ℕ → ℕ → ℕ → ℝ}
    (h5 : ∀ a b, arg5.view.read (Elt Ideal) X_arg5 (ix2 a b) = ((Q a.val b.val : ℝ) : EReal)) (h15 : ∀ a b d, arg15.view.read (Elt Ideal) f_arg15 (ix3 a b d) = ((kS a.val b.val d.val : ℝ) : EReal)) (h18 : ∀ a b d, arg18.view.read (Elt Ideal) f_arg18 (ix3 a b d) = ((s a.val b.val d.val : ℝ) : EReal)) (hv14 : ∀ a b, v14 (ix2 a b) = ((1 : ℝ) : EReal)) (r : Fin 512) (c : Fin 256) :
    arg15.view.read (Elt Ideal) (arg15.view.writes (Elt Ideal) f_arg15 (tripL_k0_t1 (F := Ideal) 𝒱 dev bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 k f_arg14 f_arg15 f_arg16 f_arg17 f_arg18).2.1) (ix3 0 r c)
      = ((trK ((i 1).val + k.val) Q s kS 0 r.val c.val : ℝ) : EReal) := by
  unfold tripL_k0_t1 trip_k0_t1
  dsimp only
  rw [View.read_writes_cons_unit_of_not_mem _ _ _ _ _ _ rfl 0 (Or.inl (by show (0:ℕ) < 1; omega)),
    View.read_writes_cons_unit_of_mem _ _ _ _ _ _ (ix3 (0 : Fin 1) r c) rfl (by intro a; match a with | ⟨0, _⟩ => rfl | ⟨1, _⟩ => exact (Nat.zero_add _).symm | ⟨2, _⟩ => exact (Nat.zero_add _).symm)]
  sl_unfold_words
  unfold_payloads
  simp only [View.readAt_eq_ld]
  pointwise
  by_cases hc : c.val < 128
  · simp only [hc, dif_pos, h5, h15, h18, hv14, ← EReal.coe_mul, coe_sum_fin, ← EReal.coe_add, (rows_trip' i k).1]
    refine congrArg Real.toEReal ?_
    simp only [trK, Finset.sum_range, hc, if_true]
    try simp only [Fin.val_zero, Fin.val_one, Nat.zero_mul, Nat.zero_add, Nat.one_mul, Nat.add_comm 128]
  · simp only [hc, dif_neg, not_false_eq_true, h5, h15, h18, hv14, ← EReal.coe_mul, coe_sum_fin, ← EReal.coe_add]
    refine congrArg Real.toEReal ?_
    simp only [trK, Finset.sum_range, hc, if_false]
    try simp only [Fin.val_zero, Fin.val_one, Nat.zero_mul, Nat.zero_add, Nat.one_mul, Nat.add_comm 128]

/-- After a trip, what the gradient of k has accumulated for the second head. -/
theorem trip_dk1 {K KA V Q QA DO DA E : ℕ → ℕ → ℝ} {p s vS kS : ℕ → ℕ → ℕ → ℝ}
    (h5 : ∀ a b, arg5.view.read (Elt Ideal) X_arg5 (ix2 a b) = ((Q a.val b.val : ℝ) : EReal)) (h15 : ∀ a b d, arg15.view.read (Elt Ideal) f_arg15 (ix3 a b d) = ((kS a.val b.val d.val : ℝ) : EReal)) (h18 : ∀ a b d, arg18.view.read (Elt Ideal) f_arg18 (ix3 a b d) = ((s a.val b.val d.val : ℝ) : EReal)) (hv14 : ∀ a b, v14 (ix2 a b) = ((1 : ℝ) : EReal)) (r : Fin 512) (c : Fin 256) :
    arg15.view.read (Elt Ideal) (arg15.view.writes (Elt Ideal) f_arg15 (tripL_k0_t1 (F := Ideal) 𝒱 dev bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 k f_arg14 f_arg15 f_arg16 f_arg17 f_arg18).2.1) (ix3 1 r c)
      = ((trK ((i 1).val + k.val) Q s kS 1 r.val c.val : ℝ) : EReal) := by
  unfold tripL_k0_t1 trip_k0_t1
  dsimp only
  rw [View.read_writes_cons_unit_of_mem _ _ _ _ _ _ (ix3 (0 : Fin 1) r c) rfl (by intro a; match a with | ⟨0, _⟩ => rfl | ⟨1, _⟩ => exact (Nat.zero_add _).symm | ⟨2, _⟩ => exact (Nat.zero_add _).symm)]
  sl_unfold_words
  unfold_payloads
  simp only [View.readAt_eq_ld]
  pointwise
  by_cases hc : c.val < 128
  · simp only [hc, dif_pos, h5, h15, h18, hv14, ← EReal.coe_mul, coe_sum_fin, ← EReal.coe_add, (rows_trip' i k).1]
    refine congrArg Real.toEReal ?_
    simp only [trK, Finset.sum_range, hc, if_true]
    try simp only [Fin.val_zero, Fin.val_one, Nat.zero_mul, Nat.zero_add, Nat.one_mul, Nat.add_comm 128]
  · simp only [hc, dif_neg, not_false_eq_true, h5, h15, h18, hv14, ← EReal.coe_mul, coe_sum_fin, ← EReal.coe_add]
    refine congrArg Real.toEReal ?_
    simp only [trK, Finset.sum_range, hc, if_false]
    try simp only [Fin.val_zero, Fin.val_one, Nat.zero_mul, Nat.zero_add, Nat.one_mul, Nat.add_comm 128]

/-- The weights that a trip leaves for the first head. -/
theorem trip_p0 {K KA V Q QA DO DA E : ℕ → ℕ → ℝ} {p s vS kS : ℕ → ℕ → ℕ → ℝ}
    (h2 : ∀ a b, arg2.view.read (Elt Ideal) X_arg2 (ix2 a b) = ((K a.val b.val : ℝ) : EReal)) (h3 : ∀ a b, arg3.view.read (Elt Ideal) X_arg3 (ix2 a b) = ((KA a.val b.val : ℝ) : EReal)) (h5 : ∀ a b, arg5.view.read (Elt Ideal) X_arg5 (ix2 a b) = ((Q a.val b.val : ℝ) : EReal)) (h6 : ∀ a b, arg6.view.read (Elt Ideal) X_arg6 (ix2 a b) = ((QA a.val b.val : ℝ) : EReal))  (r : Fin 512) (c : Fin 512) :
    arg17.view.read (Elt Ideal) (arg17.view.writes (Elt Ideal) f_arg17 (tripL_k0_t1 (F := Ideal) 𝒱 dev bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 k f_arg14 f_arg15 f_arg16 f_arg17 f_arg18).2.2.2.1) (ix3 0 r c)
      = ((tileP ((i 1).val + k.val + 1) K KA Q QA 0 r.val c.val : ℝ) : EReal) := by
  unfold tripL_k0_t1 trip_k0_t1
  dsimp only
  rw [View.read_writes_cons_unit_of_not_mem _ _ _ _ _ _ rfl 0 (Or.inl (by show (0:ℕ) < 1; omega)),
    View.read_writes_cons_unit_of_mem _ _ _ _ _ _ (ix3 (0 : Fin 1) r c) rfl (by intro a; match a with | ⟨0, _⟩ => rfl | ⟨1, _⟩ => exact (Nat.zero_add _).symm | ⟨2, _⟩ => exact (Nat.zero_add _).symm)]
  sl_unfold_words
  unfold_payloads
  simp only [View.readAt_eq_ld]
  pointwise
  simp only [h2, h3, h5, h6, dite_eq_ite, ← EReal.coe_mul, coe_sum_fin, ← EReal.coe_add, exp2_coe, (rows_trip' i k).1, (rows_trip' i k).2]
  refine congrArg Real.toEReal ?_
  simp only [trV, trK, tileP, tileS, Finset.sum_range]
  try simp only [Fin.val_zero, Fin.val_one, Nat.zero_mul, Nat.zero_add, Nat.one_mul, Nat.add_comm 128]

/-- The weights that a trip leaves for the second head. -/
theorem trip_p1 {K KA V Q QA DO DA E : ℕ → ℕ → ℝ} {p s vS kS : ℕ → ℕ → ℕ → ℝ}
    (h2 : ∀ a b, arg2.view.read (Elt Ideal) X_arg2 (ix2 a b) = ((K a.val b.val : ℝ) : EReal)) (h3 : ∀ a b, arg3.view.read (Elt Ideal) X_arg3 (ix2 a b) = ((KA a.val b.val : ℝ) : EReal)) (h5 : ∀ a b, arg5.view.read (Elt Ideal) X_arg5 (ix2 a b) = ((Q a.val b.val : ℝ) : EReal)) (h6 : ∀ a b, arg6.view.read (Elt Ideal) X_arg6 (ix2 a b) = ((QA a.val b.val : ℝ) : EReal))  (r : Fin 512) (c : Fin 512) :
    arg17.view.read (Elt Ideal) (arg17.view.writes (Elt Ideal) f_arg17 (tripL_k0_t1 (F := Ideal) 𝒱 dev bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 k f_arg14 f_arg15 f_arg16 f_arg17 f_arg18).2.2.2.1) (ix3 1 r c)
      = ((tileP ((i 1).val + k.val + 1) K KA Q QA 1 r.val c.val : ℝ) : EReal) := by
  unfold tripL_k0_t1 trip_k0_t1
  dsimp only
  rw [View.read_writes_cons_unit_of_mem _ _ _ _ _ _ (ix3 (0 : Fin 1) r c) rfl (by intro a; match a with | ⟨0, _⟩ => rfl | ⟨1, _⟩ => exact (Nat.zero_add _).symm | ⟨2, _⟩ => exact (Nat.zero_add _).symm)]
  sl_unfold_words
  unfold_payloads
  simp only [View.readAt_eq_ld]
  pointwise
  simp only [h2, h3, h5, h6, dite_eq_ite, ← EReal.coe_mul, coe_sum_fin, ← EReal.coe_add, exp2_coe, (rows_trip' i k).1, (rows_trip' i k).2]
  refine congrArg Real.toEReal ?_
  simp only [trV, trK, tileP, tileS, Finset.sum_range]
  try simp only [Fin.val_zero, Fin.val_one, Nat.zero_mul, Nat.zero_add, Nat.one_mul, Nat.add_comm 128]

/-- The gradients of the scores that a trip leaves for the first head. -/
theorem trip_s0 {K KA V Q QA DO DA E : ℕ → ℕ → ℝ} {p s vS kS : ℕ → ℕ → ℕ → ℝ}
    (h2 : ∀ a b, arg2.view.read (Elt Ideal) X_arg2 (ix2 a b) = ((K a.val b.val : ℝ) : EReal)) (h3 : ∀ a b, arg3.view.read (Elt Ideal) X_arg3 (ix2 a b) = ((KA a.val b.val : ℝ) : EReal)) (h4 : ∀ a b, arg4.view.read (Elt Ideal) X_arg4 (ix2 a b) = ((V a.val b.val : ℝ) : EReal)) (h5 : ∀ a b, arg5.view.read (Elt Ideal) X_arg5 (ix2 a b) = ((Q a.val b.val : ℝ) : EReal)) (h6 : ∀ a b, arg6.view.read (Elt Ideal) X_arg6 (ix2 a b) = ((QA a.val b.val : ℝ) : EReal)) (h7 : ∀ a b, arg7.view.read (Elt Ideal) X_arg7 (ix2 a b) = ((DO a.val b.val : ℝ) : EReal)) (h8 : ∀ a b, arg8.view.read (Elt Ideal) X_arg8 (ix2 a b) = ((DA a.val b.val : ℝ) : EReal)) (hv13 : ∀ a b, v13 (ix2 a b) = ((E a.val b.val : ℝ) : EReal)) (r : Fin 512) (c : Fin 512) :
    arg18.view.read (Elt Ideal) (arg18.view.writes (Elt Ideal) f_arg18 (tripL_k0_t1 (F := Ideal) 𝒱 dev bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 k f_arg14 f_arg15 f_arg16 f_arg17 f_arg18).2.2.2.2) (ix3 0 r c)
      = ((tileS ((i 1).val + k.val + 1) K KA V Q QA DO DA E 0 r.val c.val : ℝ) : EReal) := by
  unfold tripL_k0_t1 trip_k0_t1
  dsimp only
  rw [View.read_writes_cons_unit_of_not_mem _ _ _ _ _ _ rfl 0 (Or.inl (by show (0:ℕ) < 1; omega)),
    View.read_writes_cons_unit_of_mem _ _ _ _ _ _ (ix3 (0 : Fin 1) r c) rfl (by intro a; match a with | ⟨0, _⟩ => rfl | ⟨1, _⟩ => exact (Nat.zero_add _).symm | ⟨2, _⟩ => exact (Nat.zero_add _).symm)]
  sl_unfold_words
  unfold_payloads
  simp only [View.readAt_eq_ld]
  pointwise
  simp only [h2, h3, h4, h5, h6, h7, h8, hv13, dite_eq_ite, ← EReal.coe_mul, coe_sum_fin, ← EReal.coe_add, exp2_coe, (rows_trip' i k).1, (rows_trip' i k).2]
  refine congrArg Real.toEReal ?_
  simp only [trV, trK, tileP, tileS, Finset.sum_range]
  try simp only [Fin.val_zero, Fin.val_one, Nat.zero_mul, Nat.zero_add, Nat.one_mul, Nat.add_comm 128]

/-- The gradients of the scores that a trip leaves for the second head. -/
theorem trip_s1 {K KA V Q QA DO DA E : ℕ → ℕ → ℝ} {p s vS kS : ℕ → ℕ → ℕ → ℝ}
    (h2 : ∀ a b, arg2.view.read (Elt Ideal) X_arg2 (ix2 a b) = ((K a.val b.val : ℝ) : EReal)) (h3 : ∀ a b, arg3.view.read (Elt Ideal) X_arg3 (ix2 a b) = ((KA a.val b.val : ℝ) : EReal)) (h4 : ∀ a b, arg4.view.read (Elt Ideal) X_arg4 (ix2 a b) = ((V a.val b.val : ℝ) : EReal)) (h5 : ∀ a b, arg5.view.read (Elt Ideal) X_arg5 (ix2 a b) = ((Q a.val b.val : ℝ) : EReal)) (h6 : ∀ a b, arg6.view.read (Elt Ideal) X_arg6 (ix2 a b) = ((QA a.val b.val : ℝ) : EReal)) (h7 : ∀ a b, arg7.view.read (Elt Ideal) X_arg7 (ix2 a b) = ((DO a.val b.val : ℝ) : EReal)) (h8 : ∀ a b, arg8.view.read (Elt Ideal) X_arg8 (ix2 a b) = ((DA a.val b.val : ℝ) : EReal)) (hv13 : ∀ a b, v13 (ix2 a b) = ((E a.val b.val : ℝ) : EReal)) (r : Fin 512) (c : Fin 512) :
    arg18.view.read (Elt Ideal) (arg18.view.writes (Elt Ideal) f_arg18 (tripL_k0_t1 (F := Ideal) 𝒱 dev bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 k f_arg14 f_arg15 f_arg16 f_arg17 f_arg18).2.2.2.2) (ix3 1 r c)
      = ((tileS ((i 1).val + k.val + 1) K KA V Q QA DO DA E 1 r.val c.val : ℝ) : EReal) := by
  unfold tripL_k0_t1 trip_k0_t1
  dsimp only
  rw [View.read_writes_cons_unit_of_mem _ _ _ _ _ _ (ix3 (0 : Fin 1) r c) rfl (by intro a; match a with | ⟨0, _⟩ => rfl | ⟨1, _⟩ => exact (Nat.zero_add _).symm | ⟨2, _⟩ => exact (Nat.zero_add _).symm)]
  sl_unfold_words
  unfold_payloads
  simp only [View.readAt_eq_ld]
  pointwise
  simp only [h2, h3, h4, h5, h6, h7, h8, hv13, dite_eq_ite, ← EReal.coe_mul, coe_sum_fin, ← EReal.coe_add, exp2_coe, (rows_trip' i k).1, (rows_trip' i k).2]
  refine congrArg Real.toEReal ?_
  simp only [trV, trK, tileP, tileS, Finset.sum_range]
  try simp only [Fin.val_zero, Fin.val_one, Nat.zero_mul, Nat.zero_add, Nat.one_mul, Nat.add_comm 128]

/-- After a trip, what the gradient of q has accumulated for the first head. -/
theorem trip_dq0 {K KA V Q QA DO DA E : ℕ → ℕ → ℝ} {p s vS kS D : ℕ → ℕ → ℕ → ℝ}
    (h2 : ∀ a b, arg2.view.read (Elt Ideal) X_arg2 (ix2 a b) = ((K a.val b.val : ℝ) : EReal)) (h14 : ∀ a b d, arg14.view.read (Elt Ideal) f_arg14 (ix3 a b d) = ((D a.val b.val d.val : ℝ) : EReal)) (h18 : ∀ a b d, arg18.view.read (Elt Ideal) f_arg18 (ix3 a b d) = ((s a.val b.val d.val : ℝ) : EReal)) (hv14 : ∀ a b, v14 (ix2 a b) = ((1 : ℝ) : EReal)) (r : Fin 8192) (c : Fin 256) :
    arg14.view.read (Elt Ideal) (arg14.view.writes (Elt Ideal) f_arg14 (tripL_k0_t1 (F := Ideal) 𝒱 dev bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 k f_arg14 f_arg15 f_arg16 f_arg17 f_arg18).1) (ix3 0 r c)
      = ((trD ((i 1).val + k.val) K s D 0 r.val c.val : ℝ) : EReal) := by
  unfold tripL_k0_t1 trip_k0_t1
  dsimp only
  by_cases hr : ((i 1).val + k.val) * 512 ≤ r.val ∧ r.val < ((i 1).val + k.val) * 512 + 512
  · obtain ⟨ρ, hx⟩ : ∃ ρ : Fin 512, r.val = ((i 1).val + k.val) * 512 + ρ.val := ⟨⟨r.val - ((i 1).val + k.val) * 512, by omega⟩, by simp only; omega⟩
    have hρ : r.val - ((i 1).val + k.val) * 512 = ρ.val := by omega
    rw [View.read_writes_cons_unit_of_not_mem _ _ _ _ _ _ (off6_eq i k) 0 (Or.inl (by show (0:ℕ) < 1; omega)),
      View.read_writes_cons_unit_of_mem _ _ _ _ _ _ (ix3 (0 : Fin 1) ρ c) (off4_eq i k)
      (fun a => by match a with | ⟨0, _⟩ => rfl | ⟨1, _⟩ => exact hx | ⟨2, _⟩ => exact (Nat.zero_add _).symm)]
    sl_unfold_words
    unfold_payloads
    simp only [View.readAt_eq_ld]
    pointwise
    by_cases hc : c.val < 128
    · simp only [hc, dif_pos, h2, h14, h18, ← EReal.coe_mul, coe_sum_fin, ← EReal.coe_add, (rows_trip' i k).1]
      refine congrArg Real.toEReal ?_
      simp only [trD, Finset.sum_range, hc, if_true, if_pos hr, hρ, ← hx]
      simp only [Fin.val_zero, Fin.val_one, Nat.zero_mul, Nat.zero_add, Nat.one_mul, Nat.add_comm 128]
    · simp only [hc, dif_neg, not_false_eq_true, h2, h14, h18, hv14, ← EReal.coe_mul, coe_sum_fin, ← EReal.coe_add, (rows_trip' i k).1]
      refine congrArg Real.toEReal ?_
      simp only [trD, Finset.sum_range, hc, if_false, if_pos hr, hρ, ← hx]
      simp only [Fin.val_zero, Fin.val_one, Nat.zero_mul, Nat.zero_add, Nat.one_mul, Nat.add_comm 128]
  · have hr' : r.val < ((i 1).val + k.val) * 512 ∨ ((i 1).val + k.val) * 512 + 512 ≤ r.val := by omega
    rw [View.read_writes_cons_unit_of_not_mem _ _ _ _ _ _ (off6_eq i k) 0 (Or.inl (by show (0:ℕ) < 1; omega)),
      View.read_writes_cons_unit_of_not_mem _ _ _ _ _ _ (off4_eq i k) 1 hr', View.writes_nil, h14]
    exact congrArg Real.toEReal (if_neg hr).symm

/-- After a trip, what the gradient of q has accumulated for the second head. -/
theorem trip_dq1 {K KA V Q QA DO DA E : ℕ → ℕ → ℝ} {p s vS kS D : ℕ → ℕ → ℕ → ℝ}
    (h2 : ∀ a b, arg2.view.read (Elt Ideal) X_arg2 (ix2 a b) = ((K a.val b.val : ℝ) : EReal)) (h14 : ∀ a b d, arg14.view.read (Elt Ideal) f_arg14 (ix3 a b d) = ((D a.val b.val d.val : ℝ) : EReal)) (h18 : ∀ a b d, arg18.view.read (Elt Ideal) f_arg18 (ix3 a b d) = ((s a.val b.val d.val : ℝ) : EReal)) (hv14 : ∀ a b, v14 (ix2 a b) = ((1 : ℝ) : EReal)) (r : Fin 8192) (c : Fin 256) :
    arg14.view.read (Elt Ideal) (arg14.view.writes (Elt Ideal) f_arg14 (tripL_k0_t1 (F := Ideal) 𝒱 dev bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 k f_arg14 f_arg15 f_arg16 f_arg17 f_arg18).1) (ix3 1 r c)
      = ((trD ((i 1).val + k.val) K s D 1 r.val c.val : ℝ) : EReal) := by
  unfold tripL_k0_t1 trip_k0_t1
  dsimp only
  by_cases hr : ((i 1).val + k.val) * 512 ≤ r.val ∧ r.val < ((i 1).val + k.val) * 512 + 512
  · obtain ⟨ρ, hx⟩ : ∃ ρ : Fin 512, r.val = ((i 1).val + k.val) * 512 + ρ.val := ⟨⟨r.val - ((i 1).val + k.val) * 512, by omega⟩, by simp only; omega⟩
    have hρ : r.val - ((i 1).val + k.val) * 512 = ρ.val := by omega
    rw [View.read_writes_cons_unit_of_mem _ _ _ _ _ _ (ix3 (0 : Fin 1) ρ c) (off6_eq i k)
      (fun a => by match a with | ⟨0, _⟩ => rfl | ⟨1, _⟩ => exact hx | ⟨2, _⟩ => exact (Nat.zero_add _).symm)]
    sl_unfold_words
    unfold_payloads
    simp only [View.readAt_eq_ld]
    pointwise
    by_cases hc : c.val < 128
    · simp only [hc, dif_pos, h2, h14, h18, ← EReal.coe_mul, coe_sum_fin, ← EReal.coe_add, (rows_trip' i k).1]
      refine congrArg Real.toEReal ?_
      simp only [trD, Finset.sum_range, hc, if_true, if_pos hr, hρ, ← hx]
      simp only [Fin.val_zero, Fin.val_one, Nat.zero_mul, Nat.zero_add, Nat.one_mul, Nat.add_comm 128]
    · simp only [hc, dif_neg, not_false_eq_true, h2, h14, h18, hv14, ← EReal.coe_mul, coe_sum_fin, ← EReal.coe_add, (rows_trip' i k).1]
      refine congrArg Real.toEReal ?_
      simp only [trD, Finset.sum_range, hc, if_false, if_pos hr, hρ, ← hx]
      simp only [Fin.val_zero, Fin.val_one, Nat.zero_mul, Nat.zero_add, Nat.one_mul, Nat.add_comm 128]
  · have hr' : r.val < ((i 1).val + k.val) * 512 ∨ ((i 1).val + k.val) * 512 + 512 ≤ r.val := by omega
    rw [View.read_writes_cons_unit_of_not_mem _ _ _ _ _ _ (off6_eq i k) 1 hr', View.read_writes_cons_unit_of_not_mem _ _ _ _ _ _ (off4_eq i k) 0 (Or.inr (by show (0:ℕ) + 1 ≤ 1; omega)), View.writes_nil, h14]
    exact congrArg Real.toEReal (if_neg hr).symm

end Cert.KernelIdeal.Fox
-- ==== Proof.Loop.lean ====
module

public import proofs.«01_k».proof.Proof.Trip
public import Idealize.ShloMosaic.Lib.Pointwise
public import Idealize.ShloMosaic.Lib.WritesUnit

/-! The counted loop of the kernel body, as a recursion over the reals. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

/-- A table of reals as a rank-2 value. -/
def lift2 {m n : ℕ} (f : ℕ → ℕ → ℝ) : (⟨2, ![m, n]⟩ : Shape).Idx → EReal := fun y => ((f (y 0).val (y 1).val : ℝ) : EReal)

/-- A table of reals as a rank-3 value. -/
def lift3 {l m n : ℕ} (f : ℕ → ℕ → ℕ → ℝ) : (⟨3, ![l, m, n]⟩ : Shape).Idx → EReal :=
  fun y => ((f (y 0).val (y 1).val (y 2).val : ℝ) : EReal)

/-- A lifted table of rank 2, read at a position. -/
theorem lift2_ix {m n : ℕ} (f : ℕ → ℕ → ℝ) (a : Fin m) (b : Fin n) :
    lift2 (m := m) (n := n) f (ix2 a b) = ((f a.val b.val : ℝ) : EReal) := rfl

/-- A lifted table of rank 3, read at a position. -/
theorem lift3_ix {l m n : ℕ} (f : ℕ → ℕ → ℕ → ℝ) (a : Fin l) (b : Fin m) (c : Fin n) :
    lift3 (l := l) (m := m) (n := n) f (ix3 a b c) = ((f a.val b.val c.val : ℝ) : EReal) := rfl

/-- A rank-2 value is the lift of a table it agrees with. -/
theorem eq_lift2 {m n : ℕ} {v : (⟨2, ![m, n]⟩ : Shape).Idx → EReal} {f : ℕ → ℕ → ℝ}
    (h : ∀ (a : Fin m) (b : Fin n), v (ix2 a b) = ((f a.val b.val : ℝ) : EReal)) : v = lift2 f :=
  funext fun y => by
    have e : y = ix2 (y 0) (y 1) := by
      funext a; match a with | ⟨0, _⟩ => rfl | ⟨1, _⟩ => rfl
    rw [e]; exact h _ _

/-- A rank-3 value is the lift of a table it agrees with. -/
theorem eq_lift3 {l m n : ℕ} {v : (⟨3, ![l, m, n]⟩ : Shape).Idx → EReal} {f : ℕ → ℕ → ℕ → ℝ}
    (h : ∀ (a : Fin l) (b : Fin m) (c : Fin n), v (ix3 a b c) = ((f a.val b.val c.val : ℝ) : EReal)) : v = lift3 f :=
  funext fun y => by
    have e : y = ix3 (y 0) (y 1) (y 2) := by
      funext a; match a with | ⟨0, _⟩ => rfl | ⟨1, _⟩ => rfl | ⟨2, _⟩ => rfl
    rw [e]; exact h _ _ _

/-- What the five scratches hold: the query, key and value sums and the tile of weights and of score gradients. -/
structure St where
  D : ℕ → ℕ → ℕ → ℝ
  k : ℕ → ℕ → ℕ → ℝ
  v : ℕ → ℕ → ℕ → ℝ
  p : ℕ → ℕ → ℕ → ℝ
  s : ℕ → ℕ → ℕ → ℝ

/-- What a step of the loop reads besides the scratches. -/
structure In where
  K : ℕ → ℕ → ℝ
  KA : ℕ → ℕ → ℝ
  V : ℕ → ℕ → ℝ
  Q : ℕ → ℕ → ℝ
  QA : ℕ → ℕ → ℝ
  DO : ℕ → ℕ → ℝ
  DA : ℕ → ℕ → ℝ
  E : ℕ → ℕ → ℝ

/-- A trip on the state: the last tile's products are added and the next tile computed. -/
def stStep (I : In) (n : ℕ) (σ : St) : St where
  D := trD n I.K σ.s σ.D
  k := trK n I.Q σ.s σ.k
  v := trV n I.DO σ.p σ.v
  p := tileP (n + 1) I.K I.KA I.Q I.QA
  s := tileS (n + 1) I.K I.KA I.V I.Q I.QA I.DO I.DA I.E

/-- The state after `n` trips from key block `j`. -/
def stLoop (I : In) (j : ℕ) (σ : St) : ℕ → St
  | 0 => σ
  | n + 1 => stStep I (j + n) (stLoop I j σ n)

variable  (𝒱 : Variants) (c : Dev nD) (bd : Option 𝒱.V) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S8192x256 .bf16) (harg8 : arg8.IsWhole) (arg9 : Memref sig .tc .vmem S8192x256 .bf16) (harg9 : arg9.IsWhole) (arg10 : Memref sig .tc .vmem S2x1x8192 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S2x1x512 .f32) (harg13 : arg13.IsWhole) (arg14 : Memref sig .tc .vmem S2x8192x256 .f32) (harg14 : arg14.IsWhole) (arg15 : Memref sig .tc .vmem S2x512x256 .f32) (harg15 : arg15.IsWhole) (arg16 : Memref sig .tc .vmem S2x512x128 .f32) (harg16 : arg16.IsWhole) (arg17 : Memref sig .tc .vmem S2x512x512 .bf16) (harg17 : arg17.IsWhole) (arg18 : Memref sig .tc .vmem S2x512x512 .bf16) (harg18 : arg18.IsWhole) (v13 : FVec Ideal S512x128 .bf16) (v14 : FVec Ideal S512x128 .bf16) (v106 : BitVec 32) (c1_i32_51 : BitVec 32) (v109 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty)  (G_arg14 : BufTy.Contents (Elt Ideal) arg14.view.ty) (G_arg15 : BufTy.Contents (Elt Ideal) arg15.view.ty) (G_arg16 : BufTy.Contents (Elt Ideal) arg16.view.ty) (G_arg17 : BufTy.Contents (Elt Ideal) arg17.view.ty) (G_arg18 : BufTy.Contents (Elt Ideal) arg18.view.ty)

/-- What the five scratches hold before trip `n`, when they hold `σ` before the first. -/
theorem loop_t1 (I : In) (σ : St) (h2 : arg2.view.read (Elt Ideal) X_arg2 = lift2 I.K) (h3 : arg3.view.read (Elt Ideal) X_arg3 = lift2 I.KA) (h4 : arg4.view.read (Elt Ideal) X_arg4 = lift2 I.V) (h5 : arg5.view.read (Elt Ideal) X_arg5 = lift2 I.Q) (h6 : arg6.view.read (Elt Ideal) X_arg6 = lift2 I.QA) (h7 : arg7.view.read (Elt Ideal) X_arg7 = lift2 I.DO) (h8 : arg8.view.read (Elt Ideal) X_arg8 = lift2 I.DA) (hv13 : v13 = lift2 I.E) (hv14 : v14 = lift2 (fun _ _ => 1)) (h14 : arg14.view.read (Elt Ideal) G_arg14 = lift3 σ.D) (h15 : arg15.view.read (Elt Ideal) G_arg15 = lift3 σ.k) (h16 : arg16.view.read (Elt Ideal) G_arg16 = lift3 σ.v) (h17 : arg17.view.read (Elt Ideal) G_arg17 = lift3 σ.p) (h18 : arg18.view.read (Elt Ideal) G_arg18 = lift3 σ.s) :
    ∀ n : ℕ, n ≤ (k0_t1_loop i).trips →
      arg14.view.read (Elt Ideal) (arg14.view.writes (Elt Ideal) G_arg14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 G_arg14 G_arg15 G_arg16 G_arg17 G_arg18 n).1) = lift3 (stLoop I (i 1).val σ n).D ∧
      arg15.view.read (Elt Ideal) (arg15.view.writes (Elt Ideal) G_arg15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 G_arg14 G_arg15 G_arg16 G_arg17 G_arg18 n).2.1) = lift3 (stLoop I (i 1).val σ n).k ∧
      arg16.view.read (Elt Ideal) (arg16.view.writes (Elt Ideal) G_arg16 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 G_arg14 G_arg15 G_arg16 G_arg17 G_arg18 n).2.2.1) = lift3 (stLoop I (i 1).val σ n).v ∧
      arg17.view.read (Elt Ideal) (arg17.view.writes (Elt Ideal) G_arg17 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 G_arg14 G_arg15 G_arg16 G_arg17 G_arg18 n).2.2.2.1) = lift3 (stLoop I (i 1).val σ n).p ∧
      arg18.view.read (Elt Ideal) (arg18.view.writes (Elt Ideal) G_arg18 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 G_arg14 G_arg15 G_arg16 G_arg17 G_arg18 n).2.2.2.2) = lift3 (stLoop I (i 1).val σ n).s := by
  intro n
  induction n with
  | zero => exact fun _ => ⟨h14, h15, h16, h17, h18⟩
  | succ n ih =>
    intro hn
    obtain ⟨e14, e15, e16, e17, e18⟩ := ih (Nat.le_of_lt hn)
    rw [pb_k0_t1_succ _ _ _ _ _ _ _ _ _ _ _ _ _ _ _ _ _ _ _ _ _ _ _ _ _ _ _ _ _ _ _ _ _ _ _ _ _ _ _ _ _ _ _ _ _ _ _ _ _ _ _ _ _ _ _ ⟨n, hn⟩]
    refine ⟨?_, ?_, ?_, ?_, ?_⟩
    · rw [View.writes_append]
      show _ = lift3 (stStep I ((i 1).val + n) (stLoop I (i 1).val σ n)).D
      dsimp only [stStep]
      refine eq_lift3 fun a b d => ?_
      match a with
      | ⟨0, _⟩ => exact trip_dq0 (K := I.K) (KA := I.KA) (V := I.V) (Q := I.Q) (QA := I.QA) (DO := I.DO) (DA := I.DA) (E := I.E) (p := (stLoop I (i 1).val σ n).p) (s := (stLoop I (i 1).val σ n).s) (vS := (stLoop I (i 1).val σ n).v) (kS := (stLoop I (i 1).val σ n).k) (D := (stLoop I (i 1).val σ n).D) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 ⟨n, hn⟩ _ _ _ _ _ (fun a b => congrFun h2 (ix2 a b)) (fun a b d => congrFun e14 (ix3 a b d)) (fun a b d => congrFun e18 (ix3 a b d)) (fun a b => congrFun hv14 (ix2 a b)) b d
      | ⟨1, _⟩ => exact trip_dq1 (K := I.K) (KA := I.KA) (V := I.V) (Q := I.Q) (QA := I.QA) (DO := I.DO) (DA := I.DA) (E := I.E) (p := (stLoop I (i 1).val σ n).p) (s := (stLoop I (i 1).val σ n).s) (vS := (stLoop I (i 1).val σ n).v) (kS := (stLoop I (i 1).val σ n).k) (D := (stLoop I (i 1).val σ n).D) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 ⟨n, hn⟩ _ _ _ _ _ (fun a b => congrFun h2 (ix2 a b)) (fun a b d => congrFun e14 (ix3 a b d)) (fun a b d => congrFun e18 (ix3 a b d)) (fun a b => congrFun hv14 (ix2 a b)) b d
    · rw [View.writes_append]
      show _ = lift3 (stStep I ((i 1).val + n) (stLoop I (i 1).val σ n)).k
      dsimp only [stStep]
      refine eq_lift3 fun a b d => ?_
      match a with
      | ⟨0, _⟩ => exact trip_dk0 (K := I.K) (KA := I.KA) (V := I.V) (Q := I.Q) (QA := I.QA) (DO := I.DO) (DA := I.DA) (E := I.E) (p := (stLoop I (i 1).val σ n).p) (s := (stLoop I (i 1).val σ n).s) (vS := (stLoop I (i 1).val σ n).v) (kS := (stLoop I (i 1).val σ n).k) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 ⟨n, hn⟩ _ _ _ _ _ (fun a b => congrFun h5 (ix2 a b)) (fun a b d => congrFun e15 (ix3 a b d)) (fun a b d => congrFun e18 (ix3 a b d)) (fun a b => congrFun hv14 (ix2 a b)) b d
      | ⟨1, _⟩ => exact trip_dk1 (K := I.K) (KA := I.KA) (V := I.V) (Q := I.Q) (QA := I.QA) (DO := I.DO) (DA := I.DA) (E := I.E) (p := (stLoop I (i 1).val σ n).p) (s := (stLoop I (i 1).val σ n).s) (vS := (stLoop I (i 1).val σ n).v) (kS := (stLoop I (i 1).val σ n).k) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 ⟨n, hn⟩ _ _ _ _ _ (fun a b => congrFun h5 (ix2 a b)) (fun a b d => congrFun e15 (ix3 a b d)) (fun a b d => congrFun e18 (ix3 a b d)) (fun a b => congrFun hv14 (ix2 a b)) b d
    · rw [View.writes_append]
      show _ = lift3 (stStep I ((i 1).val + n) (stLoop I (i 1).val σ n)).v
      dsimp only [stStep]
      refine eq_lift3 fun a b d => ?_
      match a with
      | ⟨0, _⟩ => exact trip_dv0 (K := I.K) (KA := I.KA) (V := I.V) (Q := I.Q) (QA := I.QA) (DO := I.DO) (DA := I.DA) (E := I.E) (p := (stLoop I (i 1).val σ n).p) (s := (stLoop I (i 1).val σ n).s) (vS := (stLoop I (i 1).val σ n).v) (kS := (stLoop I (i 1).val σ n).k) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 ⟨n, hn⟩ _ _ _ _ _ (fun a b => congrFun h7 (ix2 a b)) (fun a b d => congrFun e16 (ix3 a b d)) (fun a b d => congrFun e17 (ix3 a b d)) b d
      | ⟨1, _⟩ => exact trip_dv1 (K := I.K) (KA := I.KA) (V := I.V) (Q := I.Q) (QA := I.QA) (DO := I.DO) (DA := I.DA) (E := I.E) (p := (stLoop I (i 1).val σ n).p) (s := (stLoop I (i 1).val σ n).s) (vS := (stLoop I (i 1).val σ n).v) (kS := (stLoop I (i 1).val σ n).k) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 ⟨n, hn⟩ _ _ _ _ _ (fun a b => congrFun h7 (ix2 a b)) (fun a b d => congrFun e16 (ix3 a b d)) (fun a b d => congrFun e17 (ix3 a b d)) b d
    · rw [View.writes_append]
      show _ = lift3 (stStep I ((i 1).val + n) (stLoop I (i 1).val σ n)).p
      dsimp only [stStep]
      refine eq_lift3 fun a b d => ?_
      match a with
      | ⟨0, _⟩ => exact trip_p0 (K := I.K) (KA := I.KA) (V := I.V) (Q := I.Q) (QA := I.QA) (DO := I.DO) (DA := I.DA) (E := I.E) (p := (stLoop I (i 1).val σ n).p) (s := (stLoop I (i 1).val σ n).s) (vS := (stLoop I (i 1).val σ n).v) (kS := (stLoop I (i 1).val σ n).k) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 ⟨n, hn⟩ _ _ _ _ _ (fun a b => congrFun h2 (ix2 a b)) (fun a b => congrFun h3 (ix2 a b)) (fun a b => congrFun h5 (ix2 a b)) (fun a b => congrFun h6 (ix2 a b)) b d
      | ⟨1, _⟩ => exact trip_p1 (K := I.K) (KA := I.KA) (V := I.V) (Q := I.Q) (QA := I.QA) (DO := I.DO) (DA := I.DA) (E := I.E) (p := (stLoop I (i 1).val σ n).p) (s := (stLoop I (i 1).val σ n).s) (vS := (stLoop I (i 1).val σ n).v) (kS := (stLoop I (i 1).val σ n).k) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 ⟨n, hn⟩ _ _ _ _ _ (fun a b => congrFun h2 (ix2 a b)) (fun a b => congrFun h3 (ix2 a b)) (fun a b => congrFun h5 (ix2 a b)) (fun a b => congrFun h6 (ix2 a b)) b d
    · rw [View.writes_append]
      show _ = lift3 (stStep I ((i 1).val + n) (stLoop I (i 1).val σ n)).s
      dsimp only [stStep]
      refine eq_lift3 fun a b d => ?_
      match a with
      | ⟨0, _⟩ => exact trip_s0 (K := I.K) (KA := I.KA) (V := I.V) (Q := I.Q) (QA := I.QA) (DO := I.DO) (DA := I.DA) (E := I.E) (p := (stLoop I (i 1).val σ n).p) (s := (stLoop I (i 1).val σ n).s) (vS := (stLoop I (i 1).val σ n).v) (kS := (stLoop I (i 1).val σ n).k) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 ⟨n, hn⟩ _ _ _ _ _ (fun a b => congrFun h2 (ix2 a b)) (fun a b => congrFun h3 (ix2 a b)) (fun a b => congrFun h4 (ix2 a b)) (fun a b => congrFun h5 (ix2 a b)) (fun a b => congrFun h6 (ix2 a b)) (fun a b => congrFun h7 (ix2 a b)) (fun a b => congrFun h8 (ix2 a b)) (fun a b => congrFun hv13 (ix2 a b)) b d
      | ⟨1, _⟩ => exact trip_s1 (K := I.K) (KA := I.KA) (V := I.V) (Q := I.Q) (QA := I.QA) (DO := I.DO) (DA := I.DA) (E := I.E) (p := (stLoop I (i 1).val σ n).p) (s := (stLoop I (i 1).val σ n).s) (vS := (stLoop I (i 1).val σ n).v) (kS := (stLoop I (i 1).val σ n).k) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 ⟨n, hn⟩ _ _ _ _ _ (fun a b => congrFun h2 (ix2 a b)) (fun a b => congrFun h3 (ix2 a b)) (fun a b => congrFun h4 (ix2 a b)) (fun a b => congrFun h5 (ix2 a b)) (fun a b => congrFun h6 (ix2 a b)) (fun a b => congrFun h7 (ix2 a b)) (fun a b => congrFun h8 (ix2 a b)) (fun a b => congrFun hv13 (ix2 a b)) b d

end Cert.KernelIdeal.Fox
-- ==== Proof.Diag.lean ====
module

public import proofs.«01_k».proof.Proof.Loop
public import Idealize.ShloMosaic.Lib.WordCmp
public import Idealize.ShloMosaic.Lib.Pointwise
public import Idealize.ShloMosaic.Lib.WritesUnit

/-! The tiles on the diagonal and the constant blocks, read at an index. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

/-- The tile of weights on the diagonal: zero below it. -/
def maskP (n : ℕ) (K KA Q QA : ℕ → ℕ → ℝ) (g r c : ℕ) : ℝ := if r ≤ c then tileP n K KA Q QA g r c else 0

/-- The tile of score gradients on the diagonal: zero below it. -/
def maskS (n : ℕ) (K KA V Q QA DO DA E : ℕ → ℕ → ℝ) (g r c : ℕ) : ℝ :=
  if r ≤ c then tileS n K KA V Q QA DO DA E g r c else 0

/-- A choice by a signed comparison of two small words is the choice by the numbers. -/
theorem sel_sge {α : Type} (r c : Fin 512) (x y : α) :
    Scalar.select (IntOp.cmpi .sge (BitVec.ofNat 32 c.val) (BitVec.ofNat 32 r.val)) x y = if r.val ≤ c.val then x else y := by
  rw [WordCmp.cmpi_sge_ofNat (by show c.val < 2147483648; omega) (by show r.val < 2147483648; omega)]
  by_cases h : r.val ≤ c.val <;> simp [Scalar.select, h]

/-- A choice by equality of two small words is the choice by the numbers. -/
theorem sel_eq {α : Type} {a b : ℕ} (ha : a < 4294967296) (hb : b < 4294967296) (x y : α) :
    Scalar.select (IntOp.cmpi .eq (BitVec.ofNat 32 a) (BitVec.ofNat 32 b)) x y = if a = b then x else y := by
  rw [WordCmp.cmpi_eq_eq_toNat, BitVec.toNat_ofNat, BitVec.toNat_ofNat, Nat.mod_eq_of_lt ha, Nat.mod_eq_of_lt hb]
  by_cases h : a = b <;> simp [Scalar.select, h]

/-- Three nested choices by lane 0, 1 and 2 are one choice by the first three lanes. -/
theorem sel3 (b : Fin 128) :
    Scalar.select (IntOp.cmpi CmpIPredicate.eq (BitVec.ofNat 32 b.val) 0#32) (1 : EReal)
      (Scalar.select (IntOp.cmpi CmpIPredicate.eq (BitVec.ofNat 32 b.val) 1#32) 1
        (Scalar.select (IntOp.cmpi CmpIPredicate.eq (BitVec.ofNat 32 b.val) 2#32) 1 0))
      = ((if b.val < 3 then 1 else 0 : ℝ) : EReal) := by
  have hb : b.val < 4294967296 := by omega
  rw [sel_eq hb (by norm_num), sel_eq hb (by norm_num), sel_eq hb (by norm_num)]
  split_ifs <;> first | exact EReal.coe_one.symm | exact EReal.coe_zero.symm | (exfalso; omega)

/-- The lanes that the values are extended by: ones in the first three, zeros elsewhere. -/
theorem pay71_eq : (k0_pay71 (F := Ideal)) = lift2 (fun _ c => if c < 3 then 1 else 0) := by
  refine eq_lift2 fun a b => ?_
  unfold k0_pay71
  pointwise
  exact sel3 b

/-- The same, at one position. -/
theorem pay71_ix (a : Fin 512) (b : Fin 128) : k0_pay71 (F := Ideal) (ix2 a b) = ((if b.val < 3 then 1 else 0 : ℝ) : EReal) :=
  congrFun pay71_eq (ix2 a b)

variable {arg2 : Memref sig .tc .vmem S512x256 .bf16} {arg3 : Memref sig .tc .vmem S512x256 .bf16} {arg4 : Memref sig .tc .vmem S512x256 .bf16} {arg5 : Memref sig .tc .vmem S8192x256 .bf16} {arg6 : Memref sig .tc .vmem S8192x256 .bf16} {arg7 : Memref sig .tc .vmem S8192x256 .bf16} {arg8 : Memref sig .tc .vmem S8192x256 .bf16} {arg17 : Memref sig .tc .vmem S2x512x512 .bf16} {arg18 : Memref sig .tc .vmem S2x512x512 .bf16}
  {X_arg2 : arg2.view.ty.Contents (Elt Ideal)} {X_arg3 : arg3.view.ty.Contents (Elt Ideal)} {X_arg4 : arg4.view.ty.Contents (Elt Ideal)} {X_arg5 : arg5.view.ty.Contents (Elt Ideal)} {X_arg6 : arg6.view.ty.Contents (Elt Ideal)} {X_arg7 : arg7.view.ty.Contents (Elt Ideal)} {X_arg8 : arg8.view.ty.Contents (Elt Ideal)}

/-- The weights that the diagonal tile leaves in its scratch, for both heads. -/
theorem diag_p (I : In) (j : ℕ) (hj : j < 16) {i00 : ∀ a, (![0, 0] : Fin 2 → ℕ) a + S512x128.size a ≤ S512x256.size a} {i01 : ∀ a, (![0, 128] : Fin 2 → ℕ) a + S512x128.size a ≤ S512x256.size a}
    {o1 o2 : Fin 2 → ℕ} {j1 : ∀ a, o1 a + S512x128.size a ≤ S8192x256.size a} {j2 : ∀ a, o2 a + S512x128.size a ≤ S8192x256.size a}
    {i0 : ∀ a, (![0, 0, 0] : Fin 3 → ℕ) a + S1x512x512.size a ≤ S2x512x512.size a} {i1 : ∀ a, (![1, 0, 0] : Fin 3 → ℕ) a + S1x512x512.size a ≤ S2x512x512.size a} (ho1 : o1 = ![j * 512, 0]) (ho2 : o2 = ![j * 512, 128]) (h2 : arg2.view.read (Elt Ideal) X_arg2 = lift2 I.K) (h3 : arg3.view.read (Elt Ideal) X_arg3 = lift2 I.KA) (h5 : arg5.view.read (Elt Ideal) X_arg5 = lift2 I.Q) (h6 : arg6.view.read (Elt Ideal) X_arg6 = lift2 I.QA)
    (f : arg17.view.ty.Contents (Elt Ideal)) :
    arg17.view.read (Elt Ideal) (arg17.view.writes (Elt Ideal) f
      [⟨Rect.unit ![1, 0, 0] S1x512x512.size i1, k0_pay84 (F := Ideal) (k0_pay81 (View.readAt (Elt Ideal) arg2.view (Rect.unit (s := S512x256) ![0, 128] S512x128.size i01).toLoadRect X_arg2)) (k0_pay82 (View.readAt (Elt Ideal) arg3.view (Rect.unit (s := S512x256) ![0, 128] S512x128.size i01).toLoadRect X_arg3)) (View.readAt (Elt Ideal) arg5.view (Rect.unit (s := S8192x256) o2 S512x128.size j2).toLoadRect X_arg5) (View.readAt (Elt Ideal) arg6.view (Rect.unit (s := S8192x256) o2 S512x128.size j2).toLoadRect X_arg6)⟩, ⟨Rect.unit ![0, 0, 0] S1x512x512.size i0, k0_pay79 (F := Ideal) (k0_pay76 (View.readAt (Elt Ideal) arg2.view (Rect.unit (s := S512x256) ![0, 0] S512x128.size i00).toLoadRect X_arg2)) (k0_pay77 (View.readAt (Elt Ideal) arg3.view (Rect.unit (s := S512x256) ![0, 0] S512x128.size i00).toLoadRect X_arg3)) (View.readAt (Elt Ideal) arg5.view (Rect.unit (s := S8192x256) o1 S512x128.size j1).toLoadRect X_arg5) (View.readAt (Elt Ideal) arg6.view (Rect.unit (s := S8192x256) o1 S512x128.size j1).toLoadRect X_arg6)⟩]) = lift3 (maskP j I.K I.KA I.Q I.QA) := by
  subst ho1 ho2
  have g2 := fun a b => congrFun h2 (ix2 a b)
  simp only [lift2_ix] at g2
  have g3 := fun a b => congrFun h3 (ix2 a b)
  simp only [lift2_ix] at g3
  have g5 := fun a b => congrFun h5 (ix2 a b)
  simp only [lift2_ix] at g5
  have g6 := fun a b => congrFun h6 (ix2 a b)
  simp only [lift2_ix] at g6
  refine eq_lift3 fun g r c => ?_
  match g with
  | ⟨0, _⟩ =>
    rw [View.read_writes_cons_unit_of_not_mem _ _ _ _ _ _ rfl 0 (Or.inl (by show (0:ℕ) < 1; omega)),
      View.read_writes_cons_unit_of_mem _ _ _ _ _ _ (ix3 (0 : Fin 1) r c) rfl (by intro a; match a with | ⟨0, _⟩ => rfl | ⟨1, _⟩ => exact (Nat.zero_add _).symm | ⟨2, _⟩ => exact (Nat.zero_add _).symm)]
    unfold_payloads
    simp only [View.readAt_eq_ld]
    pointwise
    simp only [g2, g3, g5, g6, sel_sge, sel3, ← EReal.coe_mul, coe_sum_fin, ← EReal.coe_add, exp2_coe]
    by_cases hrc : r.val ≤ c.val
    · rw [if_pos hrc]
      refine congrArg Real.toEReal ?_
      simp only [maskP, maskS, tileP, tileS, Finset.sum_range, if_pos hrc]
      try simp only [Fin.val_zero, Fin.val_one, Nat.zero_mul, Nat.zero_add, Nat.one_mul, Nat.add_comm 128]
    · rw [if_neg hrc]
      exact (congrArg Real.toEReal (if_neg hrc)).symm
  | ⟨1, _⟩ =>
    rw [View.read_writes_cons_unit_of_mem _ _ _ _ _ _ (ix3 (0 : Fin 1) r c) rfl (by intro a; match a with | ⟨0, _⟩ => rfl | ⟨1, _⟩ => exact (Nat.zero_add _).symm | ⟨2, _⟩ => exact (Nat.zero_add _).symm)]
    unfold_payloads
    simp only [View.readAt_eq_ld]
    pointwise
    simp only [g2, g3, g5, g6, sel_sge, sel3, ← EReal.coe_mul, coe_sum_fin, ← EReal.coe_add, exp2_coe]
    by_cases hrc : r.val ≤ c.val
    · rw [if_pos hrc]
      refine congrArg Real.toEReal ?_
      simp only [maskP, maskS, tileP, tileS, Finset.sum_range, if_pos hrc]
      try simp only [Fin.val_zero, Fin.val_one, Nat.zero_mul, Nat.zero_add, Nat.one_mul, Nat.add_comm 128]
    · rw [if_neg hrc]
      exact (congrArg Real.toEReal (if_neg hrc)).symm

/-- The gradients of the scores that the diagonal tile leaves in its scratch, for both heads. -/
theorem diag_s (I : In) (j : ℕ) (hj : j < 16) {i00 : ∀ a, (![0, 0] : Fin 2 → ℕ) a + S512x128.size a ≤ S512x256.size a} {i01 : ∀ a, (![0, 128] : Fin 2 → ℕ) a + S512x128.size a ≤ S512x256.size a}
    {o1 o2 : Fin 2 → ℕ} {j1 : ∀ a, o1 a + S512x128.size a ≤ S8192x256.size a} {j2 : ∀ a, o2 a + S512x128.size a ≤ S8192x256.size a}
    {i0 : ∀ a, (![0, 0, 0] : Fin 3 → ℕ) a + S1x512x512.size a ≤ S2x512x512.size a} {i1 : ∀ a, (![1, 0, 0] : Fin 3 → ℕ) a + S1x512x512.size a ≤ S2x512x512.size a} (ho1 : o1 = ![j * 512, 0]) (ho2 : o2 = ![j * 512, 128]) (h2 : arg2.view.read (Elt Ideal) X_arg2 = lift2 I.K) (h3 : arg3.view.read (Elt Ideal) X_arg3 = lift2 I.KA) (h4 : arg4.view.read (Elt Ideal) X_arg4 = lift2 I.V) (h5 : arg5.view.read (Elt Ideal) X_arg5 = lift2 I.Q) (h6 : arg6.view.read (Elt Ideal) X_arg6 = lift2 I.QA) (h7 : arg7.view.read (Elt Ideal) X_arg7 = lift2 I.DO) (h8 : arg8.view.read (Elt Ideal) X_arg8 = lift2 I.DA)
    (f : arg18.view.ty.Contents (Elt Ideal)) :
    arg18.view.read (Elt Ideal) (arg18.view.writes (Elt Ideal) f
      [⟨Rect.unit ![1, 0, 0] S1x512x512.size i1, k0_pay85 (F := Ideal) k0_pay71 (k0_pay81 (View.readAt (Elt Ideal) arg2.view (Rect.unit (s := S512x256) ![0, 128] S512x128.size i01).toLoadRect X_arg2)) (k0_pay82 (View.readAt (Elt Ideal) arg3.view (Rect.unit (s := S512x256) ![0, 128] S512x128.size i01).toLoadRect X_arg3)) (View.readAt (Elt Ideal) arg4.view (Rect.unit (s := S512x256) ![0, 128] S512x128.size i01).toLoadRect X_arg4) (View.readAt (Elt Ideal) arg5.view (Rect.unit (s := S8192x256) o2 S512x128.size j2).toLoadRect X_arg5) (View.readAt (Elt Ideal) arg6.view (Rect.unit (s := S8192x256) o2 S512x128.size j2).toLoadRect X_arg6) (View.readAt (Elt Ideal) arg7.view (Rect.unit (s := S8192x256) o2 S512x128.size j2).toLoadRect X_arg7) (View.readAt (Elt Ideal) arg8.view (Rect.unit (s := S8192x256) o2 S512x128.size j2).toLoadRect X_arg8)⟩, ⟨Rect.unit ![0, 0, 0] S1x512x512.size i0, k0_pay80 (F := Ideal) k0_pay71 (k0_pay76 (View.readAt (Elt Ideal) arg2.view (Rect.unit (s := S512x256) ![0, 0] S512x128.size i00).toLoadRect X_arg2)) (k0_pay77 (View.readAt (Elt Ideal) arg3.view (Rect.unit (s := S512x256) ![0, 0] S512x128.size i00).toLoadRect X_arg3)) (View.readAt (Elt Ideal) arg4.view (Rect.unit (s := S512x256) ![0, 0] S512x128.size i00).toLoadRect X_arg4) (View.readAt (Elt Ideal) arg5.view (Rect.unit (s := S8192x256) o1 S512x128.size j1).toLoadRect X_arg5) (View.readAt (Elt Ideal) arg6.view (Rect.unit (s := S8192x256) o1 S512x128.size j1).toLoadRect X_arg6) (View.readAt (Elt Ideal) arg7.view (Rect.unit (s := S8192x256) o1 S512x128.size j1).toLoadRect X_arg7) (View.readAt (Elt Ideal) arg8.view (Rect.unit (s := S8192x256) o1 S512x128.size j1).toLoadRect X_arg8)⟩]) = lift3 (maskS j I.K I.KA I.V I.Q I.QA I.DO I.DA (fun _ c => if c < 3 then 1 else 0)) := by
  subst ho1 ho2
  have g2 := fun a b => congrFun h2 (ix2 a b)
  simp only [lift2_ix] at g2
  have g3 := fun a b => congrFun h3 (ix2 a b)
  simp only [lift2_ix] at g3
  have g4 := fun a b => congrFun h4 (ix2 a b)
  simp only [lift2_ix] at g4
  have g5 := fun a b => congrFun h5 (ix2 a b)
  simp only [lift2_ix] at g5
  have g6 := fun a b => congrFun h6 (ix2 a b)
  simp only [lift2_ix] at g6
  have g7 := fun a b => congrFun h7 (ix2 a b)
  simp only [lift2_ix] at g7
  have g8 := fun a b => congrFun h8 (ix2 a b)
  simp only [lift2_ix] at g8
  refine eq_lift3 fun g r c => ?_
  match g with
  | ⟨0, _⟩ =>
    rw [View.read_writes_cons_unit_of_not_mem _ _ _ _ _ _ rfl 0 (Or.inl (by show (0:ℕ) < 1; omega)),
      View.read_writes_cons_unit_of_mem _ _ _ _ _ _ (ix3 (0 : Fin 1) r c) rfl (by intro a; match a with | ⟨0, _⟩ => rfl | ⟨1, _⟩ => exact (Nat.zero_add _).symm | ⟨2, _⟩ => exact (Nat.zero_add _).symm)]
    unfold_payloads
    simp only [View.readAt_eq_ld]
    pointwise
    simp only [g2, g3, g4, g5, g6, g7, g8, sel_sge, sel3, ← EReal.coe_mul, coe_sum_fin, ← EReal.coe_add, exp2_coe]
    by_cases hrc : r.val ≤ c.val
    · rw [if_pos hrc]
      refine congrArg Real.toEReal ?_
      simp only [maskP, maskS, tileP, tileS, Finset.sum_range, if_pos hrc]
      try simp only [Fin.val_zero, Fin.val_one, Nat.zero_mul, Nat.zero_add, Nat.one_mul, Nat.add_comm 128]
    · rw [if_neg hrc]
      exact (congrArg Real.toEReal (if_neg hrc)).symm
  | ⟨1, _⟩ =>
    rw [View.read_writes_cons_unit_of_mem _ _ _ _ _ _ (ix3 (0 : Fin 1) r c) rfl (by intro a; match a with | ⟨0, _⟩ => rfl | ⟨1, _⟩ => exact (Nat.zero_add _).symm | ⟨2, _⟩ => exact (Nat.zero_add _).symm)]
    unfold_payloads
    simp only [View.readAt_eq_ld]
    pointwise
    simp only [g2, g3, g4, g5, g6, g7, g8, sel_sge, sel3, ← EReal.coe_mul, coe_sum_fin, ← EReal.coe_add, exp2_coe]
    by_cases hrc : r.val ≤ c.val
    · rw [if_pos hrc]
      refine congrArg Real.toEReal ?_
      simp only [maskP, maskS, tileP, tileS, Finset.sum_range, if_pos hrc]
      try simp only [Fin.val_zero, Fin.val_one, Nat.zero_mul, Nat.zero_add, Nat.one_mul, Nat.add_comm 128]
    · rw [if_neg hrc]
      exact (congrArg Real.toEReal (if_neg hrc)).symm

/-- The block of ones. -/
theorem pay72_eq : (k0_pay72 (F := Ideal)) = lift2 (fun _ _ => 1) := by
  refine eq_lift2 fun a b => ?_
  unfold k0_pay72
  pointwise
  exact EReal.coe_one.symm

/-- The zeros that the key gradient starts from. -/
theorem pay74_eq : (k0_pay74 (F := Ideal)) = lift3 (fun _ _ _ => 0) := by
  refine eq_lift3 fun a b c => ?_
  unfold k0_pay74
  pointwise
  exact EReal.coe_zero.symm

/-- The zeros that the value gradient starts from. -/
theorem pay75_eq : (k0_pay75 (F := Ideal)) = lift3 (fun _ _ _ => 0) := by
  refine eq_lift3 fun a b c => ?_
  unfold k0_pay75
  pointwise
  exact EReal.coe_zero.symm

/-- The zeros that the query gradient starts from. -/
theorem pay73_eq : (k0_pay73 (F := Ideal)) = lift3 (fun _ _ _ => 0) := by
  refine eq_lift3 fun a b c => ?_
  unfold k0_pay73
  pointwise
  exact EReal.coe_zero.symm

end Cert.KernelIdeal.Fox
-- ==== Proof.Case.lean ====
module

public import proofs.«01_k».proof.Proof.Diag
public import Idealize.ShloMosaic.Lib.Pointwise
public import Idealize.ShloMosaic.Lib.WritesUnit

/-! The kernel body's loops and initial stores, in the form the grid points use. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

section
variable (𝒱 : Variants) (c : Dev nD) (bd : Option 𝒱.V) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S8192x256 .bf16) (harg8 : arg8.IsWhole) (arg9 : Memref sig .tc .vmem S8192x256 .bf16) (harg9 : arg9.IsWhole) (arg10 : Memref sig .tc .vmem S2x1x8192 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S2x1x512 .f32) (harg13 : arg13.IsWhole) (arg14 : Memref sig .tc .vmem S2x8192x256 .f32) (harg14 : arg14.IsWhole) (arg15 : Memref sig .tc .vmem S2x512x256 .f32) (harg15 : arg15.IsWhole) (arg16 : Memref sig .tc .vmem S2x512x128 .f32) (harg16 : arg16.IsWhole) (arg17 : Memref sig .tc .vmem S2x512x512 .bf16) (harg17 : arg17.IsWhole) (arg18 : Memref sig .tc .vmem S2x512x512 .bf16) (harg18 : arg18.IsWhole) (v13 : FVec Ideal S512x128 .bf16) (v14 : FVec Ideal S512x128 .bf16) (v106 : BitVec 32) (c1_i32_51 : BitVec 32) (v109 : BitVec 32) (v111 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (G_arg14 : BufTy.Contents (Elt Ideal) arg14.view.ty) (G_arg15 : BufTy.Contents (Elt Ideal) arg15.view.ty) (G_arg16 : BufTy.Contents (Elt Ideal) arg16.view.ty) (G_arg17 : BufTy.Contents (Elt Ideal) arg17.view.ty) (G_arg18 : BufTy.Contents (Elt Ideal) arg18.view.ty)

/-- The remainder loop makes no trip, so it writes nothing. -/
theorem pb2_nil (n : ℕ) (hn : n = 0) : pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 v111 X_arg2 X_arg3 X_arg4 X_arg5 X_arg6 X_arg7 X_arg8 G_arg14 G_arg15 G_arg16 G_arg17 G_arg18 n = ([], [], [], [], []) := by
  subst hn; rfl
end

/-- A whole rank-3 block stored at once reads as what was stored. -/
theorem full3 {l m n : ℕ} (v : View sig .tc .vmem ⟨3, ![l, m, n]⟩ .f32) (f : v.ty.Contents (Elt Ideal))
    (inb : ∀ a, (![0, 0, 0] : Fin 3 → ℕ) a + (![l, m, n] : Fin 3 → ℕ) a ≤ (⟨3, ![l, m, n]⟩ : Shape).size a)
    (w : (⟨3, ![l, m, n]⟩ : Shape).Idx → EReal) (g : ℕ → ℕ → ℕ → ℝ) (hw : w = lift3 g) :
    v.read (Elt Ideal) (v.writes (Elt Ideal) f [⟨Rect.unit (s := ⟨3, ![l, m, n]⟩) ![0, 0, 0] ![l, m, n] inb, w⟩]) = lift3 g := by
  refine eq_lift3 fun a b c => ?_
  rw [View.read_writes_cons_unit_of_mem _ _ _ _ _ _ (ix3 a b c) rfl (by intro a; match a with | ⟨0, _⟩ => exact (Nat.zero_add _).symm | ⟨1, _⟩ => exact (Nat.zero_add _).symm | ⟨2, _⟩ => exact (Nat.zero_add _).symm)]
  exact congrFun hw (ix3 a b c)

section
variable  (𝒱 : Variants) (c : Dev nD) (bd : Option 𝒱.V) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S8192x256 .bf16) (harg8 : arg8.IsWhole) (arg9 : Memref sig .tc .vmem S8192x256 .bf16) (harg9 : arg9.IsWhole) (arg10 : Memref sig .tc .vmem S2x1x8192 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S2x1x512 .f32) (harg13 : arg13.IsWhole) (arg14 : Memref sig .tc .vmem S2x8192x256 .f32) (harg14 : arg14.IsWhole) (arg15 : Memref sig .tc .vmem S2x512x256 .f32) (harg15 : arg15.IsWhole) (arg16 : Memref sig .tc .vmem S2x512x128 .f32) (harg16 : arg16.IsWhole) (arg17 : Memref sig .tc .vmem S2x512x512 .bf16) (harg17 : arg17.IsWhole) (arg18 : Memref sig .tc .vmem S2x512x512 .bf16) (harg18 : arg18.IsWhole) (v13 : FVec Ideal S512x128 .bf16) (v14 : FVec Ideal S512x128 .bf16) (v106 : BitVec 32) (c1_i32_51 : BitVec 32) (v109 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty)  (G_arg14 : BufTy.Contents (Elt Ideal) arg14.view.ty) (G_arg15 : BufTy.Contents (Elt Ideal) arg15.view.ty) (G_arg16 : BufTy.Contents (Elt Ideal) arg16.view.ty) (G_arg17 : BufTy.Contents (Elt Ideal) arg17.view.ty) (G_arg18 : BufTy.Contents (Elt Ideal) arg18.view.ty)

/-- Scratch 14 after the loop. -/
theorem after14 (I : In) (σ : St) (n : ℕ) (hn : n = 15 - (i 1).val) (h2 : arg2.view.read (Elt Ideal) X_arg2 = lift2 I.K) (h3 : arg3.view.read (Elt Ideal) X_arg3 = lift2 I.KA) (h4 : arg4.view.read (Elt Ideal) X_arg4 = lift2 I.V) (h5 : arg5.view.read (Elt Ideal) X_arg5 = lift2 I.Q) (h6 : arg6.view.read (Elt Ideal) X_arg6 = lift2 I.QA) (h7 : arg7.view.read (Elt Ideal) X_arg7 = lift2 I.DO) (h8 : arg8.view.read (Elt Ideal) X_arg8 = lift2 I.DA) (hv13 : v13 = lift2 I.E) (hv14 : v14 = lift2 (fun _ _ => 1)) (h14 : arg14.view.read (Elt Ideal) G_arg14 = lift3 σ.D) (h15 : arg15.view.read (Elt Ideal) G_arg15 = lift3 σ.k) (h16 : arg16.view.read (Elt Ideal) G_arg16 = lift3 σ.v) (h17 : arg17.view.read (Elt Ideal) G_arg17 = lift3 σ.p) (h18 : arg18.view.read (Elt Ideal) G_arg18 = lift3 σ.s) :
    arg14.view.read (Elt Ideal) (arg14.view.writes (Elt Ideal) G_arg14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 G_arg14 G_arg15 G_arg16 G_arg17 G_arg18 n).1) = lift3 (stLoop I (i 1).val σ (15 - (i 1).val)).D := by
  subst hn
  exact (loop_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 G_arg14 G_arg15 G_arg16 G_arg17 G_arg18 I σ h2 h3 h4 h5 h6 h7 h8 hv13 hv14 h14 h15 h16 h17 h18 _ (le_of_eq (trips_t1 i).symm)).1

/-- Scratch 15 after the loop. -/
theorem after15 (I : In) (σ : St) (n : ℕ) (hn : n = 15 - (i 1).val) (h2 : arg2.view.read (Elt Ideal) X_arg2 = lift2 I.K) (h3 : arg3.view.read (Elt Ideal) X_arg3 = lift2 I.KA) (h4 : arg4.view.read (Elt Ideal) X_arg4 = lift2 I.V) (h5 : arg5.view.read (Elt Ideal) X_arg5 = lift2 I.Q) (h6 : arg6.view.read (Elt Ideal) X_arg6 = lift2 I.QA) (h7 : arg7.view.read (Elt Ideal) X_arg7 = lift2 I.DO) (h8 : arg8.view.read (Elt Ideal) X_arg8 = lift2 I.DA) (hv13 : v13 = lift2 I.E) (hv14 : v14 = lift2 (fun _ _ => 1)) (h14 : arg14.view.read (Elt Ideal) G_arg14 = lift3 σ.D) (h15 : arg15.view.read (Elt Ideal) G_arg15 = lift3 σ.k) (h16 : arg16.view.read (Elt Ideal) G_arg16 = lift3 σ.v) (h17 : arg17.view.read (Elt Ideal) G_arg17 = lift3 σ.p) (h18 : arg18.view.read (Elt Ideal) G_arg18 = lift3 σ.s) :
    arg15.view.read (Elt Ideal) (arg15.view.writes (Elt Ideal) G_arg15 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 G_arg14 G_arg15 G_arg16 G_arg17 G_arg18 n).2.1) = lift3 (stLoop I (i 1).val σ (15 - (i 1).val)).k := by
  subst hn
  exact (loop_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 G_arg14 G_arg15 G_arg16 G_arg17 G_arg18 I σ h2 h3 h4 h5 h6 h7 h8 hv13 hv14 h14 h15 h16 h17 h18 _ (le_of_eq (trips_t1 i).symm)).2.1

/-- Scratch 16 after the loop. -/
theorem after16 (I : In) (σ : St) (n : ℕ) (hn : n = 15 - (i 1).val) (h2 : arg2.view.read (Elt Ideal) X_arg2 = lift2 I.K) (h3 : arg3.view.read (Elt Ideal) X_arg3 = lift2 I.KA) (h4 : arg4.view.read (Elt Ideal) X_arg4 = lift2 I.V) (h5 : arg5.view.read (Elt Ideal) X_arg5 = lift2 I.Q) (h6 : arg6.view.read (Elt Ideal) X_arg6 = lift2 I.QA) (h7 : arg7.view.read (Elt Ideal) X_arg7 = lift2 I.DO) (h8 : arg8.view.read (Elt Ideal) X_arg8 = lift2 I.DA) (hv13 : v13 = lift2 I.E) (hv14 : v14 = lift2 (fun _ _ => 1)) (h14 : arg14.view.read (Elt Ideal) G_arg14 = lift3 σ.D) (h15 : arg15.view.read (Elt Ideal) G_arg15 = lift3 σ.k) (h16 : arg16.view.read (Elt Ideal) G_arg16 = lift3 σ.v) (h17 : arg17.view.read (Elt Ideal) G_arg17 = lift3 σ.p) (h18 : arg18.view.read (Elt Ideal) G_arg18 = lift3 σ.s) :
    arg16.view.read (Elt Ideal) (arg16.view.writes (Elt Ideal) G_arg16 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 G_arg14 G_arg15 G_arg16 G_arg17 G_arg18 n).2.2.1) = lift3 (stLoop I (i 1).val σ (15 - (i 1).val)).v := by
  subst hn
  exact (loop_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 G_arg14 G_arg15 G_arg16 G_arg17 G_arg18 I σ h2 h3 h4 h5 h6 h7 h8 hv13 hv14 h14 h15 h16 h17 h18 _ (le_of_eq (trips_t1 i).symm)).2.2.1

/-- Scratch 17 after the loop. -/
theorem after17 (I : In) (σ : St) (n : ℕ) (hn : n = 15 - (i 1).val) (h2 : arg2.view.read (Elt Ideal) X_arg2 = lift2 I.K) (h3 : arg3.view.read (Elt Ideal) X_arg3 = lift2 I.KA) (h4 : arg4.view.read (Elt Ideal) X_arg4 = lift2 I.V) (h5 : arg5.view.read (Elt Ideal) X_arg5 = lift2 I.Q) (h6 : arg6.view.read (Elt Ideal) X_arg6 = lift2 I.QA) (h7 : arg7.view.read (Elt Ideal) X_arg7 = lift2 I.DO) (h8 : arg8.view.read (Elt Ideal) X_arg8 = lift2 I.DA) (hv13 : v13 = lift2 I.E) (hv14 : v14 = lift2 (fun _ _ => 1)) (h14 : arg14.view.read (Elt Ideal) G_arg14 = lift3 σ.D) (h15 : arg15.view.read (Elt Ideal) G_arg15 = lift3 σ.k) (h16 : arg16.view.read (Elt Ideal) G_arg16 = lift3 σ.v) (h17 : arg17.view.read (Elt Ideal) G_arg17 = lift3 σ.p) (h18 : arg18.view.read (Elt Ideal) G_arg18 = lift3 σ.s) :
    arg17.view.read (Elt Ideal) (arg17.view.writes (Elt Ideal) G_arg17 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 G_arg14 G_arg15 G_arg16 G_arg17 G_arg18 n).2.2.2.1) = lift3 (stLoop I (i 1).val σ (15 - (i 1).val)).p := by
  subst hn
  exact (loop_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 G_arg14 G_arg15 G_arg16 G_arg17 G_arg18 I σ h2 h3 h4 h5 h6 h7 h8 hv13 hv14 h14 h15 h16 h17 h18 _ (le_of_eq (trips_t1 i).symm)).2.2.2.1

/-- Scratch 18 after the loop. -/
theorem after18 (I : In) (σ : St) (n : ℕ) (hn : n = 15 - (i 1).val) (h2 : arg2.view.read (Elt Ideal) X_arg2 = lift2 I.K) (h3 : arg3.view.read (Elt Ideal) X_arg3 = lift2 I.KA) (h4 : arg4.view.read (Elt Ideal) X_arg4 = lift2 I.V) (h5 : arg5.view.read (Elt Ideal) X_arg5 = lift2 I.Q) (h6 : arg6.view.read (Elt Ideal) X_arg6 = lift2 I.QA) (h7 : arg7.view.read (Elt Ideal) X_arg7 = lift2 I.DO) (h8 : arg8.view.read (Elt Ideal) X_arg8 = lift2 I.DA) (hv13 : v13 = lift2 I.E) (hv14 : v14 = lift2 (fun _ _ => 1)) (h14 : arg14.view.read (Elt Ideal) G_arg14 = lift3 σ.D) (h15 : arg15.view.read (Elt Ideal) G_arg15 = lift3 σ.k) (h16 : arg16.view.read (Elt Ideal) G_arg16 = lift3 σ.v) (h17 : arg17.view.read (Elt Ideal) G_arg17 = lift3 σ.p) (h18 : arg18.view.read (Elt Ideal) G_arg18 = lift3 σ.s) :
    arg18.view.read (Elt Ideal) (arg18.view.writes (Elt Ideal) G_arg18 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 G_arg14 G_arg15 G_arg16 G_arg17 G_arg18 n).2.2.2.2) = lift3 (stLoop I (i 1).val σ (15 - (i 1).val)).s := by
  subst hn
  exact (loop_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v13 v14 v106 c1_i32_51 v109 X_arg2 X_arg3 X_arg4 X_arg5 X_arg6 X_arg7 X_arg8 G_arg14 G_arg15 G_arg16 G_arg17 G_arg18 I σ h2 h3 h4 h5 h6 h7 h8 hv13 hv14 h14 h15 h16 h17 h18 _ (le_of_eq (trips_t1 i).symm)).2.2.2.2
end

end Cert.KernelIdeal.Fox
-- ==== Proof.Pays.lean ====
module

public import proofs.«01_k».proof.Proof.Diag
public import Idealize.ShloMosaic.Lib.WordCmp
public import Idealize.ShloMosaic.Lib.Pointwise
public import Idealize.ShloMosaic.Lib.WritesUnit

/-! The last step of a grid point and its output blocks, as tables of reals. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

set_option maxHeartbeats 4000000

/-- A block of a rank-2 table, read out at an offset. -/
theorem ld2 {m n m' n' o0 o1 : ℕ} (f : ℕ → ℕ → ℝ) (inb : ∀ a, (![o0, o1] : Fin 2 → ℕ) a + (![m', n'] : Fin 2 → ℕ) a ≤ (⟨2, ![m, n]⟩ : Shape).size a) :
    View.ld (Val := Elt Ideal) (e' := .bf16) (lift2 (m := m) (n := n) f) (Rect.unit (s := ⟨2, ![m, n]⟩) ![o0, o1] ![m', n'] inb)
      = lift2 (m := m') (n := n') (fun a b => f (o0 + a) (o1 + b)) := by
  refine eq_lift2 fun a b => ?_
  pointwise
  rfl

/-- A block of a rank-3 table, read out at an offset. -/
theorem ld3 {l m n l' m' n' o0 o1 o2 : ℕ} (f : ℕ → ℕ → ℕ → ℝ) (inb : ∀ a, (![o0, o1, o2] : Fin 3 → ℕ) a + (![l', m', n'] : Fin 3 → ℕ) a ≤ (⟨3, ![l, m, n]⟩ : Shape).size a) :
    View.ld (Val := Elt Ideal) (e' := .f32) (lift3 (l := l) (m := m) (n := n) f) (Rect.unit (s := ⟨3, ![l, m, n]⟩) ![o0, o1, o2] ![l', m', n'] inb)
      = lift3 (l := l') (m := m') (n := n') (fun a b d => f (o0 + a) (o1 + b) (o2 + d)) := by
  refine eq_lift3 fun a b d => ?_
  pointwise
  rfl
/-- A block of a rank-3 table, read out at an offset. -/
theorem ld3b {l m n l' m' n' o0 o1 o2 : ℕ} (f : ℕ → ℕ → ℕ → ℝ) (inb : ∀ a, (![o0, o1, o2] : Fin 3 → ℕ) a + (![l', m', n'] : Fin 3 → ℕ) a ≤ (⟨3, ![l, m, n]⟩ : Shape).size a) :
    View.ld (Val := Elt Ideal) (e' := .bf16) (lift3 (l := l) (m := m) (n := n) f) (Rect.unit (s := ⟨3, ![l, m, n]⟩) ![o0, o1, o2] ![l', m', n'] inb)
      = lift3 (l := l') (m := m') (n := n') (fun a b d => f (o0 + a) (o1 + b) (o2 + d)) := by
  refine eq_lift3 fun a b d => ?_
  pointwise
  rfl

/-- Storing one slice over a table replaces the slice's rows. -/
theorem put3 {l m n m' : ℕ} (v : View sig .tc .vmem ⟨3, ![l, m, n]⟩ .f32) (f : v.ty.Contents (Elt Ideal))
    (L : List (View.Piece (Elt Ideal) ⟨3, ![l, m, n]⟩ .f32)) (S : ℕ → ℕ → ℕ → ℝ)
    (h : v.read (Elt Ideal) (v.writes (Elt Ideal) f L) = lift3 S) (g o : ℕ)
    (inb : ∀ a, (![g, o, 0] : Fin 3 → ℕ) a + (![1, m', n] : Fin 3 → ℕ) a ≤ (⟨3, ![l, m, n]⟩ : Shape).size a)
    (w : (⟨3, ![1, m', n]⟩ : Shape).Idx → EReal) (b : ℕ → ℕ → ℕ → ℝ) (hw : w = lift3 b) :
    v.read (Elt Ideal) (v.writes (Elt Ideal) f (⟨Rect.unit (s := ⟨3, ![l, m, n]⟩) ![g, o, 0] ![1, m', n] inb, w⟩ :: L))
      = lift3 (fun a r c => if a = g ∧ o ≤ r ∧ r < o + m' then b 0 (r - o) c else S a r c) := by
  subst hw
  refine eq_lift3 fun a r c => ?_
  by_cases ha : a.val = g
  · by_cases h1 : o ≤ r.val
    · by_cases h2 : r.val < o + m'
      · rw [View.read_writes_cons_unit_of_mem _ _ _ _ _ _ (ix3 (0 : Fin 1) (⟨r.val - o, by omega⟩ : Fin m') c) rfl (by
          intro x
          match x with
          | ⟨0, _⟩ => exact ha
          | ⟨1, _⟩ => show r.val = o + (r.val - o); omega
          | ⟨2, _⟩ => exact (Nat.zero_add _).symm)]
        rw [if_pos ⟨ha, h1, h2⟩]
        rfl
      · rw [View.read_writes_cons_unit_of_not_mem _ _ _ _ _ _ rfl 1 (Or.inr (by show o + m' ≤ r.val; omega)), h, if_neg (fun t => h2 t.2.2)]
        rfl
    · rw [View.read_writes_cons_unit_of_not_mem _ _ _ _ _ _ rfl 1 (Or.inl (by show r.val < o; omega)), h, if_neg (fun t => h1 t.2.1)]
      rfl
  · rw [View.read_writes_cons_unit_of_not_mem _ _ _ _ _ _ rfl 0 (by show a.val < g ∨ g + 1 ≤ a.val; omega), h, if_neg (fun t => ha t.1)]
    rfl

/-- The last step of the key gradient of the first head. -/
theorem pay91_eq (f s : ℕ → ℕ → ℕ → ℝ) (q : ℕ → ℕ → ℝ) :
    k0_pay91 (F := Ideal) k0_pay72 (lift3 f) (lift3 s) (lift2 q) = lift3 (fun _ r c => f 0 r c + ∑ x ∈ Finset.range 512, s 0 r x * (if c < 128 then q x c else 1)) := by
  have hv14 : ∀ a b, k0_pay72 (F := Ideal) (ix2 a b) = ((1 : ℝ) : EReal) := fun a b => congrFun pay72_eq (ix2 a b)
  refine eq_lift3 fun g r c => ?_
  obtain rfl : g = 0 := Fin.fin_one_eq_zero g
  unfold_payloads
  pointwise
  by_cases hc : c.val < 128
  · simp only [hc, dif_pos, lift2_ix, lift3_ix, hv14, ← EReal.coe_mul, coe_sum_fin, ← EReal.coe_add]
    refine congrArg Real.toEReal ?_
    simp only [Finset.sum_range, hc, if_true]
    try rfl
  · simp only [hc, dif_neg, not_false_eq_true, lift2_ix, lift3_ix, hv14, ← EReal.coe_mul, coe_sum_fin, ← EReal.coe_add]
    refine congrArg Real.toEReal ?_
    simp only [Finset.sum_range, hc, if_false]
    try rfl

/-- The last step of the key gradient of the second head. -/
theorem pay98_eq (f s : ℕ → ℕ → ℕ → ℝ) (q : ℕ → ℕ → ℝ) :
    k0_pay98 (F := Ideal) (k0_pay95 (lift3 f)) (k0_pay96 (lift3 s)) (k0_pay97 k0_pay72 (lift2 q)) (constant S512x256 FTy.f32 0#32) = lift3 (fun _ r c => f 0 r c + ∑ x ∈ Finset.range 512, s 0 r x * (if c < 128 then q x c else 1)) := by
  have hv14 : ∀ a b, k0_pay72 (F := Ideal) (ix2 a b) = ((1 : ℝ) : EReal) := fun a b => congrFun pay72_eq (ix2 a b)
  refine eq_lift3 fun g r c => ?_
  obtain rfl : g = 0 := Fin.fin_one_eq_zero g
  unfold_payloads
  pointwise
  by_cases hc : c.val < 128
  · simp only [hc, dif_pos, lift2_ix, lift3_ix, hv14, ← EReal.coe_mul, coe_sum_fin, ← EReal.coe_add]
    refine congrArg Real.toEReal ?_
    simp only [Finset.sum_range, hc, if_true]
    try rfl
  · simp only [hc, dif_neg, not_false_eq_true, lift2_ix, lift3_ix, hv14, ← EReal.coe_mul, coe_sum_fin, ← EReal.coe_add]
    refine congrArg Real.toEReal ?_
    simp only [Finset.sum_range, hc, if_false]
    try rfl

/-- The last step of the query gradient of the first head. -/
theorem pay93_eq (f s : ℕ → ℕ → ℕ → ℝ) (q : ℕ → ℕ → ℝ) :
    k0_pay93 (F := Ideal) k0_pay72 (k0_pay92 (lift3 f)) (lift3 s) (lift2 q) = lift3 (fun _ r c => f 0 r c + ∑ x ∈ Finset.range 512, s 0 x r * (if c < 128 then q x c else 1)) := by
  have hv14 : ∀ a b, k0_pay72 (F := Ideal) (ix2 a b) = ((1 : ℝ) : EReal) := fun a b => congrFun pay72_eq (ix2 a b)
  refine eq_lift3 fun g r c => ?_
  obtain rfl : g = 0 := Fin.fin_one_eq_zero g
  unfold_payloads
  pointwise
  by_cases hc : c.val < 128
  · simp only [hc, dif_pos, lift2_ix, lift3_ix, hv14, ← EReal.coe_mul, coe_sum_fin, ← EReal.coe_add]
    refine congrArg Real.toEReal ?_
    simp only [Finset.sum_range, hc, if_true]
    try rfl
  · simp only [hc, dif_neg, not_false_eq_true, lift2_ix, lift3_ix, hv14, ← EReal.coe_mul, coe_sum_fin, ← EReal.coe_add]
    refine congrArg Real.toEReal ?_
    simp only [Finset.sum_range, hc, if_false]
    try rfl

/-- The last step of the query gradient of the second head. -/
theorem pay99_eq (f s : ℕ → ℕ → ℕ → ℝ) (q : ℕ → ℕ → ℝ) :
    k0_pay99 (F := Ideal) k0_pay72 (lift3 f) (lift3 s) (lift2 q) = lift3 (fun _ r c => f 0 r c + ∑ x ∈ Finset.range 512, s 0 x r * (if c < 128 then q x c else 1)) := by
  have hv14 : ∀ a b, k0_pay72 (F := Ideal) (ix2 a b) = ((1 : ℝ) : EReal) := fun a b => congrFun pay72_eq (ix2 a b)
  refine eq_lift3 fun g r c => ?_
  obtain rfl : g = 0 := Fin.fin_one_eq_zero g
  unfold_payloads
  pointwise
  by_cases hc : c.val < 128
  · simp only [hc, dif_pos, lift2_ix, lift3_ix, hv14, ← EReal.coe_mul, coe_sum_fin, ← EReal.coe_add]
    refine congrArg Real.toEReal ?_
    simp only [Finset.sum_range, hc, if_true]
    try rfl
  · simp only [hc, dif_neg, not_false_eq_true, lift2_ix, lift3_ix, hv14, ← EReal.coe_mul, coe_sum_fin, ← EReal.coe_add]
    refine congrArg Real.toEReal ?_
    simp only [Finset.sum_range, hc, if_false]
    try rfl

/-- The last step of the value gradient of the first head. -/
theorem pay90_eq (f s : ℕ → ℕ → ℕ → ℝ) (q : ℕ → ℕ → ℝ) :
    k0_pay90 (F := Ideal) (lift3 f) (lift3 s) (lift2 q) = lift3 (fun _ r c => f 0 r c + ∑ x ∈ Finset.range 512, s 0 r x * q x c) := by
  refine eq_lift3 fun g r c => ?_
  obtain rfl : g = 0 := Fin.fin_one_eq_zero g
  unfold_payloads
  pointwise
  simp only [lift2_ix, lift3_ix, ← EReal.coe_mul, coe_sum_fin, ← EReal.coe_add]
  refine congrArg Real.toEReal ?_
  simp only [Finset.sum_range]
  try rfl

/-- The last step of the value gradient of the second head. -/
theorem pay94_eq (f s : ℕ → ℕ → ℕ → ℝ) (q : ℕ → ℕ → ℝ) :
    k0_pay94 (F := Ideal) (lift3 f) (lift3 s) (lift2 q) = lift3 (fun _ r c => f 0 r c + ∑ x ∈ Finset.range 512, s 0 r x * q x c) := by
  refine eq_lift3 fun g r c => ?_
  obtain rfl : g = 0 := Fin.fin_one_eq_zero g
  unfold_payloads
  pointwise
  simp only [lift2_ix, lift3_ix, ← EReal.coe_mul, coe_sum_fin, ← EReal.coe_add]
  refine congrArg Real.toEReal ?_
  simp only [Finset.sum_range]
  try rfl

end Cert.KernelIdeal.Fox
-- ==== Proof.State.lean ====
module

public import proofs.«01_k».proof.Proof.Case
public import proofs.«01_k».proof.Proof.Pays
public import proofs.«01_k».proof.Proof.Gen.KernelIdeal.Frame
public import Idealize.ShloMosaic.Lib.WordCmp
public import Idealize.ShloMosaic.Lib.Pointwise
public import Idealize.ShloMosaic.Lib.WritesUnit

/-! The state a grid point starts its loop from, and the state it ends with. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

/-- The state at the first trip. -/
def st0 (I : In) (j : ℕ) (D : ℕ → ℕ → ℕ → ℝ) : St where
  D := D
  k := fun _ _ _ => 0
  v := fun _ _ _ => 0
  p := maskP j I.K I.KA I.Q I.QA
  s := maskS j I.K I.KA I.V I.Q I.QA I.DO I.DA I.E

/-- The state after all trips and the last step. -/
def fin (I : In) (j : ℕ) (D : ℕ → ℕ → ℕ → ℝ) : St := stStep I 15 (stLoop I j (st0 I j D) (15 - j))

/-- The state after all trips, before the last step. -/
def aft (I : In) (j : ℕ) (D : ℕ → ℕ → ℕ → ℝ) : St := stLoop I j (st0 I j D) (15 - j)

/-- Tables that agree inside the shape lift to one value. -/
theorem lift3_congr {l m n : ℕ} {f g : ℕ → ℕ → ℕ → ℝ} (h : ∀ a b c, a < l → b < m → c < n → f a b c = g a b c) :
    lift3 (l := l) (m := m) (n := n) f = lift3 g :=
  funext fun y => congrArg Real.toEReal (h _ _ _ (y 0).isLt (y 1).isLt (y 2).isLt)

/-- Tables that agree inside the shape lift to one value. -/
theorem lift2_congr {m n : ℕ} {f g : ℕ → ℕ → ℝ} (h : ∀ a b, a < m → b < n → f a b = g a b) :
    lift2 (m := m) (n := n) f = lift2 g :=
  funext fun y => congrArg Real.toEReal (h _ _ (y 0).isLt (y 1).isLt)

end Cert.KernelIdeal.Fox
-- ==== Proof.Sums.lean ====
module

public import proofs.«01_k».proof.Proof.State
public import proofs.«01_k».proof.Proof.Gen.KernelIdeal.Frame
public import Idealize.ShloMosaic.Lib.WordCmp
public import Idealize.ShloMosaic.Lib.Pointwise
public import Idealize.ShloMosaic.Lib.WritesUnit

/-! What the loop leaves, as sums over all query rows. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

set_option maxHeartbeats 4000000

/-- The exponential of key row `r` and query row `q`, of head `g` of the pair. -/
def ep (I : In) (g r q : ℕ) : ℝ :=
  (2 : ℝ) ^ (∑ x ∈ Finset.range 128, I.K r (g * 128 + x) * I.Q q (g * 128 + x)
    + ∑ x ∈ Finset.range 128, I.KA r (g * 128 + x) * I.QA q (g * 128 + x))

/-- The gradient of the scores of key row `r` and query row `q`, before the mask. -/
def es (I : In) (g r q : ℕ) : ℝ :=
  ep I g r q * (∑ x ∈ Finset.range 128, I.V r (g * 128 + x) * I.DO q (g * 128 + x)
      + ∑ x ∈ Finset.range 128, I.E r x * I.DA q (g * 128 + x))

/-- `ep` under the causal mask, in key block `j`. -/
def mp (I : In) (j g r q : ℕ) : ℝ := if j * 512 + r ≤ q then ep I g r q else 0

/-- `es` under the causal mask, in key block `j`. -/
def ms (I : In) (j g r q : ℕ) : ℝ := if j * 512 + r ≤ q then es I g r q else 0

/-- The state before trip `n`, as sums over the query rows seen so far. -/
structure Inv (I : In) (j n : ℕ) (D : ℕ → ℕ → ℕ → ℝ) (σ : St) : Prop where
  p : ∀ g r c, r < 512 → c < 512 → σ.p g r c = mp I j g r ((j + n) * 512 + c)
  s : ∀ g r c, r < 512 → c < 512 → σ.s g r c = ms I j g r ((j + n) * 512 + c)
  v : ∀ g r c, r < 512 → σ.v g r c = ∑ x ∈ Finset.range (n * 512), mp I j g r (j * 512 + x) * I.DO (j * 512 + x) (g * 128 + c)
  k : ∀ g r c, r < 512 → σ.k g r c = ∑ x ∈ Finset.range (n * 512), ms I j g r (j * 512 + x) * (if c < 128 then I.Q (j * 512 + x) (g * 128 + c) else 1)
  D : ∀ g r c, σ.D g r c = if j * 512 ≤ r ∧ r < (j + n) * 512 then
      D g r c + ∑ x ∈ Finset.range 512, ms I j g x r * (if c < 128 then I.K x (g * 128 + c) else 1) else D g r c

/-- One trip keeps the sums. -/
theorem inv_step (I : In) (j n : ℕ) (D : ℕ → ℕ → ℕ → ℝ) (σ : St) (h : Inv I j n D σ) :
    Inv I j (n + 1) D (stStep I (j + n) σ) where
  p g r c hr hc := by
    show ep I g r ((j + n + 1) * 512 + c) = _
    unfold mp
    rw [if_pos (by rw [← add_assoc, add_mul]; omega)]
    rfl
  s g r c hr hc := by
    show es I g r ((j + n + 1) * 512 + c) = _
    unfold ms
    rw [if_pos (by rw [← add_assoc, add_mul]; omega)]
    rfl
  v g r c hr := by
    show σ.v g r c + _ = _
    rw [h.v g r c hr, add_mul n 1 512, one_mul, Finset.sum_range_add]
    refine congrArg _ (Finset.sum_congr rfl fun x hx => ?_)
    have hx := Finset.mem_range.1 hx
    rw [h.p g r x hr hx, add_mul, add_assoc]
  k g r c hr := by
    show σ.k g r c + _ = _
    rw [h.k g r c hr, add_mul n 1 512, one_mul, Finset.sum_range_add]
    refine congrArg _ (Finset.sum_congr rfl fun x hx => ?_)
    have hx := Finset.mem_range.1 hx
    rw [h.s g r x hr hx, add_mul, add_assoc]
  D g r c := by
    show trD (j + n) I.K σ.s σ.D g r c = _
    unfold trD
    rw [h.D g r c]
    have e : (j + (n + 1)) * 512 = (j + n) * 512 + 512 := by ring
    by_cases h1 : (j + n) * 512 ≤ r ∧ r < (j + n) * 512 + 512
    · rw [if_pos h1, if_neg (by omega), if_pos (by rw [e]; refine ⟨?_, h1.2⟩; rw [add_mul] at h1; omega)]
      refine congrArg _ (Finset.sum_congr rfl fun x hx => ?_)
      have hx := Finset.mem_range.1 hx
      rw [h.s g x _ hx (by omega), Nat.add_sub_cancel' h1.1]
    · rw [if_neg h1]
      by_cases h2 : j * 512 ≤ r ∧ r < (j + n) * 512
      · rw [if_pos h2, if_pos (by rw [e]; omega)]
      · rw [if_neg h2, if_neg (by rw [e]; omega)]

/-- The sums hold before the first trip. -/
theorem inv_zero (I : In) (j : ℕ) (D : ℕ → ℕ → ℕ → ℝ) : Inv I j 0 D (st0 I j D) where
  p g r c hr hc := by
    show maskP j I.K I.KA I.Q I.QA g r c = _
    unfold maskP mp
    by_cases h : r ≤ c
    · rw [if_pos h, if_pos (by rw [add_zero]; omega)]; rfl
    · rw [if_neg h, if_neg (by rw [add_zero]; omega)]
  s g r c hr hc := by
    show maskS j I.K I.KA I.V I.Q I.QA I.DO I.DA I.E g r c = _
    unfold maskS ms
    by_cases h : r ≤ c
    · rw [if_pos h, if_pos (by rw [add_zero]; omega)]; rfl
    · rw [if_neg h, if_neg (by rw [add_zero]; omega)]
  v g r c hr := by show (0 : ℝ) = _; rw [zero_mul]; rfl
  k g r c hr := by show (0 : ℝ) = _; rw [zero_mul]; rfl
  D g r c := by
    show D g r c = _
    rw [if_neg (by rw [add_zero]; omega)]

/-- The sums hold before every trip. -/
theorem inv_loop (I : In) (j : ℕ) (D : ℕ → ℕ → ℕ → ℝ) : ∀ n, Inv I j n D (stLoop I j (st0 I j D) n)
  | 0 => inv_zero I j D
  | n + 1 => inv_step I j n D _ (inv_loop I j D n)

/-- After the last query block the loop's statement holds of the final values. -/
theorem inv_fin (I : In) (j : ℕ) (hj : j < 16) (D : ℕ → ℕ → ℕ → ℝ) : Inv I j (15 - j + 1) D (fin I j D) := by
  have h := inv_step I j (15 - j) D _ (inv_loop I j D (15 - j))
  rw [show j + (15 - j) = 15 by omega] at h
  exact h

/-- The rows before the key block add nothing. -/
theorem sum_pad (j n : ℕ) (f : ℕ → ℝ) (h : ∀ x, x < j * 512 → f x = 0) (e : j + n = 16) :
    ∑ x ∈ Finset.range (n * 512), f (j * 512 + x) = ∑ q ∈ Finset.range 8192, f q := by
  rw [show 8192 = j * 512 + n * 512 by omega, Finset.sum_range_add,
    Finset.sum_eq_zero (fun x hx => h x (Finset.mem_range.1 hx)), zero_add]

/-- The value gradient a grid point leaves. -/
theorem fin_v (I : In) (j : ℕ) (hj : j < 16) (D : ℕ → ℕ → ℕ → ℝ) (g r c : ℕ) (hr : r < 512) :
    (fin I j D).v g r c = ∑ q ∈ Finset.range 8192, mp I j g r q * I.DO q (g * 128 + c) := by
  rw [(inv_fin I j hj D).v g r c hr]
  refine sum_pad j _ (fun q => mp I j g r q * I.DO q (g * 128 + c)) (fun x hx => ?_) (by omega)
  unfold mp
  rw [if_neg (by omega), zero_mul]

/-- The key gradient and the column sums a grid point leaves. -/
theorem fin_k (I : In) (j : ℕ) (hj : j < 16) (D : ℕ → ℕ → ℕ → ℝ) (g r c : ℕ) (hr : r < 512) :
    (fin I j D).k g r c = ∑ q ∈ Finset.range 8192, ms I j g r q * (if c < 128 then I.Q q (g * 128 + c) else 1) := by
  rw [(inv_fin I j hj D).k g r c hr]
  refine sum_pad j _ (fun q => ms I j g r q * (if c < 128 then I.Q q (g * 128 + c) else 1)) (fun x hx => ?_) (by omega)
  unfold ms
  rw [if_neg (by omega), zero_mul]

/-- What a grid point adds to the carried query gradient. -/
theorem fin_D (I : In) (j : ℕ) (hj : j < 16) (D : ℕ → ℕ → ℕ → ℝ) (g r c : ℕ) (hr : r < 8192) :
    (fin I j D).D g r c = D g r c + ∑ x ∈ Finset.range 512, ms I j g x r * (if c < 128 then I.K x (g * 128 + c) else 1) := by
  rw [(inv_fin I j hj D).D g r c]
  by_cases h : j * 512 ≤ r
  · rw [if_pos ⟨h, by rw [show j + (15 - j + 1) = 16 by omega]; omega⟩]
  · rw [if_neg (by omega), Finset.sum_eq_zero, add_zero]
    intro x hx
    unfold ms
    rw [if_neg (by omega), zero_mul]

end Cert.KernelIdeal.Fox
-- ==== Proof.Soft.lean ====
module

public import Idealize.ShloMosaic.PureOps
public import Idealize.ShloMosaic.PureOps.Ideal.Laws
public import Idealize.ShloMosaic.Lib.Pointwise
public import Idealize.ShloMosaic.Lib.KernelVsHost
public import Idealize.ShloMosaic.Lib.WordCmp

/-! The causal softmax over the reals, and the operations that make it up on extended reals. -/

@[expose] public section

set_option maxRecDepth 16384

noncomputable section

namespace Cert.Fox

open Idealize.ShloMosaic

/-- The scale of the scores: the nearest single-precision number to one over the root of 128. -/
def sF : ℝ := 11863283 / 134217728

/-- The scale as the word the programs carry. -/
theorem ofBits_sF : Ideal.ofBits .f32 0x3DB504F3#32 = ((sF : ℝ) : EReal) := by
  unfold sF
  simp [Ideal.ofBits, Ideal.ieee, -EReal.coe_mul]; norm_num

/-- The word of two. -/
theorem ofBits_two : Ideal.ofBits .f32 0x40000000#32 = ((2 : ℝ) : EReal) := by
  simp [Ideal.ofBits, Ideal.ieee, -EReal.coe_mul]; try norm_num

/-- The word of zero. -/
theorem ofBits_zero : Ideal.ofBits .f32 0x00000000#32 = ((0 : ℝ) : EReal) := by
  simp [Ideal.ofBits, Ideal.ieee]

/-- The word of one. -/
theorem ofBits_one : Ideal.ofBits .f32 0x3F800000#32 = ((1 : ℝ) : EReal) := by
  simp [Ideal.ofBits, Ideal.ieee, -EReal.coe_mul]; try norm_num

/-- The word of minus infinity. -/
theorem ofBits_bot : Ideal.ofBits .f32 0xFF800000#32 = ⊥ := by
  simp [Ideal.ofBits, Ideal.ieee]

/-- A finite sum of reals, as extended reals, is the sum over a range. -/
theorem coe_sum (n : ℕ) (f : ℕ → ℝ) :
    ∑ k : Fin n, ((f k.val : ℝ) : EReal) = ((∑ k ∈ Finset.range n, f k : ℝ) : EReal) := by
  rw [← Fin.sum_univ_eq_sum_range]
  exact (map_sum (⟨⟨Real.toEReal, rfl⟩, EReal.coe_add⟩ : ℝ →+ EReal) (fun i : Fin n => f i.val) Finset.univ).symm

/-- Division of reals, as extended reals. -/
theorem div_real {y : ℝ} (h : y ≠ 0) (x : ℝ) : Ideal.div (x : EReal) (y : EReal) = ((x / y : ℝ) : EReal) := by
  rw [Ideal.div_coe h, ← EReal.coe_mul, mul_one_div]

/-- A row's largest score among the keys up to `i`. -/
def mx (f : ℕ → ℝ) (i : ℕ) : ℝ := (Finset.range (i + 1)).sup' ⟨0, by simp⟩ f

/-- The fold of the maximum over a masked row. -/
theorem fold_max (n : ℕ) (f : ℕ → ℝ) (i : ℕ) (hi : i < n) :
    (Finset.univ : Finset (Fin n)).fold max (⊥ : EReal) (fun k => if k.val ≤ i then ((f k.val : ℝ) : EReal) else ⊥)
      = ((mx f i : ℝ) : EReal) := by
  show (Finset.univ : Finset (Fin n)).sup _ = _
  apply le_antisymm
  · refine Finset.sup_le fun k _ => ?_
    split
    · rename_i h
      exact EReal.coe_le_coe_iff.2 (Finset.le_sup' f (Finset.mem_range.2 (Nat.lt_succ_of_le h)))
    · exact bot_le
  · obtain ⟨j, hj, e⟩ := Finset.exists_mem_eq_sup' (s := Finset.range (i + 1)) ⟨0, by simp⟩ f
    unfold mx
    rw [e]
    have hj' : j ≤ i := Nat.lt_succ_iff.1 (Finset.mem_range.1 hj)
    have := Finset.le_sup (f := fun k : Fin n => if k.val ≤ i then ((f k.val : ℝ) : EReal) else ⊥)
      (Finset.mem_univ (⟨j, by omega⟩ : Fin n))
    rw [if_pos hj'] at this
    exact this

/-- The exponential of a score less its row's largest, under the mask. -/
def ex (f : ℕ → ℝ) (i j : ℕ) : ℝ := if j ≤ i then Real.exp (f j - mx f i) else 0

/-- The sum of a row's exponentials. -/
def sm (f : ℕ → ℝ) (i : ℕ) : ℝ := ∑ j ∈ Finset.range 8192, ex f i j

/-- The weights of a row. -/
def wt (f : ℕ → ℝ) (i j : ℕ) : ℝ := ex f i j / sm f i

/-- The masked exponential, as the programs compute it. -/
theorem exp_mask (f : ℕ → ℝ) (i j : ℕ) :
    Ideal.exp ((if j ≤ i then ((f j : ℝ) : EReal) else ⊥) - ((mx f i : ℝ) : EReal)) = ((ex f i j : ℝ) : EReal) := by
  unfold ex
  split
  · rw [← EReal.coe_sub, Ideal.exp_coe]
  · rw [EReal.bot_sub, Ideal.exp_bot]; rfl

/-- An unnormalised weight is not negative. -/
theorem ex_nonneg (f : ℕ → ℝ) (i j : ℕ) : 0 ≤ ex f i j := by
  unfold ex; split
  · exact (Real.exp_pos _).le
  · exact le_rfl

/-- A row's sum is positive: its first key is never masked. -/
theorem sm_pos (f : ℕ → ℝ) (i : ℕ) : 0 < sm f i := by
  unfold sm
  refine Finset.sum_pos' (fun j _ => ex_nonneg f i j) ⟨0, by simp, ?_⟩
  unfold ex; rw [if_pos (Nat.zero_le _)]; exact Real.exp_pos _

/-- A constant added to a row's scores moves its largest by as much. -/
theorem mx_add (f : ℕ → ℝ) (a : ℝ) (i : ℕ) : mx (fun j => f j + a) i = mx f i + a := by
  unfold mx
  apply le_antisymm
  · refine Finset.sup'_le _ _ fun j hj => ?_
    have := Finset.le_sup' f hj
    linarith
  · rw [← le_sub_iff_add_le]
    refine Finset.sup'_le _ _ fun j hj => ?_
    have : f j + a ≤ _ := Finset.le_sup' (fun j => f j + a) hj
    exact le_sub_iff_add_le.2 this

/-- A constant added to a row's scores leaves its exponentials. -/
theorem ex_add (f : ℕ → ℝ) (a : ℝ) (i j : ℕ) : ex (fun j => f j + a) i j = ex f i j := by
  unfold ex
  rw [mx_add]
  congr 2
  ring

/-- A constant added to a row's scores leaves its weights. -/
theorem wt_add (f : ℕ → ℝ) (a : ℝ) (i j : ℕ) : wt (fun j => f j + a) i j = wt f i j := by
  unfold wt sm
  simp only [ex_add]

/-- A power of two of a quotient by the logarithm of two is an exponential. -/
theorem two_rpow_div (y : ℝ) : (2 : ℝ) ^ (y / Real.log 2) = Real.exp y := by
  have h : Real.log 2 ≠ 0 := (Real.log_pos (by norm_num)).ne'
  rw [Real.rpow_def_of_pos (by norm_num), mul_div_cancel₀ _ h]

/-- The weights from the row's logarithm: the masked exponential of the score less it. -/
theorem wt_eq (f : ℕ → ℝ) (i j : ℕ) :
    wt f i j = if j ≤ i then (2 : ℝ) ^ ((f j - (mx f i + Real.log (sm f i))) / Real.log 2) else 0 := by
  unfold wt ex
  split
  · rw [two_rpow_div, ← sub_sub, Real.exp_sub _ (Real.log _), Real.exp_log (sm_pos f i)]
  · simp

/-- The score gradient, from the exponentials: the reference's way. -/
theorem grad_eq (f g : ℕ → ℝ) (i j : ℕ) :
    (g j / sm f i + -(∑ k ∈ Finset.range 8192, g k * (1 / (sm f i * sm f i)) * ex f i k)) * ex f i j
      = wt f i j * (g j - ∑ k ∈ Finset.range 8192, wt f i k * g k) := by
  have h : sm f i ≠ 0 := (sm_pos f i).ne'
  have e : ∑ k ∈ Finset.range 8192, g k * (1 / (sm f i * sm f i)) * ex f i k
      = (∑ k ∈ Finset.range 8192, wt f i k * g k) / sm f i := by
    rw [Finset.sum_div]
    refine Finset.sum_congr rfl fun k _ => ?_
    unfold wt
    field_simp
  rw [e]
  generalize ∑ k ∈ Finset.range 8192, wt f i k * g k = T
  unfold wt
  field_simp
  ring

/-- A comparison of positions, as a selector. -/
theorem sel_sle {α : Type} {a b : ℕ} (ha : a < 8192) (hb : b < 8192) (x y : α) :
    Scalar.select (IntOp.cmpi .sle (BitVec.ofNat 32 a) (BitVec.ofNat 32 b)) x y = if a ≤ b then x else y := by
  rw [WordCmp.cmpi_sle_ofNat (by show a < 2147483648; omega) (by show b < 2147483648; omega)]
  by_cases h : a ≤ b <;> simp [Scalar.select, h]

/-- The host's maximum over the keys of masked scores. -/
theorem rowmax (h : (⟨3, ![16, 8192, 8192]⟩ : Shape).ReducesTo [2] ⟨2, ![16, 8192]⟩) (hu : 0 < (⟨0, ![]⟩ : Shape).numel)
    (x : FVec Ideal ⟨3, ![16, 8192, 8192]⟩ .f32) (f : ℕ → ℕ → ℕ → ℝ)
    (hx : ∀ i : (⟨3, ![16, 8192, 8192]⟩ : Shape).Idx, x i = if (i 2).val ≤ (i 1).val then ((f (i 0).val (i 1).val (i 2).val : ℝ) : EReal) else ⊥)
    (j : (⟨2, ![16, 8192]⟩ : Shape).Idx) :
    Host.reduce (FloatOps.maximumf (F := Ideal) (φ := .f32)) x (constant (F := Ideal) ⟨0, ![]⟩ .f32 0xFF800000#32) h hu j
      = ((mx (f (j 0).val (j 1).val) (j 1).val : ℝ) : EReal) := by
  have h' : (⟨3, ![16, 8192, 8192]⟩ : Shape).Reduces [2] ⟨2, ![16, 8192]⟩ := by decide
  rw [hostReduce_maximumf_eq_multiReduction x _ h hu h' (by decide) (by decide), Ideal.multiReduction_maximumf_single,
    Ideal.ofBits_def, ofBits_bot, ← fold_max 8192 (f (j 0).val (j 1).val) (j 1).val (j 1).isLt]
  refine congrArg (Finset.fold max (⊥ : EReal) · Finset.univ) (funext fun k => ?_)
  exact hx (h'.lift j k)

/-- A position in the flat row of heads, split and joined again. -/
theorem heads (q : ℕ → ℕ → ℝ) {r n d : ℕ} (hn : n < 16) (hd : d < 128) :
    q (((r * 16 + n) * 128 + d) / 2048) (((r * 16 + n) * 128 + d) % 2048) = q r (n * 128 + d) := by
  rw [show ((r * 16 + n) * 128 + d) / 2048 = r by omega, show ((r * 16 + n) * 128 + d) % 2048 = n * 128 + d by omega]

end Cert.Fox

end
-- ==== Proof.Blocks.lean ====
module

public import proofs.«01_k».proof.Proof.Sums
public import proofs.«01_k».proof.Proof.Soft
public import proofs.«01_k».proof.Proof.Gen.KernelIdeal.Value
public import proofs.«01_k».proof.Proof.Gen.KernelIdeal.Frame
public import Idealize.ShloMosaic.Lib.WordCmp
public import Idealize.ShloMosaic.Lib.Pointwise
public import Idealize.ShloMosaic.Lib.WritesUnit

/-! Grid point by grid point: the blocks read, the blocks left and the carried query gradient. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

set_option maxHeartbeats 4000000
set_option pp.maxSteps 2000

/-- The tables the launch reads: queries, keys and values side by side, their extra lanes, the output's gradient. -/
structure Arr where
  P : ℕ → ℕ → ℝ
  KA : ℕ → ℕ → ℝ
  QA : ℕ → ℕ → ℝ
  DO : ℕ → ℕ → ℝ
  DA : ℕ → ℕ → ℝ

/-- What the grid point of pair `h` and key block `j` reads. -/
def pt (A : Arr) (h j : ℕ) : In where
  K r c := A.P (j * 512 + r) (256 * (8 + h) + c)
  KA r c := A.KA (j * 512 + r) (256 * h + c)
  V r c := A.P (j * 512 + r) (256 * (16 + h) + c)
  Q r c := A.P r (256 * h + c)
  QA r c := A.QA r (256 * h + c)
  DO r c := A.DO r (256 * h + c)
  DA r c := A.DA r (256 * h + c)
  E := fun _ c => if c < 3 then 1 else 0

/-- The exponential of key row `k` and query row `q` in head `n`. -/
def gE (A : Arr) (n k q : ℕ) : ℝ :=
  (2 : ℝ) ^ (∑ x ∈ Finset.range 128, A.P k (2048 + (n * 128 + x)) * A.P q (n * 128 + x)
    + ∑ x ∈ Finset.range 128, A.KA k (n * 128 + x) * A.QA q (n * 128 + x))

/-- The weights, under the mask. -/
def gP (A : Arr) (n k q : ℕ) : ℝ := if k ≤ q then gE A n k q else 0

/-- The gradient of the scores, under the mask. -/
def gS (A : Arr) (n k q : ℕ) : ℝ := if k ≤ q then
  gE A n k q * (∑ x ∈ Finset.range 128, A.P k (4096 + (n * 128 + x)) * A.DO q (n * 128 + x)
      + ∑ x ∈ Finset.range 128, (if x < 3 then 1 else 0) * A.DA q (n * 128 + x)) else 0

/-- The exponent of a weight, at a grid point's operands, is the exponent of the whole arrays. -/
theorem ep_pt (A : Arr) (h j g r q : ℕ) : ep (pt A h j) g r q = gE A (2 * h + g) (j * 512 + r) q := by
  unfold ep gE pt
  dsimp only
  have e1 : ∀ x, 256 * (8 + h) + (g * 128 + x) = 2048 + ((2 * h + g) * 128 + x) := fun x => by ring
  have e2 : ∀ x, 256 * h + (g * 128 + x) = (2 * h + g) * 128 + x := fun x => by ring
  simp only [e1, e2]

/-- The masked weights of a grid point are the whole attention's weights, at its key block. -/
theorem mp_pt (A : Arr) (h j g r q : ℕ) : mp (pt A h j) j g r q = gP A (2 * h + g) (j * 512 + r) q := by
  unfold mp gP; rw [ep_pt]

/-- The masked gradients of the scores, likewise. -/
theorem ms_pt (A : Arr) (h j g r q : ℕ) : ms (pt A h j) j g r q = gS A (2 * h + g) (j * 512 + r) q := by
  unfold ms gS es; rw [ep_pt]
  unfold pt
  dsimp only
  have e1 : ∀ x, 256 * (16 + h) + (g * 128 + x) = 4096 + ((2 * h + g) * 128 + x) := fun x => by ring
  have e2 : ∀ x, 256 * h + (g * 128 + x) = (2 * h + g) * 128 + x := fun x => by ring
  simp only [e1, e2]

/-- The query gradient of pair `h` after `n` key blocks, row sums in the upper lanes. -/
def acc (A : Arr) (h n g r c : ℕ) : ℝ :=
  ∑ k ∈ Finset.range (n * 512), gS A (2 * h + g) k r * (if c < 128 then A.P k (2048 + ((2 * h + g) * 128 + c)) else 1)

/-- Before the first key block nothing is accumulated. -/
theorem acc_zero (A : Arr) (h : ℕ) : acc A h 0 = fun _ _ _ => 0 := by
  funext g r c; unfold acc; rw [zero_mul]; rfl

/-- One grid point takes the query gradient one key block further. -/
theorem acc_step (A : Arr) (h j : ℕ) (hj : j < 16) : lift3 (l := 2) (m := 8192) (n := 256) (fin (pt A h j) j (acc A h j)).D = lift3 (acc A h (j + 1)) := by
  refine lift3_congr fun g r c hg hr hc => ?_
  rw [fin_D _ _ hj _ _ _ _ hr]
  unfold acc
  rw [add_mul j 1 512, one_mul, Finset.sum_range_add]
  refine congrArg _ (Finset.sum_congr rfl fun x _ => ?_)
  rw [ms_pt]
  unfold pt
  dsimp only
  have e1 : 256 * (8 + h) + (g * 128 + c) = 2048 + ((2 * h + g) * 128 + c) := by ring
  rw [e1]

variable (m : (ℓ : Loc nD τ sig) → Buf (Elt Ideal) ℓ) (c : Dev nD) (A : Arr)

/-- The launch finds the tables in the arrays it reads. -/
structure Holds : Prop where
  P : ∀ i : S8192x8192.Idx, (i 1).val < 6144 → (V m c main_v37 : Vec Ideal S8192x8192 .bf16) i = ((A.P (i 0).val (i 1).val : ℝ) : EReal)
  KA : @Eq (Vec Ideal S8192x2048 .bf16) (V m c main_v60) (lift2 A.KA)
  QA : @Eq (Vec Ideal S8192x2048 .bf16) (V m c main_v78) (lift2 A.QA)
  DO : @Eq (Vec Ideal S8192x2048 .bf16) (V m c main_v98) (lift2 A.DO)
  DA : @Eq (Vec Ideal S8192x2048 .bf16) (V m c main_v97) (lift2 A.DA)

/-- The second coordinate of a grid point is its key block. -/
theorem co1 : ∀ t : Fin cfg0.N, (grid0.coords t 1).val = t.val % 16 := (by decide +kernel : ∀ t : Fin grid0.N, _)

/-- Which block of operand 0 a grid point reads. -/
theorem idx0 : ∀ t : Fin cfg0.N, win0_0.index t (0 : Fin 2) = t.val % 16 ∧ win0_0.index t (1 : Fin 2) = 8 + t.val / 16 := (by decide +kernel : ∀ t : Fin grid0.N, _)

/-- The block of operand 0. -/
theorem blk0 (H : Holds m c A) (t : Fin cfg0.N) : @Eq (Vec Ideal S512x256 .bf16) (iblk m c 0 t) (lift2 (pt A (t.val / 16) (t.val % 16)).K) := by
  refine eq_lift2 fun r d => ?_
  obtain ⟨e0, e1⟩ := idx0 t
  have hb0 : (((cfg0.win 0).blk t).view.emb (ix2 r d) 0).val = win0_0.index t (0 : Fin 2) * 512 + 1 * r.val := rfl
  have hb1 : (((cfg0.win 0).blk t).view.emb (ix2 r d) 1).val = win0_0.index t (1 : Fin 2) * 256 + 1 * d.val := rfl
  refine (H.P (((cfg0.win 0).blk t).view.emb (ix2 r d)) (hb1.trans_lt (by rw [e1]; have hd := d.isLt; have ht := t.isLt; have hN : cfg0.N = 128 := N_0; omega))).trans (congrArg Real.toEReal (congrArg₂ A.P (hb0.trans ?_) (hb1.trans ?_)))
  · rw [e0]; show _ = t.val % 16 * 512 + r.val; omega
  · rw [e1]; show _ = 256 * (8 + t.val / 16) + d.val; omega

/-- Which block of operand 1 a grid point reads. -/
theorem idx1 : ∀ t : Fin cfg0.N, win0_1.index t (0 : Fin 2) = t.val % 16 ∧ win0_1.index t (1 : Fin 2) = t.val / 16 := (by decide +kernel : ∀ t : Fin grid0.N, _)

/-- The block of operand 1. -/
theorem blk1 (H : Holds m c A) (t : Fin cfg0.N) : @Eq (Vec Ideal S512x256 .bf16) (iblk m c 1 t) (lift2 (pt A (t.val / 16) (t.val % 16)).KA) := by
  refine eq_lift2 fun r d => ?_
  obtain ⟨e0, e1⟩ := idx1 t
  have hb0 : (((cfg0.win 1).blk t).view.emb (ix2 r d) 0).val = win0_1.index t (0 : Fin 2) * 512 + 1 * r.val := rfl
  have hb1 : (((cfg0.win 1).blk t).view.emb (ix2 r d) 1).val = win0_1.index t (1 : Fin 2) * 256 + 1 * d.val := rfl
  refine (congrFun H.KA (((cfg0.win 1).blk t).view.emb (ix2 r d))).trans (congrArg Real.toEReal (congrArg₂ A.KA (hb0.trans ?_) (hb1.trans ?_)))
  · rw [e0]; show _ = t.val % 16 * 512 + r.val; omega
  · rw [e1]; show _ = 256 * (t.val / 16) + d.val; omega

/-- Which block of operand 2 a grid point reads. -/
theorem idx2 : ∀ t : Fin cfg0.N, win0_2.index t (0 : Fin 2) = t.val % 16 ∧ win0_2.index t (1 : Fin 2) = 16 + t.val / 16 := (by decide +kernel : ∀ t : Fin grid0.N, _)

/-- The block of operand 2. -/
theorem blk2 (H : Holds m c A) (t : Fin cfg0.N) : @Eq (Vec Ideal S512x256 .bf16) (iblk m c 2 t) (lift2 (pt A (t.val / 16) (t.val % 16)).V) := by
  refine eq_lift2 fun r d => ?_
  obtain ⟨e0, e1⟩ := idx2 t
  have hb0 : (((cfg0.win 2).blk t).view.emb (ix2 r d) 0).val = win0_2.index t (0 : Fin 2) * 512 + 1 * r.val := rfl
  have hb1 : (((cfg0.win 2).blk t).view.emb (ix2 r d) 1).val = win0_2.index t (1 : Fin 2) * 256 + 1 * d.val := rfl
  refine (H.P (((cfg0.win 2).blk t).view.emb (ix2 r d)) (hb1.trans_lt (by rw [e1]; have hd := d.isLt; have ht := t.isLt; have hN : cfg0.N = 128 := N_0; omega))).trans (congrArg Real.toEReal (congrArg₂ A.P (hb0.trans ?_) (hb1.trans ?_)))
  · rw [e0]; show _ = t.val % 16 * 512 + r.val; omega
  · rw [e1]; show _ = 256 * (16 + t.val / 16) + d.val; omega

/-- Which block of operand 3 a grid point reads. -/
theorem idx3 : ∀ t : Fin cfg0.N, win0_3.index t (0 : Fin 2) = 0 ∧ win0_3.index t (1 : Fin 2) = t.val / 16 := (by decide +kernel : ∀ t : Fin grid0.N, _)

/-- The block of operand 3. -/
theorem blk3 (H : Holds m c A) (t : Fin cfg0.N) : @Eq (Vec Ideal S8192x256 .bf16) (iblk m c 3 t) (lift2 (pt A (t.val / 16) (t.val % 16)).Q) := by
  refine eq_lift2 fun r d => ?_
  obtain ⟨e0, e1⟩ := idx3 t
  have hb0 : (((cfg0.win 3).blk t).view.emb (ix2 r d) 0).val = win0_3.index t (0 : Fin 2) * 8192 + 1 * r.val := rfl
  have hb1 : (((cfg0.win 3).blk t).view.emb (ix2 r d) 1).val = win0_3.index t (1 : Fin 2) * 256 + 1 * d.val := rfl
  refine (H.P (((cfg0.win 3).blk t).view.emb (ix2 r d)) (hb1.trans_lt (by rw [e1]; have hd := d.isLt; have ht := t.isLt; have hN : cfg0.N = 128 := N_0; omega))).trans (congrArg Real.toEReal (congrArg₂ A.P (hb0.trans ?_) (hb1.trans ?_)))
  · rw [e0]; show _ = r.val; omega
  · rw [e1]; show _ = 256 * (t.val / 16) + d.val; omega

/-- Which block of operand 4 a grid point reads. -/
theorem idx4 : ∀ t : Fin cfg0.N, win0_4.index t (0 : Fin 2) = 0 ∧ win0_4.index t (1 : Fin 2) = t.val / 16 := (by decide +kernel : ∀ t : Fin grid0.N, _)

/-- The block of operand 4. -/
theorem blk4 (H : Holds m c A) (t : Fin cfg0.N) : @Eq (Vec Ideal S8192x256 .bf16) (iblk m c 4 t) (lift2 (pt A (t.val / 16) (t.val % 16)).QA) := by
  refine eq_lift2 fun r d => ?_
  obtain ⟨e0, e1⟩ := idx4 t
  have hb0 : (((cfg0.win 4).blk t).view.emb (ix2 r d) 0).val = win0_4.index t (0 : Fin 2) * 8192 + 1 * r.val := rfl
  have hb1 : (((cfg0.win 4).blk t).view.emb (ix2 r d) 1).val = win0_4.index t (1 : Fin 2) * 256 + 1 * d.val := rfl
  refine (congrFun H.QA (((cfg0.win 4).blk t).view.emb (ix2 r d))).trans (congrArg Real.toEReal (congrArg₂ A.QA (hb0.trans ?_) (hb1.trans ?_)))
  · rw [e0]; show _ = r.val; omega
  · rw [e1]; show _ = 256 * (t.val / 16) + d.val; omega

/-- Which block of operand 5 a grid point reads. -/
theorem idx5 : ∀ t : Fin cfg0.N, win0_5.index t (0 : Fin 2) = 0 ∧ win0_5.index t (1 : Fin 2) = t.val / 16 := (by decide +kernel : ∀ t : Fin grid0.N, _)

/-- The block of operand 5. -/
theorem blk5 (H : Holds m c A) (t : Fin cfg0.N) : @Eq (Vec Ideal S8192x256 .bf16) (iblk m c 5 t) (lift2 (pt A (t.val / 16) (t.val % 16)).DO) := by
  refine eq_lift2 fun r d => ?_
  obtain ⟨e0, e1⟩ := idx5 t
  have hb0 : (((cfg0.win 5).blk t).view.emb (ix2 r d) 0).val = win0_5.index t (0 : Fin 2) * 8192 + 1 * r.val := rfl
  have hb1 : (((cfg0.win 5).blk t).view.emb (ix2 r d) 1).val = win0_5.index t (1 : Fin 2) * 256 + 1 * d.val := rfl
  refine (congrFun H.DO (((cfg0.win 5).blk t).view.emb (ix2 r d))).trans (congrArg Real.toEReal (congrArg₂ A.DO (hb0.trans ?_) (hb1.trans ?_)))
  · rw [e0]; show _ = r.val; omega
  · rw [e1]; show _ = 256 * (t.val / 16) + d.val; omega

/-- Which block of operand 6 a grid point reads. -/
theorem idx6 : ∀ t : Fin cfg0.N, win0_6.index t (0 : Fin 2) = 0 ∧ win0_6.index t (1 : Fin 2) = t.val / 16 := (by decide +kernel : ∀ t : Fin grid0.N, _)

/-- The block of operand 6. -/
theorem blk6 (H : Holds m c A) (t : Fin cfg0.N) : @Eq (Vec Ideal S8192x256 .bf16) (iblk m c 6 t) (lift2 (pt A (t.val / 16) (t.val % 16)).DA) := by
  refine eq_lift2 fun r d => ?_
  obtain ⟨e0, e1⟩ := idx6 t
  have hb0 : (((cfg0.win 6).blk t).view.emb (ix2 r d) 0).val = win0_6.index t (0 : Fin 2) * 8192 + 1 * r.val := rfl
  have hb1 : (((cfg0.win 6).blk t).view.emb (ix2 r d) 1).val = win0_6.index t (1 : Fin 2) * 256 + 1 * d.val := rfl
  refine (congrFun H.DA (((cfg0.win 6).blk t).view.emb (ix2 r d))).trans (congrArg Real.toEReal (congrArg₂ A.DA (hb0.trans ?_) (hb1.trans ?_)))
  · rw [e0]; show _ = r.val; omega
  · rw [e1]; show _ = 256 * (t.val / 16) + d.val; omega

/-- What a grid point leaves, given what the carried query gradient held. -/
structure Left (t : Fin cfg0.N) (D : ℕ → ℕ → ℕ → ℝ) : Prop where
  k : (outsAt0 m c t.val t.isLt).2.2.1 = lift2 (fun r d => (fin (pt A (t.val / 16) (t.val % 16)) (t.val % 16) D).k (d / 128) r (d % 128) * Real.log 2)
  v : (outsAt0 m c t.val t.isLt).2.2.2.1 = lift2 (fun r d => (fin (pt A (t.val / 16) (t.val % 16)) (t.val % 16) D).v (d / 128) r (d % 128))
  dc : (outsAt0 m c t.val t.isLt).2.2.2.2.1 = lift3 (fun a _ r => -(fin (pt A (t.val / 16) (t.val % 16)) (t.val % 16) D).k a r 128)
  sc : (outsAt0 m c t.val t.isLt).2.2.2.2.2 = lift3 (fin (pt A (t.val / 16) (t.val % 16)) (t.val % 16) D).D
  q : t.val % 16 = 15 → (outsAt0 m c t.val t.isLt).1 = lift2 (fun r d => (fin (pt A (t.val / 16) (t.val % 16)) (t.val % 16) D).D (d / 128) r (d % 128) * Cert.Fox.sF)
  r : t.val % 16 = 15 → (outsAt0 m c t.val t.isLt).2.1 = lift3 (fun a _ r => (fin (pt A (t.val / 16) (t.val % 16)) (t.val % 16) D).D a r 128)

end Cert.KernelIdeal.Fox
-- ==== Proof.WordsA.lean ====
module

public import proofs.«01_k».proof.Proof.State
public import proofs.«01_k».proof.Proof.Gen.KernelIdeal.Frame
public import Idealize.ShloMosaic.Lib.WordCmp
public import Idealize.ShloMosaic.Lib.Pointwise
public import Idealize.ShloMosaic.Lib.WritesUnit

/-! What a grid point of case A leaves in its scratches. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

set_option maxHeartbeats 4000000
set_option pp.maxSteps 60

variable (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S8192x256 .bf16) (harg8 : arg8.IsWhole) (arg9 : Memref sig .tc .vmem S8192x256 .bf16) (harg9 : arg9.IsWhole) (arg10 : Memref sig .tc .vmem S2x1x8192 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S2x1x512 .f32) (harg13 : arg13.IsWhole) (arg14 : Memref sig .tc .vmem S2x8192x256 .f32) (harg14 : arg14.IsWhole) (arg15 : Memref sig .tc .vmem S2x512x256 .f32) (harg15 : arg15.IsWhole) (arg16 : Memref sig .tc .vmem S2x512x128 .f32) (harg16 : arg16.IsWhole) (arg17 : Memref sig .tc .vmem S2x512x512 .bf16) (harg17 : arg17.IsWhole) (arg18 : Memref sig .tc .vmem S2x512x512 .bf16) (harg18 : arg18.IsWhole)   (I : In) (hE : I.E = fun _ c => if c < 3 then 1 else 0)
include hE

/-- A word of the last step as a table. -/
theorem v112_A : kernelRun0_A.sl.v112 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) = lift3 (fun a b d => (aft I (i 1).val (fun _ _ _ => 0)).v (0 + a) (0 + b) (0 + d)) := by
  unfold kernelRun0_A.sl.v112
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after16 _ _ _ _ _ _ _ _ _ _ _ _ _ _ _ _ _ _ _ _ _ _ _ _ _ _ _ _ _ _ _ _ _ _ _ _ _ _ _ _ _ _ _ _ _ _ _ _ _ _ _ _ _ _ _ I (st0 I (i 1).val (fun _ _ _ => 0)) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact full3 _ _ _ _ _ pay73_eq
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3 _ _

/-- A word of the last step as a table. -/
theorem v114_A : kernelRun0_A.sl.v114 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) = lift3 (fun a b d => (aft I (i 1).val (fun _ _ _ => 0)).p (0 + a) (0 + b) (0 + d)) := by
  unfold kernelRun0_A.sl.v114
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after17 _ _ _ _ _ _ _ _ _ _ _ _ _ _ _ _ _ _ _ _ _ _ _ _ _ _ _ _ _ _ _ _ _ _ _ _ _ _ _ _ _ _ _ _ _ _ _ _ _ _ _ _ _ _ _ I (st0 I (i 1).val (fun _ _ _ => 0)) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact full3 _ _ _ _ _ pay73_eq
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3b _ _

/-- A word of the last step as a table. -/
theorem v123_A : kernelRun0_A.sl.v123 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) = lift3 (fun a b d => (aft I (i 1).val (fun _ _ _ => 0)).k (0 + a) (0 + b) (0 + d)) := by
  unfold kernelRun0_A.sl.v123
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after15 _ _ _ _ _ _ _ _ _ _ _ _ _ _ _ _ _ _ _ _ _ _ _ _ _ _ _ _ _ _ _ _ _ _ _ _ _ _ _ _ _ _ _ _ _ _ _ _ _ _ _ _ _ _ _ I (st0 I (i 1).val (fun _ _ _ => 0)) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact full3 _ _ _ _ _ pay73_eq
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3 _ _

/-- A word of the last step as a table. -/
theorem v125_A : kernelRun0_A.sl.v125 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) = lift3 (fun a b d => (aft I (i 1).val (fun _ _ _ => 0)).s (0 + a) (0 + b) (0 + d)) := by
  unfold kernelRun0_A.sl.v125
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after18 _ _ _ _ _ _ _ _ _ _ _ _ _ _ _ _ _ _ _ _ _ _ _ _ _ _ _ _ _ _ _ _ _ _ _ _ _ _ _ _ _ _ _ _ _ _ _ _ _ _ _ _ _ _ _ I (st0 I (i 1).val (fun _ _ _ => 0)) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact full3 _ _ _ _ _ pay73_eq
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3b _ _

/-- A word of the last step as a table. -/
theorem v135_A : kernelRun0_A.sl.v135 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) = lift3 (fun a b d => (aft I (i 1).val (fun _ _ _ => 0)).D (0 + a) (7680 + b) (0 + d)) := by
  unfold kernelRun0_A.sl.v135
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after14 _ _ _ _ _ _ _ _ _ _ _ _ _ _ _ _ _ _ _ _ _ _ _ _ _ _ _ _ _ _ _ _ _ _ _ _ _ _ _ _ _ _ _ _ _ _ _ _ _ _ _ _ _ _ _ I (st0 I (i 1).val (fun _ _ _ => 0)) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact full3 _ _ _ _ _ pay73_eq
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3 _ _

/-- A word of the last step as a table. -/
theorem v149_A : kernelRun0_A.sl.v149 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) = lift3 (fun a b d => (aft I (i 1).val (fun _ _ _ => 0)).p (1 + a) (0 + b) (0 + d)) := by
  unfold kernelRun0_A.sl.v149
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after17 _ _ _ _ _ _ _ _ _ _ _ _ _ _ _ _ _ _ _ _ _ _ _ _ _ _ _ _ _ _ _ _ _ _ _ _ _ _ _ _ _ _ _ _ _ _ _ _ _ _ _ _ _ _ _ I (st0 I (i 1).val (fun _ _ _ => 0)) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact full3 _ _ _ _ _ pay73_eq
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3b _ _

/-- A word of the last step as a table. -/
theorem v160_A : kernelRun0_A.sl.v160 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) = lift3 (fun a b d => (aft I (i 1).val (fun _ _ _ => 0)).s (1 + a) (0 + b) (0 + d)) := by
  unfold kernelRun0_A.sl.v160
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after18 _ _ _ _ _ _ _ _ _ _ _ _ _ _ _ _ _ _ _ _ _ _ _ _ _ _ _ _ _ _ _ _ _ _ _ _ _ _ _ _ _ _ _ _ _ _ _ _ _ _ _ _ _ _ _ I (st0 I (i 1).val (fun _ _ _ => 0)) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact full3 _ _ _ _ _ pay73_eq
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3b _ _

/-- A scratch after the last step of one head, or of both. -/
theorem l15_A : arg15.view.read (Elt Ideal) (arg15.view.writes (Elt Ideal) arg15.view.junk (kernelRun0_A.sl.HS1_1_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA))) = lift3 (fun a r c => if a = 0 then trK 15 I.Q (aft I (i 1).val (fun _ _ _ => 0)).s (aft I (i 1).val (fun _ _ _ => 0)).k a r c else (aft I (i 1).val (fun _ _ _ => 0)).k a r c) := by
  unfold kernelRun0_A.sl.HS1_1_1
  refine (put3 _ _ _ (aft I (i 1).val (fun _ _ _ => 0)).k ?h 0 0 _ _ ?b ?w).trans ?c
  case h =>
    rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
    case hn2 => exact trips_t2 i
    simp only [List.nil_append]
    rw [View.writes_append]
    rw [after15 _ _ _ _ _ _ _ _ _ _ _ _ _ _ _ _ _ _ _ _ _ _ _ _ _ _ _ _ _ _ _ _ _ _ _ _ _ _ _ _ _ _ _ _ _ _ _ _ _ _ _ _ _ _ _ I (st0 I (i 1).val (fun _ _ _ => 0)) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
    case hn => exact trips_t1 i
    case h14 => exact full3 _ _ _ _ _ pay73_eq
    case h15 => exact full3 _ _ _ _ _ pay74_eq
    case h16 => exact full3 _ _ _ _ _ pay75_eq
    case h17 => exact diag_p I (i 1).val (i 1).isLt (rows_diag (i 1) ▸ rfl) (rows_diag (i 1) ▸ rfl) (harg2.read_unread _) (harg3.read_unread _) (harg5.read_unread _) (harg6.read_unread _) _
    case h18 =>
      refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
      rw [← hE]; rfl
    rfl
  case w =>
    rw [v123_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hE, v125_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hE]
    simp only [View.readAt_eq_ld]
    rw [harg5.read_unread, ld2]
    exact pay91_eq _ _ _
  case c =>
    refine lift3_congr fun a r c ha hr hc => ?_
    have ha' : a = 0 ∨ a = 1 := by omega
    rcases ha' with rfl | rfl
    · simp (disch := omega) [trK, trV, trD, hr, Nat.add_sub_cancel']
    · by_cases h7 : 7680 ≤ r
      · simp [trK, trV, trD, hr, h7, Nat.add_sub_cancel' h7]
      · simp [trK, trV, trD, hr, h7]

/-- A scratch after the last step of one head, or of both. -/
theorem w15_A : arg15.view.read (Elt Ideal) (arg15.view.writes (Elt Ideal) arg15.view.junk (kernelRun0_A.sl.HS1_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA))) = lift3 (fin I (i 1).val (fun _ _ _ => 0)).k := by
  unfold kernelRun0_A.sl.HS1_2 kernelRun0_A.sl.r_5 kernelRun0_A.sl.r_6 kernelRun0_A.sl.r_7 kernelRun0_A.sl.v158
  refine (put3 _ _ _ _ (l15_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hE) 1 0 _ _ ?b ?w).trans ?c
  case w =>
    rw [v160_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hE]
    simp only [View.readCov, View.readAt_eq_ld]
    rw [l15_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hE, harg5.read_unread, ld2, ld3]
    exact pay98_eq _ _ _
  case c =>
    refine lift3_congr fun a r c ha hr hc => ?_
    show _ = (stStep I 15 (aft I (i 1).val (fun _ _ _ => 0))).k a r c
    dsimp only [stStep]
    have ha' : a = 0 ∨ a = 1 := by omega
    rcases ha' with rfl | rfl
    · simp (disch := omega) [trK, trV, trD, hr, Nat.add_sub_cancel']
    · by_cases h7 : 7680 ≤ r
      · simp [trK, trV, trD, hr, h7, Nat.add_sub_cancel' h7]
      · simp [trK, trV, trD, hr, h7]

/-- A scratch after the last step of one head, or of both. -/
theorem l16_A : arg16.view.read (Elt Ideal) (arg16.view.writes (Elt Ideal) arg16.view.junk (kernelRun0_A.sl.HS2_1_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA))) = lift3 (fun a r c => if a = 0 then trV 15 I.DO (aft I (i 1).val (fun _ _ _ => 0)).p (aft I (i 1).val (fun _ _ _ => 0)).v a r c else (aft I (i 1).val (fun _ _ _ => 0)).v a r c) := by
  unfold kernelRun0_A.sl.HS2_1_1
  refine (put3 _ _ _ (aft I (i 1).val (fun _ _ _ => 0)).v ?h 0 0 _ _ ?b ?w).trans ?c
  case h =>
    rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
    case hn2 => exact trips_t2 i
    simp only [List.nil_append]
    rw [View.writes_append]
    rw [after16 _ _ _ _ _ _ _ _ _ _ _ _ _ _ _ _ _ _ _ _ _ _ _ _ _ _ _ _ _ _ _ _ _ _ _ _ _ _ _ _ _ _ _ _ _ _ _ _ _ _ _ _ _ _ _ I (st0 I (i 1).val (fun _ _ _ => 0)) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
    case hn => exact trips_t1 i
    case h14 => exact full3 _ _ _ _ _ pay73_eq
    case h15 => exact full3 _ _ _ _ _ pay74_eq
    case h16 => exact full3 _ _ _ _ _ pay75_eq
    case h17 => exact diag_p I (i 1).val (i 1).isLt (rows_diag (i 1) ▸ rfl) (rows_diag (i 1) ▸ rfl) (harg2.read_unread _) (harg3.read_unread _) (harg5.read_unread _) (harg6.read_unread _) _
    case h18 =>
      refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
      rw [← hE]; rfl
    rfl
  case w =>
    rw [v112_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hE, v114_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hE]
    simp only [View.readAt_eq_ld]
    rw [harg7.read_unread, ld2]
    exact pay90_eq _ _ _
  case c =>
    refine lift3_congr fun a r c ha hr hc => ?_
    have ha' : a = 0 ∨ a = 1 := by omega
    rcases ha' with rfl | rfl
    · simp (disch := omega) [trK, trV, trD, hr, Nat.add_sub_cancel']
    · by_cases h7 : 7680 ≤ r
      · simp [trK, trV, trD, hr, h7, Nat.add_sub_cancel' h7]
      · simp [trK, trV, trD, hr, h7]

/-- A scratch after the last step of one head, or of both. -/
theorem w16_A : arg16.view.read (Elt Ideal) (arg16.view.writes (Elt Ideal) arg16.view.junk (kernelRun0_A.sl.HS2_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA))) = lift3 (fin I (i 1).val (fun _ _ _ => 0)).v := by
  unfold kernelRun0_A.sl.HS2_2 kernelRun0_A.sl.v147
  refine (put3 _ _ _ _ (l16_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hE) 1 0 _ _ ?b ?w).trans ?c
  case w =>
    rw [v149_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hE]
    simp only [View.readCov, View.readAt_eq_ld]
    rw [l16_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hE, harg7.read_unread, ld2, ld3]
    exact pay94_eq _ _ _
  case c =>
    refine lift3_congr fun a r c ha hr hc => ?_
    show _ = (stStep I 15 (aft I (i 1).val (fun _ _ _ => 0))).v a r c
    dsimp only [stStep]
    have ha' : a = 0 ∨ a = 1 := by omega
    rcases ha' with rfl | rfl
    · simp (disch := omega) [trK, trV, trD, hr, Nat.add_sub_cancel']
    · by_cases h7 : 7680 ≤ r
      · simp [trK, trV, trD, hr, h7, Nat.add_sub_cancel' h7]
      · simp [trK, trV, trD, hr, h7]

/-- A scratch after the last step of one head, or of both. -/
theorem l14_A : arg14.view.read (Elt Ideal) (arg14.view.writes (Elt Ideal) arg14.view.junk (kernelRun0_A.sl.HS0_1_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA))) = lift3 (fun a r c => if a = 0 then trD 15 I.K (aft I (i 1).val (fun _ _ _ => 0)).s (aft I (i 1).val (fun _ _ _ => 0)).D a r c else (aft I (i 1).val (fun _ _ _ => 0)).D a r c) := by
  unfold kernelRun0_A.sl.HS0_1_1 kernelRun0_A.sl.r_4
  refine (put3 _ _ _ (aft I (i 1).val (fun _ _ _ => 0)).D ?h 0 7680 _ _ ?b ?w).trans ?c
  case h =>
    rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
    case hn2 => exact trips_t2 i
    simp only [List.nil_append]
    rw [View.writes_append]
    rw [after14 _ _ _ _ _ _ _ _ _ _ _ _ _ _ _ _ _ _ _ _ _ _ _ _ _ _ _ _ _ _ _ _ _ _ _ _ _ _ _ _ _ _ _ _ _ _ _ _ _ _ _ _ _ _ _ I (st0 I (i 1).val (fun _ _ _ => 0)) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
    case hn => exact trips_t1 i
    case h14 => exact full3 _ _ _ _ _ pay73_eq
    case h15 => exact full3 _ _ _ _ _ pay74_eq
    case h16 => exact full3 _ _ _ _ _ pay75_eq
    case h17 => exact diag_p I (i 1).val (i 1).isLt (rows_diag (i 1) ▸ rfl) (rows_diag (i 1) ▸ rfl) (harg2.read_unread _) (harg3.read_unread _) (harg5.read_unread _) (harg6.read_unread _) _
    case h18 =>
      refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
      rw [← hE]; rfl
    rfl
  case w =>
    rw [v135_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hE, v125_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hE]
    simp only [View.readAt_eq_ld]
    rw [harg2.read_unread, ld2]
    exact pay93_eq _ _ _
  case c =>
    refine lift3_congr fun a r c ha hr hc => ?_
    have ha' : a = 0 ∨ a = 1 := by omega
    rcases ha' with rfl | rfl
    · simp (disch := omega) [trK, trV, trD, hr, Nat.add_sub_cancel']
    · by_cases h7 : 7680 ≤ r
      · simp [trK, trV, trD, hr, h7, Nat.add_sub_cancel' h7]
      · simp [trK, trV, trD, hr, h7]

end Cert.KernelIdeal.Fox
-- ==== Proof.Outs.lean ====
module

public import proofs.«01_k».proof.Proof.State
public import proofs.«01_k».proof.Proof.Soft
public import proofs.«01_k».proof.Proof.Gen.KernelIdeal.Frame
public import Idealize.ShloMosaic.Lib.WordCmp
public import Idealize.ShloMosaic.Lib.Pointwise
public import Idealize.ShloMosaic.Lib.WritesUnit

/-! The payloads of the output blocks and the layout of the blocks they are stored in. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

set_option maxHeartbeats 4000000
set_option pp.maxSteps 300

/-- The key gradient of the first head. -/
theorem pay100_eq (f : ℕ → ℕ → ℕ → ℝ) : k0_pay100 (F := Ideal) (lift3 f) = lift2 (fun r c => f 0 r c * Real.log 2) := by
  refine eq_lift2 fun r c => ?_
  unfold_payloads
  pointwise
  rw [show (Named.named (F := Ideal) (φ := .f32) κ "ln2" 0x3F317218#32) = ((Real.log 2 : ℝ) : EReal) from IdealRules.named_const.ideal_named_scalar _ _ _ _ rfl]
  simp only [lift3_ix, ← EReal.coe_mul]
  rfl

/-- The key gradient of the second head. -/
theorem pay103_eq (f : ℕ → ℕ → ℕ → ℝ) : k0_pay103 (F := Ideal) (lift3 f) = lift2 (fun r c => f 0 r c * Real.log 2) := by
  refine eq_lift2 fun r c => ?_
  unfold_payloads
  pointwise
  rw [show (Named.named (F := Ideal) (φ := .f32) κ "ln2" 0x3F317218#32) = ((Real.log 2 : ℝ) : EReal) from IdealRules.named_const.ideal_named_scalar _ _ _ _ rfl]
  simp only [lift3_ix, ← EReal.coe_mul]
  rfl

/-- The value gradient of the first head. -/
theorem pay101_eq (f : ℕ → ℕ → ℕ → ℝ) : k0_pay101 (F := Ideal) (lift3 f) = lift2 (fun r c => f 0 r c) := by
  refine eq_lift2 fun r c => ?_
  unfold_payloads
  pointwise
  rfl

/-- The value gradient of the second head. -/
theorem pay104_eq (f : ℕ → ℕ → ℕ → ℝ) : k0_pay104 (F := Ideal) (lift3 f) = lift2 (fun r c => f 0 r c) := by
  refine eq_lift2 fun r c => ?_
  unfold_payloads
  pointwise
  rfl

/-- The query gradient of the first head. -/
theorem pay33_eq (f : ℕ → ℕ → ℕ → ℝ) : k0_pay33 (F := Ideal) (lift3 f) = lift2 (fun r c => f 0 r c * Cert.Fox.sF) := by
  refine eq_lift2 fun r c => ?_
  unfold_payloads
  pointwise
  rw [show (Ideal.ofBits .f32 0x3DB504F3#32) = ((Cert.Fox.sF : ℝ) : EReal) from Cert.Fox.ofBits_sF]
  simp only [lift3_ix, ← EReal.coe_mul]
  rfl

/-- The query gradient of the second head. -/
theorem pay52_eq (f : ℕ → ℕ → ℕ → ℝ) : k0_pay52 (F := Ideal) (lift3 f) = lift2 (fun r c => f 0 r c * Cert.Fox.sF) := by
  refine eq_lift2 fun r c => ?_
  unfold_payloads
  pointwise
  rw [show (Ideal.ofBits .f32 0x3DB504F3#32) = ((Cert.Fox.sF : ℝ) : EReal) from Cert.Fox.ofBits_sF]
  simp only [lift3_ix, ← EReal.coe_mul]
  rfl

/-- The column sums of the first head, negated. -/
theorem pay102_eq (f : ℕ → ℕ → ℕ → ℝ) : k0_pay102 (F := Ideal) (lift3 f) = lift3 (fun _ _ r => -f 0 r 0) := by
  refine eq_lift3 fun a b r => ?_
  obtain rfl : a = 0 := Fin.fin_one_eq_zero a
  obtain rfl : b = 0 := Fin.fin_one_eq_zero b
  unfold_payloads
  pointwise
  simp only [lift3_ix, zero_sub, ← EReal.coe_neg]
  try rfl

/-- The column sums of the second head, negated. -/
theorem pay105_eq (f : ℕ → ℕ → ℕ → ℝ) : k0_pay105 (F := Ideal) (lift3 f) = lift3 (fun _ _ r => -f 0 r 0) := by
  refine eq_lift3 fun a b r => ?_
  obtain rfl : a = 0 := Fin.fin_one_eq_zero a
  obtain rfl : b = 0 := Fin.fin_one_eq_zero b
  unfold_payloads
  pointwise
  simp only [lift3_ix, zero_sub, ← EReal.coe_neg]
  try rfl

/-- The row sums of one block of rows. -/
theorem pay50_eq (f : ℕ → ℕ → ℕ → ℝ) : k0_pay50 (F := Ideal) (lift3 f) = lift3 (fun _ _ r => f 0 r 0) := by
  refine eq_lift3 fun a b r => ?_
  obtain rfl : a = 0 := Fin.fin_one_eq_zero a
  obtain rfl : b = 0 := Fin.fin_one_eq_zero b
  unfold_payloads
  pointwise
  simp only [lift3_ix]
  try rfl

/-- Two column halves stored side by side. -/
theorem two2 {m : ℕ} (v : View sig .tc .vmem ⟨2, ![m, 256]⟩ .bf16) (f : v.ty.Contents (Elt Ideal))
    (inb1 : ∀ a, (![0, 128] : Fin 2 → ℕ) a + (![m, 128] : Fin 2 → ℕ) a ≤ (⟨2, ![m, 256]⟩ : Shape).size a)
    (inb0 : ∀ a, (![0, 0] : Fin 2 → ℕ) a + (![m, 128] : Fin 2 → ℕ) a ≤ (⟨2, ![m, 256]⟩ : Shape).size a)
    (w1 w0 : (⟨2, ![m, 128]⟩ : Shape).Idx → EReal) (b1 b0 : ℕ → ℕ → ℝ) (h1 : w1 = lift2 b1) (h0 : w0 = lift2 b0) :
    v.read (Elt Ideal) (v.writes (Elt Ideal) f [⟨Rect.unit (s := ⟨2, ![m, 256]⟩) ![0, 128] ![m, 128] inb1, w1⟩,
      ⟨Rect.unit (s := ⟨2, ![m, 256]⟩) ![0, 0] ![m, 128] inb0, w0⟩])
      = lift2 (fun r c => if c < 128 then b0 r c else b1 r (c - 128)) := by
  subst h1 h0
  refine eq_lift2 fun r c => ?_
  by_cases hc : c.val < 128
  · rw [View.read_writes_cons_unit_of_not_mem _ _ _ _ _ _ rfl 1 (Or.inl (by show c.val < 128; omega)),
      View.read_writes_cons_unit_of_mem _ _ _ _ _ _ (ix2 r (⟨c.val, hc⟩ : Fin 128)) rfl (by
        intro x
        match x with
        | ⟨0, _⟩ => exact (Nat.zero_add _).symm
        | ⟨1, _⟩ => exact (Nat.zero_add _).symm), if_pos hc]
    rfl
  · rw [View.read_writes_cons_unit_of_mem _ _ _ _ _ _ (ix2 r (⟨c.val - 128, by omega⟩ : Fin 128)) rfl (by
        intro x
        match x with
        | ⟨0, _⟩ => exact (Nat.zero_add _).symm
        | ⟨1, _⟩ => show c.val = 128 + (c.val - 128); omega), if_neg hc]
    rfl

/-- One row of each of two heads stored one after the other. -/
theorem two3 {n : ℕ} (v : View sig .tc .vmem ⟨3, ![2, 1, n]⟩ .f32) (f : v.ty.Contents (Elt Ideal))
    (inb1 : ∀ a, (![1, 0, 0] : Fin 3 → ℕ) a + (![1, 1, n] : Fin 3 → ℕ) a ≤ (⟨3, ![2, 1, n]⟩ : Shape).size a)
    (inb0 : ∀ a, (![0, 0, 0] : Fin 3 → ℕ) a + (![1, 1, n] : Fin 3 → ℕ) a ≤ (⟨3, ![2, 1, n]⟩ : Shape).size a)
    (w1 w0 : (⟨3, ![1, 1, n]⟩ : Shape).Idx → EReal) (b1 b0 : ℕ → ℕ → ℕ → ℝ) (h1 : w1 = lift3 b1) (h0 : w0 = lift3 b0) :
    v.read (Elt Ideal) (v.writes (Elt Ideal) f [⟨Rect.unit (s := ⟨3, ![2, 1, n]⟩) ![1, 0, 0] ![1, 1, n] inb1, w1⟩,
      ⟨Rect.unit (s := ⟨3, ![2, 1, n]⟩) ![0, 0, 0] ![1, 1, n] inb0, w0⟩])
      = lift3 (fun a b r => if a = 0 then b0 0 b r else b1 0 b r) := by
  subst h1 h0
  refine eq_lift3 fun a b r => ?_
  match a with
  | ⟨0, _⟩ =>
    rw [View.read_writes_cons_unit_of_not_mem _ _ _ _ _ _ rfl 0 (Or.inl (by show (0 : ℕ) < 1; omega)),
      View.read_writes_cons_unit_of_mem _ _ _ _ _ _ (ix3 (0 : Fin 1) b r) rfl (by
        intro x
        match x with
        | ⟨0, _⟩ => rfl
        | ⟨1, _⟩ => exact (Nat.zero_add _).symm
        | ⟨2, _⟩ => exact (Nat.zero_add _).symm)]
    rfl
  | ⟨1, _⟩ =>
    rw [View.read_writes_cons_unit_of_mem _ _ _ _ _ _ (ix3 (0 : Fin 1) b r) rfl (by
        intro x
        match x with
        | ⟨0, _⟩ => rfl
        | ⟨1, _⟩ => exact (Nat.zero_add _).symm
        | ⟨2, _⟩ => exact (Nat.zero_add _).symm)]
    rfl

end Cert.KernelIdeal.Fox
-- ==== Proof.OutA.lean ====
module

public import proofs.«01_k».proof.Proof.WordsA
public import proofs.«01_k».proof.Proof.Outs
public import proofs.«01_k».proof.Proof.Gen.KernelIdeal.Frame
public import Idealize.ShloMosaic.Lib.WordCmp
public import Idealize.ShloMosaic.Lib.Pointwise
public import Idealize.ShloMosaic.Lib.WritesUnit

/-! What a grid point of case A leaves in its output blocks and in the carried scratch. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

set_option maxHeartbeats 4000000
set_option pp.maxSteps 300

variable (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S8192x256 .bf16) (harg8 : arg8.IsWhole) (arg9 : Memref sig .tc .vmem S8192x256 .bf16) (harg9 : arg9.IsWhole) (arg10 : Memref sig .tc .vmem S2x1x8192 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S2x1x512 .f32) (harg13 : arg13.IsWhole) (arg14 : Memref sig .tc .vmem S2x8192x256 .f32) (harg14 : arg14.IsWhole) (arg15 : Memref sig .tc .vmem S2x512x256 .f32) (harg15 : arg15.IsWhole) (arg16 : Memref sig .tc .vmem S2x512x128 .f32) (harg16 : arg16.IsWhole) (arg17 : Memref sig .tc .vmem S2x512x512 .bf16) (harg17 : arg17.IsWhole) (arg18 : Memref sig .tc .vmem S2x512x512 .bf16) (harg18 : arg18.IsWhole) (hc0 : cond0_0 i) (hc1 : ¬cond0_1 i) (I : In) (hE : I.E = fun _ c => if c < 3 then 1 else 0)
include hE

/-- Output block 9. -/
theorem out9_A : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (lift2 I.K) (lift2 I.KA) (lift2 I.V) (lift2 I.Q) (lift2 I.QA) (lift2 I.DO) (lift2 I.DA) = lift2 (fun r c => (fin I (i 1).val (fun _ _ _ => 0)).k (c / 128) r (c % 128) * Real.log 2) := by
  unfold out0_A_9 kernelRun0_A
  dsimp only
  unfold kernelRun0_A.sl.v201 kernelRun0_A.sl.v182
  simp only [View.readCov, View.readAt_eq_ld]
  rw [(w15_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hE), ld3, ld3]
  refine (two2 _ _ _ _ _ _ _ _ (pay103_eq _) (pay100_eq _)).trans ?_
  refine lift2_congr fun r c hr hc => ?_
  by_cases h : c < 128
  · simp [h, Nat.div_eq_of_lt h, Nat.mod_eq_of_lt h]
  · simp [h, Nat.not_lt.mp h, show ¬c / 128 = 0 by omega, show c / 128 = 1 by omega, show c % 128 = c - 128 by omega]

/-- Output block 10. -/
theorem out10_A : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (lift2 I.K) (lift2 I.KA) (lift2 I.V) (lift2 I.Q) (lift2 I.QA) (lift2 I.DO) (lift2 I.DA) = lift2 (fun r c => (fin I (i 1).val (fun _ _ _ => 0)).v (c / 128) r (c % 128)) := by
  unfold out0_A_10 kernelRun0_A
  dsimp only
  unfold kernelRun0_A.sl.v207 kernelRun0_A.sl.v188
  simp only [View.readCov, View.readAt_eq_ld]
  rw [(w16_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hE), ld3, ld3]
  refine (two2 _ _ _ _ _ _ _ _ (pay104_eq _) (pay101_eq _)).trans ?_
  refine lift2_congr fun r c hr hc => ?_
  by_cases h : c < 128
  · simp [h, Nat.div_eq_of_lt h, Nat.mod_eq_of_lt h]
  · simp [h, Nat.not_lt.mp h, show ¬c / 128 = 0 by omega, show c / 128 = 1 by omega, show c % 128 = c - 128 by omega]

/-- Output block 11. -/
theorem out11_A : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (lift2 I.K) (lift2 I.KA) (lift2 I.V) (lift2 I.Q) (lift2 I.QA) (lift2 I.DO) (lift2 I.DA) = lift3 (fun a _ r => -(fin I (i 1).val (fun _ _ _ => 0)).k a r 128) := by
  unfold out0_A_11 kernelRun0_A
  dsimp only
  unfold kernelRun0_A.sl.v211 kernelRun0_A.sl.v192
  simp only [View.readCov, View.readAt_eq_ld]
  rw [(w15_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hE), ld3, ld3]
  refine (two3 _ _ _ _ _ _ _ _ (pay105_eq _) (pay102_eq _)).trans ?_
  refine lift3_congr fun a b r ha hb hr => ?_
  have ha' : a = 0 ∨ a = 1 := by omega
  rcases ha' with rfl | rfl <;> simp

/-- The carried scratch after the point. -/
theorem sout_A : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (lift2 I.K) (lift2 I.KA) (lift2 I.V) (lift2 I.Q) (lift2 I.QA) (lift2 I.DO) (lift2 I.DA) = lift3 (fin I (i 1).val (fun _ _ _ => 0)).D := by
  unfold sout0_A_0
  refine (View.read_writes_of_cover _ _ arg14.view arg14.view.junk _ (scover0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (lift2 I.K) (lift2 I.KA) (lift2 I.V) (lift2 I.Q) (lift2 I.QA) (lift2 I.DO) (lift2 I.DA))).trans ?_
  unfold kernelRun0_A
  dsimp only
  unfold kernelRun0_A.sl.v170
  refine (put3 _ _ _ _ (l14_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hE) 1 7680 _ _ ?b ?w).trans ?c
  case w =>
    rw [(v160_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hE)]
    simp only [View.readCov, View.readAt_eq_ld]
    rw [(l14_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 I hE), harg2.read_unread, ld2, ld3]
    exact pay99_eq _ _ _
  case c =>
    refine lift3_congr fun a r c ha hr hc => ?_
    show _ = (stStep I 15 (aft I (i 1).val (fun _ _ _ => 0))).D a r c
    dsimp only [stStep]
    have ha' : a = 0 ∨ a = 1 := by omega
    rcases ha' with rfl | rfl
    · simp (disch := omega) [trK, trV, trD, hr, Nat.add_sub_cancel']
    · by_cases h7 : 7680 ≤ r
      · simp [trK, trV, trD, hr, h7, Nat.add_sub_cancel' h7]
      · simp [trK, trV, trD, hr, h7]

omit hE in
/-- Output block 9. The blocks given by equations. -/
theorem out9_A' (x0 : Vec Ideal S512x256 .bf16) (x1 : Vec Ideal S512x256 .bf16) (x2 : Vec Ideal S512x256 .bf16) (x3 : Vec Ideal S8192x256 .bf16) (x4 : Vec Ideal S8192x256 .bf16) (x5 : Vec Ideal S8192x256 .bf16) (x6 : Vec Ideal S8192x256 .bf16) (I : In) (hE : I.E = fun _ c => if c < 3 then 1 else 0) (h0 : x0 = lift2 I.K) (h1 : x1 = lift2 I.KA) (h2 : x2 = lift2 I.V) (h3 : x3 = lift2 I.Q) (h4 : x4 = lift2 I.QA) (h5 : x5 = lift2 I.DO) (h6 : x6 = lift2 I.DA) : out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 = lift2 (fun r c => (fin I (i 1).val (fun _ _ _ => 0)).k (c / 128) r (c % 128) * Real.log 2) := by
  subst h0 h1 h2 h3 h4 h5 h6
  exact out9_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 I hE

omit hE in
/-- Output block 10. The blocks given by equations. -/
theorem out10_A' (x0 : Vec Ideal S512x256 .bf16) (x1 : Vec Ideal S512x256 .bf16) (x2 : Vec Ideal S512x256 .bf16) (x3 : Vec Ideal S8192x256 .bf16) (x4 : Vec Ideal S8192x256 .bf16) (x5 : Vec Ideal S8192x256 .bf16) (x6 : Vec Ideal S8192x256 .bf16) (I : In) (hE : I.E = fun _ c => if c < 3 then 1 else 0) (h0 : x0 = lift2 I.K) (h1 : x1 = lift2 I.KA) (h2 : x2 = lift2 I.V) (h3 : x3 = lift2 I.Q) (h4 : x4 = lift2 I.QA) (h5 : x5 = lift2 I.DO) (h6 : x6 = lift2 I.DA) : out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 = lift2 (fun r c => (fin I (i 1).val (fun _ _ _ => 0)).v (c / 128) r (c % 128)) := by
  subst h0 h1 h2 h3 h4 h5 h6
  exact out10_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 I hE

omit hE in
/-- Output block 11. The blocks given by equations. -/
theorem out11_A' (x0 : Vec Ideal S512x256 .bf16) (x1 : Vec Ideal S512x256 .bf16) (x2 : Vec Ideal S512x256 .bf16) (x3 : Vec Ideal S8192x256 .bf16) (x4 : Vec Ideal S8192x256 .bf16) (x5 : Vec Ideal S8192x256 .bf16) (x6 : Vec Ideal S8192x256 .bf16) (I : In) (hE : I.E = fun _ c => if c < 3 then 1 else 0) (h0 : x0 = lift2 I.K) (h1 : x1 = lift2 I.KA) (h2 : x2 = lift2 I.V) (h3 : x3 = lift2 I.Q) (h4 : x4 = lift2 I.QA) (h5 : x5 = lift2 I.DO) (h6 : x6 = lift2 I.DA) : out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 = lift3 (fun a _ r => -(fin I (i 1).val (fun _ _ _ => 0)).k a r 128) := by
  subst h0 h1 h2 h3 h4 h5 h6
  exact out11_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 I hE

omit hE in
/-- The carried scratch after the point. The blocks given by equations. -/
theorem sout_A' (x0 : Vec Ideal S512x256 .bf16) (x1 : Vec Ideal S512x256 .bf16) (x2 : Vec Ideal S512x256 .bf16) (x3 : Vec Ideal S8192x256 .bf16) (x4 : Vec Ideal S8192x256 .bf16) (x5 : Vec Ideal S8192x256 .bf16) (x6 : Vec Ideal S8192x256 .bf16) (I : In) (hE : I.E = fun _ c => if c < 3 then 1 else 0) (h0 : x0 = lift2 I.K) (h1 : x1 = lift2 I.KA) (h2 : x2 = lift2 I.V) (h3 : x3 = lift2 I.Q) (h4 : x4 = lift2 I.QA) (h5 : x5 = lift2 I.DO) (h6 : x6 = lift2 I.DA) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 = lift3 (fin I (i 1).val (fun _ _ _ => 0)).D := by
  subst h0 h1 h2 h3 h4 h5 h6
  exact sout_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 I hE

end Cert.KernelIdeal.Fox
-- ==== Proof.LeftA.lean ====
module

public import proofs.«01_k».proof.Proof.Blocks
public import proofs.«01_k».proof.Proof.OutA
public import proofs.«01_k».proof.Proof.Gen.KernelIdeal.Frame
public import Idealize.ShloMosaic.Lib.WordCmp
public import Idealize.ShloMosaic.Lib.Pointwise
public import Idealize.ShloMosaic.Lib.WritesUnit

/-! What a grid point of case A leaves, from the blocks it reads. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

set_option maxHeartbeats 4000000
set_option pp.maxSteps 2000

variable (m : (ℓ : Loc nD τ sig) → Buf (Elt Ideal) ℓ) (c : Dev nD) (A : Arr)

/-- Case A: this part of what the grid point leaves is the case's own function of the blocks. -/
theorem eA_k (t : Fin cfg0.N) (h0 : t.val % 16 = 0) (h1 : ¬t.val % 16 = 15) :
    (outsAt0 m c t.val t.isLt).2.2.1 = out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) := by
  rw [outsAt0_A m c t h0 h1]

/-- Case A: this part of what the grid point leaves, in real numbers. -/
theorem vA_k (H : Holds m c A) (t : Fin cfg0.N) (h0 : t.val % 16 = 0) (h1 : ¬t.val % 16 = 15) :
    out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) = lift2 (fun r d => (fin (pt A (t.val / 16) (t.val % 16)) (grid0.coords t 1).val (fun _ _ _ => 0)).k (d / 128) r (d % 128) * Real.log 2) :=
  out9_A' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) _ _ _ _ _ _ _ (pt A (t.val / 16) (t.val % 16)) rfl (blk0 m c A H t) (blk1 m c A H t) (blk2 m c A H t) (blk3 m c A H t) (blk4 m c A H t) (blk5 m c A H t) (blk6 m c A H t)

/-- Case A: the same at the key block's number. -/
theorem lA_k (H : Holds m c A) (t : Fin cfg0.N) (h0 : t.val % 16 = 0) (h1 : ¬t.val % 16 = 15) :
    (outsAt0 m c t.val t.isLt).2.2.1 = lift2 (fun r d => (fin (pt A (t.val / 16) (t.val % 16)) (t.val % 16) (fun _ _ _ => 0)).k (d / 128) r (d % 128) * Real.log 2) :=
  (eA_k m c t h0 h1).trans ((vA_k m c A H t h0 h1).trans (congrArg (fun j : ℕ => lift2 (fun r d => (fin (pt A (t.val / 16) (t.val % 16)) j (fun _ _ _ => 0)).k (d / 128) r (d % 128) * Real.log 2)) (co1 t)))

/-- Case A: this part of what the grid point leaves is the case's own function of the blocks. -/
theorem eA_v (t : Fin cfg0.N) (h0 : t.val % 16 = 0) (h1 : ¬t.val % 16 = 15) :
    (outsAt0 m c t.val t.isLt).2.2.2.1 = out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) := by
  rw [outsAt0_A m c t h0 h1]

/-- Case A: this part of what the grid point leaves, in real numbers. -/
theorem vA_v (H : Holds m c A) (t : Fin cfg0.N) (h0 : t.val % 16 = 0) (h1 : ¬t.val % 16 = 15) :
    out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) = lift2 (fun r d => (fin (pt A (t.val / 16) (t.val % 16)) (grid0.coords t 1).val (fun _ _ _ => 0)).v (d / 128) r (d % 128)) :=
  out10_A' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) _ _ _ _ _ _ _ (pt A (t.val / 16) (t.val % 16)) rfl (blk0 m c A H t) (blk1 m c A H t) (blk2 m c A H t) (blk3 m c A H t) (blk4 m c A H t) (blk5 m c A H t) (blk6 m c A H t)

/-- Case A: the same at the key block's number. -/
theorem lA_v (H : Holds m c A) (t : Fin cfg0.N) (h0 : t.val % 16 = 0) (h1 : ¬t.val % 16 = 15) :
    (outsAt0 m c t.val t.isLt).2.2.2.1 = lift2 (fun r d => (fin (pt A (t.val / 16) (t.val % 16)) (t.val % 16) (fun _ _ _ => 0)).v (d / 128) r (d % 128)) :=
  (eA_v m c t h0 h1).trans ((vA_v m c A H t h0 h1).trans (congrArg (fun j : ℕ => lift2 (fun r d => (fin (pt A (t.val / 16) (t.val % 16)) j (fun _ _ _ => 0)).v (d / 128) r (d % 128))) (co1 t)))

/-- Case A: this part of what the grid point leaves is the case's own function of the blocks. -/
theorem eA_dc (t : Fin cfg0.N) (h0 : t.val % 16 = 0) (h1 : ¬t.val % 16 = 15) :
    (outsAt0 m c t.val t.isLt).2.2.2.2.1 = out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) := by
  rw [outsAt0_A m c t h0 h1]

/-- Case A: this part of what the grid point leaves, in real numbers. -/
theorem vA_dc (H : Holds m c A) (t : Fin cfg0.N) (h0 : t.val % 16 = 0) (h1 : ¬t.val % 16 = 15) :
    out0_A_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) = lift3 (fun a _ r => -(fin (pt A (t.val / 16) (t.val % 16)) (grid0.coords t 1).val (fun _ _ _ => 0)).k a r 128) :=
  out11_A' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) _ _ _ _ _ _ _ (pt A (t.val / 16) (t.val % 16)) rfl (blk0 m c A H t) (blk1 m c A H t) (blk2 m c A H t) (blk3 m c A H t) (blk4 m c A H t) (blk5 m c A H t) (blk6 m c A H t)

/-- Case A: the same at the key block's number. -/
theorem lA_dc (H : Holds m c A) (t : Fin cfg0.N) (h0 : t.val % 16 = 0) (h1 : ¬t.val % 16 = 15) :
    (outsAt0 m c t.val t.isLt).2.2.2.2.1 = lift3 (fun a _ r => -(fin (pt A (t.val / 16) (t.val % 16)) (t.val % 16) (fun _ _ _ => 0)).k a r 128) :=
  (eA_dc m c t h0 h1).trans ((vA_dc m c A H t h0 h1).trans (congrArg (fun j : ℕ => lift3 (fun a _ r => -(fin (pt A (t.val / 16) (t.val % 16)) j (fun _ _ _ => 0)).k a r 128)) (co1 t)))

/-- Case A: this part of what the grid point leaves is the case's own function of the blocks. -/
theorem eA_sc (t : Fin cfg0.N) (h0 : t.val % 16 = 0) (h1 : ¬t.val % 16 = 15) :
    (outsAt0 m c t.val t.isLt).2.2.2.2.2 = sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) := by
  rw [outsAt0_A m c t h0 h1]

/-- Case A: this part of what the grid point leaves, in real numbers. -/
theorem vA_sc (H : Holds m c A) (t : Fin cfg0.N) (h0 : t.val % 16 = 0) (h1 : ¬t.val % 16 = 15) :
    sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) = lift3 (fin (pt A (t.val / 16) (t.val % 16)) (grid0.coords t 1).val (fun _ _ _ => 0)).D :=
  sout_A' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) _ _ _ _ _ _ _ (pt A (t.val / 16) (t.val % 16)) rfl (blk0 m c A H t) (blk1 m c A H t) (blk2 m c A H t) (blk3 m c A H t) (blk4 m c A H t) (blk5 m c A H t) (blk6 m c A H t)

/-- Case A: the same at the key block's number. -/
theorem lA_sc (H : Holds m c A) (t : Fin cfg0.N) (h0 : t.val % 16 = 0) (h1 : ¬t.val % 16 = 15) :
    (outsAt0 m c t.val t.isLt).2.2.2.2.2 = lift3 (fin (pt A (t.val / 16) (t.val % 16)) (t.val % 16) (fun _ _ _ => 0)).D :=
  (eA_sc m c t h0 h1).trans ((vA_sc m c A H t h0 h1).trans (congrArg (fun j : ℕ => lift3 (fin (pt A (t.val / 16) (t.val % 16)) j (fun _ _ _ => 0)).D) (co1 t)))

/-- Case A. -/
theorem left_A (H : Holds m c A) (t : Fin cfg0.N) (h0 : t.val % 16 = 0) (h1 : ¬t.val % 16 = 15) : Left m c A t (fun _ _ _ => 0) where
  k := lA_k m c A H t h0 h1
  v := lA_v m c A H t h0 h1
  dc := lA_dc m c A H t h0 h1
  sc := lA_sc m c A H t h0 h1
  q := fun h => absurd h h1
  r := fun h => absurd h h1

end Cert.KernelIdeal.Fox
-- ==== Proof.WordsB.lean ====
module

public import proofs.«01_k».proof.Proof.State
public import proofs.«01_k».proof.Proof.Gen.KernelIdeal.Frame
public import Idealize.ShloMosaic.Lib.WordCmp
public import Idealize.ShloMosaic.Lib.Pointwise
public import Idealize.ShloMosaic.Lib.WritesUnit

/-! What a grid point of case B leaves in its scratches. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

set_option maxHeartbeats 4000000
set_option pp.maxSteps 60

variable (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S8192x256 .bf16) (harg8 : arg8.IsWhole) (arg9 : Memref sig .tc .vmem S8192x256 .bf16) (harg9 : arg9.IsWhole) (arg10 : Memref sig .tc .vmem S2x1x8192 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S2x1x512 .f32) (harg13 : arg13.IsWhole) (arg14 : Memref sig .tc .vmem S2x8192x256 .f32) (harg14 : arg14.IsWhole) (arg15 : Memref sig .tc .vmem S2x512x256 .f32) (harg15 : arg15.IsWhole) (arg16 : Memref sig .tc .vmem S2x512x128 .f32) (harg16 : arg16.IsWhole) (arg17 : Memref sig .tc .vmem S2x512x512 .bf16) (harg17 : arg17.IsWhole) (arg18 : Memref sig .tc .vmem S2x512x512 .bf16) (harg18 : arg18.IsWhole)   (D : ℕ → ℕ → ℕ → ℝ) (I : In) (hE : I.E = fun _ c => if c < 3 then 1 else 0)
include hE

/-- A word of the last step as a table. -/
theorem v112_B : kernelRun0_B.sl.v112 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D) = lift3 (fun a b d => (aft I (i 1).val D).v (0 + a) (0 + b) (0 + d)) := by
  unfold kernelRun0_B.sl.v112
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after16 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact harg14.read_unread _
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3 _ _

/-- A word of the last step as a table. -/
theorem v114_B : kernelRun0_B.sl.v114 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D) = lift3 (fun a b d => (aft I (i 1).val D).p (0 + a) (0 + b) (0 + d)) := by
  unfold kernelRun0_B.sl.v114
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after17 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact harg14.read_unread _
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3b _ _

/-- A word of the last step as a table. -/
theorem v123_B : kernelRun0_B.sl.v123 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D) = lift3 (fun a b d => (aft I (i 1).val D).k (0 + a) (0 + b) (0 + d)) := by
  unfold kernelRun0_B.sl.v123
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after15 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact harg14.read_unread _
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3 _ _

/-- A word of the last step as a table. -/
theorem v125_B : kernelRun0_B.sl.v125 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D) = lift3 (fun a b d => (aft I (i 1).val D).s (0 + a) (0 + b) (0 + d)) := by
  unfold kernelRun0_B.sl.v125
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after18 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact harg14.read_unread _
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3b _ _

/-- A word of the last step as a table. -/
theorem v135_B : kernelRun0_B.sl.v135 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D) = lift3 (fun a b d => (aft I (i 1).val D).D (0 + a) (7680 + b) (0 + d)) := by
  unfold kernelRun0_B.sl.v135
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [after14 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact harg14.read_unread _
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3 _ _

/-- A word of the last step as a table. -/
theorem v149_B : kernelRun0_B.sl.v149 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D) = lift3 (fun a b d => (aft I (i 1).val D).p (1 + a) (0 + b) (0 + d)) := by
  unfold kernelRun0_B.sl.v149
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after17 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact harg14.read_unread _
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3b _ _

/-- A word of the last step as a table. -/
theorem v160_B : kernelRun0_B.sl.v160 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D) = lift3 (fun a b d => (aft I (i 1).val D).s (1 + a) (0 + b) (0 + d)) := by
  unfold kernelRun0_B.sl.v160
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after18 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact harg14.read_unread _
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3b _ _

/-- A scratch after the last step of one head, or of both. -/
theorem l15_B : arg15.view.read (Elt Ideal) (arg15.view.writes (Elt Ideal) arg15.view.junk (kernelRun0_B.sl.HS1_1_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D))) = lift3 (fun a r c => if a = 0 then trK 15 I.Q (aft I (i 1).val D).s (aft I (i 1).val D).k a r c else (aft I (i 1).val D).k a r c) := by
  unfold kernelRun0_B.sl.HS1_1_1
  refine (put3 _ _ _ (aft I (i 1).val D).k ?h 0 0 _ _ ?b ?w).trans ?c
  case h =>
    rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
    case hn2 => exact trips_t2 i
    simp only [List.nil_append]
    rw [View.writes_append]
    rw [after15 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
    case hn => exact trips_t1 i
    case h14 => exact harg14.read_unread _
    case h15 => exact full3 _ _ _ _ _ pay74_eq
    case h16 => exact full3 _ _ _ _ _ pay75_eq
    case h17 => exact diag_p I (i 1).val (i 1).isLt (rows_diag (i 1) ▸ rfl) (rows_diag (i 1) ▸ rfl) (harg2.read_unread _) (harg3.read_unread _) (harg5.read_unread _) (harg6.read_unread _) _
    case h18 =>
      refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
      rw [← hE]; rfl
    rfl
  case w =>
    rw [v123_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE, v125_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE]
    simp only [View.readAt_eq_ld]
    rw [harg5.read_unread, ld2]
    exact pay91_eq _ _ _
  case c =>
    refine lift3_congr fun a r c ha hr hc => ?_
    have ha' : a = 0 ∨ a = 1 := by omega
    rcases ha' with rfl | rfl
    · simp (disch := omega) [trK, trV, trD, hr, Nat.add_sub_cancel']
    · by_cases h7 : 7680 ≤ r
      · simp [trK, trV, trD, hr, h7, Nat.add_sub_cancel' h7]
      · simp [trK, trV, trD, hr, h7]

/-- A scratch after the last step of one head, or of both. -/
theorem w15_B : arg15.view.read (Elt Ideal) (arg15.view.writes (Elt Ideal) arg15.view.junk (kernelRun0_B.sl.HS1_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D))) = lift3 (fin I (i 1).val D).k := by
  unfold kernelRun0_B.sl.HS1_2 kernelRun0_B.sl.r_5 kernelRun0_B.sl.r_6 kernelRun0_B.sl.r_7 kernelRun0_B.sl.v158
  refine (put3 _ _ _ _ (l15_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE) 1 0 _ _ ?b ?w).trans ?c
  case w =>
    rw [v160_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE]
    simp only [View.readCov, View.readAt_eq_ld]
    rw [l15_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE, harg5.read_unread, ld2, ld3]
    exact pay98_eq _ _ _
  case c =>
    refine lift3_congr fun a r c ha hr hc => ?_
    show _ = (stStep I 15 (aft I (i 1).val D)).k a r c
    dsimp only [stStep]
    have ha' : a = 0 ∨ a = 1 := by omega
    rcases ha' with rfl | rfl
    · simp (disch := omega) [trK, trV, trD, hr, Nat.add_sub_cancel']
    · by_cases h7 : 7680 ≤ r
      · simp [trK, trV, trD, hr, h7, Nat.add_sub_cancel' h7]
      · simp [trK, trV, trD, hr, h7]

/-- A scratch after the last step of one head, or of both. -/
theorem l16_B : arg16.view.read (Elt Ideal) (arg16.view.writes (Elt Ideal) arg16.view.junk (kernelRun0_B.sl.HS2_1_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D))) = lift3 (fun a r c => if a = 0 then trV 15 I.DO (aft I (i 1).val D).p (aft I (i 1).val D).v a r c else (aft I (i 1).val D).v a r c) := by
  unfold kernelRun0_B.sl.HS2_1_1
  refine (put3 _ _ _ (aft I (i 1).val D).v ?h 0 0 _ _ ?b ?w).trans ?c
  case h =>
    rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
    case hn2 => exact trips_t2 i
    simp only [List.nil_append]
    rw [View.writes_append]
    rw [after16 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
    case hn => exact trips_t1 i
    case h14 => exact harg14.read_unread _
    case h15 => exact full3 _ _ _ _ _ pay74_eq
    case h16 => exact full3 _ _ _ _ _ pay75_eq
    case h17 => exact diag_p I (i 1).val (i 1).isLt (rows_diag (i 1) ▸ rfl) (rows_diag (i 1) ▸ rfl) (harg2.read_unread _) (harg3.read_unread _) (harg5.read_unread _) (harg6.read_unread _) _
    case h18 =>
      refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
      rw [← hE]; rfl
    rfl
  case w =>
    rw [v112_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE, v114_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE]
    simp only [View.readAt_eq_ld]
    rw [harg7.read_unread, ld2]
    exact pay90_eq _ _ _
  case c =>
    refine lift3_congr fun a r c ha hr hc => ?_
    have ha' : a = 0 ∨ a = 1 := by omega
    rcases ha' with rfl | rfl
    · simp (disch := omega) [trK, trV, trD, hr, Nat.add_sub_cancel']
    · by_cases h7 : 7680 ≤ r
      · simp [trK, trV, trD, hr, h7, Nat.add_sub_cancel' h7]
      · simp [trK, trV, trD, hr, h7]

/-- A scratch after the last step of one head, or of both. -/
theorem w16_B : arg16.view.read (Elt Ideal) (arg16.view.writes (Elt Ideal) arg16.view.junk (kernelRun0_B.sl.HS2_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D))) = lift3 (fin I (i 1).val D).v := by
  unfold kernelRun0_B.sl.HS2_2 kernelRun0_B.sl.v147
  refine (put3 _ _ _ _ (l16_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE) 1 0 _ _ ?b ?w).trans ?c
  case w =>
    rw [v149_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE]
    simp only [View.readCov, View.readAt_eq_ld]
    rw [l16_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE, harg7.read_unread, ld2, ld3]
    exact pay94_eq _ _ _
  case c =>
    refine lift3_congr fun a r c ha hr hc => ?_
    show _ = (stStep I 15 (aft I (i 1).val D)).v a r c
    dsimp only [stStep]
    have ha' : a = 0 ∨ a = 1 := by omega
    rcases ha' with rfl | rfl
    · simp (disch := omega) [trK, trV, trD, hr, Nat.add_sub_cancel']
    · by_cases h7 : 7680 ≤ r
      · simp [trK, trV, trD, hr, h7, Nat.add_sub_cancel' h7]
      · simp [trK, trV, trD, hr, h7]

/-- A scratch after the last step of one head, or of both. -/
theorem l14_B : arg14.view.read (Elt Ideal) (arg14.view.writes (Elt Ideal) (harg14.unread (lift3 D)) (kernelRun0_B.sl.HS0_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D))) = lift3 (fun a r c => if a = 0 then trD 15 I.K (aft I (i 1).val D).s (aft I (i 1).val D).D a r c else (aft I (i 1).val D).D a r c) := by
  unfold kernelRun0_B.sl.HS0_1 kernelRun0_B.sl.r_4
  refine (put3 _ _ _ (aft I (i 1).val D).D ?h 0 7680 _ _ ?b ?w).trans ?c
  case h =>
    rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
    case hn2 => exact trips_t2 i
    simp only [List.nil_append]

    rw [after14 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
    case hn => exact trips_t1 i
    case h14 => exact harg14.read_unread _
    case h15 => exact full3 _ _ _ _ _ pay74_eq
    case h16 => exact full3 _ _ _ _ _ pay75_eq
    case h17 => exact diag_p I (i 1).val (i 1).isLt (rows_diag (i 1) ▸ rfl) (rows_diag (i 1) ▸ rfl) (harg2.read_unread _) (harg3.read_unread _) (harg5.read_unread _) (harg6.read_unread _) _
    case h18 =>
      refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
      rw [← hE]; rfl
    rfl
  case w =>
    rw [v135_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE, v125_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE]
    simp only [View.readAt_eq_ld]
    rw [harg2.read_unread, ld2]
    exact pay93_eq _ _ _
  case c =>
    refine lift3_congr fun a r c ha hr hc => ?_
    have ha' : a = 0 ∨ a = 1 := by omega
    rcases ha' with rfl | rfl
    · simp (disch := omega) [trK, trV, trD, hr, Nat.add_sub_cancel']
    · by_cases h7 : 7680 ≤ r
      · simp [trK, trV, trD, hr, h7, Nat.add_sub_cancel' h7]
      · simp [trK, trV, trD, hr, h7]

end Cert.KernelIdeal.Fox
-- ==== Proof.OutB.lean ====
module

public import proofs.«01_k».proof.Proof.WordsB
public import proofs.«01_k».proof.Proof.Outs
public import proofs.«01_k».proof.Proof.Gen.KernelIdeal.Frame
public import Idealize.ShloMosaic.Lib.WordCmp
public import Idealize.ShloMosaic.Lib.Pointwise
public import Idealize.ShloMosaic.Lib.WritesUnit

/-! What a grid point of case B leaves in its output blocks and in the carried scratch. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

set_option maxHeartbeats 4000000
set_option pp.maxSteps 300

variable (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S8192x256 .bf16) (harg8 : arg8.IsWhole) (arg9 : Memref sig .tc .vmem S8192x256 .bf16) (harg9 : arg9.IsWhole) (arg10 : Memref sig .tc .vmem S2x1x8192 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S2x1x512 .f32) (harg13 : arg13.IsWhole) (arg14 : Memref sig .tc .vmem S2x8192x256 .f32) (harg14 : arg14.IsWhole) (arg15 : Memref sig .tc .vmem S2x512x256 .f32) (harg15 : arg15.IsWhole) (arg16 : Memref sig .tc .vmem S2x512x128 .f32) (harg16 : arg16.IsWhole) (arg17 : Memref sig .tc .vmem S2x512x512 .bf16) (harg17 : arg17.IsWhole) (arg18 : Memref sig .tc .vmem S2x512x512 .bf16) (harg18 : arg18.IsWhole) (hc0 : ¬cond0_0 i) (hc1 : ¬cond0_1 i) (D : ℕ → ℕ → ℕ → ℝ) (I : In) (hE : I.E = fun _ c => if c < 3 then 1 else 0)
include hE

/-- Output block 9. -/
theorem out9_B : out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (lift2 I.K) (lift2 I.KA) (lift2 I.V) (lift2 I.Q) (lift2 I.QA) (lift2 I.DO) (lift2 I.DA) (lift3 D) = lift2 (fun r c => (fin I (i 1).val D).k (c / 128) r (c % 128) * Real.log 2) := by
  unfold out0_B_9 kernelRun0_B
  dsimp only
  unfold kernelRun0_B.sl.v201 kernelRun0_B.sl.v182
  simp only [View.readCov, View.readAt_eq_ld]
  rw [(w15_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE), ld3, ld3]
  refine (two2 _ _ _ _ _ _ _ _ (pay103_eq _) (pay100_eq _)).trans ?_
  refine lift2_congr fun r c hr hc => ?_
  by_cases h : c < 128
  · simp [h, Nat.div_eq_of_lt h, Nat.mod_eq_of_lt h]
  · simp [h, Nat.not_lt.mp h, show ¬c / 128 = 0 by omega, show c / 128 = 1 by omega, show c % 128 = c - 128 by omega]

/-- Output block 10. -/
theorem out10_B : out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (lift2 I.K) (lift2 I.KA) (lift2 I.V) (lift2 I.Q) (lift2 I.QA) (lift2 I.DO) (lift2 I.DA) (lift3 D) = lift2 (fun r c => (fin I (i 1).val D).v (c / 128) r (c % 128)) := by
  unfold out0_B_10 kernelRun0_B
  dsimp only
  unfold kernelRun0_B.sl.v207 kernelRun0_B.sl.v188
  simp only [View.readCov, View.readAt_eq_ld]
  rw [(w16_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE), ld3, ld3]
  refine (two2 _ _ _ _ _ _ _ _ (pay104_eq _) (pay101_eq _)).trans ?_
  refine lift2_congr fun r c hr hc => ?_
  by_cases h : c < 128
  · simp [h, Nat.div_eq_of_lt h, Nat.mod_eq_of_lt h]
  · simp [h, Nat.not_lt.mp h, show ¬c / 128 = 0 by omega, show c / 128 = 1 by omega, show c % 128 = c - 128 by omega]

/-- Output block 11. -/
theorem out11_B : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (lift2 I.K) (lift2 I.KA) (lift2 I.V) (lift2 I.Q) (lift2 I.QA) (lift2 I.DO) (lift2 I.DA) (lift3 D) = lift3 (fun a _ r => -(fin I (i 1).val D).k a r 128) := by
  unfold out0_B_11 kernelRun0_B
  dsimp only
  unfold kernelRun0_B.sl.v211 kernelRun0_B.sl.v192
  simp only [View.readCov, View.readAt_eq_ld]
  rw [(w15_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE), ld3, ld3]
  refine (two3 _ _ _ _ _ _ _ _ (pay105_eq _) (pay102_eq _)).trans ?_
  refine lift3_congr fun a b r ha hb hr => ?_
  have ha' : a = 0 ∨ a = 1 := by omega
  rcases ha' with rfl | rfl <;> simp

/-- The carried scratch after the point. -/
theorem sout_B : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (lift2 I.K) (lift2 I.KA) (lift2 I.V) (lift2 I.Q) (lift2 I.QA) (lift2 I.DO) (lift2 I.DA) (lift3 D) = lift3 (fin I (i 1).val D).D := by
  unfold sout0_B_0
  unfold kernelRun0_B
  dsimp only
  unfold kernelRun0_B.sl.v170
  refine (put3 _ _ _ _ (l14_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE) 1 7680 _ _ ?b ?w).trans ?c
  case w =>
    rw [(v160_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE)]
    simp only [View.readCov, View.readAt_eq_ld]
    rw [(l14_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE), harg2.read_unread, ld2, ld3]
    exact pay99_eq _ _ _
  case c =>
    refine lift3_congr fun a r c ha hr hc => ?_
    show _ = (stStep I 15 (aft I (i 1).val D)).D a r c
    dsimp only [stStep]
    have ha' : a = 0 ∨ a = 1 := by omega
    rcases ha' with rfl | rfl
    · simp (disch := omega) [trK, trV, trD, hr, Nat.add_sub_cancel']
    · by_cases h7 : 7680 ≤ r
      · simp [trK, trV, trD, hr, h7, Nat.add_sub_cancel' h7]
      · simp [trK, trV, trD, hr, h7]

omit hE in
/-- Output block 9. The blocks given by equations. -/
theorem out9_B' (x0 : Vec Ideal S512x256 .bf16) (x1 : Vec Ideal S512x256 .bf16) (x2 : Vec Ideal S512x256 .bf16) (x3 : Vec Ideal S8192x256 .bf16) (x4 : Vec Ideal S8192x256 .bf16) (x5 : Vec Ideal S8192x256 .bf16) (x6 : Vec Ideal S8192x256 .bf16) (x7 : Vec Ideal S2x8192x256 .f32) (D : ℕ → ℕ → ℕ → ℝ) (I : In) (hE : I.E = fun _ c => if c < 3 then 1 else 0) (h0 : x0 = lift2 I.K) (h1 : x1 = lift2 I.KA) (h2 : x2 = lift2 I.V) (h3 : x3 = lift2 I.Q) (h4 : x4 = lift2 I.QA) (h5 : x5 = lift2 I.DO) (h6 : x6 = lift2 I.DA) (h7 : x7 = lift3 D) : out0_B_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 = lift2 (fun r c => (fin I (i 1).val D).k (c / 128) r (c % 128) * Real.log 2) := by
  subst h0 h1 h2 h3 h4 h5 h6 h7
  exact out9_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 D I hE

omit hE in
/-- Output block 10. The blocks given by equations. -/
theorem out10_B' (x0 : Vec Ideal S512x256 .bf16) (x1 : Vec Ideal S512x256 .bf16) (x2 : Vec Ideal S512x256 .bf16) (x3 : Vec Ideal S8192x256 .bf16) (x4 : Vec Ideal S8192x256 .bf16) (x5 : Vec Ideal S8192x256 .bf16) (x6 : Vec Ideal S8192x256 .bf16) (x7 : Vec Ideal S2x8192x256 .f32) (D : ℕ → ℕ → ℕ → ℝ) (I : In) (hE : I.E = fun _ c => if c < 3 then 1 else 0) (h0 : x0 = lift2 I.K) (h1 : x1 = lift2 I.KA) (h2 : x2 = lift2 I.V) (h3 : x3 = lift2 I.Q) (h4 : x4 = lift2 I.QA) (h5 : x5 = lift2 I.DO) (h6 : x6 = lift2 I.DA) (h7 : x7 = lift3 D) : out0_B_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 = lift2 (fun r c => (fin I (i 1).val D).v (c / 128) r (c % 128)) := by
  subst h0 h1 h2 h3 h4 h5 h6 h7
  exact out10_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 D I hE

omit hE in
/-- Output block 11. The blocks given by equations. -/
theorem out11_B' (x0 : Vec Ideal S512x256 .bf16) (x1 : Vec Ideal S512x256 .bf16) (x2 : Vec Ideal S512x256 .bf16) (x3 : Vec Ideal S8192x256 .bf16) (x4 : Vec Ideal S8192x256 .bf16) (x5 : Vec Ideal S8192x256 .bf16) (x6 : Vec Ideal S8192x256 .bf16) (x7 : Vec Ideal S2x8192x256 .f32) (D : ℕ → ℕ → ℕ → ℝ) (I : In) (hE : I.E = fun _ c => if c < 3 then 1 else 0) (h0 : x0 = lift2 I.K) (h1 : x1 = lift2 I.KA) (h2 : x2 = lift2 I.V) (h3 : x3 = lift2 I.Q) (h4 : x4 = lift2 I.QA) (h5 : x5 = lift2 I.DO) (h6 : x6 = lift2 I.DA) (h7 : x7 = lift3 D) : out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 = lift3 (fun a _ r => -(fin I (i 1).val D).k a r 128) := by
  subst h0 h1 h2 h3 h4 h5 h6 h7
  exact out11_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 D I hE

omit hE in
/-- The carried scratch after the point. The blocks given by equations. -/
theorem sout_B' (x0 : Vec Ideal S512x256 .bf16) (x1 : Vec Ideal S512x256 .bf16) (x2 : Vec Ideal S512x256 .bf16) (x3 : Vec Ideal S8192x256 .bf16) (x4 : Vec Ideal S8192x256 .bf16) (x5 : Vec Ideal S8192x256 .bf16) (x6 : Vec Ideal S8192x256 .bf16) (x7 : Vec Ideal S2x8192x256 .f32) (D : ℕ → ℕ → ℕ → ℝ) (I : In) (hE : I.E = fun _ c => if c < 3 then 1 else 0) (h0 : x0 = lift2 I.K) (h1 : x1 = lift2 I.KA) (h2 : x2 = lift2 I.V) (h3 : x3 = lift2 I.Q) (h4 : x4 = lift2 I.QA) (h5 : x5 = lift2 I.DO) (h6 : x6 = lift2 I.DA) (h7 : x7 = lift3 D) : sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 = lift3 (fin I (i 1).val D).D := by
  subst h0 h1 h2 h3 h4 h5 h6 h7
  exact sout_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 D I hE

end Cert.KernelIdeal.Fox
-- ==== Proof.LeftB.lean ====
module

public import proofs.«01_k».proof.Proof.Blocks
public import proofs.«01_k».proof.Proof.OutB
public import proofs.«01_k».proof.Proof.Gen.KernelIdeal.Frame
public import Idealize.ShloMosaic.Lib.WordCmp
public import Idealize.ShloMosaic.Lib.Pointwise
public import Idealize.ShloMosaic.Lib.WritesUnit

/-! What a grid point of case B leaves, from the blocks it reads. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

set_option maxHeartbeats 4000000
set_option pp.maxSteps 2000

variable (m : (ℓ : Loc nD τ sig) → Buf (Elt Ideal) ℓ) (c : Dev nD) (A : Arr)

/-- Case B: this part of what the grid point leaves is the case's own function of the blocks. -/
theorem eB_k (t : Fin cfg0.N) (h0 : ¬t.val % 16 = 0) (h1 : ¬t.val % 16 = 15) :
    (outsAt0 m c t.val t.isLt).2.2.1 = out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 := by
  rw [outsAt0_B m c t h0 h1]

/-- Case B: this part of what the grid point leaves, in real numbers. -/
theorem vB_k (H : Holds m c A) (t : Fin cfg0.N) (h0 : ¬t.val % 16 = 0) (h1 : ¬t.val % 16 = 15) (D : ℕ → ℕ → ℕ → ℝ) (hD : (outsAt0 m c (t.val - 1) (Nat.lt_of_le_of_lt (Nat.sub_le _ _) t.isLt)).2.2.2.2.2 = lift3 D) :
    out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 = lift2 (fun r d => (fin (pt A (t.val / 16) (t.val % 16)) (grid0.coords t 1).val D).k (d / 128) r (d % 128) * Real.log 2) :=
  out9_B' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) _ _ _ _ _ _ _ _ D (pt A (t.val / 16) (t.val % 16)) rfl (blk0 m c A H t) (blk1 m c A H t) (blk2 m c A H t) (blk3 m c A H t) (blk4 m c A H t) (blk5 m c A H t) (blk6 m c A H t) hD

/-- Case B: the same at the key block's number. -/
theorem lB_k (H : Holds m c A) (t : Fin cfg0.N) (h0 : ¬t.val % 16 = 0) (h1 : ¬t.val % 16 = 15) (D : ℕ → ℕ → ℕ → ℝ) (hD : (outsAt0 m c (t.val - 1) (Nat.lt_of_le_of_lt (Nat.sub_le _ _) t.isLt)).2.2.2.2.2 = lift3 D) :
    (outsAt0 m c t.val t.isLt).2.2.1 = lift2 (fun r d => (fin (pt A (t.val / 16) (t.val % 16)) (t.val % 16) D).k (d / 128) r (d % 128) * Real.log 2) :=
  (eB_k m c t h0 h1).trans ((vB_k m c A H t h0 h1 D hD).trans (congrArg (fun j : ℕ => lift2 (fun r d => (fin (pt A (t.val / 16) (t.val % 16)) j D).k (d / 128) r (d % 128) * Real.log 2)) (co1 t)))

/-- Case B: this part of what the grid point leaves is the case's own function of the blocks. -/
theorem eB_v (t : Fin cfg0.N) (h0 : ¬t.val % 16 = 0) (h1 : ¬t.val % 16 = 15) :
    (outsAt0 m c t.val t.isLt).2.2.2.1 = out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 := by
  rw [outsAt0_B m c t h0 h1]

/-- Case B: this part of what the grid point leaves, in real numbers. -/
theorem vB_v (H : Holds m c A) (t : Fin cfg0.N) (h0 : ¬t.val % 16 = 0) (h1 : ¬t.val % 16 = 15) (D : ℕ → ℕ → ℕ → ℝ) (hD : (outsAt0 m c (t.val - 1) (Nat.lt_of_le_of_lt (Nat.sub_le _ _) t.isLt)).2.2.2.2.2 = lift3 D) :
    out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 = lift2 (fun r d => (fin (pt A (t.val / 16) (t.val % 16)) (grid0.coords t 1).val D).v (d / 128) r (d % 128)) :=
  out10_B' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) _ _ _ _ _ _ _ _ D (pt A (t.val / 16) (t.val % 16)) rfl (blk0 m c A H t) (blk1 m c A H t) (blk2 m c A H t) (blk3 m c A H t) (blk4 m c A H t) (blk5 m c A H t) (blk6 m c A H t) hD

/-- Case B: the same at the key block's number. -/
theorem lB_v (H : Holds m c A) (t : Fin cfg0.N) (h0 : ¬t.val % 16 = 0) (h1 : ¬t.val % 16 = 15) (D : ℕ → ℕ → ℕ → ℝ) (hD : (outsAt0 m c (t.val - 1) (Nat.lt_of_le_of_lt (Nat.sub_le _ _) t.isLt)).2.2.2.2.2 = lift3 D) :
    (outsAt0 m c t.val t.isLt).2.2.2.1 = lift2 (fun r d => (fin (pt A (t.val / 16) (t.val % 16)) (t.val % 16) D).v (d / 128) r (d % 128)) :=
  (eB_v m c t h0 h1).trans ((vB_v m c A H t h0 h1 D hD).trans (congrArg (fun j : ℕ => lift2 (fun r d => (fin (pt A (t.val / 16) (t.val % 16)) j D).v (d / 128) r (d % 128))) (co1 t)))

/-- Case B: this part of what the grid point leaves is the case's own function of the blocks. -/
theorem eB_dc (t : Fin cfg0.N) (h0 : ¬t.val % 16 = 0) (h1 : ¬t.val % 16 = 15) :
    (outsAt0 m c t.val t.isLt).2.2.2.2.1 = out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 := by
  rw [outsAt0_B m c t h0 h1]

/-- Case B: this part of what the grid point leaves, in real numbers. -/
theorem vB_dc (H : Holds m c A) (t : Fin cfg0.N) (h0 : ¬t.val % 16 = 0) (h1 : ¬t.val % 16 = 15) (D : ℕ → ℕ → ℕ → ℝ) (hD : (outsAt0 m c (t.val - 1) (Nat.lt_of_le_of_lt (Nat.sub_le _ _) t.isLt)).2.2.2.2.2 = lift3 D) :
    out0_B_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 = lift3 (fun a _ r => -(fin (pt A (t.val / 16) (t.val % 16)) (grid0.coords t 1).val D).k a r 128) :=
  out11_B' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) _ _ _ _ _ _ _ _ D (pt A (t.val / 16) (t.val % 16)) rfl (blk0 m c A H t) (blk1 m c A H t) (blk2 m c A H t) (blk3 m c A H t) (blk4 m c A H t) (blk5 m c A H t) (blk6 m c A H t) hD

/-- Case B: the same at the key block's number. -/
theorem lB_dc (H : Holds m c A) (t : Fin cfg0.N) (h0 : ¬t.val % 16 = 0) (h1 : ¬t.val % 16 = 15) (D : ℕ → ℕ → ℕ → ℝ) (hD : (outsAt0 m c (t.val - 1) (Nat.lt_of_le_of_lt (Nat.sub_le _ _) t.isLt)).2.2.2.2.2 = lift3 D) :
    (outsAt0 m c t.val t.isLt).2.2.2.2.1 = lift3 (fun a _ r => -(fin (pt A (t.val / 16) (t.val % 16)) (t.val % 16) D).k a r 128) :=
  (eB_dc m c t h0 h1).trans ((vB_dc m c A H t h0 h1 D hD).trans (congrArg (fun j : ℕ => lift3 (fun a _ r => -(fin (pt A (t.val / 16) (t.val % 16)) j D).k a r 128)) (co1 t)))

/-- Case B: this part of what the grid point leaves is the case's own function of the blocks. -/
theorem eB_sc (t : Fin cfg0.N) (h0 : ¬t.val % 16 = 0) (h1 : ¬t.val % 16 = 15) :
    (outsAt0 m c t.val t.isLt).2.2.2.2.2 = sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 := by
  rw [outsAt0_B m c t h0 h1]

/-- Case B: this part of what the grid point leaves, in real numbers. -/
theorem vB_sc (H : Holds m c A) (t : Fin cfg0.N) (h0 : ¬t.val % 16 = 0) (h1 : ¬t.val % 16 = 15) (D : ℕ → ℕ → ℕ → ℝ) (hD : (outsAt0 m c (t.val - 1) (Nat.lt_of_le_of_lt (Nat.sub_le _ _) t.isLt)).2.2.2.2.2 = lift3 D) :
    sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 = lift3 (fin (pt A (t.val / 16) (t.val % 16)) (grid0.coords t 1).val D).D :=
  sout_B' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) _ _ _ _ _ _ _ _ D (pt A (t.val / 16) (t.val % 16)) rfl (blk0 m c A H t) (blk1 m c A H t) (blk2 m c A H t) (blk3 m c A H t) (blk4 m c A H t) (blk5 m c A H t) (blk6 m c A H t) hD

/-- Case B: the same at the key block's number. -/
theorem lB_sc (H : Holds m c A) (t : Fin cfg0.N) (h0 : ¬t.val % 16 = 0) (h1 : ¬t.val % 16 = 15) (D : ℕ → ℕ → ℕ → ℝ) (hD : (outsAt0 m c (t.val - 1) (Nat.lt_of_le_of_lt (Nat.sub_le _ _) t.isLt)).2.2.2.2.2 = lift3 D) :
    (outsAt0 m c t.val t.isLt).2.2.2.2.2 = lift3 (fin (pt A (t.val / 16) (t.val % 16)) (t.val % 16) D).D :=
  (eB_sc m c t h0 h1).trans ((vB_sc m c A H t h0 h1 D hD).trans (congrArg (fun j : ℕ => lift3 (fin (pt A (t.val / 16) (t.val % 16)) j D).D) (co1 t)))

/-- Case B. -/
theorem left_B (H : Holds m c A) (t : Fin cfg0.N) (h0 : ¬t.val % 16 = 0) (h1 : ¬t.val % 16 = 15) (D : ℕ → ℕ → ℕ → ℝ) (hD : (outsAt0 m c (t.val - 1) (Nat.lt_of_le_of_lt (Nat.sub_le _ _) t.isLt)).2.2.2.2.2 = lift3 D) : Left m c A t D where
  k := lB_k m c A H t h0 h1 D hD
  v := lB_v m c A H t h0 h1 D hD
  dc := lB_dc m c A H t h0 h1 D hD
  sc := lB_sc m c A H t h0 h1 D hD
  q := fun h => absurd h h1
  r := fun h => absurd h h1

end Cert.KernelIdeal.Fox
-- ==== Proof.WordsC.lean ====
module

public import proofs.«01_k».proof.Proof.State
public import proofs.«01_k».proof.Proof.Gen.KernelIdeal.Frame
public import Idealize.ShloMosaic.Lib.WordCmp
public import Idealize.ShloMosaic.Lib.Pointwise
public import Idealize.ShloMosaic.Lib.WritesUnit

/-! What a grid point of case C leaves in its scratches. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

set_option maxHeartbeats 4000000
set_option pp.maxSteps 60

variable (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S8192x256 .bf16) (harg8 : arg8.IsWhole) (arg9 : Memref sig .tc .vmem S8192x256 .bf16) (harg9 : arg9.IsWhole) (arg10 : Memref sig .tc .vmem S2x1x8192 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S2x1x512 .f32) (harg13 : arg13.IsWhole) (arg14 : Memref sig .tc .vmem S2x8192x256 .f32) (harg14 : arg14.IsWhole) (arg15 : Memref sig .tc .vmem S2x512x256 .f32) (harg15 : arg15.IsWhole) (arg16 : Memref sig .tc .vmem S2x512x128 .f32) (harg16 : arg16.IsWhole) (arg17 : Memref sig .tc .vmem S2x512x512 .bf16) (harg17 : arg17.IsWhole) (arg18 : Memref sig .tc .vmem S2x512x512 .bf16) (harg18 : arg18.IsWhole)   (D : ℕ → ℕ → ℕ → ℝ) (I : In) (hE : I.E = fun _ c => if c < 3 then 1 else 0)
include hE

/-- A word of the last step as a table. -/
theorem v112_C : kernelRun0_C.sl.v112 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D) = lift3 (fun a b d => (aft I (i 1).val D).v (0 + a) (0 + b) (0 + d)) := by
  unfold kernelRun0_C.sl.v112
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after16 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact harg14.read_unread _
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3 _ _

/-- A word of the last step as a table. -/
theorem v114_C : kernelRun0_C.sl.v114 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D) = lift3 (fun a b d => (aft I (i 1).val D).p (0 + a) (0 + b) (0 + d)) := by
  unfold kernelRun0_C.sl.v114
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after17 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact harg14.read_unread _
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3b _ _

/-- A word of the last step as a table. -/
theorem v123_C : kernelRun0_C.sl.v123 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D) = lift3 (fun a b d => (aft I (i 1).val D).k (0 + a) (0 + b) (0 + d)) := by
  unfold kernelRun0_C.sl.v123
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after15 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact harg14.read_unread _
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3 _ _

/-- A word of the last step as a table. -/
theorem v125_C : kernelRun0_C.sl.v125 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D) = lift3 (fun a b d => (aft I (i 1).val D).s (0 + a) (0 + b) (0 + d)) := by
  unfold kernelRun0_C.sl.v125
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after18 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact harg14.read_unread _
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3b _ _

/-- A word of the last step as a table. -/
theorem v135_C : kernelRun0_C.sl.v135 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D) = lift3 (fun a b d => (aft I (i 1).val D).D (0 + a) (7680 + b) (0 + d)) := by
  unfold kernelRun0_C.sl.v135
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [after14 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact harg14.read_unread _
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3 _ _

/-- A word of the last step as a table. -/
theorem v149_C : kernelRun0_C.sl.v149 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D) = lift3 (fun a b d => (aft I (i 1).val D).p (1 + a) (0 + b) (0 + d)) := by
  unfold kernelRun0_C.sl.v149
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after17 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact harg14.read_unread _
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3b _ _

/-- A word of the last step as a table. -/
theorem v160_C : kernelRun0_C.sl.v160 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D) = lift3 (fun a b d => (aft I (i 1).val D).s (1 + a) (0 + b) (0 + d)) := by
  unfold kernelRun0_C.sl.v160
  rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
  case hn2 => exact trips_t2 i
  simp only [List.nil_append, View.readCov, View.readAt_eq_ld]
  rw [View.writes_append]
  rw [after18 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
  case hn => exact trips_t1 i
  case h14 => exact harg14.read_unread _
  case h15 => exact full3 _ _ _ _ _ pay74_eq
  case h16 => exact full3 _ _ _ _ _ pay75_eq
  case h17 => exact diag_p I (i 1).val (i 1).isLt (rows_diag (i 1) ▸ rfl) (rows_diag (i 1) ▸ rfl) (harg2.read_unread _) (harg3.read_unread _) (harg5.read_unread _) (harg6.read_unread _) _
  case h18 =>
    refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
    rw [← hE]; rfl
  exact ld3b _ _

/-- A scratch after the last step of one head, or of both. -/
theorem l15_C : arg15.view.read (Elt Ideal) (arg15.view.writes (Elt Ideal) arg15.view.junk (kernelRun0_C.sl.HS1_1_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D))) = lift3 (fun a r c => if a = 0 then trK 15 I.Q (aft I (i 1).val D).s (aft I (i 1).val D).k a r c else (aft I (i 1).val D).k a r c) := by
  unfold kernelRun0_C.sl.HS1_1_1
  refine (put3 _ _ _ (aft I (i 1).val D).k ?h 0 0 _ _ ?b ?w).trans ?c
  case h =>
    rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
    case hn2 => exact trips_t2 i
    simp only [List.nil_append]
    rw [View.writes_append]
    rw [after15 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
    case hn => exact trips_t1 i
    case h14 => exact harg14.read_unread _
    case h15 => exact full3 _ _ _ _ _ pay74_eq
    case h16 => exact full3 _ _ _ _ _ pay75_eq
    case h17 => exact diag_p I (i 1).val (i 1).isLt (rows_diag (i 1) ▸ rfl) (rows_diag (i 1) ▸ rfl) (harg2.read_unread _) (harg3.read_unread _) (harg5.read_unread _) (harg6.read_unread _) _
    case h18 =>
      refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
      rw [← hE]; rfl
    rfl
  case w =>
    rw [v123_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE, v125_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE]
    simp only [View.readAt_eq_ld]
    rw [harg5.read_unread, ld2]
    exact pay91_eq _ _ _
  case c =>
    refine lift3_congr fun a r c ha hr hc => ?_
    have ha' : a = 0 ∨ a = 1 := by omega
    rcases ha' with rfl | rfl
    · simp (disch := omega) [trK, trV, trD, hr, Nat.add_sub_cancel']
    · by_cases h7 : 7680 ≤ r
      · simp [trK, trV, trD, hr, h7, Nat.add_sub_cancel' h7]
      · simp [trK, trV, trD, hr, h7]

/-- A scratch after the last step of one head, or of both. -/
theorem w15_C : arg15.view.read (Elt Ideal) (arg15.view.writes (Elt Ideal) arg15.view.junk (kernelRun0_C.sl.HS1_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D))) = lift3 (fin I (i 1).val D).k := by
  unfold kernelRun0_C.sl.HS1_2 kernelRun0_C.sl.r_5 kernelRun0_C.sl.r_6 kernelRun0_C.sl.r_7 kernelRun0_C.sl.v158
  refine (put3 _ _ _ _ (l15_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE) 1 0 _ _ ?b ?w).trans ?c
  case w =>
    rw [v160_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE]
    simp only [View.readCov, View.readAt_eq_ld]
    rw [l15_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE, harg5.read_unread, ld2, ld3]
    exact pay98_eq _ _ _
  case c =>
    refine lift3_congr fun a r c ha hr hc => ?_
    show _ = (stStep I 15 (aft I (i 1).val D)).k a r c
    dsimp only [stStep]
    have ha' : a = 0 ∨ a = 1 := by omega
    rcases ha' with rfl | rfl
    · simp (disch := omega) [trK, trV, trD, hr, Nat.add_sub_cancel']
    · by_cases h7 : 7680 ≤ r
      · simp [trK, trV, trD, hr, h7, Nat.add_sub_cancel' h7]
      · simp [trK, trV, trD, hr, h7]

/-- A scratch after the last step of one head, or of both. -/
theorem l16_C : arg16.view.read (Elt Ideal) (arg16.view.writes (Elt Ideal) arg16.view.junk (kernelRun0_C.sl.HS2_1_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D))) = lift3 (fun a r c => if a = 0 then trV 15 I.DO (aft I (i 1).val D).p (aft I (i 1).val D).v a r c else (aft I (i 1).val D).v a r c) := by
  unfold kernelRun0_C.sl.HS2_1_1
  refine (put3 _ _ _ (aft I (i 1).val D).v ?h 0 0 _ _ ?b ?w).trans ?c
  case h =>
    rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
    case hn2 => exact trips_t2 i
    simp only [List.nil_append]
    rw [View.writes_append]
    rw [after16 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
    case hn => exact trips_t1 i
    case h14 => exact harg14.read_unread _
    case h15 => exact full3 _ _ _ _ _ pay74_eq
    case h16 => exact full3 _ _ _ _ _ pay75_eq
    case h17 => exact diag_p I (i 1).val (i 1).isLt (rows_diag (i 1) ▸ rfl) (rows_diag (i 1) ▸ rfl) (harg2.read_unread _) (harg3.read_unread _) (harg5.read_unread _) (harg6.read_unread _) _
    case h18 =>
      refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
      rw [← hE]; rfl
    rfl
  case w =>
    rw [v112_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE, v114_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE]
    simp only [View.readAt_eq_ld]
    rw [harg7.read_unread, ld2]
    exact pay90_eq _ _ _
  case c =>
    refine lift3_congr fun a r c ha hr hc => ?_
    have ha' : a = 0 ∨ a = 1 := by omega
    rcases ha' with rfl | rfl
    · simp (disch := omega) [trK, trV, trD, hr, Nat.add_sub_cancel']
    · by_cases h7 : 7680 ≤ r
      · simp [trK, trV, trD, hr, h7, Nat.add_sub_cancel' h7]
      · simp [trK, trV, trD, hr, h7]

/-- A scratch after the last step of one head, or of both. -/
theorem w16_C : arg16.view.read (Elt Ideal) (arg16.view.writes (Elt Ideal) arg16.view.junk (kernelRun0_C.sl.HS2_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D))) = lift3 (fin I (i 1).val D).v := by
  unfold kernelRun0_C.sl.HS2_2 kernelRun0_C.sl.v147
  refine (put3 _ _ _ _ (l16_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE) 1 0 _ _ ?b ?w).trans ?c
  case w =>
    rw [v149_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE]
    simp only [View.readCov, View.readAt_eq_ld]
    rw [l16_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE, harg7.read_unread, ld2, ld3]
    exact pay94_eq _ _ _
  case c =>
    refine lift3_congr fun a r c ha hr hc => ?_
    show _ = (stStep I 15 (aft I (i 1).val D)).v a r c
    dsimp only [stStep]
    have ha' : a = 0 ∨ a = 1 := by omega
    rcases ha' with rfl | rfl
    · simp (disch := omega) [trK, trV, trD, hr, Nat.add_sub_cancel']
    · by_cases h7 : 7680 ≤ r
      · simp [trK, trV, trD, hr, h7, Nat.add_sub_cancel' h7]
      · simp [trK, trV, trD, hr, h7]

/-- A scratch after the last step of one head, or of both. -/
theorem l14_C : arg14.view.read (Elt Ideal) (arg14.view.writes (Elt Ideal) (harg14.unread (lift3 D)) (kernelRun0_C.sl.HS0_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D))) = lift3 (fun a r c => if a = 0 then trD 15 I.K (aft I (i 1).val D).s (aft I (i 1).val D).D a r c else (aft I (i 1).val D).D a r c) := by
  unfold kernelRun0_C.sl.HS0_1 kernelRun0_C.sl.r_4
  refine (put3 _ _ _ (aft I (i 1).val D).D ?h 0 7680 _ _ ?b ?w).trans ?c
  case h =>
    rw [pb2_nil _ _ _ _ _ _ _ _ _ _ _ _ _ _ _ _ _ _ _ _ _ _ _ _ _ _ _ _ _ _ _ _ _ _ _ _ _ _ _ _ _ _ _ _ _ _ _ _ _ _ _ _ _ _ _ _ _ ?hn2]
    case hn2 => exact trips_t2 i
    simp only [List.nil_append]

    rw [after14 _ _ _ _ _ _ _ _ _ _ _ _ _ _ _ _ _ _ _ _ _ _ _ _ _ _ _ _ _ _ _ _ _ _ _ _ _ _ _ _ _ _ _ _ _ _ _ _ _ _ _ _ _ _ _ I (st0 I (i 1).val D) _ ?hn (harg2.read_unread _) (harg3.read_unread _) (harg4.read_unread _) (harg5.read_unread _) (harg6.read_unread _) (harg7.read_unread _) (harg8.read_unread _) (pay71_eq.trans (congrArg lift2 hE.symm)) pay72_eq ?h14 ?h15 ?h16 ?h17 ?h18]
    case hn => exact trips_t1 i
    case h14 => exact harg14.read_unread _
    case h15 => exact full3 _ _ _ _ _ pay74_eq
    case h16 => exact full3 _ _ _ _ _ pay75_eq
    case h17 => exact diag_p I (i 1).val (i 1).isLt (rows_diag (i 1) ▸ rfl) (rows_diag (i 1) ▸ rfl) (harg2.read_unread _) (harg3.read_unread _) (harg5.read_unread _) (harg6.read_unread _) _
    case h18 =>
      refine (diag_s I (i 1).val (i 1).isLt (rows_diag (i 1) ▸ rfl) (rows_diag (i 1) ▸ rfl) (harg2.read_unread _) (harg3.read_unread _) (harg4.read_unread _) (harg5.read_unread _) (harg6.read_unread _) (harg7.read_unread _) (harg8.read_unread _) _).trans ?_
      rw [← hE]; rfl
    rfl
  case w =>
    rw [v135_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE, v125_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE]
    simp only [View.readAt_eq_ld]
    rw [harg2.read_unread, ld2]
    exact pay93_eq _ _ _
  case c =>
    refine lift3_congr fun a r c ha hr hc => ?_
    have ha' : a = 0 ∨ a = 1 := by omega
    rcases ha' with rfl | rfl
    · simp (disch := omega) [trK, trV, trD, hr, Nat.add_sub_cancel']
    · by_cases h7 : 7680 ≤ r
      · simp [trK, trV, trD, hr, h7, Nat.add_sub_cancel' h7]
      · simp [trK, trV, trD, hr, h7]

/-- A scratch after the last step of one head, or of both. -/
theorem w14_C : arg14.view.read (Elt Ideal) (arg14.view.writes (Elt Ideal) (harg14.unread (lift3 D)) (kernelRun0_C.sl.HS0_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D))) = lift3 (fin I (i 1).val D).D := by
  unfold kernelRun0_C.sl.HS0_2 kernelRun0_C.sl.v170
  refine (put3 _ _ _ _ (l14_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE) 1 7680 _ _ ?b ?w).trans ?c
  case w =>
    rw [v160_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE]
    simp only [View.readCov, View.readAt_eq_ld]
    rw [l14_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE, harg2.read_unread, ld2, ld3]
    exact pay99_eq _ _ _
  case c =>
    refine lift3_congr fun a r c ha hr hc => ?_
    show _ = (stStep I 15 (aft I (i 1).val D)).D a r c
    dsimp only [stStep]
    have ha' : a = 0 ∨ a = 1 := by omega
    rcases ha' with rfl | rfl
    · simp (disch := omega) [trK, trV, trD, hr, Nat.add_sub_cancel']
    · by_cases h7 : 7680 ≤ r
      · simp [trK, trV, trD, hr, h7, Nat.add_sub_cancel' h7]
      · simp [trK, trV, trD, hr, h7]

end Cert.KernelIdeal.Fox
-- ==== Proof.OutC.lean ====
module

public import proofs.«01_k».proof.Proof.WordsC
public import proofs.«01_k».proof.Proof.Outs
public import proofs.«01_k».proof.Proof.Gen.KernelIdeal.Frame
public import Idealize.ShloMosaic.Lib.WordCmp
public import Idealize.ShloMosaic.Lib.Pointwise
public import Idealize.ShloMosaic.Lib.WritesUnit

/-! What a grid point of case C leaves in its output blocks and in the carried scratch. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

set_option maxHeartbeats 4000000
set_option pp.maxSteps 300

variable (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S8192x256 .bf16) (harg8 : arg8.IsWhole) (arg9 : Memref sig .tc .vmem S8192x256 .bf16) (harg9 : arg9.IsWhole) (arg10 : Memref sig .tc .vmem S2x1x8192 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S2x1x512 .f32) (harg13 : arg13.IsWhole) (arg14 : Memref sig .tc .vmem S2x8192x256 .f32) (harg14 : arg14.IsWhole) (arg15 : Memref sig .tc .vmem S2x512x256 .f32) (harg15 : arg15.IsWhole) (arg16 : Memref sig .tc .vmem S2x512x128 .f32) (harg16 : arg16.IsWhole) (arg17 : Memref sig .tc .vmem S2x512x512 .bf16) (harg17 : arg17.IsWhole) (arg18 : Memref sig .tc .vmem S2x512x512 .bf16) (harg18 : arg18.IsWhole) (hc0 : ¬cond0_0 i) (hc1 : cond0_1 i) (D : ℕ → ℕ → ℕ → ℝ) (I : In) (hE : I.E = fun _ c => if c < 3 then 1 else 0)
include hE

/-- Output block 9. -/
theorem out9_C : out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (lift2 I.K) (lift2 I.KA) (lift2 I.V) (lift2 I.Q) (lift2 I.QA) (lift2 I.DO) (lift2 I.DA) (lift3 D) = lift2 (fun r c => (fin I (i 1).val D).k (c / 128) r (c % 128) * Real.log 2) := by
  unfold out0_C_9 kernelRun0_C
  dsimp only
  unfold kernelRun0_C.sl.v201 kernelRun0_C.sl.v182
  simp only [View.readCov, View.readAt_eq_ld]
  rw [(w15_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE), ld3, ld3]
  refine (two2 _ _ _ _ _ _ _ _ (pay103_eq _) (pay100_eq _)).trans ?_
  refine lift2_congr fun r c hr hc => ?_
  by_cases h : c < 128
  · simp [h, Nat.div_eq_of_lt h, Nat.mod_eq_of_lt h]
  · simp [h, Nat.not_lt.mp h, show ¬c / 128 = 0 by omega, show c / 128 = 1 by omega, show c % 128 = c - 128 by omega]

/-- Output block 10. -/
theorem out10_C : out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (lift2 I.K) (lift2 I.KA) (lift2 I.V) (lift2 I.Q) (lift2 I.QA) (lift2 I.DO) (lift2 I.DA) (lift3 D) = lift2 (fun r c => (fin I (i 1).val D).v (c / 128) r (c % 128)) := by
  unfold out0_C_10 kernelRun0_C
  dsimp only
  unfold kernelRun0_C.sl.v207 kernelRun0_C.sl.v188
  simp only [View.readCov, View.readAt_eq_ld]
  rw [(w16_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE), ld3, ld3]
  refine (two2 _ _ _ _ _ _ _ _ (pay104_eq _) (pay101_eq _)).trans ?_
  refine lift2_congr fun r c hr hc => ?_
  by_cases h : c < 128
  · simp [h, Nat.div_eq_of_lt h, Nat.mod_eq_of_lt h]
  · simp [h, Nat.not_lt.mp h, show ¬c / 128 = 0 by omega, show c / 128 = 1 by omega, show c % 128 = c - 128 by omega]

/-- Output block 11. -/
theorem out11_C : out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (lift2 I.K) (lift2 I.KA) (lift2 I.V) (lift2 I.Q) (lift2 I.QA) (lift2 I.DO) (lift2 I.DA) (lift3 D) = lift3 (fun a _ r => -(fin I (i 1).val D).k a r 128) := by
  unfold out0_C_11 kernelRun0_C
  dsimp only
  unfold kernelRun0_C.sl.v211 kernelRun0_C.sl.v192
  simp only [View.readCov, View.readAt_eq_ld]
  rw [(w15_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE), ld3, ld3]
  refine (two3 _ _ _ _ _ _ _ _ (pay105_eq _) (pay102_eq _)).trans ?_
  refine lift3_congr fun a b r ha hb hr => ?_
  have ha' : a = 0 ∨ a = 1 := by omega
  rcases ha' with rfl | rfl <;> simp

/-- Output block 7. -/
theorem out7_C : out0_C_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (lift2 I.K) (lift2 I.KA) (lift2 I.V) (lift2 I.Q) (lift2 I.QA) (lift2 I.DO) (lift2 I.DA) (lift3 D) = lift2 (fun r c => (fin I (i 1).val D).D (c / 128) r (c % 128) * Cert.Fox.sF) := by
  unfold out0_C_7 kernelRun0_C
  dsimp only
  unfold kernelRun0_C.sl.v345 kernelRun0_C.sl.v344 kernelRun0_C.sl.v342 kernelRun0_C.sl.v341 kernelRun0_C.sl.v227 kernelRun0_C.sl.v226 kernelRun0_C.sl.v224 kernelRun0_C.sl.v223
  simp only [View.readCov, View.readAt_eq_ld]
  rw [(w14_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE), ld3, ld3]
  refine (two2 _ _ _ _ _ _ _ _ (pay52_eq _) (pay33_eq _)).trans ?_
  refine lift2_congr fun r c hr hc => ?_
  by_cases h : c < 128
  · simp [h, Nat.div_eq_of_lt h, Nat.mod_eq_of_lt h]
  · simp [h, Nat.not_lt.mp h, show ¬c / 128 = 0 by omega, show c / 128 = 1 by omega, show c % 128 = c - 128 by omega]

/-- The carried scratch after the point. -/
theorem sout_C : sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (lift2 I.K) (lift2 I.KA) (lift2 I.V) (lift2 I.Q) (lift2 I.QA) (lift2 I.DO) (lift2 I.DA) (lift3 D) = lift3 (fin I (i 1).val D).D := by
  unfold sout0_C_0 kernelRun0_C
  dsimp only
  exact (w14_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE)

omit hE in
/-- Output block 9. The blocks given by equations. -/
theorem out9_C' (x0 : Vec Ideal S512x256 .bf16) (x1 : Vec Ideal S512x256 .bf16) (x2 : Vec Ideal S512x256 .bf16) (x3 : Vec Ideal S8192x256 .bf16) (x4 : Vec Ideal S8192x256 .bf16) (x5 : Vec Ideal S8192x256 .bf16) (x6 : Vec Ideal S8192x256 .bf16) (x7 : Vec Ideal S2x8192x256 .f32) (D : ℕ → ℕ → ℕ → ℝ) (I : In) (hE : I.E = fun _ c => if c < 3 then 1 else 0) (h0 : x0 = lift2 I.K) (h1 : x1 = lift2 I.KA) (h2 : x2 = lift2 I.V) (h3 : x3 = lift2 I.Q) (h4 : x4 = lift2 I.QA) (h5 : x5 = lift2 I.DO) (h6 : x6 = lift2 I.DA) (h7 : x7 = lift3 D) : out0_C_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 = lift2 (fun r c => (fin I (i 1).val D).k (c / 128) r (c % 128) * Real.log 2) := by
  subst h0 h1 h2 h3 h4 h5 h6 h7
  exact out9_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 D I hE

omit hE in
/-- Output block 10. The blocks given by equations. -/
theorem out10_C' (x0 : Vec Ideal S512x256 .bf16) (x1 : Vec Ideal S512x256 .bf16) (x2 : Vec Ideal S512x256 .bf16) (x3 : Vec Ideal S8192x256 .bf16) (x4 : Vec Ideal S8192x256 .bf16) (x5 : Vec Ideal S8192x256 .bf16) (x6 : Vec Ideal S8192x256 .bf16) (x7 : Vec Ideal S2x8192x256 .f32) (D : ℕ → ℕ → ℕ → ℝ) (I : In) (hE : I.E = fun _ c => if c < 3 then 1 else 0) (h0 : x0 = lift2 I.K) (h1 : x1 = lift2 I.KA) (h2 : x2 = lift2 I.V) (h3 : x3 = lift2 I.Q) (h4 : x4 = lift2 I.QA) (h5 : x5 = lift2 I.DO) (h6 : x6 = lift2 I.DA) (h7 : x7 = lift3 D) : out0_C_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 = lift2 (fun r c => (fin I (i 1).val D).v (c / 128) r (c % 128)) := by
  subst h0 h1 h2 h3 h4 h5 h6 h7
  exact out10_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 D I hE

omit hE in
/-- Output block 11. The blocks given by equations. -/
theorem out11_C' (x0 : Vec Ideal S512x256 .bf16) (x1 : Vec Ideal S512x256 .bf16) (x2 : Vec Ideal S512x256 .bf16) (x3 : Vec Ideal S8192x256 .bf16) (x4 : Vec Ideal S8192x256 .bf16) (x5 : Vec Ideal S8192x256 .bf16) (x6 : Vec Ideal S8192x256 .bf16) (x7 : Vec Ideal S2x8192x256 .f32) (D : ℕ → ℕ → ℕ → ℝ) (I : In) (hE : I.E = fun _ c => if c < 3 then 1 else 0) (h0 : x0 = lift2 I.K) (h1 : x1 = lift2 I.KA) (h2 : x2 = lift2 I.V) (h3 : x3 = lift2 I.Q) (h4 : x4 = lift2 I.QA) (h5 : x5 = lift2 I.DO) (h6 : x6 = lift2 I.DA) (h7 : x7 = lift3 D) : out0_C_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 = lift3 (fun a _ r => -(fin I (i 1).val D).k a r 128) := by
  subst h0 h1 h2 h3 h4 h5 h6 h7
  exact out11_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 D I hE

omit hE in
/-- Output block 7. The blocks given by equations. -/
theorem out7_C' (x0 : Vec Ideal S512x256 .bf16) (x1 : Vec Ideal S512x256 .bf16) (x2 : Vec Ideal S512x256 .bf16) (x3 : Vec Ideal S8192x256 .bf16) (x4 : Vec Ideal S8192x256 .bf16) (x5 : Vec Ideal S8192x256 .bf16) (x6 : Vec Ideal S8192x256 .bf16) (x7 : Vec Ideal S2x8192x256 .f32) (D : ℕ → ℕ → ℕ → ℝ) (I : In) (hE : I.E = fun _ c => if c < 3 then 1 else 0) (h0 : x0 = lift2 I.K) (h1 : x1 = lift2 I.KA) (h2 : x2 = lift2 I.V) (h3 : x3 = lift2 I.Q) (h4 : x4 = lift2 I.QA) (h5 : x5 = lift2 I.DO) (h6 : x6 = lift2 I.DA) (h7 : x7 = lift3 D) : out0_C_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 = lift2 (fun r c => (fin I (i 1).val D).D (c / 128) r (c % 128) * Cert.Fox.sF) := by
  subst h0 h1 h2 h3 h4 h5 h6 h7
  exact out7_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 D I hE

omit hE in
/-- The carried scratch after the point. The blocks given by equations. -/
theorem sout_C' (x0 : Vec Ideal S512x256 .bf16) (x1 : Vec Ideal S512x256 .bf16) (x2 : Vec Ideal S512x256 .bf16) (x3 : Vec Ideal S8192x256 .bf16) (x4 : Vec Ideal S8192x256 .bf16) (x5 : Vec Ideal S8192x256 .bf16) (x6 : Vec Ideal S8192x256 .bf16) (x7 : Vec Ideal S2x8192x256 .f32) (D : ℕ → ℕ → ℕ → ℝ) (I : In) (hE : I.E = fun _ c => if c < 3 then 1 else 0) (h0 : x0 = lift2 I.K) (h1 : x1 = lift2 I.KA) (h2 : x2 = lift2 I.V) (h3 : x3 = lift2 I.Q) (h4 : x4 = lift2 I.QA) (h5 : x5 = lift2 I.DO) (h6 : x6 = lift2 I.DA) (h7 : x7 = lift3 D) : sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 = lift3 (fin I (i 1).val D).D := by
  subst h0 h1 h2 h3 h4 h5 h6 h7
  exact sout_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 D I hE

end Cert.KernelIdeal.Fox
-- ==== Proof.Out8.lean ====
module

public import proofs.«01_k».proof.Proof.OutC
public import proofs.«01_k».proof.Proof.Gen.KernelIdeal.Frame
public import Idealize.ShloMosaic.Lib.WordCmp
public import Idealize.ShloMosaic.Lib.Pointwise
public import Idealize.ShloMosaic.Lib.WritesUnit

/-! The row sums the last point of a sweep leaves in its output block. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

set_option maxHeartbeats 4000000
set_option pp.maxSteps 300

/-- Once both heads' last blocks of rows have been stored, what was there before does not matter. -/
theorem top_base (v : View sig .tc .vmem ⟨3, ![2, 8192, 256]⟩ .f32) (f f' : v.ty.Contents (Elt Ideal))
    (inb1 : ∀ a, (![1, 7680, 0] : Fin 3 → ℕ) a + (![1, 512, 256] : Fin 3 → ℕ) a ≤ (⟨3, ![2, 8192, 256]⟩ : Shape).size a)
    (inb0 : ∀ a, (![0, 7680, 0] : Fin 3 → ℕ) a + (![1, 512, 256] : Fin 3 → ℕ) a ≤ (⟨3, ![2, 8192, 256]⟩ : Shape).size a)
    (w1 w0 : (⟨3, ![1, 512, 256]⟩ : Shape).Idx → EReal) (L) (g : Fin 2) (r : Fin 8192) (c : Fin 256) (hr : 7680 ≤ r.val) :
    v.read (Elt Ideal) (v.writes (Elt Ideal) f (⟨Rect.unit (s := ⟨3, ![2, 8192, 256]⟩) ![1, 7680, 0] ![1, 512, 256] inb1, w1⟩ ::
      ⟨Rect.unit (s := ⟨3, ![2, 8192, 256]⟩) ![0, 7680, 0] ![1, 512, 256] inb0, w0⟩ :: L)) (ix3 g r c)
    = v.read (Elt Ideal) (v.writes (Elt Ideal) f' (⟨Rect.unit (s := ⟨3, ![2, 8192, 256]⟩) ![1, 7680, 0] ![1, 512, 256] inb1, w1⟩ ::
      ⟨Rect.unit (s := ⟨3, ![2, 8192, 256]⟩) ![0, 7680, 0] ![1, 512, 256] inb0, w0⟩ :: L)) (ix3 g r c) := by
  have hx : ∀ (g : Fin 2) (n : ℕ) (e : n = g.val), ∀ x : Fin 3, ((ix3 g r c : (⟨3, ![2, 8192, 256]⟩ : Shape).Idx) x).val = (![n, 7680, 0] : Fin 3 → ℕ) x + ((ix3 (0 : Fin 1) (⟨r.val - 7680, by omega⟩ : Fin 512) c : (⟨3, ![1, 512, 256]⟩ : Shape).Idx) x).val := by
    intro g n e x
    match x with
    | ⟨0, _⟩ => exact e.symm
    | ⟨1, _⟩ => show r.val = 7680 + (r.val - 7680); omega
    | ⟨2, _⟩ => exact (Nat.zero_add _).symm
  match g with
  | ⟨0, _⟩ =>
    iterate 2
      rw [View.read_writes_cons_unit_of_not_mem _ _ _ _ _ _ rfl 0 (Or.inl (by show (0 : ℕ) < 1; omega)),
        View.read_writes_cons_unit_of_mem _ _ _ _ _ _ (ix3 (0 : Fin 1) (⟨r.val - 7680, by omega⟩ : Fin 512) c) rfl (hx _ 0 rfl)]
  | ⟨1, _⟩ =>
    iterate 2
      rw [View.read_writes_cons_unit_of_mem _ _ _ _ _ _ (ix3 (0 : Fin 1) (⟨r.val - 7680, by omega⟩ : Fin 512) c) rfl (hx _ 1 rfl)]

variable (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S8192x256 .bf16) (harg7 : arg7.IsWhole) (arg8 : Memref sig .tc .vmem S8192x256 .bf16) (harg8 : arg8.IsWhole) (arg9 : Memref sig .tc .vmem S8192x256 .bf16) (harg9 : arg9.IsWhole) (arg10 : Memref sig .tc .vmem S2x1x8192 .f32) (harg10 : arg10.IsWhole) (arg11 : Memref sig .tc .vmem S512x256 .bf16) (harg11 : arg11.IsWhole) (arg12 : Memref sig .tc .vmem S512x256 .bf16) (harg12 : arg12.IsWhole) (arg13 : Memref sig .tc .vmem S2x1x512 .f32) (harg13 : arg13.IsWhole) (arg14 : Memref sig .tc .vmem S2x8192x256 .f32) (harg14 : arg14.IsWhole) (arg15 : Memref sig .tc .vmem S2x512x256 .f32) (harg15 : arg15.IsWhole) (arg16 : Memref sig .tc .vmem S2x512x128 .f32) (harg16 : arg16.IsWhole) (arg17 : Memref sig .tc .vmem S2x512x512 .bf16) (harg17 : arg17.IsWhole) (arg18 : Memref sig .tc .vmem S2x512x512 .bf16) (harg18 : arg18.IsWhole) (hc0 : ¬cond0_0 i) (hc1 : cond0_1 i) (D : ℕ → ℕ → ℕ → ℝ) (I : In) (hE : I.E = fun _ c => if c < 3 then 1 else 0)
include hE

/-- The last block of rows of the carried scratch, read with nothing assumed about what it held before. -/
theorem cov_C (g : ℕ) (hg : g < 2) (inb) :
    View.ld (Val := Elt Ideal) (e' := .f32) (arg14.view.read (Elt Ideal) (arg14.view.writes (Elt Ideal) arg14.view.junk (kernelRun0_C.sl.HS0_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lift2 I.K) (lift2 I.KA) (lift2 I.V) (lift2 I.Q) (lift2 I.QA) (lift2 I.DO) (lift2 I.DA) (lift3 D))))
      (Rect.unit (s := ⟨3, ![2, 8192, 256]⟩) ![g, 7680, 128] ![1, 512, 128] inb)
      = lift3 (fun a b d => (fin I (i 1).val D).D (g + a) (7680 + b) (128 + d)) := by
  refine eq_lift3 fun a b d => ?_
  obtain rfl : a = 0 := Fin.fin_one_eq_zero a
  have e : (Rect.unit (s := ⟨3, ![2, 8192, 256]⟩) ![g, 7680, 128] ![1, 512, 128] inb).emb (ix3 (0 : Fin 1) b d)
      = ix3 (⟨g, hg⟩ : Fin 2) (⟨7680 + b.val, by omega⟩ : Fin 8192) (⟨128 + d.val, by omega⟩ : Fin 256) := by
    funext x
    match x with
    | ⟨0, _⟩ => exact Fin.ext (by simp [Rect.unit, Rect.emb])
    | ⟨1, _⟩ => exact Fin.ext (by simp [Rect.unit, Rect.emb])
    | ⟨2, _⟩ => exact Fin.ext (by simp [Rect.unit, Rect.emb])
  show arg14.view.read (Elt Ideal) _ ((Rect.unit (s := ⟨3, ![2, 8192, 256]⟩) ![g, 7680, 128] ![1, 512, 128] inb).emb (ix3 (0 : Fin 1) b d)) = _
  rw [e]
  refine Eq.trans ?_ (congrFun (w14_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE) (ix3 (⟨g, hg⟩ : Fin 2) (⟨7680 + b.val, by omega⟩ : Fin 8192) (⟨128 + d.val, by omega⟩ : Fin 256)))
  unfold kernelRun0_C.sl.HS0_2 kernelRun0_C.sl.HS0_1
  exact top_base _ _ _ _ _ _ _ _ _ _ _ (by show 7680 ≤ 7680 + b.val; omega)

omit hE in
/-- One stored piece of the row sums. -/
theorem piece8 (f : ℕ → ℕ → ℕ → ℝ) (g n : ℕ) (inb) (w) (hw : w = k0_pay50 (F := Ideal) (lift3 fun a b d => f (g + a) (n + b) (128 + d)))
    (x : (⟨3, ![1, 1, 512]⟩ : Shape).Idx) :
    w x = (lift3 (fun a _ r => f a r 128) : (⟨3, ![2, 1, 8192]⟩ : Shape).Idx → EReal)
      ((Rect.unit (s := ⟨3, ![2, 1, 8192]⟩) ![g, 0, n] ![1, 1, 512] inb).emb x) := by
  subst hw
  rw [pay50_eq]
  have h0 : (x 0).val = 0 := by have := (x 0).isLt; exact Nat.lt_one_iff.mp this
  show ((f (g + 0) (n + (x 2).val) (128 + 0) : ℝ) : EReal)
    = ((f (g + 1 * (x 0).val) (n + 1 * (x 2).val) 128 : ℝ) : EReal)
  rw [h0]
  simp

/-- Output block 8. -/
theorem out8_C : out0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (lift2 I.K) (lift2 I.KA) (lift2 I.V) (lift2 I.Q) (lift2 I.QA) (lift2 I.DO) (lift2 I.DA) (lift3 D) = lift3 (fun a _ r => (fin I (i 1).val D).D a r 128) := by
  refine eq_lift3 fun a b r => ?_
  unfold out0_C_8
  refine View.read_writes_apply_of_pieces _ _ (lift3 (fun a _ r => (fin I (i 1).val D).D a r 128)) _ ?_ _ (cover0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 (lift2 I.K) (lift2 I.KA) (lift2 I.V) (lift2 I.Q) (lift2 I.QA) (lift2 I.DO) (lift2 I.DA) (lift3 D) _)
  unfold kernelRun0_C
  dsimp only
  unfold kernelRun0_C.sl.v458 kernelRun0_C.sl.v455 kernelRun0_C.sl.v454 kernelRun0_C.sl.v453 kernelRun0_C.sl.v452 kernelRun0_C.sl.v451 kernelRun0_C.sl.v448 kernelRun0_C.sl.v447 kernelRun0_C.sl.v446 kernelRun0_C.sl.v445 kernelRun0_C.sl.v444 kernelRun0_C.sl.v441 kernelRun0_C.sl.v440 kernelRun0_C.sl.v439 kernelRun0_C.sl.v438 kernelRun0_C.sl.v437 kernelRun0_C.sl.v434 kernelRun0_C.sl.v433 kernelRun0_C.sl.v432 kernelRun0_C.sl.v431 kernelRun0_C.sl.v430 kernelRun0_C.sl.v427 kernelRun0_C.sl.v426 kernelRun0_C.sl.v425 kernelRun0_C.sl.v424 kernelRun0_C.sl.v423 kernelRun0_C.sl.v420 kernelRun0_C.sl.v419 kernelRun0_C.sl.v418 kernelRun0_C.sl.v417 kernelRun0_C.sl.v416 kernelRun0_C.sl.v413 kernelRun0_C.sl.v412 kernelRun0_C.sl.v411 kernelRun0_C.sl.v410 kernelRun0_C.sl.v409 kernelRun0_C.sl.v406 kernelRun0_C.sl.v405 kernelRun0_C.sl.v404 kernelRun0_C.sl.v403 kernelRun0_C.sl.v402 kernelRun0_C.sl.v399 kernelRun0_C.sl.v398 kernelRun0_C.sl.v397 kernelRun0_C.sl.v396 kernelRun0_C.sl.v395 kernelRun0_C.sl.v392 kernelRun0_C.sl.v391 kernelRun0_C.sl.v390 kernelRun0_C.sl.v389 kernelRun0_C.sl.v388 kernelRun0_C.sl.v385 kernelRun0_C.sl.v384 kernelRun0_C.sl.v383 kernelRun0_C.sl.v382 kernelRun0_C.sl.v381 kernelRun0_C.sl.v378 kernelRun0_C.sl.v377 kernelRun0_C.sl.v376 kernelRun0_C.sl.v375 kernelRun0_C.sl.v374 kernelRun0_C.sl.v371 kernelRun0_C.sl.v370 kernelRun0_C.sl.v369 kernelRun0_C.sl.v368 kernelRun0_C.sl.v367 kernelRun0_C.sl.v364 kernelRun0_C.sl.v363 kernelRun0_C.sl.v362 kernelRun0_C.sl.v361 kernelRun0_C.sl.v360 kernelRun0_C.sl.v357 kernelRun0_C.sl.v356 kernelRun0_C.sl.v355 kernelRun0_C.sl.v354 kernelRun0_C.sl.v353 kernelRun0_C.sl.v350 kernelRun0_C.sl.v349 kernelRun0_C.sl.v348 kernelRun0_C.sl.v347 kernelRun0_C.sl.v340 kernelRun0_C.sl.v337 kernelRun0_C.sl.v336 kernelRun0_C.sl.v335 kernelRun0_C.sl.v334 kernelRun0_C.sl.v333 kernelRun0_C.sl.v330 kernelRun0_C.sl.v329 kernelRun0_C.sl.v328 kernelRun0_C.sl.v327 kernelRun0_C.sl.v326 kernelRun0_C.sl.v323 kernelRun0_C.sl.v322 kernelRun0_C.sl.v321 kernelRun0_C.sl.v320 kernelRun0_C.sl.v319 kernelRun0_C.sl.v316 kernelRun0_C.sl.v315 kernelRun0_C.sl.v314 kernelRun0_C.sl.v313 kernelRun0_C.sl.v312 kernelRun0_C.sl.v309 kernelRun0_C.sl.v308 kernelRun0_C.sl.v307 kernelRun0_C.sl.v306 kernelRun0_C.sl.v305 kernelRun0_C.sl.v302 kernelRun0_C.sl.v301 kernelRun0_C.sl.v300 kernelRun0_C.sl.v299 kernelRun0_C.sl.v298 kernelRun0_C.sl.v295 kernelRun0_C.sl.v294 kernelRun0_C.sl.v293 kernelRun0_C.sl.v292 kernelRun0_C.sl.v291 kernelRun0_C.sl.v288 kernelRun0_C.sl.v287 kernelRun0_C.sl.v286 kernelRun0_C.sl.v285 kernelRun0_C.sl.v284 kernelRun0_C.sl.v281 kernelRun0_C.sl.v280 kernelRun0_C.sl.v279 kernelRun0_C.sl.v278 kernelRun0_C.sl.v277 kernelRun0_C.sl.v274 kernelRun0_C.sl.v273 kernelRun0_C.sl.v272 kernelRun0_C.sl.v271 kernelRun0_C.sl.v270 kernelRun0_C.sl.v267 kernelRun0_C.sl.v266 kernelRun0_C.sl.v265 kernelRun0_C.sl.v264 kernelRun0_C.sl.v263 kernelRun0_C.sl.v260 kernelRun0_C.sl.v259 kernelRun0_C.sl.v258 kernelRun0_C.sl.v257 kernelRun0_C.sl.v256 kernelRun0_C.sl.v253 kernelRun0_C.sl.v252 kernelRun0_C.sl.v251 kernelRun0_C.sl.v250 kernelRun0_C.sl.v249 kernelRun0_C.sl.v246 kernelRun0_C.sl.v245 kernelRun0_C.sl.v244 kernelRun0_C.sl.v243 kernelRun0_C.sl.v242 kernelRun0_C.sl.v239 kernelRun0_C.sl.v238 kernelRun0_C.sl.v237 kernelRun0_C.sl.v236 kernelRun0_C.sl.v235 kernelRun0_C.sl.v232 kernelRun0_C.sl.v231 kernelRun0_C.sl.v230 kernelRun0_C.sl.v229
  simp only [View.readCov, View.readAt_eq_ld]
  have hw := w14_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE
  repeat' (refine List.forall_mem_cons.2 ⟨?_, ?_⟩)
  all_goals (first
    | (intro x; dsimp only; refine piece8 (fin I (i 1).val D).D _ _ _ _ ?_ x; first | rw [cov_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE 0 (by omega)]; rfl | rw [cov_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 D I hE 1 (by omega)]; rfl | rw [hw, ld3]; rfl)
    | exact fun p hp => absurd hp List.not_mem_nil)

omit hE in
/-- Output block 8. The blocks given by equations. -/
theorem out8_C' (x0 : Vec Ideal S512x256 .bf16) (x1 : Vec Ideal S512x256 .bf16) (x2 : Vec Ideal S512x256 .bf16) (x3 : Vec Ideal S8192x256 .bf16) (x4 : Vec Ideal S8192x256 .bf16) (x5 : Vec Ideal S8192x256 .bf16) (x6 : Vec Ideal S8192x256 .bf16) (x7 : Vec Ideal S2x8192x256 .f32) (D : ℕ → ℕ → ℕ → ℝ) (I : In) (hE : I.E = fun _ c => if c < 3 then 1 else 0) (h0 : x0 = lift2 I.K) (h1 : x1 = lift2 I.KA) (h2 : x2 = lift2 I.V) (h3 : x3 = lift2 I.Q) (h4 : x4 = lift2 I.QA) (h5 : x5 = lift2 I.DO) (h6 : x6 = lift2 I.DA) (h7 : x7 = lift3 D) : out0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 = lift3 (fun a _ r => (fin I (i 1).val D).D a r 128) := by
  subst h0 h1 h2 h3 h4 h5 h6 h7
  exact out8_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 D I hE

end Cert.KernelIdeal.Fox
-- ==== Proof.LeftC.lean ====
module

public import proofs.«01_k».proof.Proof.Blocks
public import proofs.«01_k».proof.Proof.Out8
public import proofs.«01_k».proof.Proof.Gen.KernelIdeal.Frame
public import Idealize.ShloMosaic.Lib.WordCmp
public import Idealize.ShloMosaic.Lib.Pointwise
public import Idealize.ShloMosaic.Lib.WritesUnit

/-! What a grid point of case C leaves, from the blocks it reads. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

set_option maxHeartbeats 4000000
set_option pp.maxSteps 2000

variable (m : (ℓ : Loc nD τ sig) → Buf (Elt Ideal) ℓ) (c : Dev nD) (A : Arr)

/-- Case C: this part of what the grid point leaves is the case's own function of the blocks. -/
theorem eC_k (t : Fin cfg0.N) (h0 : ¬t.val % 16 = 0) (h1 : t.val % 16 = 15) :
    (outsAt0 m c t.val t.isLt).2.2.1 = out0_C_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 := by
  rw [outsAt0_C m c t h0 h1]

/-- Case C: this part of what the grid point leaves, in real numbers. -/
theorem vC_k (H : Holds m c A) (t : Fin cfg0.N) (h0 : ¬t.val % 16 = 0) (h1 : t.val % 16 = 15) (D : ℕ → ℕ → ℕ → ℝ) (hD : (outsAt0 m c (t.val - 1) (Nat.lt_of_le_of_lt (Nat.sub_le _ _) t.isLt)).2.2.2.2.2 = lift3 D) :
    out0_C_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 = lift2 (fun r d => (fin (pt A (t.val / 16) (t.val % 16)) (grid0.coords t 1).val D).k (d / 128) r (d % 128) * Real.log 2) :=
  out9_C' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) _ _ _ _ _ _ _ _ D (pt A (t.val / 16) (t.val % 16)) rfl (blk0 m c A H t) (blk1 m c A H t) (blk2 m c A H t) (blk3 m c A H t) (blk4 m c A H t) (blk5 m c A H t) (blk6 m c A H t) hD

/-- Case C: the same at the key block's number. -/
theorem lC_k (H : Holds m c A) (t : Fin cfg0.N) (h0 : ¬t.val % 16 = 0) (h1 : t.val % 16 = 15) (D : ℕ → ℕ → ℕ → ℝ) (hD : (outsAt0 m c (t.val - 1) (Nat.lt_of_le_of_lt (Nat.sub_le _ _) t.isLt)).2.2.2.2.2 = lift3 D) :
    (outsAt0 m c t.val t.isLt).2.2.1 = lift2 (fun r d => (fin (pt A (t.val / 16) (t.val % 16)) (t.val % 16) D).k (d / 128) r (d % 128) * Real.log 2) :=
  (eC_k m c t h0 h1).trans ((vC_k m c A H t h0 h1 D hD).trans (congrArg (fun j : ℕ => lift2 (fun r d => (fin (pt A (t.val / 16) (t.val % 16)) j D).k (d / 128) r (d % 128) * Real.log 2)) (co1 t)))

/-- Case C: this part of what the grid point leaves is the case's own function of the blocks. -/
theorem eC_v (t : Fin cfg0.N) (h0 : ¬t.val % 16 = 0) (h1 : t.val % 16 = 15) :
    (outsAt0 m c t.val t.isLt).2.2.2.1 = out0_C_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 := by
  rw [outsAt0_C m c t h0 h1]

/-- Case C: this part of what the grid point leaves, in real numbers. -/
theorem vC_v (H : Holds m c A) (t : Fin cfg0.N) (h0 : ¬t.val % 16 = 0) (h1 : t.val % 16 = 15) (D : ℕ → ℕ → ℕ → ℝ) (hD : (outsAt0 m c (t.val - 1) (Nat.lt_of_le_of_lt (Nat.sub_le _ _) t.isLt)).2.2.2.2.2 = lift3 D) :
    out0_C_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 = lift2 (fun r d => (fin (pt A (t.val / 16) (t.val % 16)) (grid0.coords t 1).val D).v (d / 128) r (d % 128)) :=
  out10_C' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) _ _ _ _ _ _ _ _ D (pt A (t.val / 16) (t.val % 16)) rfl (blk0 m c A H t) (blk1 m c A H t) (blk2 m c A H t) (blk3 m c A H t) (blk4 m c A H t) (blk5 m c A H t) (blk6 m c A H t) hD

/-- Case C: the same at the key block's number. -/
theorem lC_v (H : Holds m c A) (t : Fin cfg0.N) (h0 : ¬t.val % 16 = 0) (h1 : t.val % 16 = 15) (D : ℕ → ℕ → ℕ → ℝ) (hD : (outsAt0 m c (t.val - 1) (Nat.lt_of_le_of_lt (Nat.sub_le _ _) t.isLt)).2.2.2.2.2 = lift3 D) :
    (outsAt0 m c t.val t.isLt).2.2.2.1 = lift2 (fun r d => (fin (pt A (t.val / 16) (t.val % 16)) (t.val % 16) D).v (d / 128) r (d % 128)) :=
  (eC_v m c t h0 h1).trans ((vC_v m c A H t h0 h1 D hD).trans (congrArg (fun j : ℕ => lift2 (fun r d => (fin (pt A (t.val / 16) (t.val % 16)) j D).v (d / 128) r (d % 128))) (co1 t)))

/-- Case C: this part of what the grid point leaves is the case's own function of the blocks. -/
theorem eC_dc (t : Fin cfg0.N) (h0 : ¬t.val % 16 = 0) (h1 : t.val % 16 = 15) :
    (outsAt0 m c t.val t.isLt).2.2.2.2.1 = out0_C_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 := by
  rw [outsAt0_C m c t h0 h1]

/-- Case C: this part of what the grid point leaves, in real numbers. -/
theorem vC_dc (H : Holds m c A) (t : Fin cfg0.N) (h0 : ¬t.val % 16 = 0) (h1 : t.val % 16 = 15) (D : ℕ → ℕ → ℕ → ℝ) (hD : (outsAt0 m c (t.val - 1) (Nat.lt_of_le_of_lt (Nat.sub_le _ _) t.isLt)).2.2.2.2.2 = lift3 D) :
    out0_C_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 = lift3 (fun a _ r => -(fin (pt A (t.val / 16) (t.val % 16)) (grid0.coords t 1).val D).k a r 128) :=
  out11_C' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) _ _ _ _ _ _ _ _ D (pt A (t.val / 16) (t.val % 16)) rfl (blk0 m c A H t) (blk1 m c A H t) (blk2 m c A H t) (blk3 m c A H t) (blk4 m c A H t) (blk5 m c A H t) (blk6 m c A H t) hD

/-- Case C: the same at the key block's number. -/
theorem lC_dc (H : Holds m c A) (t : Fin cfg0.N) (h0 : ¬t.val % 16 = 0) (h1 : t.val % 16 = 15) (D : ℕ → ℕ → ℕ → ℝ) (hD : (outsAt0 m c (t.val - 1) (Nat.lt_of_le_of_lt (Nat.sub_le _ _) t.isLt)).2.2.2.2.2 = lift3 D) :
    (outsAt0 m c t.val t.isLt).2.2.2.2.1 = lift3 (fun a _ r => -(fin (pt A (t.val / 16) (t.val % 16)) (t.val % 16) D).k a r 128) :=
  (eC_dc m c t h0 h1).trans ((vC_dc m c A H t h0 h1 D hD).trans (congrArg (fun j : ℕ => lift3 (fun a _ r => -(fin (pt A (t.val / 16) (t.val % 16)) j D).k a r 128)) (co1 t)))

/-- Case C: this part of what the grid point leaves is the case's own function of the blocks. -/
theorem eC_sc (t : Fin cfg0.N) (h0 : ¬t.val % 16 = 0) (h1 : t.val % 16 = 15) :
    (outsAt0 m c t.val t.isLt).2.2.2.2.2 = sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 := by
  rw [outsAt0_C m c t h0 h1]

/-- Case C: this part of what the grid point leaves, in real numbers. -/
theorem vC_sc (H : Holds m c A) (t : Fin cfg0.N) (h0 : ¬t.val % 16 = 0) (h1 : t.val % 16 = 15) (D : ℕ → ℕ → ℕ → ℝ) (hD : (outsAt0 m c (t.val - 1) (Nat.lt_of_le_of_lt (Nat.sub_le _ _) t.isLt)).2.2.2.2.2 = lift3 D) :
    sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 = lift3 (fin (pt A (t.val / 16) (t.val % 16)) (grid0.coords t 1).val D).D :=
  sout_C' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) _ _ _ _ _ _ _ _ D (pt A (t.val / 16) (t.val % 16)) rfl (blk0 m c A H t) (blk1 m c A H t) (blk2 m c A H t) (blk3 m c A H t) (blk4 m c A H t) (blk5 m c A H t) (blk6 m c A H t) hD

/-- Case C: the same at the key block's number. -/
theorem lC_sc (H : Holds m c A) (t : Fin cfg0.N) (h0 : ¬t.val % 16 = 0) (h1 : t.val % 16 = 15) (D : ℕ → ℕ → ℕ → ℝ) (hD : (outsAt0 m c (t.val - 1) (Nat.lt_of_le_of_lt (Nat.sub_le _ _) t.isLt)).2.2.2.2.2 = lift3 D) :
    (outsAt0 m c t.val t.isLt).2.2.2.2.2 = lift3 (fin (pt A (t.val / 16) (t.val % 16)) (t.val % 16) D).D :=
  (eC_sc m c t h0 h1).trans ((vC_sc m c A H t h0 h1 D hD).trans (congrArg (fun j : ℕ => lift3 (fin (pt A (t.val / 16) (t.val % 16)) j D).D) (co1 t)))

/-- Case C: this part of what the grid point leaves is the case's own function of the blocks. -/
theorem eC_q (t : Fin cfg0.N) (h0 : ¬t.val % 16 = 0) (h1 : t.val % 16 = 15) :
    (outsAt0 m c t.val t.isLt).1 = out0_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 := by
  rw [outsAt0_C m c t h0 h1]

/-- Case C: this part of what the grid point leaves, in real numbers. -/
theorem vC_q (H : Holds m c A) (t : Fin cfg0.N) (h0 : ¬t.val % 16 = 0) (h1 : t.val % 16 = 15) (D : ℕ → ℕ → ℕ → ℝ) (hD : (outsAt0 m c (t.val - 1) (Nat.lt_of_le_of_lt (Nat.sub_le _ _) t.isLt)).2.2.2.2.2 = lift3 D) :
    out0_C_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 = lift2 (fun r d => (fin (pt A (t.val / 16) (t.val % 16)) (grid0.coords t 1).val D).D (d / 128) r (d % 128) * Cert.Fox.sF) :=
  out7_C' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) _ _ _ _ _ _ _ _ D (pt A (t.val / 16) (t.val % 16)) rfl (blk0 m c A H t) (blk1 m c A H t) (blk2 m c A H t) (blk3 m c A H t) (blk4 m c A H t) (blk5 m c A H t) (blk6 m c A H t) hD

/-- Case C: the same at the key block's number. -/
theorem lC_q (H : Holds m c A) (t : Fin cfg0.N) (h0 : ¬t.val % 16 = 0) (h1 : t.val % 16 = 15) (D : ℕ → ℕ → ℕ → ℝ) (hD : (outsAt0 m c (t.val - 1) (Nat.lt_of_le_of_lt (Nat.sub_le _ _) t.isLt)).2.2.2.2.2 = lift3 D) :
    (outsAt0 m c t.val t.isLt).1 = lift2 (fun r d => (fin (pt A (t.val / 16) (t.val % 16)) (t.val % 16) D).D (d / 128) r (d % 128) * Cert.Fox.sF) :=
  (eC_q m c t h0 h1).trans ((vC_q m c A H t h0 h1 D hD).trans (congrArg (fun j : ℕ => lift2 (fun r d => (fin (pt A (t.val / 16) (t.val % 16)) j D).D (d / 128) r (d % 128) * Cert.Fox.sF)) (co1 t)))

/-- Case C: this part of what the grid point leaves is the case's own function of the blocks. -/
theorem eC_r (t : Fin cfg0.N) (h0 : ¬t.val % 16 = 0) (h1 : t.val % 16 = 15) :
    (outsAt0 m c t.val t.isLt).2.1 = out0_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 := by
  rw [outsAt0_C m c t h0 h1]

/-- Case C: this part of what the grid point leaves, in real numbers. -/
theorem vC_r (H : Holds m c A) (t : Fin cfg0.N) (h0 : ¬t.val % 16 = 0) (h1 : t.val % 16 = 15) (D : ℕ → ℕ → ℕ → ℝ) (hD : (outsAt0 m c (t.val - 1) (Nat.lt_of_le_of_lt (Nat.sub_le _ _) t.isLt)).2.2.2.2.2 = lift3 D) :
    out0_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2 = lift3 (fun a _ r => (fin (pt A (t.val / 16) (t.val % 16)) (grid0.coords t 1).val D).D a r 128) :=
  out8_C' c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) _ _ _ _ _ _ _ _ D (pt A (t.val / 16) (t.val % 16)) rfl (blk0 m c A H t) (blk1 m c A H t) (blk2 m c A H t) (blk3 m c A H t) (blk4 m c A H t) (blk5 m c A H t) (blk6 m c A H t) hD

/-- Case C: the same at the key block's number. -/
theorem lC_r (H : Holds m c A) (t : Fin cfg0.N) (h0 : ¬t.val % 16 = 0) (h1 : t.val % 16 = 15) (D : ℕ → ℕ → ℕ → ℝ) (hD : (outsAt0 m c (t.val - 1) (Nat.lt_of_le_of_lt (Nat.sub_le _ _) t.isLt)).2.2.2.2.2 = lift3 D) :
    (outsAt0 m c t.val t.isLt).2.1 = lift3 (fun a _ r => (fin (pt A (t.val / 16) (t.val % 16)) (t.val % 16) D).D a r 128) :=
  (eC_r m c t h0 h1).trans ((vC_r m c A H t h0 h1 D hD).trans (congrArg (fun j : ℕ => lift3 (fun a _ r => (fin (pt A (t.val / 16) (t.val % 16)) j D).D a r 128)) (co1 t)))

/-- Case C. -/
theorem left_C (H : Holds m c A) (t : Fin cfg0.N) (h0 : ¬t.val % 16 = 0) (h1 : t.val % 16 = 15) (D : ℕ → ℕ → ℕ → ℝ) (hD : (outsAt0 m c (t.val - 1) (Nat.lt_of_le_of_lt (Nat.sub_le _ _) t.isLt)).2.2.2.2.2 = lift3 D) : Left m c A t D where
  k := lC_k m c A H t h0 h1 D hD
  v := lC_v m c A H t h0 h1 D hD
  dc := lC_dc m c A H t h0 h1 D hD
  sc := lC_sc m c A H t h0 h1 D hD
  q := fun _ => lC_q m c A H t h0 h1 D hD
  r := fun _ => lC_r m c A H t h0 h1 D hD

end Cert.KernelIdeal.Fox
-- ==== Proof.Sweep.lean ====
module

public import proofs.«01_k».proof.Proof.LeftA
public import proofs.«01_k».proof.Proof.LeftB
public import proofs.«01_k».proof.Proof.LeftC
public import proofs.«01_k».proof.Proof.Gen.KernelIdeal.Frame
public import Idealize.ShloMosaic.Lib.WordCmp
public import Idealize.ShloMosaic.Lib.Pointwise
public import Idealize.ShloMosaic.Lib.WritesUnit

/-! The carried query gradient, grid point by grid point. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

set_option maxHeartbeats 4000000
set_option pp.maxSteps 2000

variable (m : (ℓ : Loc nD τ sig) → Buf (Elt Ideal) ℓ) (c : Dev nD) (A : Arr)

/-- The carried query gradient after every grid point. -/
theorem scr (H : Holds m c A) : ∀ (n : ℕ) (hn : n < cfg0.N),
    (outsAt0 m c n hn).2.2.2.2.2 = lift3 (acc A (n / 16) (n % 16 + 1)) := by
  intro n
  induction n using Nat.strong_induction_on with
  | _ n ih =>
    intro hn
    by_cases h0 : n % 16 = 0
    · refine ((left_A m c A H ⟨n, hn⟩ h0 (by show ¬n % 16 = 15; omega)).sc).trans ?_
      rw [← acc_zero A (n / 16)]
      show lift3 (fin (pt A (n / 16) (n % 16)) (n % 16) (acc A (n / 16) 0)).D = _
      rw [h0]
      exact acc_step A (n / 16) 0 (by omega)
    · have hp := ih (n - 1) (by omega) (Nat.lt_of_le_of_lt (Nat.sub_le _ _) hn)
      rw [show (n - 1) / 16 = n / 16 by omega, show (n - 1) % 16 + 1 = n % 16 by omega] at hp
      by_cases h1 : n % 16 = 15
      · exact ((left_C m c A H ⟨n, hn⟩ h0 h1 _ hp).sc).trans (acc_step A (n / 16) (n % 16) (by omega))
      · exact ((left_B m c A H ⟨n, hn⟩ h0 h1 _ hp).sc).trans (acc_step A (n / 16) (n % 16) (by omega))

/-- What every grid point leaves. -/
theorem left_all (H : Holds m c A) (t : Fin cfg0.N) : Left m c A t (acc A (t.val / 16) (t.val % 16)) := by
  by_cases h0 : t.val % 16 = 0
  · have h := left_A m c A H t h0 (by omega)
    rw [← acc_zero A (t.val / 16)] at h
    rw [show acc A (t.val / 16) (t.val % 16) = acc A (t.val / 16) 0 by rw [h0]]
    exact h
  · have hp := scr m c A H (t.val - 1) (Nat.lt_of_le_of_lt (Nat.sub_le _ _) t.isLt)
    rw [show (t.val - 1) / 16 = t.val / 16 by omega, show (t.val - 1) % 16 + 1 = t.val % 16 by omega] at hp
    by_cases h1 : t.val % 16 = 15
    · exact left_C m c A H t h0 h1 _ hp
    · exact left_B m c A H t h0 h1 _ hp

end Cert.KernelIdeal.Fox
-- ==== Proof.Arrays.lean ====
module

public import proofs.«01_k».proof.Proof.Sweep
public import proofs.«01_k».proof.Proof.Gen.KernelIdeal.Frame
public import Idealize.ShloMosaic.Lib.WordCmp
public import Idealize.ShloMosaic.Lib.Pointwise
public import Idealize.ShloMosaic.Lib.WritesUnit

/-! The five arrays the launch leaves, as sums over the tables it reads. -/

@[expose] public section

set_option maxRecDepth 16384
set_option maxHeartbeats 4000000

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI

set_option maxHeartbeats 4000000
set_option pp.maxSteps 2000

variable (m : (ℓ : Loc nD τ sig) → Buf (Elt Ideal) ℓ) (c : Dev nD) (A : Arr)

/-- The query gradient's array. -/
theorem arr7 (H : Holds m c A) : @Eq (Vec Ideal S8192x2048 .bf16) (Value.G7 m c)
    (lift2 fun r d => (∑ k ∈ Finset.range 8192, gS A (d / 128) k r * A.P k (2048 + d)) * Cert.Fox.sF) := by
  refine eq_lift2 fun r d => ?_
  have hN : cfg0.N = 128 := N_0
  have hp : Value.pt7Of (ix2 r d) = 16 * (d.val / 256) + 15 := by
    show 16 * (8 * (r.val / 8192 - 0) + 1 * (d.val / 256 - 0)) + 15 = _
    omega
  have hlt : 16 * (d.val / 256) + 15 < cfg0.N := by omega
  unfold Value.G7
  rw [dif_pos (by rw [hp]; exact hlt), Value.fold0_congr m c _ _ (16 * (d.val / 256) + 15) (by omega) hp, ← Value.outsAt0_sweep m c _ hlt]
  have L := (left_all m c A H ⟨_, hlt⟩).q (by show (16 * (d.val / 256) + 15) % 16 = 15; omega)
  refine (congrFun L _).trans (congrArg Real.toEReal ?_)
  show (fin (pt A ((16 * (d.val / 256) + 15) / 16) ((16 * (d.val / 256) + 15) % 16)) ((16 * (d.val / 256) + 15) % 16) (acc A ((16 * (d.val / 256) + 15) / 16) ((16 * (d.val / 256) + 15) % 16))).D ((d.val % 256) / 128) (r.val % 8192) ((d.val % 256) % 128) * _ = _
  rw [show (16 * (d.val / 256) + 15) / 16 = d.val / 256 by omega, show (16 * (d.val / 256) + 15) % 16 = 15 by omega, Nat.mod_eq_of_lt r.isLt]
  have e := congrFun (acc_step A (d.val / 256) 15 (by omega)) (ix3 (⟨(d.val % 256) / 128, by omega⟩ : Fin 2) r (⟨(d.val % 256) % 128, by omega⟩ : Fin 256))
  have e' := EReal.coe_injective e
  refine congrArg (· * _) (e'.trans ?_)
  show acc A (d.val / 256) 16 ((d.val % 256) / 128) r.val ((d.val % 256) % 128) = _
  unfold acc
  refine Finset.sum_congr rfl fun k _ => ?_
  rw [if_pos (by omega)]
  rw [show 2 * (d.val / 256) + d.val % 256 / 128 = d.val / 128 by omega, show d.val / 128 * 128 + d.val % 256 % 128 = d.val by omega]

/-- The row sums' array. -/
theorem arr8 (H : Holds m c A) : @Eq (Vec Ideal S16x1x8192 .f32) (Value.G8 m c)
    (lift3 fun n _ r => ∑ k ∈ Finset.range 8192, gS A n k r) := by
  refine eq_lift3 fun n z r => ?_
  have hN : cfg0.N = 128 := N_0
  have hp : Value.pt8Of (ix3 n z r) = 16 * (n.val / 2) + 15 := by
    show 16 * (1 * (n.val / 2 - 0) + 1 * (z.val / 1 - 0) + 1 * (r.val / 8192 - 0)) + 15 = _
    omega
  have hlt : 16 * (n.val / 2) + 15 < cfg0.N := by omega
  unfold Value.G8
  rw [dif_pos (by rw [hp]; exact hlt), Value.fold0_congr m c _ _ (16 * (n.val / 2) + 15) (by omega) hp, ← Value.outsAt0_sweep m c _ hlt]
  have L := (left_all m c A H ⟨_, hlt⟩).r (by show (16 * (n.val / 2) + 15) % 16 = 15; omega)
  refine (congrFun L _).trans (congrArg Real.toEReal ?_)
  show (fin (pt A ((16 * (n.val / 2) + 15) / 16) ((16 * (n.val / 2) + 15) % 16)) ((16 * (n.val / 2) + 15) % 16) (acc A ((16 * (n.val / 2) + 15) / 16) ((16 * (n.val / 2) + 15) % 16))).D (n.val % 2) (r.val % 8192) 128 = _
  rw [show (16 * (n.val / 2) + 15) / 16 = n.val / 2 by omega, show (16 * (n.val / 2) + 15) % 16 = 15 by omega, Nat.mod_eq_of_lt r.isLt]
  have e := congrFun (acc_step A (n.val / 2) 15 (by omega)) (ix3 (⟨n.val % 2, by omega⟩ : Fin 2) r (⟨128, by omega⟩ : Fin 256))
  refine (EReal.coe_injective e).trans ?_
  show acc A (n.val / 2) 16 (n.val % 2) r.val 128 = _
  unfold acc
  simp only [lt_irrefl, if_false, mul_one]
  rw [show 2 * (n.val / 2) + n.val % 2 = n.val by omega]

/-- The array of output 9. -/
theorem arr9 (H : Holds m c A) : @Eq (Vec Ideal S8192x2048 .bf16) (Value.G9 m c)
    (lift2 fun r d => (∑ q ∈ Finset.range 8192, gS A (d / 128) r q * A.P q d) * Real.log 2) := by
  refine eq_lift2 fun r d => ?_
  have hN : cfg0.N = 128 := N_0
  have hp : Value.pt9Of (ix2 r d) = r.val / 512 + 16 * (d.val / 256) := by
    show 1 * (r.val / 512 - 0) + 16 * (d.val / 256 - 0) = _
    omega
  have hlt : r.val / 512 + 16 * (d.val / 256) < cfg0.N := by omega
  unfold Value.G9
  rw [dif_pos (by rw [hp]; exact hlt), Value.fold0_congr m c _ _ (r.val / 512 + 16 * (d.val / 256)) (by omega) hp, ← Value.outsAt0_sweep m c _ hlt]
  have L := (left_all m c A H ⟨_, hlt⟩).k
  dsimp only at L
  rw [show (r.val / 512 + 16 * (d.val / 256)) / 16 = d.val / 256 by omega, show (r.val / 512 + 16 * (d.val / 256)) % 16 = r.val / 512 by omega] at L
  refine (congrFun L _).trans (congrArg Real.toEReal ?_)
  show (fin (pt A (d.val / 256) (r.val / 512)) (r.val / 512) (acc A (d.val / 256) (r.val / 512))).k ((d.val % 256) / 128) (r.val % 512) ((d.val % 256) % 128) * _ = _
  rw [fin_k _ _ (by omega) _ _ _ _ (by omega)]
  refine congrArg (· * _) (Finset.sum_congr rfl fun q _ => ?_)
  rw [ms_pt, if_pos (by omega)]
  unfold pt
  dsimp only
  rw [show 2 * (d.val / 256) + d.val % 256 / 128 = d.val / 128 by omega, show r.val / 512 * 512 + r.val % 512 = r.val by omega,
    show 256 * (d.val / 256) + (d.val % 256 / 128 * 128 + d.val % 256 % 128) = d.val by omega]

/-- The array of output 10. -/
theorem arr10 (H : Holds m c A) : @Eq (Vec Ideal S8192x2048 .bf16) (Value.G10 m c)
    (lift2 fun r d => ∑ q ∈ Finset.range 8192, gP A (d / 128) r q * A.DO q d) := by
  refine eq_lift2 fun r d => ?_
  have hN : cfg0.N = 128 := N_0
  have hp : Value.pt10Of (ix2 r d) = r.val / 512 + 16 * (d.val / 256) := by
    show 1 * (r.val / 512 - 0) + 16 * (d.val / 256 - 0) = _
    omega
  have hlt : r.val / 512 + 16 * (d.val / 256) < cfg0.N := by omega
  unfold Value.G10
  rw [dif_pos (by rw [hp]; exact hlt), Value.fold0_congr m c _ _ (r.val / 512 + 16 * (d.val / 256)) (by omega) hp, ← Value.outsAt0_sweep m c _ hlt]
  have L := (left_all m c A H ⟨_, hlt⟩).v
  dsimp only at L
  rw [show (r.val / 512 + 16 * (d.val / 256)) / 16 = d.val / 256 by omega, show (r.val / 512 + 16 * (d.val / 256)) % 16 = r.val / 512 by omega] at L
  refine (congrFun L _).trans (congrArg Real.toEReal ?_)
  show (fin (pt A (d.val / 256) (r.val / 512)) (r.val / 512) (acc A (d.val / 256) (r.val / 512))).v ((d.val % 256) / 128) (r.val % 512) ((d.val % 256) % 128) = _
  rw [fin_v _ _ (by omega) _ _ _ _ (by omega)]
  refine Finset.sum_congr rfl fun q _ => ?_
  rw [mp_pt]
  unfold pt
  dsimp only
  rw [show 2 * (d.val / 256) + d.val % 256 / 128 = d.val / 128 by omega, show r.val / 512 * 512 + r.val % 512 = r.val by omega,
    show 256 * (d.val / 256) + (d.val % 256 / 128 * 128 + d.val % 256 % 128) = d.val by omega]

/-- The column sums' array. -/
theorem arr11 (H : Holds m c A) : @Eq (Vec Ideal S16x1x8192 .f32) (Value.G11 m c)
    (lift3 fun n _ r => -∑ q ∈ Finset.range 8192, gS A n r q) := by
  refine eq_lift3 fun n z r => ?_
  have hN : cfg0.N = 128 := N_0
  have hp : Value.pt11Of (ix3 n z r) = r.val / 512 + 16 * (n.val / 2) := by
    show 16 * (n.val / 2 - 0) + 16 * (z.val / 1 - 0) + 1 * (r.val / 512 - 0) = _
    omega
  have hlt : r.val / 512 + 16 * (n.val / 2) < cfg0.N := by omega
  unfold Value.G11
  rw [dif_pos (by rw [hp]; exact hlt), Value.fold0_congr m c _ _ (r.val / 512 + 16 * (n.val / 2)) (by omega) hp, ← Value.outsAt0_sweep m c _ hlt]
  have L := (left_all m c A H ⟨_, hlt⟩).dc
  dsimp only at L
  rw [show (r.val / 512 + 16 * (n.val / 2)) / 16 = n.val / 2 by omega, show (r.val / 512 + 16 * (n.val / 2)) % 16 = r.val / 512 by omega] at L
  refine (congrFun L _).trans (congrArg Real.toEReal ?_)
  show -(fin (pt A (n.val / 2) (r.val / 512)) (r.val / 512) (acc A (n.val / 2) (r.val / 512))).k (n.val % 2) (r.val % 512) 128 = _
  rw [fin_k _ _ (by omega) _ _ _ _ (by omega)]
  refine congrArg _ (Finset.sum_congr rfl fun q _ => ?_)
  rw [ms_pt, if_neg (by omega), mul_one]
  rw [show 2 * (n.val / 2) + n.val % 2 = n.val by omega, show r.val / 512 * 512 + r.val % 512 = r.val by omega]

end Cert.KernelIdeal.Fox
-- ==== Proof.Host.lean ====
module

public import proofs.«01_k».proof.Proof.Gen.KernelIdeal.Frame.Runs
public import Idealize.ShloMosaic.Lib.StableHlo.RunRead

/-! What each host operation before the launch leaves, from what the others leave. -/

@[expose] public section

set_option maxRecDepth 16384

noncomputable section

namespace Cert.KernelIdeal.Fox

open Cert.KernelIdeal Cert.KernelIdeal.Gen
open Idealize.ShloMosaic Idealize.ShloMosaic.TcCoe
open Idealize.ShloMosaic.StableHlo (after upto)

variable (m : (ℓ : Loc nD τ sig) → Buf (Elt Ideal) ℓ) (c : Dev nD)

/-- The host operations before the launch, in order. -/
abbrev hostOps : List (HloOp τ sig (Elt Ideal)) :=
  List.flatten [hostOps0, hostOps0_1, hostOps0_2, hostOps0_3, hostOps0_4, hostOps0_5, hostOps0_6, hostOps0_7, hostOps0_8]

/-- What they write, in order. -/
def written : List (Ref sig .tc) :=
  [main_v0, main_v1, main_v2, main_cst, main_v3, main_v4, main_v5, main_v6, main_v7, main_v8, main_v9, main_v10, main_v11, main_v12, main_v13, main_cst_0, main_call0_v0, main_call0_v1, main_call0_v2, main_v14, main_cst_1, main_v15, main_v16, main_v17, main_v18, main_v19, main_cst_2, main_v20, main_v21, main_v22, main_v23, main_v24, main_v25, main_v26, main_v27, main_cst_3, main_v28, main_v29, main_v30, main_cst_4, main_v31, main_v32, main_cst_5, main_v33, main_v34, main_v35, main_v36, main_v37, main_cst_6, main_v38, main_v39, main_cst_7, main_v40, main_v41, main_v42, main_v43, main_v44, main_v45, main_v46, main_v47, main_v48, main_v49, main_cst_8, main_v50, main_v51, main_v52, main_v53, main_v54, main_v55, main_v56, main_v57, main_c, main_call1_v0, main_v58, main_v59, main_v60, main_v61, main_v62, main_v63, main_v64, main_v65, main_v66, main_v67, main_v68, main_v69, main_v70, main_v71, main_v72, main_v73, main_v74, main_v75, main_c_9, main_call2_v0, main_v76, main_v77, main_v78, main_v79, main_v80, main_v81, main_cst_10, main_v82, main_v83, main_v84, main_v85, main_v86, main_v87, main_v88, main_v89, main_v90, main_v91, main_v92, main_v93, main_v94, main_c_11, main_call3_v0, main_v95, main_v96, main_v97, main_v98]

/-- What the host's operations write, one by one. -/
theorem written_eq : hostOps.map HloOp.writes = written.map fun w => {Proc.devRef (τ := τ) .tc w} := rfl

/-- Two lists of host operations, one after the other. -/
theorem after_two (l k : List (HloOp τ sig (Elt Ideal))) (X : Valuation τ sig (Elt Ideal)) : after (l ++ k) X = after k (after l X) := by
  induction l generalizing X with
  | nil => rfl
  | cons op l ih => exact ih _

/-- Later operations leave what they do not write. -/
theorem keep (i : ℕ) (r : Ref sig .tc) (h : r ∉ written.drop i) (X : Valuation τ sig (Elt Ideal)) :
    upto hostOps X i (Proc.devRef .tc r) = after hostOps X (Proc.devRef .tc r) := by
  have e : (hostOps.drop i).map HloOp.writes = (written.drop i).map fun w => {Proc.devRef (τ := τ) .tc w} := by
    rw [List.map_drop, written_eq, ← List.map_drop]
  have a := StableHlo.after_unwritten (written.drop i) e h (upto hostOps X i)
  have b : after (hostOps.drop i) (upto hostOps X i) = after hostOps X := by
    unfold upto
    rw [← after_two, List.take_append_drop]
  rw [b] at a
  exact a.symm

/-- Concatenations of equal pieces. -/
theorem cat3_congr {s s₁ : Shape} {d : Fin s.rank} {α : Type} (h : Shape.Concatenates [s₁, s₁, s₁] s d) {a0 a1 a2 b0 b1 b2 : s₁.Idx → α} (e0 : a0 = b0) (e1 : a1 = b1) (e2 : a2 = b2) :
    concatenate s d [⟨s₁, a0⟩, ⟨s₁, a1⟩, ⟨s₁, a2⟩] h = concatenate s d [⟨s₁, b0⟩, ⟨s₁, b1⟩, ⟨s₁, b2⟩] h := by
  subst e0 e1 e2
  rfl

/-- Concatenations of equal pieces. -/
theorem cat4_congr {s s₁ : Shape} {d : Fin s.rank} {α : Type} (h : Shape.Concatenates [s₁, s₁, s₁, s₁] s d) {a0 a1 a2 a3 b0 b1 b2 b3 : s₁.Idx → α} (e0 : a0 = b0) (e1 : a1 = b1) (e2 : a2 = b2) (e3 : a3 = b3) :
    concatenate s d [⟨s₁, a0⟩, ⟨s₁, a1⟩, ⟨s₁, a2⟩, ⟨s₁, a3⟩] h = concatenate s d [⟨s₁, b0⟩, ⟨s₁, b1⟩, ⟨s₁, b2⟩, ⟨s₁, b3⟩] h := by
  subst e0 e1 e2 e3
  rfl

/-- Concatenations of equal pieces. -/
theorem cat6_congr {s s₁ : Shape} {d : Fin s.rank} {α : Type} (h : Shape.Concatenates [s₁, s₁, s₁, s₁, s₁, s₁] s d) {a0 a1 a2 a3 a4 a5 b0 b1 b2 b3 b4 b5 : s₁.Idx → α} (e0 : a0 = b0) (e1 : a1 = b1) (e2 : a2 = b2) (e3 : a3 = b3) (e4 : a4 = b4) (e5 : a5 = b5) :
    concatenate s d [⟨s₁, a0⟩, ⟨s₁, a1⟩, ⟨s₁, a2⟩, ⟨s₁, a3⟩, ⟨s₁, a4⟩, ⟨s₁, a5⟩] h = concatenate s d [⟨s₁, b0⟩, ⟨s₁, b1⟩, ⟨s₁, b2⟩, ⟨s₁, b3⟩, ⟨s₁, b4⟩, ⟨s₁, b5⟩] h := by
  subst e0 e1 e2 e3 e4 e5
  rfl

/-- An operation's result stays. -/
theorem last (i : ℕ) (op : HloOp τ sig (Elt Ideal)) (ho : hostOps.drop i = op :: hostOps.drop (i + 1)) (r : Ref sig .tc) (h : r ∉ written.drop (i + 1))
    (X : Valuation τ sig (Elt Ideal)) : after hostOps X (Proc.devRef .tc r) = op.result (upto hostOps X i) (Proc.devRef .tc r) := by
  have e : (hostOps.drop (i + 1)).map HloOp.writes = (written.drop (i + 1)).map fun w => {Proc.devRef (τ := τ) .tc w} := by
    rw [List.map_drop, written_eq, ← List.map_drop]
  exact StableHlo.after_last_write (written.drop (i + 1)) ho e h X

end Cert.KernelIdeal.Fox

end
-- ==== Proof.HostA.lean ====
module

public import proofs.«01_k».proof.Proof.Host
public import Idealize.ShloMosaic.Lib.StableHlo.RunRead

/-! What host operations 0 to 30 leave. -/

@[expose] public section

set_option maxRecDepth 16384

noncomputable section

namespace Cert.KernelIdeal.Fox

open Cert.KernelIdeal Cert.KernelIdeal.Gen
open Idealize.ShloMosaic Idealize.ShloMosaic.TcCoe
open Idealize.ShloMosaic.StableHlo (after upto)

variable (m : (ℓ : Loc nD τ sig) → Buf (Elt Ideal) ℓ) (c : Dev nD)

/-- What operation 0 leaves. -/
theorem w0 : @Eq ((⟨S8192x16x128, .f32⟩ : BufTy).Contents (Elt Ideal)) (V m c main_v0) (shapeCast S8192x16x128 (V m c main_arg0 : (⟨S8192x2048, .f32⟩ : BufTy).Contents (Elt Ideal)) shapeCasts_S8192x2048_S8192x16x128) :=
  (last 0 _ rfl main_v0 (by decide) _).trans ((StableHlo.reshape_result ..).trans (congrArg (fun z : (⟨S8192x2048, .f32⟩ : BufTy).Contents (Elt Ideal) => shapeCast S8192x16x128 z shapeCasts_S8192x2048_S8192x16x128) (keep 0 main_arg0 (by decide) _)))

/-- What operation 1 leaves. -/
theorem w1 : @Eq ((⟨S8192x16x128, .f32⟩ : BufTy).Contents (Elt Ideal)) (V m c main_v1) (shapeCast S8192x16x128 (V m c main_arg1 : (⟨S8192x2048, .f32⟩ : BufTy).Contents (Elt Ideal)) shapeCasts_S8192x2048_S8192x16x128) :=
  (last 1 _ rfl main_v1 (by decide) _).trans ((StableHlo.reshape_result ..).trans (congrArg (fun z : (⟨S8192x2048, .f32⟩ : BufTy).Contents (Elt Ideal) => shapeCast S8192x16x128 z shapeCasts_S8192x2048_S8192x16x128) (keep 1 main_arg1 (by decide) _)))

/-- What operation 2 leaves. -/
theorem w2 : @Eq ((⟨S16x8192x8192, .f32⟩ : BufTy).Contents (Elt Ideal)) (V m c main_v2) (((fun l r => Host.dotGeneral (F := Ideal) (φ₁ := .f32) (φ₂ := .f32) dot_S8192x16x128_S8192x16x128_S16x8192x8192_2_2_0_0_1_1 none l r) : (⟨S8192x16x128, .f32⟩ : BufTy).Contents (Elt Ideal) → (⟨S8192x16x128, .f32⟩ : BufTy).Contents (Elt Ideal) → (⟨S16x8192x8192, .f32⟩ : BufTy).Contents (Elt Ideal)) (V m c main_v0) (V m c main_v1)) :=
  (last 2 _ rfl main_v2 (by decide) _).trans ((StableHlo.binary_result ..).trans (congrArg₂ ((fun l r => Host.dotGeneral (F := Ideal) (φ₁ := .f32) (φ₂ := .f32) dot_S8192x16x128_S8192x16x128_S16x8192x8192_2_2_0_0_1_1 none l r) : (⟨S8192x16x128, .f32⟩ : BufTy).Contents (Elt Ideal) → (⟨S8192x16x128, .f32⟩ : BufTy).Contents (Elt Ideal) → (⟨S16x8192x8192, .f32⟩ : BufTy).Contents (Elt Ideal)) (keep 2 main_v0 (by decide) _) (keep 2 main_v1 (by decide) _)))

/-- What operation 3 leaves. -/
theorem w3 : @Eq ((⟨S_, .f32⟩ : BufTy).Contents (Elt Ideal)) (V m c main_cst) ((constant (F := Ideal) S_ .f32 0x3DB504F3#32)) :=
  (last 3 _ rfl main_cst (by decide) _).trans (StableHlo.nullary_result ..)

/-- What operation 4 leaves. -/
theorem w4 : @Eq ((⟨S16x8192x8192, .f32⟩ : BufTy).Contents (Elt Ideal)) (V m c main_v3) ((broadcastInDim S16x8192x8192 ![] bcast_S_S16x8192x8192 : (⟨S_, .f32⟩ : BufTy).Contents (Elt Ideal) → (⟨S16x8192x8192, .f32⟩ : BufTy).Contents (Elt Ideal)) (V m c main_cst)) :=
  (last 4 _ rfl main_v3 (by decide) _).trans ((StableHlo.unary_result ..).trans (congrArg (broadcastInDim S16x8192x8192 ![] bcast_S_S16x8192x8192 : (⟨S_, .f32⟩ : BufTy).Contents (Elt Ideal) → (⟨S16x8192x8192, .f32⟩ : BufTy).Contents (Elt Ideal)) (keep 4 main_cst (by decide) _)))

/-- What operation 5 leaves. -/
theorem w5 : @Eq ((⟨S16x8192x8192, .f32⟩ : BufTy).Contents (Elt Ideal)) (V m c main_v4) ((mulf (F := Ideal) (φ := .f32) : (⟨S16x8192x8192, .f32⟩ : BufTy).Contents (Elt Ideal) → (⟨S16x8192x8192, .f32⟩ : BufTy).Contents (Elt Ideal) → (⟨S16x8192x8192, .f32⟩ : BufTy).Contents (Elt Ideal)) (V m c main_v2) (V m c main_v3)) :=
  (last 5 _ rfl main_v4 (by decide) _).trans ((StableHlo.binary_result ..).trans (congrArg₂ (mulf (F := Ideal) (φ := .f32) : (⟨S16x8192x8192, .f32⟩ : BufTy).Contents (Elt Ideal) → (⟨S16x8192x8192, .f32⟩ : BufTy).Contents (Elt Ideal) → (⟨S16x8192x8192, .f32⟩ : BufTy).Contents (Elt Ideal)) (keep 5 main_v2 (by decide) _) (keep 5 main_v3 (by decide) _)))

/-- What operation 6 leaves. -/
theorem w6 : @Eq ((⟨S16x1x8192, .f32⟩ : BufTy).Contents (Elt Ideal)) (V m c main_v5) ((broadcastInDim S16x1x8192 ![0, 2] bcast_S16x8192_S16x1x8192_0_2 : (⟨S16x8192, .f32⟩ : BufTy).Contents (Elt Ideal) → (⟨S16x1x8192, .f32⟩ : BufTy).Contents (Elt Ideal)) (V m c main_arg4)) :=
  (last 6 _ rfl main_v5 (by decide) _).trans ((StableHlo.unary_result ..).trans (congrArg (broadcastInDim S16x1x8192 ![0, 2] bcast_S16x8192_S16x1x8192_0_2 : (⟨S16x8192, .f32⟩ : BufTy).Contents (Elt Ideal) → (⟨S16x1x8192, .f32⟩ : BufTy).Contents (Elt Ideal)) (keep 6 main_arg4 (by decide) _)))

/-- What operation 7 leaves. -/
theorem w7 : @Eq ((⟨S16x8192x8192, .f32⟩ : BufTy).Contents (Elt Ideal)) (V m c main_v6) ((broadcastInDim S16x8192x8192 ![0, 1, 2] bcast_S16x1x8192_S16x8192x8192_0_1_2 : (⟨S16x1x8192, .f32⟩ : BufTy).Contents (Elt Ideal) → (⟨S16x8192x8192, .f32⟩ : BufTy).Contents (Elt Ideal)) (V m c main_v5)) :=
  (last 7 _ rfl main_v6 (by decide) _).trans ((StableHlo.unary_result ..).trans (congrArg (broadcastInDim S16x8192x8192 ![0, 1, 2] bcast_S16x1x8192_S16x8192x8192_0_1_2 : (⟨S16x1x8192, .f32⟩ : BufTy).Contents (Elt Ideal) → (⟨S16x8192x8192, .f32⟩ : BufTy).Contents (Elt Ideal)) (keep 7 main_v5 (by decide) _)))

/-- What operation 8 leaves. -/
theorem w8 : @Eq ((⟨S16x8192x8192, .f32⟩ : BufTy).Contents (Elt Ideal)) (V m c main_v7) ((subf (F := Ideal) (φ := .f32) : (⟨S16x8192x8192, .f32⟩ : BufTy).Contents (Elt Ideal) → (⟨S16x8192x8192, .f32⟩ : BufTy).Contents (Elt Ideal) → (⟨S16x8192x8192, .f32⟩ : BufTy).Contents (Elt Ideal)) (V m c main_v4) (V m c main_v6)) :=
  (last 8 _ rfl main_v7 (by decide) _).trans ((StableHlo.binary_result ..).trans (congrArg₂ (subf (F := Ideal) (φ := .f32) : (⟨S16x8192x8192, .f32⟩ : BufTy).Contents (Elt Ideal) → (⟨S16x8192x8192, .f32⟩ : BufTy).Contents (Elt Ideal) → (⟨S16x8192x8192, .f32⟩ : BufTy).Contents (Elt Ideal)) (keep 8 main_v4 (by decide) _) (keep 8 main_v6 (by decide) _)))

/-- What operation 9 leaves. -/
theorem w9 : @Eq ((⟨S8192, .i32⟩ : BufTy).Contents (Elt Ideal)) (V m c main_v8) ((iotaInDim S8192 32 0)) :=
  (last 9 _ rfl main_v8 (by decide) _).trans (StableHlo.nullary_result ..)

/-- What operation 10 leaves. -/
theorem w10 : @Eq ((⟨S1x8192, .i32⟩ : BufTy).Contents (Elt Ideal)) (V m c main_v9) ((broadcastInDim S1x8192 ![1] bcast_S8192_S1x8192_1 : (⟨S8192, .i32⟩ : BufTy).Contents (Elt Ideal) → (⟨S1x8192, .i32⟩ : BufTy).Contents (Elt Ideal)) (V m c main_v8)) :=
  (last 10 _ rfl main_v9 (by decide) _).trans ((StableHlo.unary_result ..).trans (congrArg (broadcastInDim S1x8192 ![1] bcast_S8192_S1x8192_1 : (⟨S8192, .i32⟩ : BufTy).Contents (Elt Ideal) → (⟨S1x8192, .i32⟩ : BufTy).Contents (Elt Ideal)) (keep 10 main_v8 (by decide) _)))

/-- What operation 11 leaves. -/
theorem w11 : @Eq ((⟨S8192x1, .i32⟩ : BufTy).Contents (Elt Ideal)) (V m c main_v10) ((broadcastInDim S8192x1 ![0] bcast_S8192_S8192x1_0 : (⟨S8192, .i32⟩ : BufTy).Contents (Elt Ideal) → (⟨S8192x1, .i32⟩ : BufTy).Contents (Elt Ideal)) (V m c main_v8)) :=
  (last 11 _ rfl main_v10 (by decide) _).trans ((StableHlo.unary_result ..).trans (congrArg (broadcastInDim S8192x1 ![0] bcast_S8192_S8192x1_0 : (⟨S8192, .i32⟩ : BufTy).Contents (Elt Ideal) → (⟨S8192x1, .i32⟩ : BufTy).Contents (Elt Ideal)) (keep 11 main_v8 (by decide) _)))

/-- What operation 12 leaves. -/
theorem w12 : @Eq ((⟨S8192x8192, .i32⟩ : BufTy).Contents (Elt Ideal)) (V m c main_v11) ((broadcastInDim S8192x8192 ![0, 1] bcast_S1x8192_S8192x8192_0_1 : (⟨S1x8192, .i32⟩ : BufTy).Contents (Elt Ideal) → (⟨S8192x8192, .i32⟩ : BufTy).Contents (Elt Ideal)) (V m c main_v9)) :=
  (last 12 _ rfl main_v11 (by decide) _).trans ((StableHlo.unary_result ..).trans (congrArg (broadcastInDim S8192x8192 ![0, 1] bcast_S1x8192_S8192x8192_0_1 : (⟨S1x8192, .i32⟩ : BufTy).Contents (Elt Ideal) → (⟨S8192x8192, .i32⟩ : BufTy).Contents (Elt Ideal)) (keep 12 main_v9 (by decide) _)))

/-- What operation 13 leaves. -/
theorem w13 : @Eq ((⟨S8192x8192, .i32⟩ : BufTy).Contents (Elt Ideal)) (V m c main_v12) ((broadcastInDim S8192x8192 ![0, 1] bcast_S8192x1_S8192x8192_0_1 : (⟨S8192x1, .i32⟩ : BufTy).Contents (Elt Ideal) → (⟨S8192x8192, .i32⟩ : BufTy).Contents (Elt Ideal)) (V m c main_v10)) :=
  (last 13 _ rfl main_v12 (by decide) _).trans ((StableHlo.unary_result ..).trans (congrArg (broadcastInDim S8192x8192 ![0, 1] bcast_S8192x1_S8192x8192_0_1 : (⟨S8192x1, .i32⟩ : BufTy).Contents (Elt Ideal) → (⟨S8192x8192, .i32⟩ : BufTy).Contents (Elt Ideal)) (keep 13 main_v10 (by decide) _)))

/-- What operation 14 leaves. -/
theorem w14 : @Eq ((⟨S8192x8192, .i1⟩ : BufTy).Contents (Elt Ideal)) (V m c main_v13) ((cmpi .sle : (⟨S8192x8192, .i32⟩ : BufTy).Contents (Elt Ideal) → (⟨S8192x8192, .i32⟩ : BufTy).Contents (Elt Ideal) → (⟨S8192x8192, .i1⟩ : BufTy).Contents (Elt Ideal)) (V m c main_v11) (V m c main_v12)) :=
  (last 14 _ rfl main_v13 (by decide) _).trans ((StableHlo.binary_result ..).trans (congrArg₂ (cmpi .sle : (⟨S8192x8192, .i32⟩ : BufTy).Contents (Elt Ideal) → (⟨S8192x8192, .i32⟩ : BufTy).Contents (Elt Ideal) → (⟨S8192x8192, .i1⟩ : BufTy).Contents (Elt Ideal)) (keep 14 main_v11 (by decide) _) (keep 14 main_v12 (by decide) _)))

/-- What operation 15 leaves. -/
theorem w15 : @Eq ((⟨S_, .f32⟩ : BufTy).Contents (Elt Ideal)) (V m c main_cst_0) ((constant (F := Ideal) S_ .f32 0xFF800000#32)) :=
  (last 15 _ rfl main_cst_0 (by decide) _).trans (StableHlo.nullary_result ..)

/-- What operation 16 leaves. -/
theorem w16 : @Eq ((⟨S_, .f32⟩ : BufTy).Contents (Elt Ideal)) (V m c main_call0_v0) ((id : (⟨S_, .f32⟩ : BufTy).Contents (Elt Ideal) → (⟨S_, .f32⟩ : BufTy).Contents (Elt Ideal)) (V m c main_cst_0)) :=
  (last 16 _ rfl main_call0_v0 (by decide) _).trans ((StableHlo.unary_result ..).trans (congrArg (id : (⟨S_, .f32⟩ : BufTy).Contents (Elt Ideal) → (⟨S_, .f32⟩ : BufTy).Contents (Elt Ideal)) (keep 16 main_cst_0 (by decide) _)))

/-- What operation 17 leaves. -/
theorem w17 : @Eq ((⟨S16x8192x8192, .i1⟩ : BufTy).Contents (Elt Ideal)) (V m c main_call0_v1) (((broadcastInDim S16x8192x8192 ![1, 2] bcast_S8192x8192_S16x8192x8192_1_2) : (⟨S8192x8192, .i1⟩ : BufTy).Contents (Elt Ideal) → (⟨S16x8192x8192, .i1⟩ : BufTy).Contents (Elt Ideal)) (V m c main_v13)) :=
  (last 17 _ rfl main_call0_v1 (by decide) _).trans ((StableHlo.unary_result ..).trans (congrArg ((broadcastInDim S16x8192x8192 ![1, 2] bcast_S8192x8192_S16x8192x8192_1_2) : (⟨S8192x8192, .i1⟩ : BufTy).Contents (Elt Ideal) → (⟨S16x8192x8192, .i1⟩ : BufTy).Contents (Elt Ideal)) (keep 17 main_v13 (by decide) _)))

/-- What operation 18 leaves. -/
theorem w18 : @Eq ((⟨S16x8192x8192, .f32⟩ : BufTy).Contents (Elt Ideal)) (V m c main_call0_v2) (((broadcastInDim S16x8192x8192 ![] bcast_S_S16x8192x8192) : (⟨S_, .f32⟩ : BufTy).Contents (Elt Ideal) → (⟨S16x8192x8192, .f32⟩ : BufTy).Contents (Elt Ideal)) (V m c main_call0_v0)) :=
  (last 18 _ rfl main_call0_v2 (by decide) _).trans ((StableHlo.unary_result ..).trans (congrArg ((broadcastInDim S16x8192x8192 ![] bcast_S_S16x8192x8192) : (⟨S_, .f32⟩ : BufTy).Contents (Elt Ideal) → (⟨S16x8192x8192, .f32⟩ : BufTy).Contents (Elt Ideal)) (keep 18 main_call0_v0 (by decide) _)))

/-- What operation 19 leaves. -/
theorem w19 : @Eq ((⟨S16x8192x8192, .f32⟩ : BufTy).Contents (Elt Ideal)) (V m c main_v14) ((select : (⟨S16x8192x8192, .i1⟩ : BufTy).Contents (Elt Ideal) → (⟨S16x8192x8192, .f32⟩ : BufTy).Contents (Elt Ideal) → (⟨S16x8192x8192, .f32⟩ : BufTy).Contents (Elt Ideal) → (⟨S16x8192x8192, .f32⟩ : BufTy).Contents (Elt Ideal)) (V m c main_call0_v1) (V m c main_v7) (V m c main_call0_v2)) :=
  (last 19 _ rfl main_v14 (by decide) _).trans ((StableHlo.ternary_result ..).trans (show (select : (⟨S16x8192x8192, .i1⟩ : BufTy).Contents (Elt Ideal) → (⟨S16x8192x8192, .f32⟩ : BufTy).Contents (Elt Ideal) → (⟨S16x8192x8192, .f32⟩ : BufTy).Contents (Elt Ideal) → (⟨S16x8192x8192, .f32⟩ : BufTy).Contents (Elt Ideal)) (upto hostOps (fun b => m (c, b)) 19 (Proc.devRef .tc main_call0_v1)) (upto hostOps (fun b => m (c, b)) 19 (Proc.devRef .tc main_v7)) (upto hostOps (fun b => m (c, b)) 19 (Proc.devRef .tc main_call0_v2)) = (select : (⟨S16x8192x8192, .i1⟩ : BufTy).Contents (Elt Ideal) → (⟨S16x8192x8192, .f32⟩ : BufTy).Contents (Elt Ideal) → (⟨S16x8192x8192, .f32⟩ : BufTy).Contents (Elt Ideal) → (⟨S16x8192x8192, .f32⟩ : BufTy).Contents (Elt Ideal)) (V m c main_call0_v1) (V m c main_v7) (V m c main_call0_v2) from congr (congrArg₂ (select : (⟨S16x8192x8192, .i1⟩ : BufTy).Contents (Elt Ideal) → (⟨S16x8192x8192, .f32⟩ : BufTy).Contents (Elt Ideal) → (⟨S16x8192x8192, .f32⟩ : BufTy).Contents (Elt Ideal) → (⟨S16x8192x8192, .f32⟩ : BufTy).Contents (Elt Ideal)) (keep 19 main_call0_v1 (by decide) _) (keep 19 main_v7 (by decide) _)) (keep 19 main_call0_v2 (by decide) _)))

/-- What operation 20 leaves. -/
theorem w20 : @Eq ((⟨S_, .f32⟩ : BufTy).Contents (Elt Ideal)) (V m c main_cst_1) ((constant (F := Ideal) S_ .f32 0xFF800000#32)) :=
  (last 20 _ rfl main_cst_1 (by decide) _).trans (StableHlo.nullary_result ..)

/-- What operation 21 leaves. -/
theorem w21 : @Eq ((⟨S16x8192, .f32⟩ : BufTy).Contents (Elt Ideal)) (V m c main_v15) (((fun x v => Host.reduce (FloatOps.maximumf (F := Ideal) (φ := .f32)) x v reducesTo_S16x8192x8192_S16x8192_d2 h_S_) : (⟨S16x8192x8192, .f32⟩ : BufTy).Contents (Elt Ideal) → (⟨S_, .f32⟩ : BufTy).Contents (Elt Ideal) → (⟨S16x8192, .f32⟩ : BufTy).Contents (Elt Ideal)) (V m c main_v14) (V m c main_cst_1)) :=
  (last 21 _ rfl main_v15 (by decide) _).trans ((StableHlo.binary_result ..).trans (congrArg₂ ((fun x v => Host.reduce (FloatOps.maximumf (F := Ideal) (φ := .f32)) x v reducesTo_S16x8192x8192_S16x8192_d2 h_S_) : (⟨S16x8192x8192, .f32⟩ : BufTy).Contents (Elt Ideal) → (⟨S_, .f32⟩ : BufTy).Contents (Elt Ideal) → (⟨S16x8192, .f32⟩ : BufTy).Contents (Elt Ideal)) (keep 21 main_v14 (by decide) _) (keep 21 main_cst_1 (by decide) _)))

/-- What operation 22 leaves. -/
theorem w22 : @Eq ((⟨S16x8192x1, .f32⟩ : BufTy).Contents (Elt Ideal)) (V m c main_v16) ((broadcastInDim S16x8192x1 ![0, 1] bcast_S16x8192_S16x8192x1_0_1 : (⟨S16x8192, .f32⟩ : BufTy).Contents (Elt Ideal) → (⟨S16x8192x1, .f32⟩ : BufTy).Contents (Elt Ideal)) (V m c main_v15)) :=
  (last 22 _ rfl main_v16 (by decide) _).trans ((StableHlo.unary_result ..).trans (congrArg (broadcastInDim S16x8192x1 ![0, 1] bcast_S16x8192_S16x8192x1_0_1 : (⟨S16x8192, .f32⟩ : BufTy).Contents (Elt Ideal) → (⟨S16x8192x1, .f32⟩ : BufTy).Contents (Elt Ideal)) (keep 22 main_v15 (by decide) _)))

/-- What operation 23 leaves. -/
theorem w23 : @Eq ((⟨S16x8192x8192, .f32⟩ : BufTy).Contents (Elt Ideal)) (V m c main_v17) ((broadcastInDim S16x8192x8192 ![0, 1, 2] bcast_S16x8192x1_S16x8192x8192_0_1_2 : (⟨S16x8192x1, .f32⟩ : BufTy).Contents (Elt Ideal) → (⟨S16x8192x8192, .f32⟩ : BufTy).Contents (Elt Ideal)) (V m c main_v16)) :=
  (last 23 _ rfl main_v17 (by decide) _).trans ((StableHlo.unary_result ..).trans (congrArg (broadcastInDim S16x8192x8192 ![0, 1, 2] bcast_S16x8192x1_S16x8192x8192_0_1_2 : (⟨S16x8192x1, .f32⟩ : BufTy).Contents (Elt Ideal) → (⟨S16x8192x8192, .f32⟩ : BufTy).Contents (Elt Ideal)) (keep 23 main_v16 (by decide) _)))

/-- What operation 24 leaves. -/
theorem w24 : @Eq ((⟨S16x8192x8192, .f32⟩ : BufTy).Contents (Elt Ideal)) (V m c main_v18) ((subf (F := Ideal) (φ := .f32) : (⟨S16x8192x8192, .f32⟩ : BufTy).Contents (Elt Ideal) → (⟨S16x8192x8192, .f32⟩ : BufTy).Contents (Elt Ideal) → (⟨S16x8192x8192, .f32⟩ : BufTy).Contents (Elt Ideal)) (V m c main_v14) (V m c main_v17)) :=
  (last 24 _ rfl main_v18 (by decide) _).trans ((StableHlo.binary_result ..).trans (congrArg₂ (subf (F := Ideal) (φ := .f32) : (⟨S16x8192x8192, .f32⟩ : BufTy).Contents (Elt Ideal) → (⟨S16x8192x8192, .f32⟩ : BufTy).Contents (Elt Ideal) → (⟨S16x8192x8192, .f32⟩ : BufTy).Contents (Elt Ideal)) (keep 24 main_v14 (by decide) _) (keep 24 main_v17 (by decide) _)))

/-- What operation 25 leaves. -/
theorem w25 : @Eq ((⟨S16x8192x8192, .f32⟩ : BufTy).Contents (Elt Ideal)) (V m c main_v19) ((Host.exp (F := Ideal) (φ := .f32) : (⟨S16x8192x8192, .f32⟩ : BufTy).Contents (Elt Ideal) → (⟨S16x8192x8192, .f32⟩ : BufTy).Contents (Elt Ideal)) (V m c main_v18)) :=
  (last 25 _ rfl main_v19 (by decide) _).trans ((StableHlo.unary_result ..).trans (congrArg (Host.exp (F := Ideal) (φ := .f32) : (⟨S16x8192x8192, .f32⟩ : BufTy).Contents (Elt Ideal) → (⟨S16x8192x8192, .f32⟩ : BufTy).Contents (Elt Ideal)) (keep 25 main_v18 (by decide) _)))

/-- What operation 26 leaves. -/
theorem w26 : @Eq ((⟨S_, .f32⟩ : BufTy).Contents (Elt Ideal)) (V m c main_cst_2) ((constant (F := Ideal) S_ .f32 0x00000000#32)) :=
  (last 26 _ rfl main_cst_2 (by decide) _).trans (StableHlo.nullary_result ..)

/-- What operation 27 leaves. -/
theorem w27 : @Eq ((⟨S16x8192, .f32⟩ : BufTy).Contents (Elt Ideal)) (V m c main_v20) (((fun x v => Host.reduceAdd (F := Ideal) (φ := .f32) x v reducesTo_S16x8192x8192_S16x8192_d2 h_S_) : (⟨S16x8192x8192, .f32⟩ : BufTy).Contents (Elt Ideal) → (⟨S_, .f32⟩ : BufTy).Contents (Elt Ideal) → (⟨S16x8192, .f32⟩ : BufTy).Contents (Elt Ideal)) (V m c main_v19) (V m c main_cst_2)) :=
  (last 27 _ rfl main_v20 (by decide) _).trans ((StableHlo.binary_result ..).trans (congrArg₂ ((fun x v => Host.reduceAdd (F := Ideal) (φ := .f32) x v reducesTo_S16x8192x8192_S16x8192_d2 h_S_) : (⟨S16x8192x8192, .f32⟩ : BufTy).Contents (Elt Ideal) → (⟨S_, .f32⟩ : BufTy).Contents (Elt Ideal) → (⟨S16x8192, .f32⟩ : BufTy).Contents (Elt Ideal)) (keep 27 main_v19 (by decide) _) (keep 27 main_cst_2 (by decide) _)))

/-- What operation 28 leaves. -/
theorem w28 : @Eq ((⟨S16x8192x1, .f32⟩ : BufTy).Contents (Elt Ideal)) (V m c main_v21) ((broadcastInDim S16x8192x1 ![0, 1] bcast_S16x8192_S16x8192x1_0_1 : (⟨S16x8192, .f32⟩ : BufTy).Contents (Elt Ideal) → (⟨S16x8192x1, .f32⟩ : BufTy).Contents (Elt Ideal)) (V m c main_v20)) :=
  (last 28 _ rfl main_v21 (by decide) _).trans ((StableHlo.unary_result ..).trans (congrArg (broadcastInDim S16x8192x1 ![0, 1] bcast_S16x8192_S16x8192x1_0_1 : (⟨S16x8192, .f32⟩ : BufTy).Contents (Elt Ideal) → (⟨S16x8192x1, .f32⟩ : BufTy).Contents (Elt Ideal)) (keep 28 main_v20 (by decide) _)))

/-- What operation 29 leaves. -/
theorem w29 : @Eq ((⟨S16x8192x8192, .f32⟩ : BufTy).Contents (Elt Ideal)) (V m c main_v22) ((broadcastInDim S16x8192x8192 ![0, 1, 2] bcast_S16x8192x1_S16x8192x8192_0_1_2 : (⟨S16x8192x1, .f32⟩ : BufTy).Contents (Elt Ideal) → (⟨S16x8192x8192, .f32⟩ : BufTy).Contents (Elt Ideal)) (V m c main_v21)) :=
  (last 29 _ rfl main_v22 (by decide) _).trans ((StableHlo.unary_result ..).trans (congrArg (broadcastInDim S16x8192x8192 ![0, 1, 2] bcast_S16x8192x1_S16x8192x8192_0_1_2 : (⟨S16x8192x1, .f32⟩ : BufTy).Contents (Elt Ideal) → (⟨S16x8192x8192, .f32⟩ : BufTy).Contents (Elt Ideal)) (keep 29 main_v21 (by decide) _)))

/-- What operation 30 leaves. -/
theorem w30 : @Eq ((⟨S16x8192x8192, .f32⟩ : BufTy).Contents (Elt Ideal)) (V m c main_v23) ((Host.divf (F := Ideal) (φ := .f32) : (⟨S16x8192x8192, .f32⟩ : BufTy).Contents (Elt Ideal) → (⟨S16x8192x8192, .f32⟩ : BufTy).Contents (Elt Ideal) → (⟨S16x8192x8192, .f32⟩ : BufTy).Contents (Elt Ideal)) (V m c main_v19) (V m c main_v22)) :=
  (last 30 _ rfl main_v23 (by decide) _).trans ((StableHlo.binary_result ..).trans (congrArg₂ (Host.divf (F := Ideal) (φ := .f32) : (⟨S16x8192x8192, .f32⟩ : BufTy).Contents (Elt Ideal) → (⟨S16x8192x8192, .f32⟩ : BufTy).Contents (Elt Ideal) → (⟨S16x8192x8192, .f32⟩ : BufTy).Contents (Elt Ideal)) (keep 30 main_v19 (by decide) _) (keep 30 main_v22 (by decide) _)))

end Cert.KernelIdeal.Fox

end
-- ==== Proof.HostB.lean ====
module

public import proofs.«01_k».proof.Proof.Host
public import Idealize.ShloMosaic.Lib.StableHlo.RunRead

/-! What host operations 31 to 76 leave. -/

@[expose] public section

set_option maxRecDepth 16384

noncomputable section

namespace Cert.KernelIdeal.Fox

open Cert.KernelIdeal Cert.KernelIdeal.Gen
open Idealize.ShloMosaic Idealize.ShloMosaic.TcCoe
open Idealize.ShloMosaic.StableHlo (after upto)

variable (m : (ℓ : Loc nD τ sig) → Buf (Elt Ideal) ℓ) (c : Dev nD)

/-- What operation 31 leaves. -/
theorem w31 : @Eq ((⟨S8192x16x128, .f32⟩ : BufTy).Contents (Elt Ideal)) (V m c main_v24) (shapeCast S8192x16x128 (V m c main_arg2 : (⟨S8192x2048, .f32⟩ : BufTy).Contents (Elt Ideal)) shapeCasts_S8192x2048_S8192x16x128) :=
  (last 31 _ rfl main_v24 (by decide) _).trans ((StableHlo.reshape_result ..).trans (congrArg (fun z : (⟨S8192x2048, .f32⟩ : BufTy).Contents (Elt Ideal) => shapeCast S8192x16x128 z shapeCasts_S8192x2048_S8192x16x128) (keep 31 main_arg2 (by decide) _)))

/-- What operation 32 leaves. -/
theorem w32 : @Eq ((⟨S16x8192x128, .f32⟩ : BufTy).Contents (Elt Ideal)) (V m c main_v25) (((fun l r => Host.dotGeneral (F := Ideal) (φ₁ := .f32) (φ₂ := .f32) dot_S16x8192x8192_S8192x16x128_S16x8192x128_2_0_1_2_0_1 none l r) : (⟨S16x8192x8192, .f32⟩ : BufTy).Contents (Elt Ideal) → (⟨S8192x16x128, .f32⟩ : BufTy).Contents (Elt Ideal) → (⟨S16x8192x128, .f32⟩ : BufTy).Contents (Elt Ideal)) (V m c main_v23) (V m c main_v24)) :=
  (last 32 _ rfl main_v25 (by decide) _).trans ((StableHlo.binary_result ..).trans (congrArg₂ ((fun l r => Host.dotGeneral (F := Ideal) (φ₁ := .f32) (φ₂ := .f32) dot_S16x8192x8192_S8192x16x128_S16x8192x128_2_0_1_2_0_1 none l r) : (⟨S16x8192x8192, .f32⟩ : BufTy).Contents (Elt Ideal) → (⟨S8192x16x128, .f32⟩ : BufTy).Contents (Elt Ideal) → (⟨S16x8192x128, .f32⟩ : BufTy).Contents (Elt Ideal)) (keep 32 main_v23 (by decide) _) (keep 32 main_v24 (by decide) _)))

/-- What operation 33 leaves. -/
theorem w33 : @Eq ((⟨S16x8192, .f32⟩ : BufTy).Contents (Elt Ideal)) (V m c main_v26) ((Host.log (F := Ideal) (φ := .f32) : (⟨S16x8192, .f32⟩ : BufTy).Contents (Elt Ideal) → (⟨S16x8192, .f32⟩ : BufTy).Contents (Elt Ideal)) (V m c main_v20)) :=
  (last 33 _ rfl main_v26 (by decide) _).trans ((StableHlo.unary_result ..).trans (congrArg (Host.log (F := Ideal) (φ := .f32) : (⟨S16x8192, .f32⟩ : BufTy).Contents (Elt Ideal) → (⟨S16x8192, .f32⟩ : BufTy).Contents (Elt Ideal)) (keep 33 main_v20 (by decide) _)))

/-- What operation 34 leaves. -/
theorem w34 : @Eq ((⟨S16x8192, .f32⟩ : BufTy).Contents (Elt Ideal)) (V m c main_v27) ((addf (F := Ideal) (φ := .f32) : (⟨S16x8192, .f32⟩ : BufTy).Contents (Elt Ideal) → (⟨S16x8192, .f32⟩ : BufTy).Contents (Elt Ideal) → (⟨S16x8192, .f32⟩ : BufTy).Contents (Elt Ideal)) (V m c main_v15) (V m c main_v26)) :=
  (last 34 _ rfl main_v27 (by decide) _).trans ((StableHlo.binary_result ..).trans (congrArg₂ (addf (F := Ideal) (φ := .f32) : (⟨S16x8192, .f32⟩ : BufTy).Contents (Elt Ideal) → (⟨S16x8192, .f32⟩ : BufTy).Contents (Elt Ideal) → (⟨S16x8192, .f32⟩ : BufTy).Contents (Elt Ideal)) (keep 34 main_v15 (by decide) _) (keep 34 main_v26 (by decide) _)))

/-- What operation 35 leaves. -/
theorem w35 : @Eq ((⟨S_, .f32⟩ : BufTy).Contents (Elt Ideal)) (V m c main_cst_3) ((constant (F := Ideal) S_ .f32 0x40000000#32)) :=
  (last 35 _ rfl main_cst_3 (by decide) _).trans (StableHlo.nullary_result ..)

/-- What operation 36 leaves. -/
theorem w36 : @Eq ((⟨S_, .f32⟩ : BufTy).Contents (Elt Ideal)) (V m c main_v28) ((Host.log (F := Ideal) (φ := .f32) : (⟨S_, .f32⟩ : BufTy).Contents (Elt Ideal) → (⟨S_, .f32⟩ : BufTy).Contents (Elt Ideal)) (V m c main_cst_3)) :=
  (last 36 _ rfl main_v28 (by decide) _).trans ((StableHlo.unary_result ..).trans (congrArg (Host.log (F := Ideal) (φ := .f32) : (⟨S_, .f32⟩ : BufTy).Contents (Elt Ideal) → (⟨S_, .f32⟩ : BufTy).Contents (Elt Ideal)) (keep 36 main_cst_3 (by decide) _)))

/-- What operation 37 leaves. -/
theorem w37 : @Eq ((⟨S16x8192, .f32⟩ : BufTy).Contents (Elt Ideal)) (V m c main_v29) ((broadcastInDim S16x8192 ![] bcast_S_S16x8192 : (⟨S_, .f32⟩ : BufTy).Contents (Elt Ideal) → (⟨S16x8192, .f32⟩ : BufTy).Contents (Elt Ideal)) (V m c main_v28)) :=
  (last 37 _ rfl main_v29 (by decide) _).trans ((StableHlo.unary_result ..).trans (congrArg (broadcastInDim S16x8192 ![] bcast_S_S16x8192 : (⟨S_, .f32⟩ : BufTy).Contents (Elt Ideal) → (⟨S16x8192, .f32⟩ : BufTy).Contents (Elt Ideal)) (keep 37 main_v28 (by decide) _)))

/-- What operation 38 leaves. -/
theorem w38 : @Eq ((⟨S16x8192, .f32⟩ : BufTy).Contents (Elt Ideal)) (V m c main_v30) ((Host.divf (F := Ideal) (φ := .f32) : (⟨S16x8192, .f32⟩ : BufTy).Contents (Elt Ideal) → (⟨S16x8192, .f32⟩ : BufTy).Contents (Elt Ideal) → (⟨S16x8192, .f32⟩ : BufTy).Contents (Elt Ideal)) (V m c main_v27) (V m c main_v29)) :=
  (last 38 _ rfl main_v30 (by decide) _).trans ((StableHlo.binary_result ..).trans (congrArg₂ (Host.divf (F := Ideal) (φ := .f32) : (⟨S16x8192, .f32⟩ : BufTy).Contents (Elt Ideal) → (⟨S16x8192, .f32⟩ : BufTy).Contents (Elt Ideal) → (⟨S16x8192, .f32⟩ : BufTy).Contents (Elt Ideal)) (keep 38 main_v27 (by decide) _) (keep 38 main_v29 (by decide) _)))

/-- What operation 39 leaves. -/
theorem w39 : @Eq ((⟨S_, .f32⟩ : BufTy).Contents (Elt Ideal)) (V m c main_cst_4) ((constant (F := Ideal) S_ .f32 0x3DB504F3#32)) :=
  (last 39 _ rfl main_cst_4 (by decide) _).trans (StableHlo.nullary_result ..)

/-- What operation 40 leaves. -/
theorem w40 : @Eq ((⟨S8192x2048, .f32⟩ : BufTy).Contents (Elt Ideal)) (V m c main_v31) ((broadcastInDim S8192x2048 ![] bcast_S_S8192x2048 : (⟨S_, .f32⟩ : BufTy).Contents (Elt Ideal) → (⟨S8192x2048, .f32⟩ : BufTy).Contents (Elt Ideal)) (V m c main_cst_4)) :=
  (last 40 _ rfl main_v31 (by decide) _).trans ((StableHlo.unary_result ..).trans (congrArg (broadcastInDim S8192x2048 ![] bcast_S_S8192x2048 : (⟨S_, .f32⟩ : BufTy).Contents (Elt Ideal) → (⟨S8192x2048, .f32⟩ : BufTy).Contents (Elt Ideal)) (keep 40 main_cst_4 (by decide) _)))

/-- What operation 41 leaves. -/
theorem w41 : @Eq ((⟨S8192x2048, .f32⟩ : BufTy).Contents (Elt Ideal)) (V m c main_v32) ((mulf (F := Ideal) (φ := .f32) : (⟨S8192x2048, .f32⟩ : BufTy).Contents (Elt Ideal) → (⟨S8192x2048, .f32⟩ : BufTy).Contents (Elt Ideal) → (⟨S8192x2048, .f32⟩ : BufTy).Contents (Elt Ideal)) (V m c main_arg0) (V m c main_v31)) :=
  (last 41 _ rfl main_v32 (by decide) _).trans ((StableHlo.binary_result ..).trans (congrArg₂ (mulf (F := Ideal) (φ := .f32) : (⟨S8192x2048, .f32⟩ : BufTy).Contents (Elt Ideal) → (⟨S8192x2048, .f32⟩ : BufTy).Contents (Elt Ideal) → (⟨S8192x2048, .f32⟩ : BufTy).Contents (Elt Ideal)) (keep 41 main_arg0 (by decide) _) (keep 41 main_v31 (by decide) _)))

/-- What operation 42 leaves. -/
theorem w42 : @Eq ((⟨S_, .f32⟩ : BufTy).Contents (Elt Ideal)) (V m c main_cst_5) ((constant (F := Ideal) S_ .f32 0x40000000#32)) :=
  (last 42 _ rfl main_cst_5 (by decide) _).trans (StableHlo.nullary_result ..)

/-- What operation 43 leaves. -/
theorem w43 : @Eq ((⟨S_, .f32⟩ : BufTy).Contents (Elt Ideal)) (V m c main_v33) ((Host.log (F := Ideal) (φ := .f32) : (⟨S_, .f32⟩ : BufTy).Contents (Elt Ideal) → (⟨S_, .f32⟩ : BufTy).Contents (Elt Ideal)) (V m c main_cst_5)) :=
  (last 43 _ rfl main_v33 (by decide) _).trans ((StableHlo.unary_result ..).trans (congrArg (Host.log (F := Ideal) (φ := .f32) : (⟨S_, .f32⟩ : BufTy).Contents (Elt Ideal) → (⟨S_, .f32⟩ : BufTy).Contents (Elt Ideal)) (keep 43 main_cst_5 (by decide) _)))

/-- What operation 44 leaves. -/
theorem w44 : @Eq ((⟨S8192x2048, .f32⟩ : BufTy).Contents (Elt Ideal)) (V m c main_v34) ((broadcastInDim S8192x2048 ![] bcast_S_S8192x2048 : (⟨S_, .f32⟩ : BufTy).Contents (Elt Ideal) → (⟨S8192x2048, .f32⟩ : BufTy).Contents (Elt Ideal)) (V m c main_v33)) :=
  (last 44 _ rfl main_v34 (by decide) _).trans ((StableHlo.unary_result ..).trans (congrArg (broadcastInDim S8192x2048 ![] bcast_S_S8192x2048 : (⟨S_, .f32⟩ : BufTy).Contents (Elt Ideal) → (⟨S8192x2048, .f32⟩ : BufTy).Contents (Elt Ideal)) (keep 44 main_v33 (by decide) _)))

/-- What operation 45 leaves. -/
theorem w45 : @Eq ((⟨S8192x2048, .f32⟩ : BufTy).Contents (Elt Ideal)) (V m c main_v35) ((Host.divf (F := Ideal) (φ := .f32) : (⟨S8192x2048, .f32⟩ : BufTy).Contents (Elt Ideal) → (⟨S8192x2048, .f32⟩ : BufTy).Contents (Elt Ideal) → (⟨S8192x2048, .f32⟩ : BufTy).Contents (Elt Ideal)) (V m c main_v32) (V m c main_v34)) :=
  (last 45 _ rfl main_v35 (by decide) _).trans ((StableHlo.binary_result ..).trans (congrArg₂ (Host.divf (F := Ideal) (φ := .f32) : (⟨S8192x2048, .f32⟩ : BufTy).Contents (Elt Ideal) → (⟨S8192x2048, .f32⟩ : BufTy).Contents (Elt Ideal) → (⟨S8192x2048, .f32⟩ : BufTy).Contents (Elt Ideal)) (keep 45 main_v32 (by decide) _) (keep 45 main_v34 (by decide) _)))

/-- What operation 46 leaves. -/
theorem w46 : @Eq ((⟨S8192x8192, .f32⟩ : BufTy).Contents (Elt Ideal)) (V m c main_v36) (((concatenate S8192x8192 1 [⟨S8192x2048, (V m c main_v35 : (⟨S8192x2048, .f32⟩ : BufTy).Contents (Elt Ideal))⟩, ⟨S8192x2048, (V m c main_arg1 : (⟨S8192x2048, .f32⟩ : BufTy).Contents (Elt Ideal))⟩, ⟨S8192x2048, (V m c main_arg2 : (⟨S8192x2048, .f32⟩ : BufTy).Contents (Elt Ideal))⟩, ⟨S8192x2048, (V m c main_arg3 : (⟨S8192x2048, .f32⟩ : BufTy).Contents (Elt Ideal))⟩] concatenates_S8192x2048_S8192x2048_S8192x2048_S8192x2048_S8192x8192_d1 : (⟨S8192x8192, .f32⟩ : BufTy).Contents (Elt Ideal)))) :=
  (last 46 _ rfl main_v36 (by decide) _).trans ((StableHlo.nary_result ..).trans (cat4_congr concatenates_S8192x2048_S8192x2048_S8192x2048_S8192x2048_S8192x8192_d1 (keep 46 main_v35 (by decide) _) (keep 46 main_arg1 (by decide) _) (keep 46 main_arg2 (by decide) _) (keep 46 main_arg3 (by decide) _)))

/-- What operation 47 leaves. -/
theorem w47 : @Eq ((⟨S8192x8192, .bf16⟩ : BufTy).Contents (Elt Ideal)) (V m c main_v37) (((truncf (F := Ideal) .bf16 · bitsLt_bf16_f32) : (⟨S8192x8192, .f32⟩ : BufTy).Contents (Elt Ideal) → (⟨S8192x8192, .bf16⟩ : BufTy).Contents (Elt Ideal)) (V m c main_v36)) :=
  (last 47 _ rfl main_v37 (by decide) _).trans ((StableHlo.unary_result ..).trans (congrArg ((truncf (F := Ideal) .bf16 · bitsLt_bf16_f32) : (⟨S8192x8192, .f32⟩ : BufTy).Contents (Elt Ideal) → (⟨S8192x8192, .bf16⟩ : BufTy).Contents (Elt Ideal)) (keep 47 main_v36 (by decide) _)))

/-- What operation 48 leaves. -/
theorem w48 : @Eq ((⟨S_, .bf16⟩ : BufTy).Contents (Elt Ideal)) (V m c main_cst_6) ((constant (F := Ideal) S_ .bf16 0x3F80#16)) :=
  (last 48 _ rfl main_cst_6 (by decide) _).trans (StableHlo.nullary_result ..)

/-- What operation 49 leaves. -/
theorem w49 : @Eq ((⟨S16x8192, .bf16⟩ : BufTy).Contents (Elt Ideal)) (V m c main_v38) ((broadcastInDim S16x8192 ![] bcast_S_S16x8192 : (⟨S_, .bf16⟩ : BufTy).Contents (Elt Ideal) → (⟨S16x8192, .bf16⟩ : BufTy).Contents (Elt Ideal)) (V m c main_cst_6)) :=
  (last 49 _ rfl main_v38 (by decide) _).trans ((StableHlo.unary_result ..).trans (congrArg (broadcastInDim S16x8192 ![] bcast_S_S16x8192 : (⟨S_, .bf16⟩ : BufTy).Contents (Elt Ideal) → (⟨S16x8192, .bf16⟩ : BufTy).Contents (Elt Ideal)) (keep 49 main_cst_6 (by decide) _)))

/-- What operation 50 leaves. -/
theorem w50 : @Eq ((⟨S16x8192, .f32⟩ : BufTy).Contents (Elt Ideal)) (V m c main_v39) ((Host.negf (F := Ideal) (φ := .f32) : (⟨S16x8192, .f32⟩ : BufTy).Contents (Elt Ideal) → (⟨S16x8192, .f32⟩ : BufTy).Contents (Elt Ideal)) (V m c main_arg4)) :=
  (last 50 _ rfl main_v39 (by decide) _).trans ((StableHlo.unary_result ..).trans (congrArg (Host.negf (F := Ideal) (φ := .f32) : (⟨S16x8192, .f32⟩ : BufTy).Contents (Elt Ideal) → (⟨S16x8192, .f32⟩ : BufTy).Contents (Elt Ideal)) (keep 50 main_arg4 (by decide) _)))

/-- What operation 51 leaves. -/
theorem w51 : @Eq ((⟨S_, .f32⟩ : BufTy).Contents (Elt Ideal)) (V m c main_cst_7) ((constant (F := Ideal) S_ .f32 0x40000000#32)) :=
  (last 51 _ rfl main_cst_7 (by decide) _).trans (StableHlo.nullary_result ..)

/-- What operation 52 leaves. -/
theorem w52 : @Eq ((⟨S_, .f32⟩ : BufTy).Contents (Elt Ideal)) (V m c main_v40) ((Host.log (F := Ideal) (φ := .f32) : (⟨S_, .f32⟩ : BufTy).Contents (Elt Ideal) → (⟨S_, .f32⟩ : BufTy).Contents (Elt Ideal)) (V m c main_cst_7)) :=
  (last 52 _ rfl main_v40 (by decide) _).trans ((StableHlo.unary_result ..).trans (congrArg (Host.log (F := Ideal) (φ := .f32) : (⟨S_, .f32⟩ : BufTy).Contents (Elt Ideal) → (⟨S_, .f32⟩ : BufTy).Contents (Elt Ideal)) (keep 52 main_cst_7 (by decide) _)))

/-- What operation 53 leaves. -/
theorem w53 : @Eq ((⟨S16x8192, .f32⟩ : BufTy).Contents (Elt Ideal)) (V m c main_v41) ((broadcastInDim S16x8192 ![] bcast_S_S16x8192 : (⟨S_, .f32⟩ : BufTy).Contents (Elt Ideal) → (⟨S16x8192, .f32⟩ : BufTy).Contents (Elt Ideal)) (V m c main_v40)) :=
  (last 53 _ rfl main_v41 (by decide) _).trans ((StableHlo.unary_result ..).trans (congrArg (broadcastInDim S16x8192 ![] bcast_S_S16x8192 : (⟨S_, .f32⟩ : BufTy).Contents (Elt Ideal) → (⟨S16x8192, .f32⟩ : BufTy).Contents (Elt Ideal)) (keep 53 main_v40 (by decide) _)))

/-- What operation 54 leaves. -/
theorem w54 : @Eq ((⟨S16x8192, .f32⟩ : BufTy).Contents (Elt Ideal)) (V m c main_v42) ((Host.divf (F := Ideal) (φ := .f32) : (⟨S16x8192, .f32⟩ : BufTy).Contents (Elt Ideal) → (⟨S16x8192, .f32⟩ : BufTy).Contents (Elt Ideal) → (⟨S16x8192, .f32⟩ : BufTy).Contents (Elt Ideal)) (V m c main_v39) (V m c main_v41)) :=
  (last 54 _ rfl main_v42 (by decide) _).trans ((StableHlo.binary_result ..).trans (congrArg₂ (Host.divf (F := Ideal) (φ := .f32) : (⟨S16x8192, .f32⟩ : BufTy).Contents (Elt Ideal) → (⟨S16x8192, .f32⟩ : BufTy).Contents (Elt Ideal) → (⟨S16x8192, .f32⟩ : BufTy).Contents (Elt Ideal)) (keep 54 main_v39 (by decide) _) (keep 54 main_v41 (by decide) _)))

/-- What operation 55 leaves. -/
theorem w55 : @Eq ((⟨S16x8192, .bf16⟩ : BufTy).Contents (Elt Ideal)) (V m c main_v43) (((truncf (F := Ideal) .bf16 · bitsLt_bf16_f32) : (⟨S16x8192, .f32⟩ : BufTy).Contents (Elt Ideal) → (⟨S16x8192, .bf16⟩ : BufTy).Contents (Elt Ideal)) (V m c main_v42)) :=
  (last 55 _ rfl main_v43 (by decide) _).trans ((StableHlo.unary_result ..).trans (congrArg ((truncf (F := Ideal) .bf16 · bitsLt_bf16_f32) : (⟨S16x8192, .f32⟩ : BufTy).Contents (Elt Ideal) → (⟨S16x8192, .bf16⟩ : BufTy).Contents (Elt Ideal)) (keep 55 main_v42 (by decide) _)))

/-- What operation 56 leaves. -/
theorem w56 : @Eq ((⟨S16x8192, .f32⟩ : BufTy).Contents (Elt Ideal)) (V m c main_v44) (((extf (F := Ideal) .f32 · bitsLt_bf16_f32) : (⟨S16x8192, .bf16⟩ : BufTy).Contents (Elt Ideal) → (⟨S16x8192, .f32⟩ : BufTy).Contents (Elt Ideal)) (V m c main_v43)) :=
  (last 56 _ rfl main_v44 (by decide) _).trans ((StableHlo.unary_result ..).trans (congrArg ((extf (F := Ideal) .f32 · bitsLt_bf16_f32) : (⟨S16x8192, .bf16⟩ : BufTy).Contents (Elt Ideal) → (⟨S16x8192, .f32⟩ : BufTy).Contents (Elt Ideal)) (keep 56 main_v43 (by decide) _)))

/-- What operation 57 leaves. -/
theorem w57 : @Eq ((⟨S16x8192, .f32⟩ : BufTy).Contents (Elt Ideal)) (V m c main_v45) ((subf (F := Ideal) (φ := .f32) : (⟨S16x8192, .f32⟩ : BufTy).Contents (Elt Ideal) → (⟨S16x8192, .f32⟩ : BufTy).Contents (Elt Ideal) → (⟨S16x8192, .f32⟩ : BufTy).Contents (Elt Ideal)) (V m c main_v42) (V m c main_v44)) :=
  (last 57 _ rfl main_v45 (by decide) _).trans ((StableHlo.binary_result ..).trans (congrArg₂ (subf (F := Ideal) (φ := .f32) : (⟨S16x8192, .f32⟩ : BufTy).Contents (Elt Ideal) → (⟨S16x8192, .f32⟩ : BufTy).Contents (Elt Ideal) → (⟨S16x8192, .f32⟩ : BufTy).Contents (Elt Ideal)) (keep 57 main_v42 (by decide) _) (keep 57 main_v44 (by decide) _)))

/-- What operation 58 leaves. -/
theorem w58 : @Eq ((⟨S16x8192, .bf16⟩ : BufTy).Contents (Elt Ideal)) (V m c main_v46) (((truncf (F := Ideal) .bf16 · bitsLt_bf16_f32) : (⟨S16x8192, .f32⟩ : BufTy).Contents (Elt Ideal) → (⟨S16x8192, .bf16⟩ : BufTy).Contents (Elt Ideal)) (V m c main_v45)) :=
  (last 58 _ rfl main_v46 (by decide) _).trans ((StableHlo.unary_result ..).trans (congrArg ((truncf (F := Ideal) .bf16 · bitsLt_bf16_f32) : (⟨S16x8192, .f32⟩ : BufTy).Contents (Elt Ideal) → (⟨S16x8192, .bf16⟩ : BufTy).Contents (Elt Ideal)) (keep 58 main_v45 (by decide) _)))

/-- What operation 59 leaves. -/
theorem w59 : @Eq ((⟨S16x8192, .f32⟩ : BufTy).Contents (Elt Ideal)) (V m c main_v47) (((extf (F := Ideal) .f32 · bitsLt_bf16_f32) : (⟨S16x8192, .bf16⟩ : BufTy).Contents (Elt Ideal) → (⟨S16x8192, .f32⟩ : BufTy).Contents (Elt Ideal)) (V m c main_v46)) :=
  (last 59 _ rfl main_v47 (by decide) _).trans ((StableHlo.unary_result ..).trans (congrArg ((extf (F := Ideal) .f32 · bitsLt_bf16_f32) : (⟨S16x8192, .bf16⟩ : BufTy).Contents (Elt Ideal) → (⟨S16x8192, .f32⟩ : BufTy).Contents (Elt Ideal)) (keep 59 main_v46 (by decide) _)))

/-- What operation 60 leaves. -/
theorem w60 : @Eq ((⟨S16x8192, .f32⟩ : BufTy).Contents (Elt Ideal)) (V m c main_v48) ((subf (F := Ideal) (φ := .f32) : (⟨S16x8192, .f32⟩ : BufTy).Contents (Elt Ideal) → (⟨S16x8192, .f32⟩ : BufTy).Contents (Elt Ideal) → (⟨S16x8192, .f32⟩ : BufTy).Contents (Elt Ideal)) (V m c main_v45) (V m c main_v47)) :=
  (last 60 _ rfl main_v48 (by decide) _).trans ((StableHlo.binary_result ..).trans (congrArg₂ (subf (F := Ideal) (φ := .f32) : (⟨S16x8192, .f32⟩ : BufTy).Contents (Elt Ideal) → (⟨S16x8192, .f32⟩ : BufTy).Contents (Elt Ideal) → (⟨S16x8192, .f32⟩ : BufTy).Contents (Elt Ideal)) (keep 60 main_v45 (by decide) _) (keep 60 main_v47 (by decide) _)))

/-- What operation 61 leaves. -/
theorem w61 : @Eq ((⟨S16x8192, .bf16⟩ : BufTy).Contents (Elt Ideal)) (V m c main_v49) (((truncf (F := Ideal) .bf16 · bitsLt_bf16_f32) : (⟨S16x8192, .f32⟩ : BufTy).Contents (Elt Ideal) → (⟨S16x8192, .bf16⟩ : BufTy).Contents (Elt Ideal)) (V m c main_v48)) :=
  (last 61 _ rfl main_v49 (by decide) _).trans ((StableHlo.unary_result ..).trans (congrArg ((truncf (F := Ideal) .bf16 · bitsLt_bf16_f32) : (⟨S16x8192, .f32⟩ : BufTy).Contents (Elt Ideal) → (⟨S16x8192, .bf16⟩ : BufTy).Contents (Elt Ideal)) (keep 61 main_v48 (by decide) _)))

/-- What operation 62 leaves. -/
theorem w62 : @Eq ((⟨S_, .bf16⟩ : BufTy).Contents (Elt Ideal)) (V m c main_cst_8) ((constant (F := Ideal) S_ .bf16 0x3F80#16)) :=
  (last 62 _ rfl main_cst_8 (by decide) _).trans (StableHlo.nullary_result ..)

/-- What operation 63 leaves. -/
theorem w63 : @Eq ((⟨S16x8192, .bf16⟩ : BufTy).Contents (Elt Ideal)) (V m c main_v50) ((broadcastInDim S16x8192 ![] bcast_S_S16x8192 : (⟨S_, .bf16⟩ : BufTy).Contents (Elt Ideal) → (⟨S16x8192, .bf16⟩ : BufTy).Contents (Elt Ideal)) (V m c main_cst_8)) :=
  (last 63 _ rfl main_v50 (by decide) _).trans ((StableHlo.unary_result ..).trans (congrArg (broadcastInDim S16x8192 ![] bcast_S_S16x8192 : (⟨S_, .bf16⟩ : BufTy).Contents (Elt Ideal) → (⟨S16x8192, .bf16⟩ : BufTy).Contents (Elt Ideal)) (keep 63 main_cst_8 (by decide) _)))

/-- What operation 64 leaves. -/
theorem w64 : @Eq ((⟨S16x8192x1, .bf16⟩ : BufTy).Contents (Elt Ideal)) (V m c main_v51) ((broadcastInDim S16x8192x1 ![0, 1] bcast_S16x8192_S16x8192x1_0_1 : (⟨S16x8192, .bf16⟩ : BufTy).Contents (Elt Ideal) → (⟨S16x8192x1, .bf16⟩ : BufTy).Contents (Elt Ideal)) (V m c main_v43)) :=
  (last 64 _ rfl main_v51 (by decide) _).trans ((StableHlo.unary_result ..).trans (congrArg (broadcastInDim S16x8192x1 ![0, 1] bcast_S16x8192_S16x8192x1_0_1 : (⟨S16x8192, .bf16⟩ : BufTy).Contents (Elt Ideal) → (⟨S16x8192x1, .bf16⟩ : BufTy).Contents (Elt Ideal)) (keep 64 main_v43 (by decide) _)))

/-- What operation 65 leaves. -/
theorem w65 : @Eq ((⟨S16x8192x1, .bf16⟩ : BufTy).Contents (Elt Ideal)) (V m c main_v52) ((broadcastInDim S16x8192x1 ![0, 1] bcast_S16x8192_S16x8192x1_0_1 : (⟨S16x8192, .bf16⟩ : BufTy).Contents (Elt Ideal) → (⟨S16x8192x1, .bf16⟩ : BufTy).Contents (Elt Ideal)) (V m c main_v46)) :=
  (last 65 _ rfl main_v52 (by decide) _).trans ((StableHlo.unary_result ..).trans (congrArg (broadcastInDim S16x8192x1 ![0, 1] bcast_S16x8192_S16x8192x1_0_1 : (⟨S16x8192, .bf16⟩ : BufTy).Contents (Elt Ideal) → (⟨S16x8192x1, .bf16⟩ : BufTy).Contents (Elt Ideal)) (keep 65 main_v46 (by decide) _)))

/-- What operation 66 leaves. -/
theorem w66 : @Eq ((⟨S16x8192x1, .bf16⟩ : BufTy).Contents (Elt Ideal)) (V m c main_v53) ((broadcastInDim S16x8192x1 ![0, 1] bcast_S16x8192_S16x8192x1_0_1 : (⟨S16x8192, .bf16⟩ : BufTy).Contents (Elt Ideal) → (⟨S16x8192x1, .bf16⟩ : BufTy).Contents (Elt Ideal)) (V m c main_v49)) :=
  (last 66 _ rfl main_v53 (by decide) _).trans ((StableHlo.unary_result ..).trans (congrArg (broadcastInDim S16x8192x1 ![0, 1] bcast_S16x8192_S16x8192x1_0_1 : (⟨S16x8192, .bf16⟩ : BufTy).Contents (Elt Ideal) → (⟨S16x8192x1, .bf16⟩ : BufTy).Contents (Elt Ideal)) (keep 66 main_v49 (by decide) _)))

/-- What operation 67 leaves. -/
theorem w67 : @Eq ((⟨S16x8192x1, .bf16⟩ : BufTy).Contents (Elt Ideal)) (V m c main_v54) ((broadcastInDim S16x8192x1 ![0, 1] bcast_S16x8192_S16x8192x1_0_1 : (⟨S16x8192, .bf16⟩ : BufTy).Contents (Elt Ideal) → (⟨S16x8192x1, .bf16⟩ : BufTy).Contents (Elt Ideal)) (V m c main_v50)) :=
  (last 67 _ rfl main_v54 (by decide) _).trans ((StableHlo.unary_result ..).trans (congrArg (broadcastInDim S16x8192x1 ![0, 1] bcast_S16x8192_S16x8192x1_0_1 : (⟨S16x8192, .bf16⟩ : BufTy).Contents (Elt Ideal) → (⟨S16x8192x1, .bf16⟩ : BufTy).Contents (Elt Ideal)) (keep 67 main_v50 (by decide) _)))

/-- What operation 68 leaves. -/
theorem w68 : @Eq ((⟨S16x8192x1, .bf16⟩ : BufTy).Contents (Elt Ideal)) (V m c main_v55) ((broadcastInDim S16x8192x1 ![0, 1] bcast_S16x8192_S16x8192x1_0_1 : (⟨S16x8192, .bf16⟩ : BufTy).Contents (Elt Ideal) → (⟨S16x8192x1, .bf16⟩ : BufTy).Contents (Elt Ideal)) (V m c main_v50)) :=
  (last 68 _ rfl main_v55 (by decide) _).trans ((StableHlo.unary_result ..).trans (congrArg (broadcastInDim S16x8192x1 ![0, 1] bcast_S16x8192_S16x8192x1_0_1 : (⟨S16x8192, .bf16⟩ : BufTy).Contents (Elt Ideal) → (⟨S16x8192x1, .bf16⟩ : BufTy).Contents (Elt Ideal)) (keep 68 main_v50 (by decide) _)))

/-- What operation 69 leaves. -/
theorem w69 : @Eq ((⟨S16x8192x1, .bf16⟩ : BufTy).Contents (Elt Ideal)) (V m c main_v56) ((broadcastInDim S16x8192x1 ![0, 1] bcast_S16x8192_S16x8192x1_0_1 : (⟨S16x8192, .bf16⟩ : BufTy).Contents (Elt Ideal) → (⟨S16x8192x1, .bf16⟩ : BufTy).Contents (Elt Ideal)) (V m c main_v50)) :=
  (last 69 _ rfl main_v56 (by decide) _).trans ((StableHlo.unary_result ..).trans (congrArg (broadcastInDim S16x8192x1 ![0, 1] bcast_S16x8192_S16x8192x1_0_1 : (⟨S16x8192, .bf16⟩ : BufTy).Contents (Elt Ideal) → (⟨S16x8192x1, .bf16⟩ : BufTy).Contents (Elt Ideal)) (keep 69 main_v50 (by decide) _)))

/-- What operation 70 leaves. -/
theorem w70 : @Eq ((⟨S16x8192x6, .bf16⟩ : BufTy).Contents (Elt Ideal)) (V m c main_v57) (((concatenate S16x8192x6 2 [⟨S16x8192x1, (V m c main_v51 : (⟨S16x8192x1, .bf16⟩ : BufTy).Contents (Elt Ideal))⟩, ⟨S16x8192x1, (V m c main_v52 : (⟨S16x8192x1, .bf16⟩ : BufTy).Contents (Elt Ideal))⟩, ⟨S16x8192x1, (V m c main_v53 : (⟨S16x8192x1, .bf16⟩ : BufTy).Contents (Elt Ideal))⟩, ⟨S16x8192x1, (V m c main_v54 : (⟨S16x8192x1, .bf16⟩ : BufTy).Contents (Elt Ideal))⟩, ⟨S16x8192x1, (V m c main_v55 : (⟨S16x8192x1, .bf16⟩ : BufTy).Contents (Elt Ideal))⟩, ⟨S16x8192x1, (V m c main_v56 : (⟨S16x8192x1, .bf16⟩ : BufTy).Contents (Elt Ideal))⟩] concatenates_S16x8192x1_S16x8192x1_S16x8192x1_S16x8192x1_S16x8192x1_S16x8192x1_S16x8192x6_d2 : (⟨S16x8192x6, .bf16⟩ : BufTy).Contents (Elt Ideal)))) :=
  (last 70 _ rfl main_v57 (by decide) _).trans ((StableHlo.nary_result ..).trans (cat6_congr concatenates_S16x8192x1_S16x8192x1_S16x8192x1_S16x8192x1_S16x8192x1_S16x8192x1_S16x8192x6_d2 (keep 70 main_v51 (by decide) _) (keep 70 main_v52 (by decide) _) (keep 70 main_v53 (by decide) _) (keep 70 main_v54 (by decide) _) (keep 70 main_v55 (by decide) _) (keep 70 main_v56 (by decide) _)))

/-- What operation 71 leaves. -/
theorem w71 : @Eq ((⟨S_, .i32⟩ : BufTy).Contents (Elt Ideal)) (V m c main_c) ((constantI S_ 32 0#32)) :=
  (last 71 _ rfl main_c (by decide) _).trans (StableHlo.nullary_result ..)

/-- What operation 72 leaves. -/
theorem w72 : @Eq ((⟨S_, .bf16⟩ : BufTy).Contents (Elt Ideal)) (V m c main_call1_v0) (((sitofp (F := Ideal) .bf16) : (⟨S_, .i32⟩ : BufTy).Contents (Elt Ideal) → (⟨S_, .bf16⟩ : BufTy).Contents (Elt Ideal)) (V m c main_c)) :=
  (last 72 _ rfl main_call1_v0 (by decide) _).trans ((StableHlo.unary_result ..).trans (congrArg ((sitofp (F := Ideal) .bf16) : (⟨S_, .i32⟩ : BufTy).Contents (Elt Ideal) → (⟨S_, .bf16⟩ : BufTy).Contents (Elt Ideal)) (keep 72 main_c (by decide) _)))

/-- What operation 73 leaves. -/
theorem w73 : @Eq ((⟨S16x8192x128, .bf16⟩ : BufTy).Contents (Elt Ideal)) (V m c main_v58) (((fun x v => pad S16x8192x128 ![0, 0, 0] ![0, 0, 122] ![0, 0, 0] x v pads_S16x8192x6_S16x8192x128_000_000_01220 h_S_) : (⟨S16x8192x6, .bf16⟩ : BufTy).Contents (Elt Ideal) → (⟨S_, .bf16⟩ : BufTy).Contents (Elt Ideal) → (⟨S16x8192x128, .bf16⟩ : BufTy).Contents (Elt Ideal)) (V m c main_v57) (V m c main_call1_v0)) :=
  (last 73 _ rfl main_v58 (by decide) _).trans ((StableHlo.binary_result ..).trans (show ((fun x v => pad S16x8192x128 ![0, 0, 0] ![0, 0, 122] ![0, 0, 0] x v pads_S16x8192x6_S16x8192x128_000_000_01220 h_S_) : (⟨S16x8192x6, .bf16⟩ : BufTy).Contents (Elt Ideal) → (⟨S_, .bf16⟩ : BufTy).Contents (Elt Ideal) → (⟨S16x8192x128, .bf16⟩ : BufTy).Contents (Elt Ideal)) (upto hostOps (fun b => m (c, b)) 73 (Proc.devRef .tc main_v57)) (upto hostOps (fun b => m (c, b)) 73 (Proc.devRef .tc main_call1_v0)) = ((fun x v => pad S16x8192x128 ![0, 0, 0] ![0, 0, 122] ![0, 0, 0] x v pads_S16x8192x6_S16x8192x128_000_000_01220 h_S_) : (⟨S16x8192x6, .bf16⟩ : BufTy).Contents (Elt Ideal) → (⟨S_, .bf16⟩ : BufTy).Contents (Elt Ideal) → (⟨S16x8192x128, .bf16⟩ : BufTy).Contents (Elt Ideal)) (V m c main_v57) (V m c main_call1_v0) from congrArg₂ ((fun x v => pad S16x8192x128 ![0, 0, 0] ![0, 0, 122] ![0, 0, 0] x v pads_S16x8192x6_S16x8192x128_000_000_01220 h_S_) : (⟨S16x8192x6, .bf16⟩ : BufTy).Contents (Elt Ideal) → (⟨S_, .bf16⟩ : BufTy).Contents (Elt Ideal) → (⟨S16x8192x128, .bf16⟩ : BufTy).Contents (Elt Ideal)) (keep 73 main_v57 (by decide) _) (keep 73 main_call1_v0 (by decide) _)))

/-- What operation 74 leaves. -/
theorem w74 : @Eq ((⟨S8192x16x128, .bf16⟩ : BufTy).Contents (Elt Ideal)) (V m c main_v59) (((transpose S8192x16x128 [1, 0, 2] · transposes_S16x8192x128_S8192x16x128_1_0_2) : (⟨S16x8192x128, .bf16⟩ : BufTy).Contents (Elt Ideal) → (⟨S8192x16x128, .bf16⟩ : BufTy).Contents (Elt Ideal)) (V m c main_v58)) :=
  (last 74 _ rfl main_v59 (by decide) _).trans ((StableHlo.unary_result ..).trans (congrArg ((transpose S8192x16x128 [1, 0, 2] · transposes_S16x8192x128_S8192x16x128_1_0_2) : (⟨S16x8192x128, .bf16⟩ : BufTy).Contents (Elt Ideal) → (⟨S8192x16x128, .bf16⟩ : BufTy).Contents (Elt Ideal)) (keep 74 main_v58 (by decide) _)))

/-- What operation 75 leaves. -/
theorem w75 : @Eq ((⟨S8192x2048, .bf16⟩ : BufTy).Contents (Elt Ideal)) (V m c main_v60) (shapeCast S8192x2048 (V m c main_v59 : (⟨S8192x16x128, .bf16⟩ : BufTy).Contents (Elt Ideal)) shapeCasts_S8192x16x128_S8192x2048) :=
  (last 75 _ rfl main_v60 (by decide) _).trans ((StableHlo.reshape_result ..).trans (congrArg (fun z : (⟨S8192x16x128, .bf16⟩ : BufTy).Contents (Elt Ideal) => shapeCast S8192x2048 z shapeCasts_S8192x16x128_S8192x2048) (keep 75 main_v59 (by decide) _)))

/-- What operation 76 leaves. -/
theorem w76 : @Eq ((⟨S16x8192, .f32⟩ : BufTy).Contents (Elt Ideal)) (V m c main_v61) ((Host.negf (F := Ideal) (φ := .f32) : (⟨S16x8192, .f32⟩ : BufTy).Contents (Elt Ideal) → (⟨S16x8192, .f32⟩ : BufTy).Contents (Elt Ideal)) (V m c main_v30)) :=
  (last 76 _ rfl main_v61 (by decide) _).trans ((StableHlo.unary_result ..).trans (congrArg (Host.negf (F := Ideal) (φ := .f32) : (⟨S16x8192, .f32⟩ : BufTy).Contents (Elt Ideal) → (⟨S16x8192, .f32⟩ : BufTy).Contents (Elt Ideal)) (keep 76 main_v30 (by decide) _)))

end Cert.KernelIdeal.Fox

end
-- ==== Proof.HostC.lean ====
module

public import proofs.«01_k».proof.Proof.Host
public import Idealize.ShloMosaic.Lib.StableHlo.RunRead

/-! What host operations 77 to 118 leave. -/

@[expose] public section

set_option maxRecDepth 16384

noncomputable section

namespace Cert.KernelIdeal.Fox

open Cert.KernelIdeal Cert.KernelIdeal.Gen
open Idealize.ShloMosaic Idealize.ShloMosaic.TcCoe
open Idealize.ShloMosaic.StableHlo (after upto)

variable (m : (ℓ : Loc nD τ sig) → Buf (Elt Ideal) ℓ) (c : Dev nD)

/-- What operation 77 leaves. -/
theorem w77 : @Eq ((⟨S16x8192, .bf16⟩ : BufTy).Contents (Elt Ideal)) (V m c main_v62) (((truncf (F := Ideal) .bf16 · bitsLt_bf16_f32) : (⟨S16x8192, .f32⟩ : BufTy).Contents (Elt Ideal) → (⟨S16x8192, .bf16⟩ : BufTy).Contents (Elt Ideal)) (V m c main_v61)) :=
  (last 77 _ rfl main_v62 (by decide) _).trans ((StableHlo.unary_result ..).trans (congrArg ((truncf (F := Ideal) .bf16 · bitsLt_bf16_f32) : (⟨S16x8192, .f32⟩ : BufTy).Contents (Elt Ideal) → (⟨S16x8192, .bf16⟩ : BufTy).Contents (Elt Ideal)) (keep 77 main_v61 (by decide) _)))

/-- What operation 78 leaves. -/
theorem w78 : @Eq ((⟨S16x8192, .f32⟩ : BufTy).Contents (Elt Ideal)) (V m c main_v63) (((extf (F := Ideal) .f32 · bitsLt_bf16_f32) : (⟨S16x8192, .bf16⟩ : BufTy).Contents (Elt Ideal) → (⟨S16x8192, .f32⟩ : BufTy).Contents (Elt Ideal)) (V m c main_v62)) :=
  (last 78 _ rfl main_v63 (by decide) _).trans ((StableHlo.unary_result ..).trans (congrArg ((extf (F := Ideal) .f32 · bitsLt_bf16_f32) : (⟨S16x8192, .bf16⟩ : BufTy).Contents (Elt Ideal) → (⟨S16x8192, .f32⟩ : BufTy).Contents (Elt Ideal)) (keep 78 main_v62 (by decide) _)))

/-- What operation 79 leaves. -/
theorem w79 : @Eq ((⟨S16x8192, .f32⟩ : BufTy).Contents (Elt Ideal)) (V m c main_v64) ((subf (F := Ideal) (φ := .f32) : (⟨S16x8192, .f32⟩ : BufTy).Contents (Elt Ideal) → (⟨S16x8192, .f32⟩ : BufTy).Contents (Elt Ideal) → (⟨S16x8192, .f32⟩ : BufTy).Contents (Elt Ideal)) (V m c main_v61) (V m c main_v63)) :=
  (last 79 _ rfl main_v64 (by decide) _).trans ((StableHlo.binary_result ..).trans (congrArg₂ (subf (F := Ideal) (φ := .f32) : (⟨S16x8192, .f32⟩ : BufTy).Contents (Elt Ideal) → (⟨S16x8192, .f32⟩ : BufTy).Contents (Elt Ideal) → (⟨S16x8192, .f32⟩ : BufTy).Contents (Elt Ideal)) (keep 79 main_v61 (by decide) _) (keep 79 main_v63 (by decide) _)))

/-- What operation 80 leaves. -/
theorem w80 : @Eq ((⟨S16x8192, .bf16⟩ : BufTy).Contents (Elt Ideal)) (V m c main_v65) (((truncf (F := Ideal) .bf16 · bitsLt_bf16_f32) : (⟨S16x8192, .f32⟩ : BufTy).Contents (Elt Ideal) → (⟨S16x8192, .bf16⟩ : BufTy).Contents (Elt Ideal)) (V m c main_v64)) :=
  (last 80 _ rfl main_v65 (by decide) _).trans ((StableHlo.unary_result ..).trans (congrArg ((truncf (F := Ideal) .bf16 · bitsLt_bf16_f32) : (⟨S16x8192, .f32⟩ : BufTy).Contents (Elt Ideal) → (⟨S16x8192, .bf16⟩ : BufTy).Contents (Elt Ideal)) (keep 80 main_v64 (by decide) _)))

/-- What operation 81 leaves. -/
theorem w81 : @Eq ((⟨S16x8192, .f32⟩ : BufTy).Contents (Elt Ideal)) (V m c main_v66) (((extf (F := Ideal) .f32 · bitsLt_bf16_f32) : (⟨S16x8192, .bf16⟩ : BufTy).Contents (Elt Ideal) → (⟨S16x8192, .f32⟩ : BufTy).Contents (Elt Ideal)) (V m c main_v65)) :=
  (last 81 _ rfl main_v66 (by decide) _).trans ((StableHlo.unary_result ..).trans (congrArg ((extf (F := Ideal) .f32 · bitsLt_bf16_f32) : (⟨S16x8192, .bf16⟩ : BufTy).Contents (Elt Ideal) → (⟨S16x8192, .f32⟩ : BufTy).Contents (Elt Ideal)) (keep 81 main_v65 (by decide) _)))

/-- What operation 82 leaves. -/
theorem w82 : @Eq ((⟨S16x8192, .f32⟩ : BufTy).Contents (Elt Ideal)) (V m c main_v67) ((subf (F := Ideal) (φ := .f32) : (⟨S16x8192, .f32⟩ : BufTy).Contents (Elt Ideal) → (⟨S16x8192, .f32⟩ : BufTy).Contents (Elt Ideal) → (⟨S16x8192, .f32⟩ : BufTy).Contents (Elt Ideal)) (V m c main_v64) (V m c main_v66)) :=
  (last 82 _ rfl main_v67 (by decide) _).trans ((StableHlo.binary_result ..).trans (congrArg₂ (subf (F := Ideal) (φ := .f32) : (⟨S16x8192, .f32⟩ : BufTy).Contents (Elt Ideal) → (⟨S16x8192, .f32⟩ : BufTy).Contents (Elt Ideal) → (⟨S16x8192, .f32⟩ : BufTy).Contents (Elt Ideal)) (keep 82 main_v64 (by decide) _) (keep 82 main_v66 (by decide) _)))

/-- What operation 83 leaves. -/
theorem w83 : @Eq ((⟨S16x8192, .bf16⟩ : BufTy).Contents (Elt Ideal)) (V m c main_v68) (((truncf (F := Ideal) .bf16 · bitsLt_bf16_f32) : (⟨S16x8192, .f32⟩ : BufTy).Contents (Elt Ideal) → (⟨S16x8192, .bf16⟩ : BufTy).Contents (Elt Ideal)) (V m c main_v67)) :=
  (last 83 _ rfl main_v68 (by decide) _).trans ((StableHlo.unary_result ..).trans (congrArg ((truncf (F := Ideal) .bf16 · bitsLt_bf16_f32) : (⟨S16x8192, .f32⟩ : BufTy).Contents (Elt Ideal) → (⟨S16x8192, .bf16⟩ : BufTy).Contents (Elt Ideal)) (keep 83 main_v67 (by decide) _)))

/-- What operation 84 leaves. -/
theorem w84 : @Eq ((⟨S16x8192x1, .bf16⟩ : BufTy).Contents (Elt Ideal)) (V m c main_v69) ((broadcastInDim S16x8192x1 ![0, 1] bcast_S16x8192_S16x8192x1_0_1 : (⟨S16x8192, .bf16⟩ : BufTy).Contents (Elt Ideal) → (⟨S16x8192x1, .bf16⟩ : BufTy).Contents (Elt Ideal)) (V m c main_v38)) :=
  (last 84 _ rfl main_v69 (by decide) _).trans ((StableHlo.unary_result ..).trans (congrArg (broadcastInDim S16x8192x1 ![0, 1] bcast_S16x8192_S16x8192x1_0_1 : (⟨S16x8192, .bf16⟩ : BufTy).Contents (Elt Ideal) → (⟨S16x8192x1, .bf16⟩ : BufTy).Contents (Elt Ideal)) (keep 84 main_v38 (by decide) _)))

/-- What operation 85 leaves. -/
theorem w85 : @Eq ((⟨S16x8192x1, .bf16⟩ : BufTy).Contents (Elt Ideal)) (V m c main_v70) ((broadcastInDim S16x8192x1 ![0, 1] bcast_S16x8192_S16x8192x1_0_1 : (⟨S16x8192, .bf16⟩ : BufTy).Contents (Elt Ideal) → (⟨S16x8192x1, .bf16⟩ : BufTy).Contents (Elt Ideal)) (V m c main_v38)) :=
  (last 85 _ rfl main_v70 (by decide) _).trans ((StableHlo.unary_result ..).trans (congrArg (broadcastInDim S16x8192x1 ![0, 1] bcast_S16x8192_S16x8192x1_0_1 : (⟨S16x8192, .bf16⟩ : BufTy).Contents (Elt Ideal) → (⟨S16x8192x1, .bf16⟩ : BufTy).Contents (Elt Ideal)) (keep 85 main_v38 (by decide) _)))

/-- What operation 86 leaves. -/
theorem w86 : @Eq ((⟨S16x8192x1, .bf16⟩ : BufTy).Contents (Elt Ideal)) (V m c main_v71) ((broadcastInDim S16x8192x1 ![0, 1] bcast_S16x8192_S16x8192x1_0_1 : (⟨S16x8192, .bf16⟩ : BufTy).Contents (Elt Ideal) → (⟨S16x8192x1, .bf16⟩ : BufTy).Contents (Elt Ideal)) (V m c main_v38)) :=
  (last 86 _ rfl main_v71 (by decide) _).trans ((StableHlo.unary_result ..).trans (congrArg (broadcastInDim S16x8192x1 ![0, 1] bcast_S16x8192_S16x8192x1_0_1 : (⟨S16x8192, .bf16⟩ : BufTy).Contents (Elt Ideal) → (⟨S16x8192x1, .bf16⟩ : BufTy).Contents (Elt Ideal)) (keep 86 main_v38 (by decide) _)))

/-- What operation 87 leaves. -/
theorem w87 : @Eq ((⟨S16x8192x1, .bf16⟩ : BufTy).Contents (Elt Ideal)) (V m c main_v72) ((broadcastInDim S16x8192x1 ![0, 1] bcast_S16x8192_S16x8192x1_0_1 : (⟨S16x8192, .bf16⟩ : BufTy).Contents (Elt Ideal) → (⟨S16x8192x1, .bf16⟩ : BufTy).Contents (Elt Ideal)) (V m c main_v62)) :=
  (last 87 _ rfl main_v72 (by decide) _).trans ((StableHlo.unary_result ..).trans (congrArg (broadcastInDim S16x8192x1 ![0, 1] bcast_S16x8192_S16x8192x1_0_1 : (⟨S16x8192, .bf16⟩ : BufTy).Contents (Elt Ideal) → (⟨S16x8192x1, .bf16⟩ : BufTy).Contents (Elt Ideal)) (keep 87 main_v62 (by decide) _)))

/-- What operation 88 leaves. -/
theorem w88 : @Eq ((⟨S16x8192x1, .bf16⟩ : BufTy).Contents (Elt Ideal)) (V m c main_v73) ((broadcastInDim S16x8192x1 ![0, 1] bcast_S16x8192_S16x8192x1_0_1 : (⟨S16x8192, .bf16⟩ : BufTy).Contents (Elt Ideal) → (⟨S16x8192x1, .bf16⟩ : BufTy).Contents (Elt Ideal)) (V m c main_v65)) :=
  (last 88 _ rfl main_v73 (by decide) _).trans ((StableHlo.unary_result ..).trans (congrArg (broadcastInDim S16x8192x1 ![0, 1] bcast_S16x8192_S16x8192x1_0_1 : (⟨S16x8192, .bf16⟩ : BufTy).Contents (Elt Ideal) → (⟨S16x8192x1, .bf16⟩ : BufTy).Contents (Elt Ideal)) (keep 88 main_v65 (by decide) _)))

/-- What operation 89 leaves. -/
theorem w89 : @Eq ((⟨S16x8192x1, .bf16⟩ : BufTy).Contents (Elt Ideal)) (V m c main_v74) ((broadcastInDim S16x8192x1 ![0, 1] bcast_S16x8192_S16x8192x1_0_1 : (⟨S16x8192, .bf16⟩ : BufTy).Contents (Elt Ideal) → (⟨S16x8192x1, .bf16⟩ : BufTy).Contents (Elt Ideal)) (V m c main_v68)) :=
  (last 89 _ rfl main_v74 (by decide) _).trans ((StableHlo.unary_result ..).trans (congrArg (broadcastInDim S16x8192x1 ![0, 1] bcast_S16x8192_S16x8192x1_0_1 : (⟨S16x8192, .bf16⟩ : BufTy).Contents (Elt Ideal) → (⟨S16x8192x1, .bf16⟩ : BufTy).Contents (Elt Ideal)) (keep 89 main_v68 (by decide) _)))

/-- What operation 90 leaves. -/
theorem w90 : @Eq ((⟨S16x8192x6, .bf16⟩ : BufTy).Contents (Elt Ideal)) (V m c main_v75) (((concatenate S16x8192x6 2 [⟨S16x8192x1, (V m c main_v69 : (⟨S16x8192x1, .bf16⟩ : BufTy).Contents (Elt Ideal))⟩, ⟨S16x8192x1, (V m c main_v70 : (⟨S16x8192x1, .bf16⟩ : BufTy).Contents (Elt Ideal))⟩, ⟨S16x8192x1, (V m c main_v71 : (⟨S16x8192x1, .bf16⟩ : BufTy).Contents (Elt Ideal))⟩, ⟨S16x8192x1, (V m c main_v72 : (⟨S16x8192x1, .bf16⟩ : BufTy).Contents (Elt Ideal))⟩, ⟨S16x8192x1, (V m c main_v73 : (⟨S16x8192x1, .bf16⟩ : BufTy).Contents (Elt Ideal))⟩, ⟨S16x8192x1, (V m c main_v74 : (⟨S16x8192x1, .bf16⟩ : BufTy).Contents (Elt Ideal))⟩] concatenates_S16x8192x1_S16x8192x1_S16x8192x1_S16x8192x1_S16x8192x1_S16x8192x1_S16x8192x6_d2 : (⟨S16x8192x6, .bf16⟩ : BufTy).Contents (Elt Ideal)))) :=
  (last 90 _ rfl main_v75 (by decide) _).trans ((StableHlo.nary_result ..).trans (cat6_congr concatenates_S16x8192x1_S16x8192x1_S16x8192x1_S16x8192x1_S16x8192x1_S16x8192x1_S16x8192x6_d2 (keep 90 main_v69 (by decide) _) (keep 90 main_v70 (by decide) _) (keep 90 main_v71 (by decide) _) (keep 90 main_v72 (by decide) _) (keep 90 main_v73 (by decide) _) (keep 90 main_v74 (by decide) _)))

/-- What operation 91 leaves. -/
theorem w91 : @Eq ((⟨S_, .i32⟩ : BufTy).Contents (Elt Ideal)) (V m c main_c_9) ((constantI S_ 32 0#32)) :=
  (last 91 _ rfl main_c_9 (by decide) _).trans (StableHlo.nullary_result ..)

/-- What operation 92 leaves. -/
theorem w92 : @Eq ((⟨S_, .bf16⟩ : BufTy).Contents (Elt Ideal)) (V m c main_call2_v0) (((sitofp (F := Ideal) .bf16) : (⟨S_, .i32⟩ : BufTy).Contents (Elt Ideal) → (⟨S_, .bf16⟩ : BufTy).Contents (Elt Ideal)) (V m c main_c_9)) :=
  (last 92 _ rfl main_call2_v0 (by decide) _).trans ((StableHlo.unary_result ..).trans (congrArg ((sitofp (F := Ideal) .bf16) : (⟨S_, .i32⟩ : BufTy).Contents (Elt Ideal) → (⟨S_, .bf16⟩ : BufTy).Contents (Elt Ideal)) (keep 92 main_c_9 (by decide) _)))

/-- What operation 93 leaves. -/
theorem w93 : @Eq ((⟨S16x8192x128, .bf16⟩ : BufTy).Contents (Elt Ideal)) (V m c main_v76) (((fun x v => pad S16x8192x128 ![0, 0, 0] ![0, 0, 122] ![0, 0, 0] x v pads_S16x8192x6_S16x8192x128_000_000_01220 h_S_) : (⟨S16x8192x6, .bf16⟩ : BufTy).Contents (Elt Ideal) → (⟨S_, .bf16⟩ : BufTy).Contents (Elt Ideal) → (⟨S16x8192x128, .bf16⟩ : BufTy).Contents (Elt Ideal)) (V m c main_v75) (V m c main_call2_v0)) :=
  (last 93 _ rfl main_v76 (by decide) _).trans ((StableHlo.binary_result ..).trans (show ((fun x v => pad S16x8192x128 ![0, 0, 0] ![0, 0, 122] ![0, 0, 0] x v pads_S16x8192x6_S16x8192x128_000_000_01220 h_S_) : (⟨S16x8192x6, .bf16⟩ : BufTy).Contents (Elt Ideal) → (⟨S_, .bf16⟩ : BufTy).Contents (Elt Ideal) → (⟨S16x8192x128, .bf16⟩ : BufTy).Contents (Elt Ideal)) (upto hostOps (fun b => m (c, b)) 93 (Proc.devRef .tc main_v75)) (upto hostOps (fun b => m (c, b)) 93 (Proc.devRef .tc main_call2_v0)) = ((fun x v => pad S16x8192x128 ![0, 0, 0] ![0, 0, 122] ![0, 0, 0] x v pads_S16x8192x6_S16x8192x128_000_000_01220 h_S_) : (⟨S16x8192x6, .bf16⟩ : BufTy).Contents (Elt Ideal) → (⟨S_, .bf16⟩ : BufTy).Contents (Elt Ideal) → (⟨S16x8192x128, .bf16⟩ : BufTy).Contents (Elt Ideal)) (V m c main_v75) (V m c main_call2_v0) from congrArg₂ ((fun x v => pad S16x8192x128 ![0, 0, 0] ![0, 0, 122] ![0, 0, 0] x v pads_S16x8192x6_S16x8192x128_000_000_01220 h_S_) : (⟨S16x8192x6, .bf16⟩ : BufTy).Contents (Elt Ideal) → (⟨S_, .bf16⟩ : BufTy).Contents (Elt Ideal) → (⟨S16x8192x128, .bf16⟩ : BufTy).Contents (Elt Ideal)) (keep 93 main_v75 (by decide) _) (keep 93 main_call2_v0 (by decide) _)))

/-- What operation 94 leaves. -/
theorem w94 : @Eq ((⟨S8192x16x128, .bf16⟩ : BufTy).Contents (Elt Ideal)) (V m c main_v77) (((transpose S8192x16x128 [1, 0, 2] · transposes_S16x8192x128_S8192x16x128_1_0_2) : (⟨S16x8192x128, .bf16⟩ : BufTy).Contents (Elt Ideal) → (⟨S8192x16x128, .bf16⟩ : BufTy).Contents (Elt Ideal)) (V m c main_v76)) :=
  (last 94 _ rfl main_v77 (by decide) _).trans ((StableHlo.unary_result ..).trans (congrArg ((transpose S8192x16x128 [1, 0, 2] · transposes_S16x8192x128_S8192x16x128_1_0_2) : (⟨S16x8192x128, .bf16⟩ : BufTy).Contents (Elt Ideal) → (⟨S8192x16x128, .bf16⟩ : BufTy).Contents (Elt Ideal)) (keep 94 main_v76 (by decide) _)))

/-- What operation 95 leaves. -/
theorem w95 : @Eq ((⟨S8192x2048, .bf16⟩ : BufTy).Contents (Elt Ideal)) (V m c main_v78) (shapeCast S8192x2048 (V m c main_v77 : (⟨S8192x16x128, .bf16⟩ : BufTy).Contents (Elt Ideal)) shapeCasts_S8192x16x128_S8192x2048) :=
  (last 95 _ rfl main_v78 (by decide) _).trans ((StableHlo.reshape_result ..).trans (congrArg (fun z : (⟨S8192x16x128, .bf16⟩ : BufTy).Contents (Elt Ideal) => shapeCast S8192x2048 z shapeCasts_S8192x16x128_S8192x2048) (keep 95 main_v77 (by decide) _)))

/-- What operation 96 leaves. -/
theorem w96 : @Eq ((⟨S8192x16x128, .f32⟩ : BufTy).Contents (Elt Ideal)) (V m c main_v79) (shapeCast S8192x16x128 (V m c main_arg5 : (⟨S8192x2048, .f32⟩ : BufTy).Contents (Elt Ideal)) shapeCasts_S8192x2048_S8192x16x128) :=
  (last 96 _ rfl main_v79 (by decide) _).trans ((StableHlo.reshape_result ..).trans (congrArg (fun z : (⟨S8192x2048, .f32⟩ : BufTy).Contents (Elt Ideal) => shapeCast S8192x16x128 z shapeCasts_S8192x2048_S8192x16x128) (keep 96 main_arg5 (by decide) _)))

/-- What operation 97 leaves. -/
theorem w97 : @Eq ((⟨S16x8192x128, .f32⟩ : BufTy).Contents (Elt Ideal)) (V m c main_v80) (((transpose S16x8192x128 [1, 0, 2] · transposes_S8192x16x128_S16x8192x128_1_0_2) : (⟨S8192x16x128, .f32⟩ : BufTy).Contents (Elt Ideal) → (⟨S16x8192x128, .f32⟩ : BufTy).Contents (Elt Ideal)) (V m c main_v79)) :=
  (last 97 _ rfl main_v80 (by decide) _).trans ((StableHlo.unary_result ..).trans (congrArg ((transpose S16x8192x128 [1, 0, 2] · transposes_S8192x16x128_S16x8192x128_1_0_2) : (⟨S8192x16x128, .f32⟩ : BufTy).Contents (Elt Ideal) → (⟨S16x8192x128, .f32⟩ : BufTy).Contents (Elt Ideal)) (keep 97 main_v79 (by decide) _)))

/-- What operation 98 leaves. -/
theorem w98 : @Eq ((⟨S16x8192x128, .f32⟩ : BufTy).Contents (Elt Ideal)) (V m c main_v81) ((mulf (F := Ideal) (φ := .f32) : (⟨S16x8192x128, .f32⟩ : BufTy).Contents (Elt Ideal) → (⟨S16x8192x128, .f32⟩ : BufTy).Contents (Elt Ideal) → (⟨S16x8192x128, .f32⟩ : BufTy).Contents (Elt Ideal)) (V m c main_v80) (V m c main_v25)) :=
  (last 98 _ rfl main_v81 (by decide) _).trans ((StableHlo.binary_result ..).trans (congrArg₂ (mulf (F := Ideal) (φ := .f32) : (⟨S16x8192x128, .f32⟩ : BufTy).Contents (Elt Ideal) → (⟨S16x8192x128, .f32⟩ : BufTy).Contents (Elt Ideal) → (⟨S16x8192x128, .f32⟩ : BufTy).Contents (Elt Ideal)) (keep 98 main_v80 (by decide) _) (keep 98 main_v25 (by decide) _)))

/-- What operation 99 leaves. -/
theorem w99 : @Eq ((⟨S_, .f32⟩ : BufTy).Contents (Elt Ideal)) (V m c main_cst_10) ((constant (F := Ideal) S_ .f32 0x00000000#32)) :=
  (last 99 _ rfl main_cst_10 (by decide) _).trans (StableHlo.nullary_result ..)

/-- What operation 100 leaves. -/
theorem w100 : @Eq ((⟨S16x8192, .f32⟩ : BufTy).Contents (Elt Ideal)) (V m c main_v82) (((fun x v => Host.reduceAdd (F := Ideal) (φ := .f32) x v reducesTo_S16x8192x128_S16x8192_d2 h_S_) : (⟨S16x8192x128, .f32⟩ : BufTy).Contents (Elt Ideal) → (⟨S_, .f32⟩ : BufTy).Contents (Elt Ideal) → (⟨S16x8192, .f32⟩ : BufTy).Contents (Elt Ideal)) (V m c main_v81) (V m c main_cst_10)) :=
  (last 100 _ rfl main_v82 (by decide) _).trans ((StableHlo.binary_result ..).trans (congrArg₂ ((fun x v => Host.reduceAdd (F := Ideal) (φ := .f32) x v reducesTo_S16x8192x128_S16x8192_d2 h_S_) : (⟨S16x8192x128, .f32⟩ : BufTy).Contents (Elt Ideal) → (⟨S_, .f32⟩ : BufTy).Contents (Elt Ideal) → (⟨S16x8192, .f32⟩ : BufTy).Contents (Elt Ideal)) (keep 100 main_v81 (by decide) _) (keep 100 main_cst_10 (by decide) _)))

/-- What operation 101 leaves. -/
theorem w101 : @Eq ((⟨S16x8192, .f32⟩ : BufTy).Contents (Elt Ideal)) (V m c main_v83) ((Host.negf (F := Ideal) (φ := .f32) : (⟨S16x8192, .f32⟩ : BufTy).Contents (Elt Ideal) → (⟨S16x8192, .f32⟩ : BufTy).Contents (Elt Ideal)) (V m c main_v82)) :=
  (last 101 _ rfl main_v83 (by decide) _).trans ((StableHlo.unary_result ..).trans (congrArg (Host.negf (F := Ideal) (φ := .f32) : (⟨S16x8192, .f32⟩ : BufTy).Contents (Elt Ideal) → (⟨S16x8192, .f32⟩ : BufTy).Contents (Elt Ideal)) (keep 101 main_v82 (by decide) _)))

/-- What operation 102 leaves. -/
theorem w102 : @Eq ((⟨S16x8192, .bf16⟩ : BufTy).Contents (Elt Ideal)) (V m c main_v84) (((truncf (F := Ideal) .bf16 · bitsLt_bf16_f32) : (⟨S16x8192, .f32⟩ : BufTy).Contents (Elt Ideal) → (⟨S16x8192, .bf16⟩ : BufTy).Contents (Elt Ideal)) (V m c main_v83)) :=
  (last 102 _ rfl main_v84 (by decide) _).trans ((StableHlo.unary_result ..).trans (congrArg ((truncf (F := Ideal) .bf16 · bitsLt_bf16_f32) : (⟨S16x8192, .f32⟩ : BufTy).Contents (Elt Ideal) → (⟨S16x8192, .bf16⟩ : BufTy).Contents (Elt Ideal)) (keep 102 main_v83 (by decide) _)))

/-- What operation 103 leaves. -/
theorem w103 : @Eq ((⟨S16x8192, .f32⟩ : BufTy).Contents (Elt Ideal)) (V m c main_v85) (((extf (F := Ideal) .f32 · bitsLt_bf16_f32) : (⟨S16x8192, .bf16⟩ : BufTy).Contents (Elt Ideal) → (⟨S16x8192, .f32⟩ : BufTy).Contents (Elt Ideal)) (V m c main_v84)) :=
  (last 103 _ rfl main_v85 (by decide) _).trans ((StableHlo.unary_result ..).trans (congrArg ((extf (F := Ideal) .f32 · bitsLt_bf16_f32) : (⟨S16x8192, .bf16⟩ : BufTy).Contents (Elt Ideal) → (⟨S16x8192, .f32⟩ : BufTy).Contents (Elt Ideal)) (keep 103 main_v84 (by decide) _)))

/-- What operation 104 leaves. -/
theorem w104 : @Eq ((⟨S16x8192, .f32⟩ : BufTy).Contents (Elt Ideal)) (V m c main_v86) ((subf (F := Ideal) (φ := .f32) : (⟨S16x8192, .f32⟩ : BufTy).Contents (Elt Ideal) → (⟨S16x8192, .f32⟩ : BufTy).Contents (Elt Ideal) → (⟨S16x8192, .f32⟩ : BufTy).Contents (Elt Ideal)) (V m c main_v83) (V m c main_v85)) :=
  (last 104 _ rfl main_v86 (by decide) _).trans ((StableHlo.binary_result ..).trans (congrArg₂ (subf (F := Ideal) (φ := .f32) : (⟨S16x8192, .f32⟩ : BufTy).Contents (Elt Ideal) → (⟨S16x8192, .f32⟩ : BufTy).Contents (Elt Ideal) → (⟨S16x8192, .f32⟩ : BufTy).Contents (Elt Ideal)) (keep 104 main_v83 (by decide) _) (keep 104 main_v85 (by decide) _)))

/-- What operation 105 leaves. -/
theorem w105 : @Eq ((⟨S16x8192, .bf16⟩ : BufTy).Contents (Elt Ideal)) (V m c main_v87) (((truncf (F := Ideal) .bf16 · bitsLt_bf16_f32) : (⟨S16x8192, .f32⟩ : BufTy).Contents (Elt Ideal) → (⟨S16x8192, .bf16⟩ : BufTy).Contents (Elt Ideal)) (V m c main_v86)) :=
  (last 105 _ rfl main_v87 (by decide) _).trans ((StableHlo.unary_result ..).trans (congrArg ((truncf (F := Ideal) .bf16 · bitsLt_bf16_f32) : (⟨S16x8192, .f32⟩ : BufTy).Contents (Elt Ideal) → (⟨S16x8192, .bf16⟩ : BufTy).Contents (Elt Ideal)) (keep 105 main_v86 (by decide) _)))

/-- What operation 106 leaves. -/
theorem w106 : @Eq ((⟨S16x8192, .f32⟩ : BufTy).Contents (Elt Ideal)) (V m c main_v88) (((extf (F := Ideal) .f32 · bitsLt_bf16_f32) : (⟨S16x8192, .bf16⟩ : BufTy).Contents (Elt Ideal) → (⟨S16x8192, .f32⟩ : BufTy).Contents (Elt Ideal)) (V m c main_v87)) :=
  (last 106 _ rfl main_v88 (by decide) _).trans ((StableHlo.unary_result ..).trans (congrArg ((extf (F := Ideal) .f32 · bitsLt_bf16_f32) : (⟨S16x8192, .bf16⟩ : BufTy).Contents (Elt Ideal) → (⟨S16x8192, .f32⟩ : BufTy).Contents (Elt Ideal)) (keep 106 main_v87 (by decide) _)))

/-- What operation 107 leaves. -/
theorem w107 : @Eq ((⟨S16x8192, .f32⟩ : BufTy).Contents (Elt Ideal)) (V m c main_v89) ((subf (F := Ideal) (φ := .f32) : (⟨S16x8192, .f32⟩ : BufTy).Contents (Elt Ideal) → (⟨S16x8192, .f32⟩ : BufTy).Contents (Elt Ideal) → (⟨S16x8192, .f32⟩ : BufTy).Contents (Elt Ideal)) (V m c main_v86) (V m c main_v88)) :=
  (last 107 _ rfl main_v89 (by decide) _).trans ((StableHlo.binary_result ..).trans (congrArg₂ (subf (F := Ideal) (φ := .f32) : (⟨S16x8192, .f32⟩ : BufTy).Contents (Elt Ideal) → (⟨S16x8192, .f32⟩ : BufTy).Contents (Elt Ideal) → (⟨S16x8192, .f32⟩ : BufTy).Contents (Elt Ideal)) (keep 107 main_v86 (by decide) _) (keep 107 main_v88 (by decide) _)))

/-- What operation 108 leaves. -/
theorem w108 : @Eq ((⟨S16x8192, .bf16⟩ : BufTy).Contents (Elt Ideal)) (V m c main_v90) (((truncf (F := Ideal) .bf16 · bitsLt_bf16_f32) : (⟨S16x8192, .f32⟩ : BufTy).Contents (Elt Ideal) → (⟨S16x8192, .bf16⟩ : BufTy).Contents (Elt Ideal)) (V m c main_v89)) :=
  (last 108 _ rfl main_v90 (by decide) _).trans ((StableHlo.unary_result ..).trans (congrArg ((truncf (F := Ideal) .bf16 · bitsLt_bf16_f32) : (⟨S16x8192, .f32⟩ : BufTy).Contents (Elt Ideal) → (⟨S16x8192, .bf16⟩ : BufTy).Contents (Elt Ideal)) (keep 108 main_v89 (by decide) _)))

/-- What operation 109 leaves. -/
theorem w109 : @Eq ((⟨S16x8192x1, .bf16⟩ : BufTy).Contents (Elt Ideal)) (V m c main_v91) ((broadcastInDim S16x8192x1 ![0, 1] bcast_S16x8192_S16x8192x1_0_1 : (⟨S16x8192, .bf16⟩ : BufTy).Contents (Elt Ideal) → (⟨S16x8192x1, .bf16⟩ : BufTy).Contents (Elt Ideal)) (V m c main_v84)) :=
  (last 109 _ rfl main_v91 (by decide) _).trans ((StableHlo.unary_result ..).trans (congrArg (broadcastInDim S16x8192x1 ![0, 1] bcast_S16x8192_S16x8192x1_0_1 : (⟨S16x8192, .bf16⟩ : BufTy).Contents (Elt Ideal) → (⟨S16x8192x1, .bf16⟩ : BufTy).Contents (Elt Ideal)) (keep 109 main_v84 (by decide) _)))

/-- What operation 110 leaves. -/
theorem w110 : @Eq ((⟨S16x8192x1, .bf16⟩ : BufTy).Contents (Elt Ideal)) (V m c main_v92) ((broadcastInDim S16x8192x1 ![0, 1] bcast_S16x8192_S16x8192x1_0_1 : (⟨S16x8192, .bf16⟩ : BufTy).Contents (Elt Ideal) → (⟨S16x8192x1, .bf16⟩ : BufTy).Contents (Elt Ideal)) (V m c main_v87)) :=
  (last 110 _ rfl main_v92 (by decide) _).trans ((StableHlo.unary_result ..).trans (congrArg (broadcastInDim S16x8192x1 ![0, 1] bcast_S16x8192_S16x8192x1_0_1 : (⟨S16x8192, .bf16⟩ : BufTy).Contents (Elt Ideal) → (⟨S16x8192x1, .bf16⟩ : BufTy).Contents (Elt Ideal)) (keep 110 main_v87 (by decide) _)))

/-- What operation 111 leaves. -/
theorem w111 : @Eq ((⟨S16x8192x1, .bf16⟩ : BufTy).Contents (Elt Ideal)) (V m c main_v93) ((broadcastInDim S16x8192x1 ![0, 1] bcast_S16x8192_S16x8192x1_0_1 : (⟨S16x8192, .bf16⟩ : BufTy).Contents (Elt Ideal) → (⟨S16x8192x1, .bf16⟩ : BufTy).Contents (Elt Ideal)) (V m c main_v90)) :=
  (last 111 _ rfl main_v93 (by decide) _).trans ((StableHlo.unary_result ..).trans (congrArg (broadcastInDim S16x8192x1 ![0, 1] bcast_S16x8192_S16x8192x1_0_1 : (⟨S16x8192, .bf16⟩ : BufTy).Contents (Elt Ideal) → (⟨S16x8192x1, .bf16⟩ : BufTy).Contents (Elt Ideal)) (keep 111 main_v90 (by decide) _)))

/-- What operation 112 leaves. -/
theorem w112 : @Eq ((⟨S16x8192x3, .bf16⟩ : BufTy).Contents (Elt Ideal)) (V m c main_v94) (((concatenate S16x8192x3 2 [⟨S16x8192x1, (V m c main_v91 : (⟨S16x8192x1, .bf16⟩ : BufTy).Contents (Elt Ideal))⟩, ⟨S16x8192x1, (V m c main_v92 : (⟨S16x8192x1, .bf16⟩ : BufTy).Contents (Elt Ideal))⟩, ⟨S16x8192x1, (V m c main_v93 : (⟨S16x8192x1, .bf16⟩ : BufTy).Contents (Elt Ideal))⟩] concatenates_S16x8192x1_S16x8192x1_S16x8192x1_S16x8192x3_d2 : (⟨S16x8192x3, .bf16⟩ : BufTy).Contents (Elt Ideal)))) :=
  (last 112 _ rfl main_v94 (by decide) _).trans ((StableHlo.nary_result ..).trans (cat3_congr concatenates_S16x8192x1_S16x8192x1_S16x8192x1_S16x8192x3_d2 (keep 112 main_v91 (by decide) _) (keep 112 main_v92 (by decide) _) (keep 112 main_v93 (by decide) _)))

/-- What operation 113 leaves. -/
theorem w113 : @Eq ((⟨S_, .i32⟩ : BufTy).Contents (Elt Ideal)) (V m c main_c_11) ((constantI S_ 32 0#32)) :=
  (last 113 _ rfl main_c_11 (by decide) _).trans (StableHlo.nullary_result ..)

/-- What operation 114 leaves. -/
theorem w114 : @Eq ((⟨S_, .bf16⟩ : BufTy).Contents (Elt Ideal)) (V m c main_call3_v0) (((sitofp (F := Ideal) .bf16) : (⟨S_, .i32⟩ : BufTy).Contents (Elt Ideal) → (⟨S_, .bf16⟩ : BufTy).Contents (Elt Ideal)) (V m c main_c_11)) :=
  (last 114 _ rfl main_call3_v0 (by decide) _).trans ((StableHlo.unary_result ..).trans (congrArg ((sitofp (F := Ideal) .bf16) : (⟨S_, .i32⟩ : BufTy).Contents (Elt Ideal) → (⟨S_, .bf16⟩ : BufTy).Contents (Elt Ideal)) (keep 114 main_c_11 (by decide) _)))

/-- What operation 115 leaves. -/
theorem w115 : @Eq ((⟨S16x8192x128, .bf16⟩ : BufTy).Contents (Elt Ideal)) (V m c main_v95) (((fun x v => pad S16x8192x128 ![0, 0, 0] ![0, 0, 125] ![0, 0, 0] x v pads_S16x8192x3_S16x8192x128_000_000_01250 h_S_) : (⟨S16x8192x3, .bf16⟩ : BufTy).Contents (Elt Ideal) → (⟨S_, .bf16⟩ : BufTy).Contents (Elt Ideal) → (⟨S16x8192x128, .bf16⟩ : BufTy).Contents (Elt Ideal)) (V m c main_v94) (V m c main_call3_v0)) :=
  (last 115 _ rfl main_v95 (by decide) _).trans ((StableHlo.binary_result ..).trans (show ((fun x v => pad S16x8192x128 ![0, 0, 0] ![0, 0, 125] ![0, 0, 0] x v pads_S16x8192x3_S16x8192x128_000_000_01250 h_S_) : (⟨S16x8192x3, .bf16⟩ : BufTy).Contents (Elt Ideal) → (⟨S_, .bf16⟩ : BufTy).Contents (Elt Ideal) → (⟨S16x8192x128, .bf16⟩ : BufTy).Contents (Elt Ideal)) (upto hostOps (fun b => m (c, b)) 115 (Proc.devRef .tc main_v94)) (upto hostOps (fun b => m (c, b)) 115 (Proc.devRef .tc main_call3_v0)) = ((fun x v => pad S16x8192x128 ![0, 0, 0] ![0, 0, 125] ![0, 0, 0] x v pads_S16x8192x3_S16x8192x128_000_000_01250 h_S_) : (⟨S16x8192x3, .bf16⟩ : BufTy).Contents (Elt Ideal) → (⟨S_, .bf16⟩ : BufTy).Contents (Elt Ideal) → (⟨S16x8192x128, .bf16⟩ : BufTy).Contents (Elt Ideal)) (V m c main_v94) (V m c main_call3_v0) from congrArg₂ ((fun x v => pad S16x8192x128 ![0, 0, 0] ![0, 0, 125] ![0, 0, 0] x v pads_S16x8192x3_S16x8192x128_000_000_01250 h_S_) : (⟨S16x8192x3, .bf16⟩ : BufTy).Contents (Elt Ideal) → (⟨S_, .bf16⟩ : BufTy).Contents (Elt Ideal) → (⟨S16x8192x128, .bf16⟩ : BufTy).Contents (Elt Ideal)) (keep 115 main_v94 (by decide) _) (keep 115 main_call3_v0 (by decide) _)))

/-- What operation 116 leaves. -/
theorem w116 : @Eq ((⟨S8192x16x128, .bf16⟩ : BufTy).Contents (Elt Ideal)) (V m c main_v96) (((transpose S8192x16x128 [1, 0, 2] · transposes_S16x8192x128_S8192x16x128_1_0_2) : (⟨S16x8192x128, .bf16⟩ : BufTy).Contents (Elt Ideal) → (⟨S8192x16x128, .bf16⟩ : BufTy).Contents (Elt Ideal)) (V m c main_v95)) :=
  (last 116 _ rfl main_v96 (by decide) _).trans ((StableHlo.unary_result ..).trans (congrArg ((transpose S8192x16x128 [1, 0, 2] · transposes_S16x8192x128_S8192x16x128_1_0_2) : (⟨S16x8192x128, .bf16⟩ : BufTy).Contents (Elt Ideal) → (⟨S8192x16x128, .bf16⟩ : BufTy).Contents (Elt Ideal)) (keep 116 main_v95 (by decide) _)))

/-- What operation 117 leaves. -/
theorem w117 : @Eq ((⟨S8192x2048, .bf16⟩ : BufTy).Contents (Elt Ideal)) (V m c main_v97) (shapeCast S8192x2048 (V m c main_v96 : (⟨S8192x16x128, .bf16⟩ : BufTy).Contents (Elt Ideal)) shapeCasts_S8192x16x128_S8192x2048) :=
  (last 117 _ rfl main_v97 (by decide) _).trans ((StableHlo.reshape_result ..).trans (congrArg (fun z : (⟨S8192x16x128, .bf16⟩ : BufTy).Contents (Elt Ideal) => shapeCast S8192x2048 z shapeCasts_S8192x16x128_S8192x2048) (keep 117 main_v96 (by decide) _)))

/-- What operation 118 leaves. -/
theorem w118 : @Eq ((⟨S8192x2048, .bf16⟩ : BufTy).Contents (Elt Ideal)) (V m c main_v98) (((truncf (F := Ideal) .bf16 · bitsLt_bf16_f32) : (⟨S8192x2048, .f32⟩ : BufTy).Contents (Elt Ideal) → (⟨S8192x2048, .bf16⟩ : BufTy).Contents (Elt Ideal)) (V m c main_arg5)) :=
  (last 118 _ rfl main_v98 (by decide) _).trans ((StableHlo.unary_result ..).trans (congrArg ((truncf (F := Ideal) .bf16 · bitsLt_bf16_f32) : (⟨S8192x2048, .f32⟩ : BufTy).Contents (Elt Ideal) → (⟨S8192x2048, .bf16⟩ : BufTy).Contents (Elt Ideal)) (keep 118 main_arg5 (by decide) _)))

end Cert.KernelIdeal.Fox

end
-- ==== Proof.Ops.lean ====
module

public import proofs.«01_k».proof.Proof.Loop
public import proofs.«01_k».proof.Proof.Soft
public import Idealize.ShloMosaic.Lib.Pipeline.Value
public import Idealize.ShloMosaic.Lib.ValueIdx
public import Idealize.ShloMosaic.Lib.KernelVsHost
public import Idealize.ShloMosaic.PureOps.Ideal.Laws

/-! The host's operations on tables of real numbers. -/

@[expose] public section

set_option maxRecDepth 16384

noncomputable section

namespace Cert.KernelIdeal.Fox

open Cert.KernelIdeal Cert.KernelIdeal.Gen
open Idealize.ShloMosaic Idealize.ShloMosaic.TcCoe
open Cert.Fox

/-- Rows of 2048 lanes seen as sixteen heads. -/
theorem o_heads (f : ℕ → ℕ → ℝ) (h : Shape.ShapeCasts S8192x2048 S8192x16x128) :
    shapeCast S8192x16x128 (lift2 f : S8192x2048.Idx → EReal) h = lift3 fun r n d => f r (n * 128 + d) := by
  refine eq_lift3 fun a b d => ?_
  have hb := b.isLt
  have hd := d.isLt
  rw [shapeCast_apply _ h (ix3 a b d) (ix2 a (⟨b.val * 128 + d.val, by omega⟩ : Fin 2048)) (by
    rw [Shape.rowMajor_val_two, Shape.rowMajor_val_three]
    show a.val * 2048 + (b.val * 128 + d.val) = (a.val * 16 + b.val) * 128 + d.val
    omega)]
  rfl

/-- Sixteen heads seen as rows of 2048 lanes. -/
theorem o_flat (f : ℕ → ℕ → ℕ → ℝ) (h : Shape.ShapeCasts S8192x16x128 S8192x2048) :
    shapeCast S8192x2048 (lift3 f : S8192x16x128.Idx → EReal) h = lift2 fun r d => f r (d / 128) (d % 128) := by
  refine eq_lift2 fun a b => ?_
  have hb := b.isLt
  rw [shapeCast_apply _ h (ix2 a b) (ix3 a (⟨b.val / 128, by omega⟩ : Fin 16) (⟨b.val % 128, by omega⟩ : Fin 128)) (by
    rw [Shape.rowMajor_val_two, Shape.rowMajor_val_three]
    show (a.val * 16 + b.val / 128) * 128 + b.val % 128 = a.val * 2048 + b.val
    omega)]
  rfl

/-- Heads first. -/
theorem o_headsFirst (f : ℕ → ℕ → ℕ → ℝ) (h : Shape.Transposes S8192x16x128 [1, 0, 2] S16x8192x128) :
    transpose S16x8192x128 [1, 0, 2] (lift3 f : S8192x16x128.Idx → EReal) h = lift3 fun n r d => f r n d := by
  refine eq_lift3 fun a b d => ?_
  rw [transpose_apply _ _ h (ix3 a b d) (ix3 b a d) (fun x => match x with
    | ⟨0, _⟩ => rfl
    | ⟨1, _⟩ => rfl
    | ⟨2, _⟩ => rfl)]
  rfl

/-- Rows first. -/
theorem o_rowsFirst (f : ℕ → ℕ → ℕ → ℝ) (h : Shape.Transposes S16x8192x128 [1, 0, 2] S8192x16x128) :
    transpose S8192x16x128 [1, 0, 2] (lift3 f : S16x8192x128.Idx → EReal) h = lift3 fun r n d => f n r d := by
  refine eq_lift3 fun a b d => ?_
  rw [transpose_apply _ _ h (ix3 a b d) (ix3 b a d) (fun x => match x with
    | ⟨0, _⟩ => rfl
    | ⟨1, _⟩ => rfl
    | ⟨2, _⟩ => rfl)]
  rfl

/-- A key row's number, for every query row. -/
theorem o_keyRow (f : ℕ → ℕ → ℝ) (h : Shape.BroadcastsInDim S16x8192 S16x1x8192 ![0, 2]) :
    broadcastInDim S16x1x8192 ![0, 2] h (lift2 f : S16x8192.Idx → EReal) = lift3 fun n _ j => f n j := by
  refine eq_lift3 fun a b d => ?_
  rw [broadcastInDim_apply _ h _ (ix3 a b d) (ix2 a d) (fun x => match x with
    | ⟨0, _⟩ => by show _ = if (16 : Nat) = 1 then 0 else _; rw [if_neg (by decide)]; rfl
    | ⟨1, _⟩ => by show _ = if (8192 : Nat) = 1 then 0 else _; rw [if_neg (by decide)]; rfl)]
  rfl

/-- The same. -/
theorem o_keyRows (f : ℕ → ℕ → ℕ → ℝ) (h : Shape.BroadcastsInDim S16x1x8192 S16x8192x8192 ![0, 1, 2]) :
    broadcastInDim S16x8192x8192 ![0, 1, 2] h (lift3 f : S16x1x8192.Idx → EReal) = lift3 fun n _ j => f n 0 j := by
  refine eq_lift3 fun a b d => ?_
  rw [broadcastInDim_apply _ h _ (ix3 a b d) (ix3 a (0 : Fin 1) d) (fun x => match x with
    | ⟨0, _⟩ => by show _ = if (16 : Nat) = 1 then 0 else _; rw [if_neg (by decide)]; rfl
    | ⟨1, _⟩ => by show _ = if (1 : Nat) = 1 then 0 else _; rw [if_pos rfl]; rfl
    | ⟨2, _⟩ => by show _ = if (8192 : Nat) = 1 then 0 else _; rw [if_neg (by decide)]; rfl)]
  rfl

/-- A query row's number as a column. -/
theorem o_col (f : ℕ → ℕ → ℝ) (h : Shape.BroadcastsInDim S16x8192 S16x8192x1 ![0, 1]) :
    broadcastInDim S16x8192x1 ![0, 1] h (lift2 f : S16x8192.Idx → EReal) = lift3 fun n i _ => f n i := by
  refine eq_lift3 fun a b d => ?_
  rw [broadcastInDim_apply _ h _ (ix3 a b d) (ix2 a b) (fun x => match x with
    | ⟨0, _⟩ => by show _ = if (16 : Nat) = 1 then 0 else _; rw [if_neg (by decide)]; rfl
    | ⟨1, _⟩ => by show _ = if (8192 : Nat) = 1 then 0 else _; rw [if_neg (by decide)]; rfl)]
  rfl

/-- A query row's number, for every key row. -/
theorem o_cols (f : ℕ → ℕ → ℕ → ℝ) (h : Shape.BroadcastsInDim S16x8192x1 S16x8192x8192 ![0, 1, 2]) :
    broadcastInDim S16x8192x8192 ![0, 1, 2] h (lift3 f : S16x8192x1.Idx → EReal) = lift3 fun n i _ => f n i 0 := by
  refine eq_lift3 fun a b d => ?_
  rw [broadcastInDim_apply _ h _ (ix3 a b d) (ix3 a b (0 : Fin 1)) (fun x => match x with
    | ⟨0, _⟩ => by show _ = if (16 : Nat) = 1 then 0 else _; rw [if_neg (by decide)]; rfl
    | ⟨1, _⟩ => by show _ = if (8192 : Nat) = 1 then 0 else _; rw [if_neg (by decide)]; rfl
    | ⟨2, _⟩ => by show _ = if (1 : Nat) = 1 then 0 else _; rw [if_pos rfl]; rfl)]
  rfl

/-- The key row's number at every place of the square. -/
theorem o_iotaKey (h1 : Shape.BroadcastsInDim S8192 S1x8192 ![1]) (h2 : Shape.BroadcastsInDim S1x8192 S8192x8192 ![0, 1]) (a b : Fin 8192) :
    broadcastInDim S8192x8192 ![0, 1] h2 (broadcastInDim S1x8192 ![1] h1 (iotaInDim S8192 32 0)) (ix2 a b) = BitVec.ofNat 32 b.val := by
  rw [broadcastInDim_apply _ h2 _ (ix2 a b) (ix2 (0 : Fin 1) b) (fun x => match x with
    | ⟨0, _⟩ => by show _ = if (1 : Nat) = 1 then 0 else _; rw [if_pos rfl]; rfl
    | ⟨1, _⟩ => by show _ = if (8192 : Nat) = 1 then 0 else _; rw [if_neg (by decide)]; rfl)]
  rw [broadcastInDim_apply _ h1 _ (ix2 (0 : Fin 1) b) (fun x => match x with | ⟨0, _⟩ => b) (fun x => match x with
    | ⟨0, _⟩ => by show _ = if (8192 : Nat) = 1 then 0 else _; rw [if_neg (by decide)]; rfl)]
  rfl

/-- The query row's number at every place of the square. -/
theorem o_iotaQuery (h1 : Shape.BroadcastsInDim S8192 S8192x1 ![0]) (h2 : Shape.BroadcastsInDim S8192x1 S8192x8192 ![0, 1]) (a b : Fin 8192) :
    broadcastInDim S8192x8192 ![0, 1] h2 (broadcastInDim S8192x1 ![0] h1 (iotaInDim S8192 32 0)) (ix2 a b) = BitVec.ofNat 32 a.val := by
  rw [broadcastInDim_apply _ h2 _ (ix2 a b) (ix2 a (0 : Fin 1)) (fun x => match x with
    | ⟨0, _⟩ => by show _ = if (8192 : Nat) = 1 then 0 else _; rw [if_neg (by decide)]; rfl
    | ⟨1, _⟩ => by show _ = if (1 : Nat) = 1 then 0 else _; rw [if_pos rfl]; rfl)]
  rw [broadcastInDim_apply _ h1 _ (ix2 a (0 : Fin 1)) (fun x => match x with | ⟨0, _⟩ => a) (fun x => match x with
    | ⟨0, _⟩ => by show _ = if (8192 : Nat) = 1 then 0 else _; rw [if_neg (by decide)]; rfl)]
  rfl

/-- The mask for every head. -/
theorem o_maskHeads {α : Type} (x : S8192x8192.Idx → α) (h : Shape.BroadcastsInDim S8192x8192 S16x8192x8192 ![1, 2]) (n : Fin 16) (a b : Fin 8192) :
    broadcastInDim S16x8192x8192 ![1, 2] h x (ix3 n a b) = x (ix2 a b) := by
  rw [broadcastInDim_apply _ h _ (ix3 n a b) (ix2 a b) (fun x => match x with
    | ⟨0, _⟩ => by show _ = if (8192 : Nat) = 1 then 0 else _; rw [if_neg (by decide)]; rfl
    | ⟨1, _⟩ => by show _ = if (8192 : Nat) = 1 then 0 else _; rw [if_neg (by decide)]; rfl)]

/-- The broadcasts again, from equations. -/
theorem p_keyRow {z : S16x1x8192.Idx → EReal} {x : S16x8192.Idx → EReal} {f : ℕ → ℕ → ℝ} {h : Shape.BroadcastsInDim S16x8192 S16x1x8192 ![0, 2]}
    (hz : z = broadcastInDim S16x1x8192 ![0, 2] h x) (hx : x = lift2 f) : z = lift3 fun n _ j => f n j := by
  rw [hz, hx, o_keyRow]

/-- A table per row, given a column axis of one. -/
theorem p_col {z : S16x8192x1.Idx → EReal} {x : S16x8192.Idx → EReal} {f : ℕ → ℕ → ℝ} {h : Shape.BroadcastsInDim S16x8192 S16x8192x1 ![0, 1]}
    (hz : z = broadcastInDim S16x8192x1 ![0, 1] h x) (hx : x = lift2 f) : z = lift3 fun n i _ => f n i := by
  rw [hz, hx, o_col]

/-- The key positions, spread over the rows. -/
theorem p_iotaKey {z : S8192x8192.Idx → BitVec 32} {y : S1x8192.Idx → BitVec 32} {x : S8192.Idx → BitVec 32} {h1 : Shape.BroadcastsInDim S8192 S1x8192 ![1]} {h2 : Shape.BroadcastsInDim S1x8192 S8192x8192 ![0, 1]}
    (hz : z = broadcastInDim S8192x8192 ![0, 1] h2 y) (hy : y = broadcastInDim S1x8192 ![1] h1 x) (hx : x = iotaInDim S8192 32 0) (a b : Fin 8192) :
    z (ix2 a b) = BitVec.ofNat 32 b.val := by
  rw [hz, hy, hx, o_iotaKey]

/-- The query positions, spread over the columns. -/
theorem p_iotaQuery {z : S8192x8192.Idx → BitVec 32} {y : S8192x1.Idx → BitVec 32} {x : S8192.Idx → BitVec 32} {h1 : Shape.BroadcastsInDim S8192 S8192x1 ![0]} {h2 : Shape.BroadcastsInDim S8192x1 S8192x8192 ![0, 1]}
    (hz : z = broadcastInDim S8192x8192 ![0, 1] h2 y) (hy : y = broadcastInDim S8192x1 ![0] h1 x) (hx : x = iotaInDim S8192 32 0) (a b : Fin 8192) :
    z (ix2 a b) = BitVec.ofNat 32 a.val := by
  rw [hz, hy, hx, o_iotaQuery]

/-- A row per key, repeated for every query. -/
theorem p_keyRows {z : S16x8192x8192.Idx → EReal} {x : S16x1x8192.Idx → EReal} {f : ℕ → ℕ → ℕ → ℝ} {h : Shape.BroadcastsInDim S16x1x8192 S16x8192x8192 ![0, 1, 2]}
    (hz : z = broadcastInDim S16x8192x8192 ![0, 1, 2] h x) (hx : x = lift3 f) : z = lift3 fun n _ j => f n 0 j := by
  rw [hz, hx, o_keyRows]

/-- A column per query, repeated for every key. -/
theorem p_cols {z : S16x8192x8192.Idx → EReal} {x : S16x8192x1.Idx → EReal} {f : ℕ → ℕ → ℕ → ℝ} {h : Shape.BroadcastsInDim S16x8192x1 S16x8192x8192 ![0, 1, 2]}
    (hz : z = broadcastInDim S16x8192x8192 ![0, 1, 2] h x) (hx : x = lift3 f) : z = lift3 fun n i _ => f n i 0 := by
  rw [hz, hx, o_cols]

/-- The exponentials of the masked scores less the rows' largest. -/
theorem p_exps {z y x b : S16x8192x8192.Idx → EReal} {f : ℕ → ℕ → ℕ → ℝ} (hz : z = Host.exp (F := Ideal) (φ := .f32) (s := S16x8192x8192) y)
    (hy : y = subf (F := Ideal) (φ := .f32) (s := S16x8192x8192) x b)
    (hx : ∀ i : S16x8192x8192.Idx, x i = if (i 2).val ≤ (i 1).val then ((f (i 0).val (i 1).val (i 2).val : ℝ) : EReal) else ⊥)
    (hb : b = lift3 fun n i _ => mx (f n i) i) : z = lift3 fun n i j => ex (f n i) i j := by
  rw [hz, hy, hb]
  funext i
  show Ideal.exp (x i - ((mx (f (i 0).val (i 1).val) (i 1).val : ℝ) : EReal)) = _
  rw [hx i]
  exact exp_mask _ _ _

/-- A sum of a row's 8192 entries. -/
theorem o_sum (f : ℕ → ℕ → ℕ → ℝ) (h : S16x8192x8192.ReducesTo [2] S16x8192) (hu : 0 < S_.numel) :
    Host.reduceAdd (F := Ideal) (φ := .f32) (lift3 f : S16x8192x8192.Idx → EReal) (constant (F := Ideal) S_ .f32 0x00000000#32) h hu
      = lift2 fun n i => ∑ j ∈ Finset.range 8192, f n i j := by
  refine eq_lift2 fun a b => ?_
  simp only [Host.reduceAdd, Ideal.hostReduceAdd_def]
  rw [Ideal.hostReduceAdd_single h (by decide)]
  show Ideal.ofBits .f32 0x00000000#32 + _ = _
  rw [ofBits_zero, EReal.coe_zero, zero_add, ← coe_sum 8192 (fun j => f a.val b.val j)]
  rfl

/-- A sum of a head's 128 entries. -/
theorem o_sumLanes (f : ℕ → ℕ → ℕ → ℝ) (h : S16x8192x128.ReducesTo [2] S16x8192) (hu : 0 < S_.numel) :
    Host.reduceAdd (F := Ideal) (φ := .f32) (lift3 f : S16x8192x128.Idx → EReal) (constant (F := Ideal) S_ .f32 0x00000000#32) h hu
      = lift2 fun n i => ∑ j ∈ Finset.range 128, f n i j := by
  refine eq_lift2 fun a b => ?_
  simp only [Host.reduceAdd, Ideal.hostReduceAdd_def]
  rw [Ideal.hostReduceAdd_single h (by decide)]
  show Ideal.ofBits .f32 0x00000000#32 + _ = _
  rw [ofBits_zero, EReal.coe_zero, zero_add, ← coe_sum 128 (fun j => f a.val b.val j)]
  rfl

section pointwise
variable {s : Shape} (a b : s.Idx → ℝ)

/-- A product of real arrays is real. -/
theorem o_mul : mulf (F := Ideal) (φ := .f32) (fun i => (a i : EReal)) (fun i => (b i : EReal)) = fun i => ((a i * b i : ℝ) : EReal) :=
  funext fun i => (EReal.coe_mul _ _).symm

/-- A difference of real arrays is real. -/
theorem o_sub : subf (F := Ideal) (φ := .f32) (fun i => (a i : EReal)) (fun i => (b i : EReal)) = fun i => ((a i - b i : ℝ) : EReal) :=
  funext fun i => (EReal.coe_sub _ _).symm

/-- A sum of real arrays is real. -/
theorem o_add : addf (F := Ideal) (φ := .f32) (fun i => (a i : EReal)) (fun i => (b i : EReal)) = fun i => ((a i + b i : ℝ) : EReal) :=
  funext fun i => (EReal.coe_add _ _).symm

/-- A negated real array is real. -/
theorem o_neg : Host.negf (F := Ideal) (φ := .f32) (fun i => (a i : EReal)) = fun i => ((-a i : ℝ) : EReal) :=
  funext fun i => (EReal.coe_neg _).symm

/-- A quotient of real arrays by one without zeros is real. -/
theorem o_div (hb : ∀ i, b i ≠ 0) : Host.divf (F := Ideal) (φ := .f32) (fun i => (a i : EReal)) (fun i => (b i : EReal)) = fun i => ((a i / b i : ℝ) : EReal) :=
  funext fun i => div_real (hb i) _

/-- The logarithm of a positive array is real. -/
theorem o_log (ha : ∀ i, 0 < a i) : Host.log (F := Ideal) (φ := .f32) (fun i => (a i : EReal)) = fun i => ((Real.log (a i) : ℝ) : EReal) :=
  funext fun i => by
    show Ideal.log ((a i : ℝ) : EReal) = _
    rw [Ideal.log_coe, if_neg (not_le.2 (ha i))]

end pointwise

/-- The logarithm of the constant two. -/
theorem o_logTwo : Host.log (F := Ideal) (φ := .f32) (constant (F := Ideal) S_ .f32 0x40000000#32) = fun _ => ((Real.log 2 : ℝ) : EReal) := by
  funext i
  show Ideal.log (Ideal.ofBits .f32 0x40000000#32) = _
  rw [ofBits_two, Ideal.log_coe, if_neg (by norm_num)]

/-- The word of one in the narrow format. -/
theorem ofBits_one_bf : Ideal.ofBits .bf16 0x3F80#16 = ((1 : ℝ) : EReal) := by
  simp [Ideal.ofBits, Ideal.ieee, -EReal.coe_mul]; try norm_num

/-- A narrow one. -/
theorem o_one : constant (F := Ideal) S_ .bf16 0x3F80#16 = fun _ => ((1 : ℝ) : EReal) :=
  funext fun _ => ofBits_one_bf

/-- The integer zero, made a number. -/
theorem o_zero (i : S_.Idx) : sitofp (F := Ideal) .bf16 (constantI S_ 32 0#32) i = ((0 : ℝ) : EReal) := by
  show (((0#32 : BitVec 32).toInt : ℝ) : EReal) = _
  simp

/-- Four arrays of 2048 lanes side by side. -/
theorem o_cat4 (x0 x1 x2 x3 : S8192x2048.Idx → EReal) (h) (r : Fin 8192) (d : Fin 8192) :
    concatenate S8192x8192 1 [⟨S8192x2048, x0⟩, ⟨S8192x2048, x1⟩, ⟨S8192x2048, x2⟩, ⟨S8192x2048, x3⟩] h (ix2 r d)
      = if hd : d.val < 2048 then x0 (ix2 r ⟨d.val, hd⟩) else if hd : d.val < 4096 then x1 (ix2 r ⟨d.val - 2048, by omega⟩)
        else if hd : d.val < 6144 then x2 (ix2 r ⟨d.val - 4096, by omega⟩) else x3 (ix2 r ⟨d.val - 6144, by have := d.isLt; omega⟩) := by
  have hb : ∀ (e : Fin 2048) (b : Fin 2), b ≠ 1 → ((ix2 r e : S8192x2048.Idx) b).val = ((ix2 r d : S8192x8192.Idx) b).val := by
    intro e b hb
    match b with
    | ⟨0, _⟩ => rfl
    | ⟨1, _⟩ => exact absurd rfl hb
  split
  · exact concatenate_apply_piece 1 _ h (ix2 r d) 0 (by simp) _ x0 rfl rfl 0 rfl _ (hb _) (by show 0 + d.val = d.val; omega)
  split
  · exact concatenate_apply_piece 1 _ h (ix2 r d) 1 (by simp) _ x1 rfl rfl 2048 rfl _ (hb _) (by show 2048 + (d.val - 2048) = d.val; omega)
  split
  · exact concatenate_apply_piece 1 _ h (ix2 r d) 2 (by simp) _ x2 rfl rfl 4096 rfl _ (hb _) (by show 4096 + (d.val - 4096) = d.val; omega)
  · exact concatenate_apply_piece 1 _ h (ix2 r d) 3 (by simp) _ x3 rfl rfl 6144 rfl _ (hb _) (by show 6144 + (d.val - 6144) = d.val; omega)

/-- Six columns side by side. -/
theorem o_cat6 (f0 f1 f2 f3 f4 f5 : ℕ → ℕ → ℕ → ℝ) (h) :
    concatenate S16x8192x6 2 [⟨S16x8192x1, (lift3 f0 : S16x8192x1.Idx → EReal)⟩, ⟨S16x8192x1, (lift3 f1 : S16x8192x1.Idx → EReal)⟩, ⟨S16x8192x1, (lift3 f2 : S16x8192x1.Idx → EReal)⟩,
      ⟨S16x8192x1, (lift3 f3 : S16x8192x1.Idx → EReal)⟩, ⟨S16x8192x1, (lift3 f4 : S16x8192x1.Idx → EReal)⟩, ⟨S16x8192x1, (lift3 f5 : S16x8192x1.Idx → EReal)⟩] h
      = lift3 fun n i x => if x = 0 then f0 n i 0 else if x = 1 then f1 n i 0 else if x = 2 then f2 n i 0 else if x = 3 then f3 n i 0
        else if x = 4 then f4 n i 0 else f5 n i 0 := by
  refine eq_lift3 fun n i x => ?_
  have hb : ∀ (x : Fin 6) (b : Fin 3), b ≠ 2 → ((ix3 n i (0 : Fin 1) : S16x8192x1.Idx) b).val = ((ix3 n i x : S16x8192x6.Idx) b).val := by
    intro x b hb
    match b with
    | ⟨0, _⟩ => rfl
    | ⟨1, _⟩ => rfl
    | ⟨2, _⟩ => exact absurd rfl hb
  match x with
  | ⟨0, _⟩ => exact concatenate_apply_piece 2 _ h _ 0 (by simp) _ (lift3 f0 : S16x8192x1.Idx → EReal) rfl rfl 0 rfl (ix3 n i (0 : Fin 1)) (hb _) rfl
  | ⟨1, _⟩ => exact concatenate_apply_piece 2 _ h _ 1 (by simp) _ (lift3 f1 : S16x8192x1.Idx → EReal) rfl rfl 1 rfl (ix3 n i (0 : Fin 1)) (hb _) rfl
  | ⟨2, _⟩ => exact concatenate_apply_piece 2 _ h _ 2 (by simp) _ (lift3 f2 : S16x8192x1.Idx → EReal) rfl rfl 2 rfl (ix3 n i (0 : Fin 1)) (hb _) rfl
  | ⟨3, _⟩ => exact concatenate_apply_piece 2 _ h _ 3 (by simp) _ (lift3 f3 : S16x8192x1.Idx → EReal) rfl rfl 3 rfl (ix3 n i (0 : Fin 1)) (hb _) rfl
  | ⟨4, _⟩ => exact concatenate_apply_piece 2 _ h _ 4 (by simp) _ (lift3 f4 : S16x8192x1.Idx → EReal) rfl rfl 4 rfl (ix3 n i (0 : Fin 1)) (hb _) rfl
  | ⟨5, _⟩ => exact concatenate_apply_piece 2 _ h _ 5 (by simp) _ (lift3 f5 : S16x8192x1.Idx → EReal) rfl rfl 5 rfl (ix3 n i (0 : Fin 1)) (hb _) rfl

/-- Three columns side by side. -/
theorem o_cat3 (f0 f1 f2 : ℕ → ℕ → ℕ → ℝ) (h) :
    concatenate S16x8192x3 2 [⟨S16x8192x1, (lift3 f0 : S16x8192x1.Idx → EReal)⟩, ⟨S16x8192x1, (lift3 f1 : S16x8192x1.Idx → EReal)⟩, ⟨S16x8192x1, (lift3 f2 : S16x8192x1.Idx → EReal)⟩] h
      = lift3 fun n i x => if x = 0 then f0 n i 0 else if x = 1 then f1 n i 0 else f2 n i 0 := by
  refine eq_lift3 fun n i x => ?_
  have hb : ∀ (x : Fin 3) (b : Fin 3), b ≠ 2 → ((ix3 n i (0 : Fin 1) : S16x8192x1.Idx) b).val = ((ix3 n i x : S16x8192x3.Idx) b).val := by
    intro x b hb
    match b with
    | ⟨0, _⟩ => rfl
    | ⟨1, _⟩ => rfl
    | ⟨2, _⟩ => exact absurd rfl hb
  match x with
  | ⟨0, _⟩ => exact concatenate_apply_piece 2 _ h _ 0 (by simp) _ (lift3 f0 : S16x8192x1.Idx → EReal) rfl rfl 0 rfl (ix3 n i (0 : Fin 1)) (hb _) rfl
  | ⟨1, _⟩ => exact concatenate_apply_piece 2 _ h _ 1 (by simp) _ (lift3 f1 : S16x8192x1.Idx → EReal) rfl rfl 1 rfl (ix3 n i (0 : Fin 1)) (hb _) rfl
  | ⟨2, _⟩ => exact concatenate_apply_piece 2 _ h _ 2 (by simp) _ (lift3 f2 : S16x8192x1.Idx → EReal) rfl rfl 2 rfl (ix3 n i (0 : Fin 1)) (hb _) rfl

/-- Six lanes padded with zeros to 128. -/
theorem o_pad6 (f : ℕ → ℕ → ℕ → ℝ) (v : S_.Idx → EReal) (hv : ∀ i, v i = ((0 : ℝ) : EReal)) (h) (hu : 0 < S_.numel) :
    pad S16x8192x128 ![0, 0, 0] ![0, 0, 122] ![0, 0, 0] (lift3 f : S16x8192x6.Idx → EReal) v h hu
      = lift3 fun n i x => if x < 6 then f n i x else 0 := by
  refine eq_lift3 fun n i x => ?_
  by_cases hx : x.val < 6
  · rw [if_pos hx, pad_apply_of_inside _ _ _ _ _ h hu (ix3 n i x) (ix3 n i (⟨x.val, hx⟩ : Fin 6)) (fun a => match a with
      | ⟨0, _⟩ => by show n.val = 0 + n.val * (0 + 1); omega
      | ⟨1, _⟩ => by show i.val = 0 + i.val * (0 + 1); omega
      | ⟨2, _⟩ => by show x.val = 0 + x.val * (0 + 1); omega)]
    rfl
  · rw [if_neg hx]
    unfold pad
    rw [dif_neg (fun hin => hx (by
      have := (hin 2).2.2
      have e : (x.val - 0) / (0 + 1) < 6 := this
      simpa using e)), hv]

/-- Three lanes padded with zeros to 128. -/
theorem o_pad3 (f : ℕ → ℕ → ℕ → ℝ) (v : S_.Idx → EReal) (hv : ∀ i, v i = ((0 : ℝ) : EReal)) (h) (hu : 0 < S_.numel) :
    pad S16x8192x128 ![0, 0, 0] ![0, 0, 125] ![0, 0, 0] (lift3 f : S16x8192x3.Idx → EReal) v h hu
      = lift3 fun n i x => if x < 3 then f n i x else 0 := by
  refine eq_lift3 fun n i x => ?_
  by_cases hx : x.val < 3
  · rw [if_pos hx, pad_apply_of_inside _ _ _ _ _ h hu (ix3 n i x) (ix3 n i (⟨x.val, hx⟩ : Fin 3)) (fun a => match a with
      | ⟨0, _⟩ => by show n.val = 0 + n.val * (0 + 1); omega
      | ⟨1, _⟩ => by show i.val = 0 + i.val * (0 + 1); omega
      | ⟨2, _⟩ => by show x.val = 0 + x.val * (0 + 1); omega)]
    rfl
  · rw [if_neg hx]
    unfold pad
    rw [dif_neg (fun hin => hx (by
      have := (hin 2).2.2
      have e : (x.val - 0) / (0 + 1) < 3 := this
      simpa using e)), hv]

end Cert.KernelIdeal.Fox

end
-- ==== Proof.Prods.lean ====
module

public import proofs.«01_k».proof.Proof.Loop
public import proofs.«01_k».proof.Proof.Soft
public import Idealize.ShloMosaic.Lib.Pipeline.Value
public import Idealize.ShloMosaic.Lib.ValueIdx
public import Idealize.ShloMosaic.Lib.KernelVsHost
public import Idealize.ShloMosaic.PureOps.Ideal.Laws

/-! The host's two products on tables of real numbers. -/

@[expose] public section

set_option maxRecDepth 16384

noncomputable section

namespace Cert.KernelIdeal.Fox

open Cert.KernelIdeal Cert.KernelIdeal.Gen
open Idealize.ShloMosaic Idealize.ShloMosaic.TcCoe
open Cert.Fox

/-- Coordinate 0 of what the product of queries and keys reads of its left operand. -/
theorem o_scores_l_0 (i : S16x8192x8192.Idx) (q : dot_S8192x16x128_S8192x16x128_S16x8192x8192_2_2_0_0_1_1.contr.Idx) :
    (dot_S8192x16x128_S8192x16x128_S16x8192x8192_2_2_0_0_1_1.lhsIdx i q 0).val = (i 1).val := by
  unfold DotDims.lhsIdx
  rw [dif_neg (show ¬(0 : Fin S8192x16x128.rank) ∈ dot_S8192x16x128_S8192x16x128_S16x8192x8192_2_2_0_0_1_1.lhsBatch by decide), dif_pos (show (0 : Fin S8192x16x128.rank) ∈ dot_S8192x16x128_S8192x16x128_S16x8192x8192_2_2_0_0_1_1.lhsNonContracting by decide)]
  rfl

/-- Coordinate 1 of what the product of queries and keys reads of its left operand. -/
theorem o_scores_l_1 (i : S16x8192x8192.Idx) (q : dot_S8192x16x128_S8192x16x128_S16x8192x8192_2_2_0_0_1_1.contr.Idx) :
    (dot_S8192x16x128_S8192x16x128_S16x8192x8192_2_2_0_0_1_1.lhsIdx i q 1).val = (i 0).val := by
  unfold DotDims.lhsIdx
  rw [dif_pos (show (1 : Fin S8192x16x128.rank) ∈ dot_S8192x16x128_S8192x16x128_S16x8192x8192_2_2_0_0_1_1.lhsBatch by decide)]
  rfl

/-- Coordinate 2 of what the product of queries and keys reads of its left operand. -/
theorem o_scores_l_2 (i : S16x8192x8192.Idx) (q : dot_S8192x16x128_S8192x16x128_S16x8192x8192_2_2_0_0_1_1.contr.Idx) :
    (dot_S8192x16x128_S8192x16x128_S16x8192x8192_2_2_0_0_1_1.lhsIdx i q 2).val = (q ⟨0, by decide⟩).val :=
  dot_S8192x16x128_S8192x16x128_S16x8192x8192_2_2_0_0_1_1.lhsIdx_val_of_single rfl i q

/-- Coordinate 0 of what the product of queries and keys reads of its right operand. -/
theorem o_scores_r_0 (i : S16x8192x8192.Idx) (q : dot_S8192x16x128_S8192x16x128_S16x8192x8192_2_2_0_0_1_1.contr.Idx) :
    (dot_S8192x16x128_S8192x16x128_S16x8192x8192_2_2_0_0_1_1.rhsIdx i q 0).val = (i 2).val := by
  unfold DotDims.rhsIdx
  rw [dif_neg (show ¬(0 : Fin S8192x16x128.rank) ∈ dot_S8192x16x128_S8192x16x128_S16x8192x8192_2_2_0_0_1_1.rhsBatch by decide), dif_pos (show (0 : Fin S8192x16x128.rank) ∈ dot_S8192x16x128_S8192x16x128_S16x8192x8192_2_2_0_0_1_1.rhsNonContracting by decide)]
  rfl

/-- Coordinate 1 of what the product of queries and keys reads of its right operand. -/
theorem o_scores_r_1 (i : S16x8192x8192.Idx) (q : dot_S8192x16x128_S8192x16x128_S16x8192x8192_2_2_0_0_1_1.contr.Idx) :
    (dot_S8192x16x128_S8192x16x128_S16x8192x8192_2_2_0_0_1_1.rhsIdx i q 1).val = (i 0).val := by
  unfold DotDims.rhsIdx
  rw [dif_pos (show (1 : Fin S8192x16x128.rank) ∈ dot_S8192x16x128_S8192x16x128_S16x8192x8192_2_2_0_0_1_1.rhsBatch by decide)]
  rfl

/-- Coordinate 2 of what the product of queries and keys reads of its right operand. -/
theorem o_scores_r_2 (i : S16x8192x8192.Idx) (q : dot_S8192x16x128_S8192x16x128_S16x8192x8192_2_2_0_0_1_1.contr.Idx) :
    (dot_S8192x16x128_S8192x16x128_S16x8192x8192_2_2_0_0_1_1.rhsIdx i q 2).val = (q ⟨0, by decide⟩).val :=
  dot_S8192x16x128_S8192x16x128_S16x8192x8192_2_2_0_0_1_1.rhsIdx_val_of_single rfl i q

/-- The products of query rows and key rows, head by head. -/
theorem o_scores (f g : ℕ → ℕ → ℕ → ℝ) :
    Host.dotGeneral (F := Ideal) (φ₁ := .f32) (φ₂ := .f32) dot_S8192x16x128_S8192x16x128_S16x8192x8192_2_2_0_0_1_1 none (lift3 f : S8192x16x128.Idx → EReal) (lift3 g : S8192x16x128.Idx → EReal)
      = lift3 fun x y z => ∑ k ∈ Finset.range 128, f y x k * g z x k := by
  refine eq_lift3 fun x y z => ?_
  simp only [Host.dotGeneral]
  rw [Ideal.dotGeneral_apply, ← Equiv.sum_comp (ValueIdx.contrEquiv1 dot_S8192x16x128_S8192x16x128_S16x8192x8192_2_2_0_0_1_1 128 rfl rfl).symm, ← coe_sum 128 (fun k => f y.val x.val k * g z.val x.val k)]
  refine Finset.sum_congr rfl fun k _ => ?_
  have hk := ValueIdx.contrEquiv1_symm_val dot_S8192x16x128_S8192x16x128_S16x8192x8192_2_2_0_0_1_1 128 rfl rfl k
  have el : dot_S8192x16x128_S8192x16x128_S16x8192x8192_2_2_0_0_1_1.lhsIdx (ix3 x y z) ((ValueIdx.contrEquiv1 dot_S8192x16x128_S8192x16x128_S16x8192x8192_2_2_0_0_1_1 128 rfl rfl).symm k) = (ix3 y x k : S8192x16x128.Idx) := funext fun a => Fin.ext (by
    match a with
    | ⟨0, _⟩ => exact o_scores_l_0 _ _
    | ⟨1, _⟩ => exact o_scores_l_1 _ _
    | ⟨2, _⟩ => exact (o_scores_l_2 _ _).trans hk)
  have er : dot_S8192x16x128_S8192x16x128_S16x8192x8192_2_2_0_0_1_1.rhsIdx (ix3 x y z) ((ValueIdx.contrEquiv1 dot_S8192x16x128_S8192x16x128_S16x8192x8192_2_2_0_0_1_1 128 rfl rfl).symm k) = (ix3 z x k : S8192x16x128.Idx) := funext fun a => Fin.ext (by
    match a with
    | ⟨0, _⟩ => exact o_scores_r_0 _ _
    | ⟨1, _⟩ => exact o_scores_r_1 _ _
    | ⟨2, _⟩ => exact (o_scores_r_2 _ _).trans hk)
  rw [el, er]
  exact (EReal.coe_mul _ _).symm

/-- Coordinate 0 of what the product of weights and values reads of its left operand. -/
theorem o_out_l_0 (i : S16x8192x128.Idx) (q : dot_S16x8192x8192_S8192x16x128_S16x8192x128_2_0_1_2_0_1.contr.Idx) :
    (dot_S16x8192x8192_S8192x16x128_S16x8192x128_2_0_1_2_0_1.lhsIdx i q 0).val = (i 0).val := by
  unfold DotDims.lhsIdx
  rw [dif_pos (show (0 : Fin S16x8192x8192.rank) ∈ dot_S16x8192x8192_S8192x16x128_S16x8192x128_2_0_1_2_0_1.lhsBatch by decide)]
  rfl

/-- Coordinate 1 of what the product of weights and values reads of its left operand. -/
theorem o_out_l_1 (i : S16x8192x128.Idx) (q : dot_S16x8192x8192_S8192x16x128_S16x8192x128_2_0_1_2_0_1.contr.Idx) :
    (dot_S16x8192x8192_S8192x16x128_S16x8192x128_2_0_1_2_0_1.lhsIdx i q 1).val = (i 1).val := by
  unfold DotDims.lhsIdx
  rw [dif_neg (show ¬(1 : Fin S16x8192x8192.rank) ∈ dot_S16x8192x8192_S8192x16x128_S16x8192x128_2_0_1_2_0_1.lhsBatch by decide), dif_pos (show (1 : Fin S16x8192x8192.rank) ∈ dot_S16x8192x8192_S8192x16x128_S16x8192x128_2_0_1_2_0_1.lhsNonContracting by decide)]
  rfl

/-- Coordinate 2 of what the product of weights and values reads of its left operand. -/
theorem o_out_l_2 (i : S16x8192x128.Idx) (q : dot_S16x8192x8192_S8192x16x128_S16x8192x128_2_0_1_2_0_1.contr.Idx) :
    (dot_S16x8192x8192_S8192x16x128_S16x8192x128_2_0_1_2_0_1.lhsIdx i q 2).val = (q ⟨0, by decide⟩).val :=
  dot_S16x8192x8192_S8192x16x128_S16x8192x128_2_0_1_2_0_1.lhsIdx_val_of_single rfl i q

/-- Coordinate 0 of what the product of weights and values reads of its right operand. -/
theorem o_out_r_0 (i : S16x8192x128.Idx) (q : dot_S16x8192x8192_S8192x16x128_S16x8192x128_2_0_1_2_0_1.contr.Idx) :
    (dot_S16x8192x8192_S8192x16x128_S16x8192x128_2_0_1_2_0_1.rhsIdx i q 0).val = (q ⟨0, by decide⟩).val :=
  dot_S16x8192x8192_S8192x16x128_S16x8192x128_2_0_1_2_0_1.rhsIdx_val_of_single rfl i q

/-- Coordinate 1 of what the product of weights and values reads of its right operand. -/
theorem o_out_r_1 (i : S16x8192x128.Idx) (q : dot_S16x8192x8192_S8192x16x128_S16x8192x128_2_0_1_2_0_1.contr.Idx) :
    (dot_S16x8192x8192_S8192x16x128_S16x8192x128_2_0_1_2_0_1.rhsIdx i q 1).val = (i 0).val := by
  unfold DotDims.rhsIdx
  rw [dif_pos (show (1 : Fin S8192x16x128.rank) ∈ dot_S16x8192x8192_S8192x16x128_S16x8192x128_2_0_1_2_0_1.rhsBatch by decide)]
  rfl

/-- Coordinate 2 of what the product of weights and values reads of its right operand. -/
theorem o_out_r_2 (i : S16x8192x128.Idx) (q : dot_S16x8192x8192_S8192x16x128_S16x8192x128_2_0_1_2_0_1.contr.Idx) :
    (dot_S16x8192x8192_S8192x16x128_S16x8192x128_2_0_1_2_0_1.rhsIdx i q 2).val = (i 2).val := by
  unfold DotDims.rhsIdx
  rw [dif_neg (show ¬(2 : Fin S8192x16x128.rank) ∈ dot_S16x8192x8192_S8192x16x128_S16x8192x128_2_0_1_2_0_1.rhsBatch by decide), dif_pos (show (2 : Fin S8192x16x128.rank) ∈ dot_S16x8192x8192_S8192x16x128_S16x8192x128_2_0_1_2_0_1.rhsNonContracting by decide)]
  rfl

/-- The weighted value rows, head by head. -/
theorem o_out (f g : ℕ → ℕ → ℕ → ℝ) :
    Host.dotGeneral (F := Ideal) (φ₁ := .f32) (φ₂ := .f32) dot_S16x8192x8192_S8192x16x128_S16x8192x128_2_0_1_2_0_1 none (lift3 f : S16x8192x8192.Idx → EReal) (lift3 g : S8192x16x128.Idx → EReal)
      = lift3 fun x y z => ∑ k ∈ Finset.range 8192, f x y k * g k x z := by
  refine eq_lift3 fun x y z => ?_
  simp only [Host.dotGeneral]
  rw [Ideal.dotGeneral_apply, ← Equiv.sum_comp (ValueIdx.contrEquiv1 dot_S16x8192x8192_S8192x16x128_S16x8192x128_2_0_1_2_0_1 8192 rfl rfl).symm, ← coe_sum 8192 (fun k => f x.val y.val k * g k x.val z.val)]
  refine Finset.sum_congr rfl fun k _ => ?_
  have hk := ValueIdx.contrEquiv1_symm_val dot_S16x8192x8192_S8192x16x128_S16x8192x128_2_0_1_2_0_1 8192 rfl rfl k
  have el : dot_S16x8192x8192_S8192x16x128_S16x8192x128_2_0_1_2_0_1.lhsIdx (ix3 x y z) ((ValueIdx.contrEquiv1 dot_S16x8192x8192_S8192x16x128_S16x8192x128_2_0_1_2_0_1 8192 rfl rfl).symm k) = (ix3 x y k : S16x8192x8192.Idx) := funext fun a => Fin.ext (by
    match a with
    | ⟨0, _⟩ => exact o_out_l_0 _ _
    | ⟨1, _⟩ => exact o_out_l_1 _ _
    | ⟨2, _⟩ => exact (o_out_l_2 _ _).trans hk)
  have er : dot_S16x8192x8192_S8192x16x128_S16x8192x128_2_0_1_2_0_1.rhsIdx (ix3 x y z) ((ValueIdx.contrEquiv1 dot_S16x8192x8192_S8192x16x128_S16x8192x128_2_0_1_2_0_1 8192 rfl rfl).symm k) = (ix3 k x z : S8192x16x128.Idx) := funext fun a => Fin.ext (by
    match a with
    | ⟨0, _⟩ => exact (o_out_r_0 _ _).trans hk
    | ⟨1, _⟩ => exact o_out_r_1 _ _
    | ⟨2, _⟩ => exact o_out_r_2 _ _)
  rw [el, er]
  exact (EReal.coe_mul _ _).symm

end Cert.KernelIdeal.Fox

end
-- ==== Proof.Tables.lean ====
module

public import proofs.«01_k».proof.Proof.HostA
public import proofs.«01_k».proof.Proof.HostB
public import proofs.«01_k».proof.Proof.HostC
public import proofs.«01_k».proof.Proof.Ops
public import proofs.«01_k».proof.Proof.Prods

/-! What the host hands the launch, from tables of real arguments. -/

@[expose] public section

set_option maxRecDepth 16384

noncomputable section

namespace Cert.KernelIdeal.Fox

open Cert.KernelIdeal Cert.KernelIdeal.Gen
open Idealize.ShloMosaic Idealize.ShloMosaic.TcCoe
open Cert.Fox

variable (m : (ℓ : Loc nD τ sig) → Buf (Elt Ideal) ℓ) (c : Dev nD) {q k v g o : ℕ → ℕ → ℝ}

/-- The five arguments the launch depends on are tables of reals. -/
structure Args (q k v g o : ℕ → ℕ → ℝ) : Prop where
  q : @Eq (S8192x2048.Idx → EReal) (V m c main_arg0) (lift2 q)
  k : @Eq (S8192x2048.Idx → EReal) (V m c main_arg1) (lift2 k)
  v : @Eq (S8192x2048.Idx → EReal) (V m c main_arg2) (lift2 v)
  g : @Eq (S16x8192.Idx → EReal) (V m c main_arg4) (lift2 g)
  o : @Eq (S8192x2048.Idx → EReal) (V m c main_arg5) (lift2 o)

/-- The score of query row `i` and key row `j` in head `n`, up to a number of the query row alone. -/
def fs (q k g : ℕ → ℕ → ℝ) (n i j : ℕ) : ℝ :=
  (∑ x ∈ Finset.range 128, q i (n * 128 + x) * k j (n * 128 + x)) * sF - g n j

/-- A query row's logarithm of its sum of exponentials. -/
def lse (q k g : ℕ → ℕ → ℝ) (n i : ℕ) : ℝ := mx (fs q k g n i) i + Real.log (sm (fs q k g n i) i)

/-- What the attention returns. -/
def att (q k v g : ℕ → ℕ → ℝ) (n i x : ℕ) : ℝ := ∑ j ∈ Finset.range 8192, wt (fs q k g n i) i j * v j (n * 128 + x)

/-- The row sums of what it returns times the gradient. -/
def dl (q k v g o : ℕ → ℕ → ℝ) (n i : ℕ) : ℝ := ∑ x ∈ Finset.range 128, o i (n * 128 + x) * att q k v g n i x

variable {m c} (H : Args m c q k v g o)

/-- A position is made of its three coordinates. -/
theorem e3 (a : Fin 16) (b d : Fin 8192) (i : S16x8192x8192.Idx) (h0 : i 0 = a) (h1 : i 1 = b) (h2 : i 2 = d) : i = ix3 a b d := by
  subst h0 h1 h2
  exact funext fun a => match a with
    | ⟨0, _⟩ => rfl
    | ⟨1, _⟩ => rfl
    | ⟨2, _⟩ => rfl

include H

/-- The products of queries and keys. -/
theorem t2 : @Eq (S16x8192x8192.Idx → EReal) (V m c main_v2) (lift3 fun n i j => ∑ x ∈ Finset.range 128, q i (n * 128 + x) * k j (n * 128 + x)) := by
  have e0 : @Eq (S8192x16x128.Idx → EReal) (V m c main_v0) (lift3 fun r n d => q r (n * 128 + d)) :=
    (w0 m c).trans ((congrArg (fun z : S8192x2048.Idx → EReal => shapeCast S8192x16x128 z shapeCasts_S8192x2048_S8192x16x128) H.q).trans (o_heads q _))
  have e1 : @Eq (S8192x16x128.Idx → EReal) (V m c main_v1) (lift3 fun r n d => k r (n * 128 + d)) :=
    (w1 m c).trans ((congrArg (fun z : S8192x2048.Idx → EReal => shapeCast S8192x16x128 z shapeCasts_S8192x2048_S8192x16x128) H.k).trans (o_heads k _))
  exact (w2 m c).trans ((congrArg₂ (fun l r : S8192x16x128.Idx → EReal => Host.dotGeneral (F := Ideal) (φ₁ := .f32) (φ₂ := .f32) dot_S8192x16x128_S8192x16x128_S16x8192x8192_2_2_0_0_1_1 none l r) e0 e1).trans (o_scores _ _))

/-- The key rows' numbers. -/
theorem t6 : @Eq (S16x8192x8192.Idx → EReal) (V m c main_v6) (lift3 fun n _ j => g n j) := by
  have e : @Eq (S16x1x8192.Idx → EReal) (V m c main_v5) (lift3 fun n _ j => g n j) :=
    p_keyRow (w6 m c) H.g
  exact p_keyRows (w7 m c) e

/-- The scores. -/
theorem t7 : @Eq (S16x8192x8192.Idx → EReal) (V m c main_v7) (lift3 (fs q k g)) := by
  have e3 : @Eq (S16x8192x8192.Idx → EReal) (V m c main_v3) (fun _ => ((sF : ℝ) : EReal)) :=
    (w4 m c).trans ((congrArg (broadcastInDim (α := EReal) S16x8192x8192 ![] bcast_S_S16x8192x8192) (w3 m c)).trans (funext fun _ => ofBits_sF))
  have e4 := (w5 m c).trans ((congrArg₂ (mulf (F := Ideal) (φ := .f32) (s := S16x8192x8192)) (t2 H) e3).trans (o_mul _ (fun _ => sF)))
  exact (w8 m c).trans ((congrArg₂ (subf (F := Ideal) (φ := .f32) (s := S16x8192x8192)) e4 (t6 H)).trans (o_sub _ _))

omit H in
/-- The mask. -/
theorem tmask (n : Fin 16) (a b : Fin 8192) :
    (V m c main_call0_v1 : S16x8192x8192.Idx → BitVec 1) (ix3 n a b) = IntOp.cmpi .sle (BitVec.ofNat 32 b.val) (BitVec.ofNat 32 a.val) := by
  have e11 : (V m c main_v11 : S8192x8192.Idx → BitVec 32) (ix2 a b) = BitVec.ofNat 32 b.val := p_iotaKey (w12 m c) (w10 m c) (w9 m c) a b
  have e12 : (V m c main_v12 : S8192x8192.Idx → BitVec 32) (ix2 a b) = BitVec.ofNat 32 a.val := p_iotaQuery (w13 m c) (w11 m c) (w9 m c) a b
  refine (congrFun (w17 m c) (ix3 n a b)).trans ?_
  refine (o_maskHeads (V m c main_v13 : S8192x8192.Idx → BitVec 1) _ n a b).trans ?_
  refine (congrFun (w14 m c) (ix2 a b)).trans ?_
  exact congrArg₂ (IntOp.cmpi .sle) e11 e12

/-- The masked scores. -/
theorem t14 (i : S16x8192x8192.Idx) : (V m c main_v14 : S16x8192x8192.Idx → EReal) i
    = if (i 2).val ≤ (i 1).val then ((fs q k g (i 0).val (i 1).val (i 2).val : ℝ) : EReal) else ⊥ := by
  refine (congrFun (w19 m c) i).trans ?_
  have e1 : (V m c main_call0_v1 : S16x8192x8192.Idx → BitVec 1) i = IntOp.cmpi .sle (BitVec.ofNat 32 (i 2).val) (BitVec.ofNat 32 (i 1).val) := by
    rw [e3 (i 0) (i 1) (i 2) i rfl rfl rfl]
    exact tmask _ _ _
  have e2 : (V m c main_v7 : S16x8192x8192.Idx → EReal) i = ((fs q k g (i 0).val (i 1).val (i 2).val : ℝ) : EReal) := congrFun (t7 H) i
  have e3 : (V m c main_call0_v2 : S16x8192x8192.Idx → EReal) i = (⊥ : EReal) := by
    refine (congrFun ((w18 m c).trans (congrArg (broadcastInDim (α := EReal) S16x8192x8192 ![] bcast_S_S16x8192x8192) ((w16 m c).trans (congrArg id (w15 m c))))) i).trans ?_
    exact ofBits_bot
  show Scalar.select ((V m c main_call0_v1 : S16x8192x8192.Idx → BitVec 1) i) ((V m c main_v7 : S16x8192x8192.Idx → EReal) i) ((V m c main_call0_v2 : S16x8192x8192.Idx → EReal) i) = _
  rw [e1, e2, e3]
  exact sel_sle (i 2).isLt (i 1).isLt _ _

/-- The rows' largest scores. -/
theorem t15 : @Eq (S16x8192.Idx → EReal) (V m c main_v15) (lift2 fun n i => mx (fs q k g n i) i) := by
  refine (w21 m c).trans (funext fun j => ?_)
  refine (congrFun (congrArg (fun z : S_.Idx → EReal => Host.reduce (FloatOps.maximumf (F := Ideal) (φ := .f32)) (V m c main_v14 : S16x8192x8192.Idx → EReal) z reducesTo_S16x8192x8192_S16x8192_d2 h_S_) (w20 m c)) j).trans ?_
  exact rowmax _ _ _ (fs q k g) (t14 H) j

/-- The masked exponentials. -/
theorem t19 : @Eq (S16x8192x8192.Idx → EReal) (V m c main_v19) (lift3 fun n i j => ex (fs q k g n i) i j) := by
  have e16 : @Eq (S16x8192x1.Idx → EReal) (V m c main_v16) (lift3 fun n i _ => mx (fs q k g n i) i) :=
    p_col (w22 m c) (t15 H)
  have e17 : @Eq (S16x8192x8192.Idx → EReal) (V m c main_v17) (lift3 fun n i _ => mx (fs q k g n i) i) :=
    p_cols (w23 m c) e16
  exact p_exps (w25 m c) (w24 m c) (t14 H) e17

/-- Their sums. -/
theorem t20 : @Eq (S16x8192.Idx → EReal) (V m c main_v20) (lift2 fun n i => sm (fs q k g n i) i) :=
  (w27 m c).trans ((congrArg₂ (fun (x : S16x8192x8192.Idx → EReal) (z : S_.Idx → EReal) => Host.reduceAdd (F := Ideal) (φ := .f32) x z reducesTo_S16x8192x8192_S16x8192_d2 h_S_) (t19 H) (w26 m c)).trans (o_sum _ _ _))

/-- The weights. -/
theorem t23 : @Eq (S16x8192x8192.Idx → EReal) (V m c main_v23) (lift3 fun n i j => wt (fs q k g n i) i j) := by
  have e21 : @Eq (S16x8192x1.Idx → EReal) (V m c main_v21) (lift3 fun n i _ => sm (fs q k g n i) i) :=
    p_col (w28 m c) (t20 H)
  have e22 : @Eq (S16x8192x8192.Idx → EReal) (V m c main_v22) (lift3 fun n i _ => sm (fs q k g n i) i) :=
    p_cols (w29 m c) e21
  exact (w30 m c).trans ((congrArg₂ (Host.divf (F := Ideal) (φ := .f32) (s := S16x8192x8192)) (t19 H) e22).trans
    (o_div _ (fun y => sm (fs q k g (y 0).val (y 1).val) (y 1).val) fun y => (sm_pos _ _).ne'))

/-- What the attention returns. -/
theorem t25 : @Eq (S16x8192x128.Idx → EReal) (V m c main_v25) (lift3 (att q k v g)) := by
  have e : @Eq (S8192x16x128.Idx → EReal) (V m c main_v24) (lift3 fun r n d => v r (n * 128 + d)) :=
    (w31 m c).trans ((congrArg (fun z : S8192x2048.Idx → EReal => shapeCast S8192x16x128 z shapeCasts_S8192x2048_S8192x16x128) H.v).trans (o_heads v _))
  exact (w32 m c).trans ((congrArg₂ (fun (l : S16x8192x8192.Idx → EReal) (r : S8192x16x128.Idx → EReal) => Host.dotGeneral (F := Ideal) (φ₁ := .f32) (φ₂ := .f32) dot_S16x8192x8192_S8192x16x128_S16x8192x128_2_0_1_2_0_1 none l r) (t23 H) e).trans (o_out _ _))

/-- Less the logarithms of the rows' sums, in powers of two. -/
theorem t61 : @Eq (S16x8192.Idx → EReal) (V m c main_v61) (lift2 fun n i => -(lse q k g n i / Real.log 2)) := by
  have h2 : Real.log 2 ≠ 0 := (Real.log_pos (by norm_num)).ne'
  have e26 := (w33 m c).trans ((congrArg (Host.log (F := Ideal) (φ := .f32) (s := S16x8192)) (t20 H)).trans
    (o_log (fun y : S16x8192.Idx => sm (fs q k g (y 0).val (y 1).val) (y 1).val) fun y => sm_pos _ _))
  have e27 := (w34 m c).trans ((congrArg₂ (addf (F := Ideal) (φ := .f32) (s := S16x8192)) (t15 H) e26).trans (o_add _ _))
  have e29 : @Eq (S16x8192.Idx → EReal) (V m c main_v29) (fun _ => ((Real.log 2 : ℝ) : EReal)) :=
    (w37 m c).trans (congrArg (broadcastInDim (α := EReal) S16x8192 ![] bcast_S_S16x8192) ((w36 m c).trans ((congrArg (Host.log (F := Ideal) (φ := .f32) (s := S_)) (w35 m c)).trans o_logTwo)))
  have e30 := (w38 m c).trans ((congrArg₂ (Host.divf (F := Ideal) (φ := .f32) (s := S16x8192)) e27 e29).trans (o_div _ (fun _ => Real.log 2) fun _ => h2))
  exact (w76 m c).trans ((congrArg (Host.negf (F := Ideal) (φ := .f32) (s := S16x8192)) e30).trans (o_neg _))

/-- Less the key rows' numbers, in powers of two. -/
theorem t42 : @Eq (S16x8192.Idx → EReal) (V m c main_v42) (lift2 fun n j => -g n j / Real.log 2) := by
  have h2 : Real.log 2 ≠ 0 := (Real.log_pos (by norm_num)).ne'
  have e39 := (w50 m c).trans ((congrArg (Host.negf (F := Ideal) (φ := .f32) (s := S16x8192)) H.g).trans (o_neg _))
  have e41 : @Eq (S16x8192.Idx → EReal) (V m c main_v41) (fun _ => ((Real.log 2 : ℝ) : EReal)) :=
    (w53 m c).trans (congrArg (broadcastInDim (α := EReal) S16x8192 ![] bcast_S_S16x8192) ((w52 m c).trans ((congrArg (Host.log (F := Ideal) (φ := .f32) (s := S_)) (w51 m c)).trans o_logTwo)))
  exact (w54 m c).trans ((congrArg₂ (Host.divf (F := Ideal) (φ := .f32) (s := S16x8192)) e39 e41).trans (o_div _ (fun _ => Real.log 2) fun _ => h2))

/-- Less the row sums. -/
theorem t83 : @Eq (S16x8192.Idx → EReal) (V m c main_v83) (lift2 fun n i => -dl q k v g o n i) := by
  have e79 : @Eq (S8192x16x128.Idx → EReal) (V m c main_v79) (lift3 fun r n d => o r (n * 128 + d)) :=
    (w96 m c).trans ((congrArg (fun z : S8192x2048.Idx → EReal => shapeCast S8192x16x128 z shapeCasts_S8192x2048_S8192x16x128) H.o).trans (o_heads o _))
  have e80 : @Eq (S16x8192x128.Idx → EReal) (V m c main_v80) (lift3 fun n r d => o r (n * 128 + d)) :=
    (w97 m c).trans ((congrArg (fun z : S8192x16x128.Idx → EReal => transpose S16x8192x128 [1, 0, 2] z transposes_S8192x16x128_S16x8192x128_1_0_2) e79).trans (o_headsFirst _ _))
  have e81 : @Eq (S16x8192x128.Idx → EReal) (V m c main_v81) (lift3 fun n r d => o r (n * 128 + d) * att q k v g n r d) :=
    (w98 m c).trans ((congrArg₂ (mulf (F := Ideal) (φ := .f32) (s := S16x8192x128)) e80 (t25 H)).trans (o_mul _ _))
  have e82 : @Eq (S16x8192.Idx → EReal) (V m c main_v82) (lift2 (dl q k v g o)) :=
    (w100 m c).trans ((congrArg₂ (fun (x : S16x8192x128.Idx → EReal) (z : S_.Idx → EReal) => Host.reduceAdd (F := Ideal) (φ := .f32) x z reducesTo_S16x8192x128_S16x8192_d2 h_S_) e81 (w99 m c)).trans (o_sumLanes _ _ _))
  exact (w101 m c).trans ((congrArg (Host.negf (F := Ideal) (φ := .f32) (s := S16x8192)) e82).trans (o_neg _))

end Cert.KernelIdeal.Fox

end
-- ==== Proof.Lanes.lean ====
module

public import proofs.«01_k».proof.Proof.Tables
public import proofs.«01_k».proof.Proof.Blocks

/-! The arrays the launch reads, from tables of real arguments. -/

@[expose] public section

set_option maxRecDepth 16384

noncomputable section

namespace Cert.KernelIdeal.Fox

open Cert.KernelIdeal Cert.KernelIdeal.Gen
open Idealize.ShloMosaic Idealize.ShloMosaic.TcCoe
open Cert.Fox

/-- What the launch reads: the scaled queries, the keys and the values side by side; the extra lanes of the keys, of the
queries and of the output's gradient; and that gradient. -/
def arr (q k v g o : ℕ → ℕ → ℝ) : Arr where
  P r d := if d < 2048 then q r d * sF / Real.log 2 else if d < 4096 then k r (d - 2048) else v r (d - 4096)
  KA r d := if d % 128 = 0 then -g (d / 128) r / Real.log 2 else if d % 128 = 1 then 0 else if d % 128 = 2 then 0 else if d % 128 < 6 then 1 else 0
  QA r d := if d % 128 < 3 then 1 else if d % 128 = 3 then -(lse q k g (d / 128) r / Real.log 2) else 0
  DO r d := o r d
  DA r d := if d % 128 = 0 then -dl q k v g o (d / 128) r else 0

variable {m : (ℓ : Loc nD τ sig) → Buf (Elt Ideal) ℓ} {c : Dev nD} {q k v g o : ℕ → ℕ → ℝ}

/-- A number in three parts: the first is the number, the others are zero. -/
theorem parts {z0 z1 z2 z3 z4 z5 z6 : S16x8192.Idx → EReal} {f : ℕ → ℕ → ℝ}
    (h0 : z0 = lift2 f) (h1 : z1 = z0) (h2 : z2 = z1) (h3 : z3 = fun i => z0 i - z2 i) (h4 : z4 = z3) (h5 : z5 = z4) (h6 : z6 = fun i => z3 i - z5 i) :
    z1 = lift2 f ∧ z4 = lift2 (fun _ _ => 0) ∧ z6 = lift2 fun _ _ => 0 := by
  have e1 : z1 = lift2 f := h1.trans h0
  have e2 : z2 = lift2 f := h2.trans e1
  have e3 : z3 = lift2 fun _ _ => 0 := by
    rw [h3, h0, e2]
    funext i
    show ((f (i 0).val (i 1).val : ℝ) : EReal) - ((f (i 0).val (i 1).val : ℝ) : EReal) = _
    rw [← EReal.coe_sub, sub_self]
    rfl
  have e4 : z4 = lift2 fun _ _ => 0 := h4.trans e3
  have e5 : z5 = lift2 fun _ _ => 0 := h5.trans e4
  refine ⟨e1, e4, ?_⟩
  rw [h6, e3, e5]
  funext i
  show ((0 : ℝ) : EReal) - ((0 : ℝ) : EReal) = _
  rw [← EReal.coe_sub, sub_self]
  rfl

/-- The rows' scale. -/
theorem p_scale {z : S8192x2048.Idx → EReal} {x : S_.Idx → EReal} {h : Shape.BroadcastsInDim S_ S8192x2048 ![]}
    (hz : z = broadcastInDim S8192x2048 ![] h x) (hx : x = constant (F := Ideal) S_ .f32 0x3DB504F3#32) : z = fun _ => ((sF : ℝ) : EReal) := by
  rw [hz, hx]
  exact funext fun _ => ofBits_sF

/-- The logarithm of two, everywhere. -/
theorem p_logTwo {z : S8192x2048.Idx → EReal} {y x : S_.Idx → EReal} {h : Shape.BroadcastsInDim S_ S8192x2048 ![]}
    (hz : z = broadcastInDim S8192x2048 ![] h y) (hy : y = Host.log (F := Ideal) (φ := .f32) (s := S_) x) (hx : x = constant (F := Ideal) S_ .f32 0x40000000#32) :
    z = fun _ => ((Real.log 2 : ℝ) : EReal) := by
  rw [hz, hy, hx, o_logTwo]
  rfl

/-- The rows, scaled. -/
theorem p_scaled {z y x a b : S8192x2048.Idx → EReal} {f : ℕ → ℕ → ℝ} (hz : z = Host.divf (F := Ideal) (φ := .f32) (s := S8192x2048) y b)
    (hy : y = mulf (F := Ideal) (φ := .f32) (s := S8192x2048) x a) (hx : x = lift2 f) (ha : a = fun _ => ((sF : ℝ) : EReal))
    (hb : b = fun _ => ((Real.log 2 : ℝ) : EReal)) : z = lift2 fun r d => f r d * sF / Real.log 2 := by
  have h2 : Real.log 2 ≠ 0 := (Real.log_pos (by norm_num)).ne'
  rw [hz, hy, hx, ha, hb]
  exact (congrArg (fun w => Host.divf (F := Ideal) (φ := .f32) (s := S8192x2048) w _) (o_mul _ (fun _ => sF))).trans (o_div _ (fun _ => Real.log 2) fun _ => h2)

/-- A column of ones. -/
theorem p_ones {z : S16x8192.Idx → EReal} {x : S_.Idx → EReal} {h : Shape.BroadcastsInDim S_ S16x8192 ![]}
    (hz : z = broadcastInDim S16x8192 ![] h x) (hx : x = constant (F := Ideal) S_ .bf16 0x3F80#16) : z = lift2 fun _ _ => 1 := by
  rw [hz, hx, o_one]
  rfl

/-- Six columns, padded, with the rows first and the heads side by side. -/
theorem p_six {z4 : S8192x2048.Idx → EReal} {z3 : S8192x16x128.Idx → EReal} {z2 : S16x8192x128.Idx → EReal} {z1 : S16x8192x6.Idx → EReal}
    {x0 x1 x2 x3 x4 x5 : S16x8192x1.Idx → EReal} {u : S_.Idx → EReal} {f0 f1 f2 f3 f4 f5 : ℕ → ℕ → ℝ} {ha hb hc hd} {hu : 0 < S_.numel}
    (h4 : z4 = shapeCast S8192x2048 z3 ha) (h3 : z3 = transpose S8192x16x128 [1, 0, 2] z2 hb)
    (h2 : z2 = pad S16x8192x128 ![0, 0, 0] ![0, 0, 122] ![0, 0, 0] z1 u hc hu) (hv : ∀ i, u i = ((0 : ℝ) : EReal))
    (h1 : z1 = concatenate S16x8192x6 2 [⟨S16x8192x1, x0⟩, ⟨S16x8192x1, x1⟩, ⟨S16x8192x1, x2⟩, ⟨S16x8192x1, x3⟩, ⟨S16x8192x1, x4⟩, ⟨S16x8192x1, x5⟩] hd)
    (e0 : x0 = lift3 fun n i _ => f0 n i) (e1 : x1 = lift3 fun n i _ => f1 n i) (e2 : x2 = lift3 fun n i _ => f2 n i)
    (e3 : x3 = lift3 fun n i _ => f3 n i) (e4 : x4 = lift3 fun n i _ => f4 n i) (e5 : x5 = lift3 fun n i _ => f5 n i) :
    z4 = lift2 fun r d => if d % 128 < 6 then (if d % 128 = 0 then f0 (d / 128) r else if d % 128 = 1 then f1 (d / 128) r else if d % 128 = 2 then f2 (d / 128) r
      else if d % 128 = 3 then f3 (d / 128) r else if d % 128 = 4 then f4 (d / 128) r else f5 (d / 128) r) else 0 := by
  subst e0 e1 e2 e3 e4 e5
  rw [o_cat6] at h1
  subst h1
  rw [o_pad6 _ _ hv] at h2
  subst h2
  rw [o_rowsFirst] at h3
  subst h3
  rw [h4, o_flat]

/-- Three columns, padded, with the rows first and the heads side by side. -/
theorem p_three {z4 : S8192x2048.Idx → EReal} {z3 : S8192x16x128.Idx → EReal} {z2 : S16x8192x128.Idx → EReal} {z1 : S16x8192x3.Idx → EReal}
    {x0 x1 x2 : S16x8192x1.Idx → EReal} {u : S_.Idx → EReal} {f0 f1 f2 : ℕ → ℕ → ℝ} {ha hb hc hd} {hu : 0 < S_.numel}
    (h4 : z4 = shapeCast S8192x2048 z3 ha) (h3 : z3 = transpose S8192x16x128 [1, 0, 2] z2 hb)
    (h2 : z2 = pad S16x8192x128 ![0, 0, 0] ![0, 0, 125] ![0, 0, 0] z1 u hc hu) (hv : ∀ i, u i = ((0 : ℝ) : EReal))
    (h1 : z1 = concatenate S16x8192x3 2 [⟨S16x8192x1, x0⟩, ⟨S16x8192x1, x1⟩, ⟨S16x8192x1, x2⟩] hd)
    (e0 : x0 = lift3 fun n i _ => f0 n i) (e1 : x1 = lift3 fun n i _ => f1 n i) (e2 : x2 = lift3 fun n i _ => f2 n i) :
    z4 = lift2 fun r d => if d % 128 < 3 then (if d % 128 = 0 then f0 (d / 128) r else if d % 128 = 1 then f1 (d / 128) r else f2 (d / 128) r) else 0 := by
  subst e0 e1 e2
  rw [o_cat3] at h1
  subst h1
  rw [o_pad3 _ _ hv] at h2
  subst h2
  rw [o_rowsFirst] at h3
  subst h3
  rw [h4, o_flat]

/-- The padding's zero. -/
theorem p_zero {u : S_.Idx → EReal} {x : S_.Idx → BitVec 32} (hu : u = sitofp (F := Ideal) .bf16 x) (hx : x = constantI S_ 32 0#32) (i : S_.Idx) :
    u i = ((0 : ℝ) : EReal) := by
  rw [hu, hx]
  exact o_zero i

variable (H : Args m c q k v g o)
include H

/-- The keys' extra lanes. -/
theorem holdsKA : @Eq (S8192x2048.Idx → EReal) (V m c main_v60) (lift2 (arr q k v g o).KA) := by
  obtain ⟨h1, h2, h3⟩ := parts (t42 H) (w55 m c) (w56 m c) (w57 m c) (w58 m c) (w59 m c) ((w61 m c).trans (w60 m c))
  have h4 := p_ones (w63 m c) (w62 m c)
  refine (p_six (w75 m c) (w74 m c) (w73 m c) (p_zero (w72 m c) (w71 m c)) (w70 m c) (p_col (w64 m c) h1) (p_col (w65 m c) h2) (p_col (w66 m c) h3)
    (p_col (w67 m c) h4) (p_col (w68 m c) h4) (p_col (w69 m c) h4)).trans ?_
  refine congrArg lift2 (funext fun r => funext fun d => ?_)
  show _ = if d % 128 = 0 then _ else _
  split_ifs <;> first | rfl | omega

/-- The queries' extra lanes. -/
theorem holdsQA : @Eq (S8192x2048.Idx → EReal) (V m c main_v78) (lift2 (arr q k v g o).QA) := by
  obtain ⟨h1, h2, h3⟩ := parts (t61 H) (w77 m c) (w78 m c) (w79 m c) (w80 m c) (w81 m c) ((w83 m c).trans (w82 m c))
  have h4 := p_ones (w49 m c) (w48 m c)
  refine (p_six (w95 m c) (w94 m c) (w93 m c) (p_zero (w92 m c) (w91 m c)) (w90 m c) (p_col (w84 m c) h4) (p_col (w85 m c) h4) (p_col (w86 m c) h4)
    (p_col (w87 m c) h1) (p_col (w88 m c) h2) (p_col (w89 m c) h3)).trans ?_
  refine congrArg lift2 (funext fun r => funext fun d => ?_)
  show _ = if d % 128 < 3 then _ else _
  split_ifs <;> first | rfl | omega

/-- The gradient's extra lanes. -/
theorem holdsDA : @Eq (S8192x2048.Idx → EReal) (V m c main_v97) (lift2 (arr q k v g o).DA) := by
  obtain ⟨h1, h2, h3⟩ := parts (t83 H) (w102 m c) (w103 m c) (w104 m c) (w105 m c) (w106 m c) ((w108 m c).trans (w107 m c))
  refine (p_three (w117 m c) (w116 m c) (w115 m c) (p_zero (w114 m c) (w113 m c)) (w112 m c) (p_col (w109 m c) h1) (p_col (w110 m c) h2) (p_col (w111 m c) h3)).trans ?_
  refine congrArg lift2 (funext fun r => funext fun d => ?_)
  show _ = if d % 128 = 0 then _ else _
  split_ifs <;> first | rfl | omega

/-- The output's gradient. -/
theorem holdsDO : @Eq (S8192x2048.Idx → EReal) (V m c main_v98) (lift2 (arr q k v g o).DO) :=
  (w118 m c).trans H.o

/-- The queries, scaled. -/
theorem t35 : @Eq (S8192x2048.Idx → EReal) (V m c main_v35) (lift2 fun r d => q r d * sF / Real.log 2) :=
  p_scaled (w45 m c) (w41 m c) H.q (p_scale (w40 m c) (w39 m c)) (p_logTwo (w44 m c) (w43 m c) (w42 m c))

/-- The queries, keys and values side by side. -/
theorem holdsP (r d : Fin 8192) (hd : d.val < 6144) :
    (V m c main_v37 : S8192x8192.Idx → EReal) (ix2 r d) = (((arr q k v g o).P r.val d.val : ℝ) : EReal) := by
  refine (congrFun ((w47 m c).trans (w46 m c)) (ix2 r d)).trans ?_
  refine (o_cat4 (V m c main_v35 : S8192x2048.Idx → EReal) (V m c main_arg1 : S8192x2048.Idx → EReal) (V m c main_arg2 : S8192x2048.Idx → EReal) (V m c main_arg3 : S8192x2048.Idx → EReal) _ r d).trans ?_
  show _ = ((if d.val < 2048 then _ else if d.val < 4096 then _ else _ : ℝ) : EReal)
  split_ifs with h1 h2
  · exact congrFun (t35 H) (ix2 r ⟨d.val, h1⟩)
  · exact congrFun H.k (ix2 r ⟨d.val - 2048, _⟩)
  · exact congrFun H.v (ix2 r ⟨d.val - 4096, _⟩)

end Cert.KernelIdeal.Fox

end
-- ==== Proof.Refs.lean ====
module

public import proofs.«01_k».proof.Proof.Soft
public import proofs.«01_k».proof.Proof.Gen.ReferenceIdeal.Read

/-! The reference, operation by operation, over tables of reals. -/

@[expose] public section

set_option maxRecDepth 16384
set_option maxHeartbeats 1000000

noncomputable section

namespace Cert.ReferenceIdeal.Fox

open Cert.ReferenceIdeal Cert.ReferenceIdeal.Gen Cert.ReferenceIdeal.Read Cert.Fox
open Idealize.ShloMosaic Idealize.ShloMosaic.TcCoe

/-- The score of query row `i` and key row `j` in head `n`. -/
def sc (q k g : ℕ → ℕ → ℝ) (n i j : ℕ) : ℝ :=
  (∑ x ∈ Finset.range 128, q i (n * 128 + x) * k j (n * 128 + x)) * sF + (g n i - g n j)

/-- The gradient of the weight of query row `i` and key row `j` in head `n`. -/
def dp (v o : ℕ → ℕ → ℝ) (n i j : ℕ) : ℝ := ∑ x ∈ Finset.range 128, o i (n * 128 + x) * v j (n * 128 + x)

/-- The gradient of the score of query row `i` and key row `j` in head `n`. -/
def ds (q k v g o : ℕ → ℕ → ℝ) (n i j : ℕ) : ℝ :=
  wt (sc q k g n i) i j * (dp v o n i j - ∑ l ∈ Finset.range 8192, wt (sc q k g n i) i l * dp v o n i l)

variable {x0 x1 x2 : (⟨S8192x2048, .f32⟩ : BufTy).Contents (Elt Ideal)} {x4 : (⟨S16x8192, .f32⟩ : BufTy).Contents (Elt Ideal)}
  {x5 : (⟨S8192x2048, .f32⟩ : BufTy).Contents (Elt Ideal)} {q k v g o : ℕ → ℕ → ℝ}

/-- Queries by head. -/
theorem r0 (hq : ∀ i, x0 i = ((q (i 0).val (i 1).val : ℝ) : EReal)) (i : S8192x16x128.Idx) :
    val_main_v0 (F := Ideal) x0 i = ((q (i 0).val ((i 1).val * 128 + (i 2).val) : ℝ) : EReal) := by
  rw [val_main_v0_apply, hq]
  exact congrArg Real.toEReal (heads _ (i 1).isLt (i 2).isLt)

/-- Keys by head. -/
theorem r1 (hk : ∀ i, x1 i = ((k (i 0).val (i 1).val : ℝ) : EReal)) (i : S8192x16x128.Idx) :
    val_main_v1 (F := Ideal) x1 i = ((k (i 0).val ((i 1).val * 128 + (i 2).val) : ℝ) : EReal) := by
  rw [val_main_v1_apply, hk]
  exact congrArg Real.toEReal (heads _ (i 1).isLt (i 2).isLt)

/-- Queries times keys. -/
theorem r2 (hq : ∀ i, x0 i = ((q (i 0).val (i 1).val : ℝ) : EReal)) (hk : ∀ i, x1 i = ((k (i 0).val (i 1).val : ℝ) : EReal)) (i : S16x8192x8192.Idx) :
    val_main_v2 (F := Ideal) x0 x1 i = ((∑ x ∈ Finset.range 128, q (i 1).val ((i 0).val * 128 + x) * k (i 2).val ((i 0).val * 128 + x) : ℝ) : EReal) := by
  rw [val_main_v2_apply, ← coe_sum 128 (fun x => q (i 1).val ((i 0).val * 128 + x) * k (i 2).val ((i 0).val * 128 + x))]
  refine Finset.sum_congr rfl fun x _ => ?_
  rw [r0 hq, r1 hk, ← EReal.coe_mul]

/-- The difference of the running sums. -/
theorem r9 (hg : ∀ i, x4 i = ((g (i 0).val (i 1).val : ℝ) : EReal)) (i : S16x8192x8192.Idx) :
    val_main_v9 (F := Ideal) x4 i = ((g (i 0).val (i 1).val - g (i 0).val (i 2).val : ℝ) : EReal) := by
  rw [val_main_v9_apply, val_main_v7_apply, val_main_v8_apply, val_main_v5_apply, val_main_v6_apply, hg, hg, Ideal.subf_def, ← EReal.coe_sub]

/-- The scores. -/
theorem r10 (hq : ∀ i, x0 i = ((q (i 0).val (i 1).val : ℝ) : EReal)) (hk : ∀ i, x1 i = ((k (i 0).val (i 1).val : ℝ) : EReal)) (hg : ∀ i, x4 i = ((g (i 0).val (i 1).val : ℝ) : EReal)) (i : S16x8192x8192.Idx) :
    val_main_v10 (F := Ideal) x0 x1 x4 i = ((sc q k g (i 0).val (i 1).val (i 2).val : ℝ) : EReal) := by
  rw [val_main_v10_apply, val_main_v4_apply, r2 hq hk, r9 hg, val_main_v3_apply, val_main_cst_apply, Ideal.ofBits_def, ofBits_sF,
    Ideal.mulf_def, Ideal.addf_def, ← EReal.coe_mul, ← EReal.coe_add]
  rfl

/-- The mask, as a selector. -/
theorem r17_1 {α : Type} (i : S16x8192x8192.Idx) (x y : α) :
    Scalar.select (val_main_v17_1 (F := Ideal) i) x y = if (i 2).val ≤ (i 1).val then x else y := by
  rw [val_main_v17_1_apply, val_main_v16_apply, val_main_v14_apply, val_main_v15_apply, val_main_v12_apply, val_main_v13_apply,
    val_main_v11_apply, val_main_v11_apply]
  exact sel_sle (i 2).isLt (i 1).isLt x y

/-- The masked scores. -/
theorem r17_0 (hq : ∀ i, x0 i = ((q (i 0).val (i 1).val : ℝ) : EReal)) (hk : ∀ i, x1 i = ((k (i 0).val (i 1).val : ℝ) : EReal)) (hg : ∀ i, x4 i = ((g (i 0).val (i 1).val : ℝ) : EReal)) (i : S16x8192x8192.Idx) :
    val_main_v17_0 (F := Ideal) x0 x1 x4 i = if (i 2).val ≤ (i 1).val then ((sc q k g (i 0).val (i 1).val (i 2).val : ℝ) : EReal) else ⊥ := by
  rw [val_main_v17_0_apply, r17_1, r10 hq hk hg, val_main_call0_v2_apply, val_main_call0_v0_apply, val_main_cst_0_apply, Ideal.ofBits_def, ofBits_bot]

/-- A row's largest score. -/
theorem r18 (hq : ∀ i, x0 i = ((q (i 0).val (i 1).val : ℝ) : EReal)) (hk : ∀ i, x1 i = ((k (i 0).val (i 1).val : ℝ) : EReal)) (hg : ∀ i, x4 i = ((g (i 0).val (i 1).val : ℝ) : EReal)) (i : S16x8192.Idx) :
    val_main_v18 (F := Ideal) x0 x1 x4 i = ((mx (sc q k g (i 0).val (i 1).val) (i 1).val : ℝ) : EReal) := by
  unfold val_main_v18 val_main_cst_1
  exact rowmax _ _ _ (sc q k g) (r17_0 hq hk hg) i

/-- A row's largest score, guarded. -/
theorem r25 (hq : ∀ i, x0 i = ((q (i 0).val (i 1).val : ℝ) : EReal)) (hk : ∀ i, x1 i = ((k (i 0).val (i 1).val : ℝ) : EReal)) (hg : ∀ i, x4 i = ((g (i 0).val (i 1).val : ℝ) : EReal)) (i : S16x8192.Idx) :
    val_main_v25 (F := Ideal) x0 x1 x4 i = ((mx (sc q k g (i 0).val (i 1).val) (i 1).val : ℝ) : EReal) := by
  rw [val_main_v25_apply, r18 hq hk hg, val_main_v24_apply, val_main_cst_3_apply, Ideal.ofBits_def, ofBits_bot, Ideal.maximumf_def]
  exact max_eq_right bot_le

/-- A row's largest score, along the row. -/
theorem r36 (hq : ∀ i, x0 i = ((q (i 0).val (i 1).val : ℝ) : EReal)) (hk : ∀ i, x1 i = ((k (i 0).val (i 1).val : ℝ) : EReal)) (hg : ∀ i, x4 i = ((g (i 0).val (i 1).val : ℝ) : EReal)) (i : S16x8192x8192.Idx) :
    val_main_v36 (F := Ideal) x0 x1 x4 i = ((mx (sc q k g (i 0).val (i 1).val) (i 1).val : ℝ) : EReal) := by
  have h1 : (i 1).val < 8192 := (i 1).isLt
  rw [val_main_v36_apply, val_main_v35_apply, r25 hq hk hg]

/-- The exponentials. -/
theorem r38 (hq : ∀ i, x0 i = ((q (i 0).val (i 1).val : ℝ) : EReal)) (hk : ∀ i, x1 i = ((k (i 0).val (i 1).val : ℝ) : EReal)) (hg : ∀ i, x4 i = ((g (i 0).val (i 1).val : ℝ) : EReal)) (i : S16x8192x8192.Idx) :
    val_main_v38 (F := Ideal) x0 x1 x4 i = ((ex (sc q k g (i 0).val (i 1).val) (i 1).val (i 2).val : ℝ) : EReal) := by
  rw [val_main_v38_apply, val_main_v37_apply, r17_0 hq hk hg, r36 hq hk hg, Ideal.subf_def, Ideal.hostUnary_exp_def, exp_mask]

/-- A row's sum of exponentials. -/
theorem r39 (hq : ∀ i, x0 i = ((q (i 0).val (i 1).val : ℝ) : EReal)) (hk : ∀ i, x1 i = ((k (i 0).val (i 1).val : ℝ) : EReal)) (hg : ∀ i, x4 i = ((g (i 0).val (i 1).val : ℝ) : EReal)) (i : S16x8192.Idx) :
    val_main_v39 (F := Ideal) x0 x1 x4 i = ((sm (sc q k g (i 0).val (i 1).val) (i 1).val : ℝ) : EReal) := by
  rw [val_main_v39_apply, val_main_cst_9_apply, Ideal.ofBits_def, ofBits_zero, EReal.coe_zero, zero_add]
  unfold sm
  rw [← coe_sum 8192]
  refine Finset.sum_congr rfl fun x _ => ?_
  rw [r38 hq hk hg]

/-- A row's sum of exponentials, as a column. -/
theorem r40 (hq : ∀ i, x0 i = ((q (i 0).val (i 1).val : ℝ) : EReal)) (hk : ∀ i, x1 i = ((k (i 0).val (i 1).val : ℝ) : EReal)) (hg : ∀ i, x4 i = ((g (i 0).val (i 1).val : ℝ) : EReal)) (i : S16x8192x1.Idx) :
    val_main_v40 (F := Ideal) x0 x1 x4 i = ((sm (sc q k g (i 0).val (i 1).val) (i 1).val : ℝ) : EReal) := by
  rw [val_main_v40_apply, r39 hq hk hg]

/-- The weights. -/
theorem r42 (hq : ∀ i, x0 i = ((q (i 0).val (i 1).val : ℝ) : EReal)) (hk : ∀ i, x1 i = ((k (i 0).val (i 1).val : ℝ) : EReal)) (hg : ∀ i, x4 i = ((g (i 0).val (i 1).val : ℝ) : EReal)) (i : S16x8192x8192.Idx) :
    val_main_v42 (F := Ideal) x0 x1 x4 i = ((wt (sc q k g (i 0).val (i 1).val) (i 1).val (i 2).val : ℝ) : EReal) := by
  rw [val_main_v42_apply, r38 hq hk hg, val_main_v41_apply, r40 hq hk hg, Ideal.hostDivf_def]
  exact div_real (sm_pos _ _).ne' _

/-- One over the square of the sum. -/
theorem r45 (hq : ∀ i, x0 i = ((q (i 0).val (i 1).val : ℝ) : EReal)) (hk : ∀ i, x1 i = ((k (i 0).val (i 1).val : ℝ) : EReal)) (hg : ∀ i, x4 i = ((g (i 0).val (i 1).val : ℝ) : EReal)) (i : S16x8192x1.Idx) :
    val_main_v45 (F := Ideal) x0 x1 x4 i = ((1 / (sm (sc q k g (i 0).val (i 1).val) (i 1).val * sm (sc q k g (i 0).val (i 1).val) (i 1).val) : ℝ) : EReal) := by
  rw [val_main_v45_apply, val_main_v43_apply, r40 hq hk hg, val_main_v44_apply, val_main_cst_10_apply, Ideal.ofBits_def, ofBits_one,
    Ideal.mulf_def, ← EReal.coe_mul, Ideal.hostDivf_def]
  exact div_real (mul_pos (sm_pos _ _) (sm_pos _ _)).ne' _

/-- Values by head. -/
theorem r46 (hv : ∀ i, x2 i = ((v (i 0).val (i 1).val : ℝ) : EReal)) (i : S8192x16x128.Idx) :
    val_main_v46 (F := Ideal) x2 i = ((v (i 0).val ((i 1).val * 128 + (i 2).val) : ℝ) : EReal) := by
  rw [val_main_v46_apply, hv]
  exact congrArg Real.toEReal (heads _ (i 1).isLt (i 2).isLt)

/-- The output's gradient by head. -/
theorem r51 (ho : ∀ i, x5 i = ((o (i 0).val (i 1).val : ℝ) : EReal)) (i : S16x128x8192.Idx) :
    val_main_v51 (F := Ideal) x5 i = ((o (i 2).val ((i 0).val * 128 + (i 1).val) : ℝ) : EReal) := by
  rw [val_main_v51_apply, val_main_v50_apply, ho]
  exact congrArg Real.toEReal (heads _ (i 0).isLt (i 1).isLt)

/-- The gradient of the weights. -/
theorem r52 (hv : ∀ i, x2 i = ((v (i 0).val (i 1).val : ℝ) : EReal)) (ho : ∀ i, x5 i = ((o (i 0).val (i 1).val : ℝ) : EReal)) (i : S16x8192x8192.Idx) :
    val_main_v52 (F := Ideal) x2 x5 i = ((dp v o (i 0).val (i 1).val (i 2).val : ℝ) : EReal) := by
  unfold dp
  rw [val_main_v52_apply, ← coe_sum 128 (fun x => o (i 1).val ((i 0).val * 128 + x) * v (i 2).val ((i 0).val * 128 + x))]
  refine Finset.sum_congr rfl fun x _ => ?_
  rw [r51 ho, r46 hv, ← EReal.coe_mul]

/-- The gradient of the values, by head. -/
theorem r53 (hq : ∀ i, x0 i = ((q (i 0).val (i 1).val : ℝ) : EReal)) (hk : ∀ i, x1 i = ((k (i 0).val (i 1).val : ℝ) : EReal)) (hg : ∀ i, x4 i = ((g (i 0).val (i 1).val : ℝ) : EReal)) (ho : ∀ i, x5 i = ((o (i 0).val (i 1).val : ℝ) : EReal)) (i : S16x128x8192.Idx) :
    val_main_v53 (F := Ideal) x0 x1 x4 x5 i = ((∑ x ∈ Finset.range 8192, o x ((i 0).val * 128 + (i 1).val) * wt (sc q k g (i 0).val x) x (i 2).val : ℝ) : EReal) := by
  rw [val_main_v53_apply, ← coe_sum 8192 (fun x => o x ((i 0).val * 128 + (i 1).val) * wt (sc q k g (i 0).val x) x (i 2).val)]
  refine Finset.sum_congr rfl fun x _ => ?_
  rw [r51 ho, r42 hq hk hg, ← EReal.coe_mul]

/-- The products whose sum the division by the sum sends back. -/
theorem r58 (hq : ∀ i, x0 i = ((q (i 0).val (i 1).val : ℝ) : EReal)) (hk : ∀ i, x1 i = ((k (i 0).val (i 1).val : ℝ) : EReal)) (hv : ∀ i, x2 i = ((v (i 0).val (i 1).val : ℝ) : EReal)) (hg : ∀ i, x4 i = ((g (i 0).val (i 1).val : ℝ) : EReal)) (ho : ∀ i, x5 i = ((o (i 0).val (i 1).val : ℝ) : EReal)) (i : S16x8192x8192.Idx) :
    val_main_v58 (F := Ideal) x0 x1 x2 x4 x5 i = ((dp v o (i 0).val (i 1).val (i 2).val * (1 / (sm (sc q k g (i 0).val (i 1).val) (i 1).val * sm (sc q k g (i 0).val (i 1).val) (i 1).val)) * ex (sc q k g (i 0).val (i 1).val) (i 1).val (i 2).val : ℝ) : EReal) := by
  rw [val_main_v58_apply, val_main_v57_apply, r52 hv ho, val_main_v56_apply, r45 hq hk hg, r38 hq hk hg, Ideal.mulf_def, Ideal.mulf_def,
    ← EReal.coe_mul, ← EReal.coe_mul]

/-- Their sum. -/
theorem r59 (hq : ∀ i, x0 i = ((q (i 0).val (i 1).val : ℝ) : EReal)) (hk : ∀ i, x1 i = ((k (i 0).val (i 1).val : ℝ) : EReal)) (hv : ∀ i, x2 i = ((v (i 0).val (i 1).val : ℝ) : EReal)) (hg : ∀ i, x4 i = ((g (i 0).val (i 1).val : ℝ) : EReal)) (ho : ∀ i, x5 i = ((o (i 0).val (i 1).val : ℝ) : EReal)) (i : S16x8192.Idx) :
    val_main_v59 (F := Ideal) x0 x1 x2 x4 x5 i = ((∑ l ∈ Finset.range 8192, dp v o (i 0).val (i 1).val l * (1 / (sm (sc q k g (i 0).val (i 1).val) (i 1).val * sm (sc q k g (i 0).val (i 1).val) (i 1).val)) * ex (sc q k g (i 0).val (i 1).val) (i 1).val l : ℝ) : EReal) := by
  rw [val_main_v59_apply, val_main_cst_11_apply, Ideal.ofBits_def, ofBits_zero, EReal.coe_zero, zero_add, ← coe_sum 8192]
  refine Finset.sum_congr rfl fun x _ => ?_
  rw [r58 hq hk hv hg ho]

/-- Its negative. -/
theorem r61 (hq : ∀ i, x0 i = ((q (i 0).val (i 1).val : ℝ) : EReal)) (hk : ∀ i, x1 i = ((k (i 0).val (i 1).val : ℝ) : EReal)) (hv : ∀ i, x2 i = ((v (i 0).val (i 1).val : ℝ) : EReal)) (hg : ∀ i, x4 i = ((g (i 0).val (i 1).val : ℝ) : EReal)) (ho : ∀ i, x5 i = ((o (i 0).val (i 1).val : ℝ) : EReal)) (i : S16x8192x1.Idx) :
    val_main_v61 (F := Ideal) x0 x1 x2 x4 x5 i = ((-(∑ l ∈ Finset.range 8192, dp v o (i 0).val (i 1).val l * (1 / (sm (sc q k g (i 0).val (i 1).val) (i 1).val * sm (sc q k g (i 0).val (i 1).val) (i 1).val)) * ex (sc q k g (i 0).val (i 1).val) (i 1).val l) : ℝ) : EReal) := by
  rw [val_main_v61_apply, val_main_v60_apply, r59 hq hk hv hg ho, Ideal.hostNegf_def, Ideal.negf_def, ← EReal.coe_neg]
  have h1 : (i 1).val < 8192 := (i 1).isLt
  have h2 : (i 2).val < 1 := (i 2).isLt
  have e0 : (idx_main_v60 i 0).val = (i 0).val := by
    show (((i 0).val * 8192 + (i 1).val) * 1 + (i 2).val) / 8192 = _
    omega
  have e1 : (idx_main_v60 i 1).val = (i 1).val := by
    show (((i 0).val * 8192 + (i 1).val) * 1 + (i 2).val) % 8192 = _
    omega
  rw [e0, e1]

/-- Its negative, along the row. -/
theorem r65 (hq : ∀ i, x0 i = ((q (i 0).val (i 1).val : ℝ) : EReal)) (hk : ∀ i, x1 i = ((k (i 0).val (i 1).val : ℝ) : EReal)) (hv : ∀ i, x2 i = ((v (i 0).val (i 1).val : ℝ) : EReal)) (hg : ∀ i, x4 i = ((g (i 0).val (i 1).val : ℝ) : EReal)) (ho : ∀ i, x5 i = ((o (i 0).val (i 1).val : ℝ) : EReal)) (i : S16x8192x8192.Idx) :
    val_main_v65 (F := Ideal) x0 x1 x2 x4 x5 i = ((-(∑ l ∈ Finset.range 8192, dp v o (i 0).val (i 1).val l * (1 / (sm (sc q k g (i 0).val (i 1).val) (i 1).val * sm (sc q k g (i 0).val (i 1).val) (i 1).val)) * ex (sc q k g (i 0).val (i 1).val) (i 1).val l) : ℝ) : EReal) := by
  rw [val_main_v65_apply, val_main_v64_apply, val_main_cst_12_apply, Ideal.ofBits_def, ofBits_zero, EReal.coe_zero, zero_add,
    Fin.sum_univ_one, r61 hq hk hv hg ho]

/-- The gradient of the scores. -/
theorem r68 (hq : ∀ i, x0 i = ((q (i 0).val (i 1).val : ℝ) : EReal)) (hk : ∀ i, x1 i = ((k (i 0).val (i 1).val : ℝ) : EReal)) (hv : ∀ i, x2 i = ((v (i 0).val (i 1).val : ℝ) : EReal)) (hg : ∀ i, x4 i = ((g (i 0).val (i 1).val : ℝ) : EReal)) (ho : ∀ i, x5 i = ((o (i 0).val (i 1).val : ℝ) : EReal)) (i : S16x8192x8192.Idx) :
    val_main_v68 (F := Ideal) x0 x1 x2 x4 x5 i = ((ds q k v g o (i 0).val (i 1).val (i 2).val : ℝ) : EReal) := by
  rw [val_main_v68_apply, r17_1, val_main_v67_apply, val_main_v66_apply, val_main_v63_apply, r52 hv ho, val_main_v62_apply, r40 hq hk hg,
    r65 hq hk hv hg ho, r38 hq hk hg, val_main_call1_v0_apply, val_main_call1_cst_apply, Ideal.ofBits_def, ofBits_zero, Ideal.hostDivf_def]
  rw [show ∀ x y : ℝ, 0 < y → Ideal.div (x : EReal) (y : EReal) = ((x / y : ℝ) : EReal) from fun x y h => div_real h.ne' x]
  · rw [Ideal.addf_def, ← EReal.coe_add, Ideal.mulf_def, ← EReal.coe_mul]
    unfold ds
    rw [← grad_eq]
    split
    · rfl
    · rename_i h
      rw [show ex (sc q k g (i 0).val (i 1).val) (i 1).val (i 2).val = 0 from if_neg h, mul_zero]
  · exact sm_pos _ _

/-- Its sum over the keys. -/
theorem r69 (hq : ∀ i, x0 i = ((q (i 0).val (i 1).val : ℝ) : EReal)) (hk : ∀ i, x1 i = ((k (i 0).val (i 1).val : ℝ) : EReal)) (hv : ∀ i, x2 i = ((v (i 0).val (i 1).val : ℝ) : EReal)) (hg : ∀ i, x4 i = ((g (i 0).val (i 1).val : ℝ) : EReal)) (ho : ∀ i, x5 i = ((o (i 0).val (i 1).val : ℝ) : EReal)) (i : S16x8192.Idx) :
    val_main_v69 (F := Ideal) x0 x1 x2 x4 x5 i = ((∑ l ∈ Finset.range 8192, ds q k v g o (i 0).val (i 1).val l : ℝ) : EReal) := by
  rw [val_main_v69_apply, val_main_cst_13_apply, Ideal.ofBits_def, ofBits_zero, EReal.coe_zero, zero_add, ← coe_sum 8192]
  refine Finset.sum_congr rfl fun x _ => ?_
  rw [r68 hq hk hv hg ho]

/-- The negative of its sum over the queries. -/
theorem r72 (hq : ∀ i, x0 i = ((q (i 0).val (i 1).val : ℝ) : EReal)) (hk : ∀ i, x1 i = ((k (i 0).val (i 1).val : ℝ) : EReal)) (hv : ∀ i, x2 i = ((v (i 0).val (i 1).val : ℝ) : EReal)) (hg : ∀ i, x4 i = ((g (i 0).val (i 1).val : ℝ) : EReal)) (ho : ∀ i, x5 i = ((o (i 0).val (i 1).val : ℝ) : EReal)) (i : S16x8192.Idx) :
    val_main_v72 (F := Ideal) x0 x1 x2 x4 x5 i = ((∑ l ∈ Finset.range 8192, -ds q k v g o (i 0).val l (i 1).val : ℝ) : EReal) := by
  rw [val_main_v72_apply, val_main_cst_14_apply, Ideal.ofBits_def, ofBits_zero, EReal.coe_zero, zero_add, ← coe_sum 8192]
  refine Finset.sum_congr rfl fun x _ => ?_
  rw [val_main_v71_apply, r68 hq hk hv hg ho, Ideal.hostNegf_def, Ideal.negf_def, ← EReal.coe_neg]

/-- The gradient of the running sum met by the queries. -/
theorem r85 (hq : ∀ i, x0 i = ((q (i 0).val (i 1).val : ℝ) : EReal)) (hk : ∀ i, x1 i = ((k (i 0).val (i 1).val : ℝ) : EReal)) (hv : ∀ i, x2 i = ((v (i 0).val (i 1).val : ℝ) : EReal)) (hg : ∀ i, x4 i = ((g (i 0).val (i 1).val : ℝ) : EReal)) (ho : ∀ i, x5 i = ((o (i 0).val (i 1).val : ℝ) : EReal)) (i : S16x1x8192.Idx) :
    val_main_v85 (F := Ideal) x0 x1 x2 x4 x5 i = ((∑ l ∈ Finset.range 8192, ds q k v g o (i 0).val (i 2).val l : ℝ) : EReal) := by
  have h1 : (i 2).val < 8192 := (i 2).isLt
  rw [val_main_v85_apply, val_main_v75_apply, val_main_cst_16_apply, Ideal.ofBits_def, ofBits_zero, EReal.coe_zero, zero_add,
    Fin.sum_univ_one, val_main_v70_apply, r69 hq hk hv hg ho]
  show ((∑ l ∈ Finset.range 8192, ds q k v g o ((((i 0).val * 8192 + (i 2).val) * 1 + 0) / 8192) ((((i 0).val * 8192 + (i 2).val) * 1 + 0) % 8192) l : ℝ) : EReal) = _
  rw [show (((i 0).val * 8192 + (i 2).val) * 1 + 0) / 8192 = (i 0).val by omega, show (((i 0).val * 8192 + (i 2).val) * 1 + 0) % 8192 = (i 2).val by omega]

/-- The gradient of the running sum met by the keys. -/
theorem r88 (hq : ∀ i, x0 i = ((q (i 0).val (i 1).val : ℝ) : EReal)) (hk : ∀ i, x1 i = ((k (i 0).val (i 1).val : ℝ) : EReal)) (hv : ∀ i, x2 i = ((v (i 0).val (i 1).val : ℝ) : EReal)) (hg : ∀ i, x4 i = ((g (i 0).val (i 1).val : ℝ) : EReal)) (ho : ∀ i, x5 i = ((o (i 0).val (i 1).val : ℝ) : EReal)) (i : S16x1x8192.Idx) :
    val_main_v88 (F := Ideal) x0 x1 x2 x4 x5 i = ((∑ l ∈ Finset.range 8192, -ds q k v g o (i 0).val l (i 2).val : ℝ) : EReal) := by
  have h1 : (i 2).val < 8192 := (i 2).isLt
  rw [val_main_v88_apply, val_main_v74_apply, val_main_cst_15_apply, Ideal.ofBits_def, ofBits_zero, EReal.coe_zero, zero_add,
    Fin.sum_univ_one, val_main_v73_apply, r72 hq hk hv hg ho]
  show ((∑ l ∈ Finset.range 8192, -ds q k v g o ((((i 0).val * 1 + 0) * 8192 + (i 2).val) / 8192) l ((((i 0).val * 1 + 0) * 8192 + (i 2).val) % 8192) : ℝ) : EReal) = _
  rw [show (((i 0).val * 1 + 0) * 8192 + (i 2).val) / 8192 = (i 0).val by omega, show (((i 0).val * 1 + 0) * 8192 + (i 2).val) % 8192 = (i 2).val by omega]

/-- The gradient of the scores, scaled. -/
theorem r77 (hq : ∀ i, x0 i = ((q (i 0).val (i 1).val : ℝ) : EReal)) (hk : ∀ i, x1 i = ((k (i 0).val (i 1).val : ℝ) : EReal)) (hv : ∀ i, x2 i = ((v (i 0).val (i 1).val : ℝ) : EReal)) (hg : ∀ i, x4 i = ((g (i 0).val (i 1).val : ℝ) : EReal)) (ho : ∀ i, x5 i = ((o (i 0).val (i 1).val : ℝ) : EReal)) (i : S16x8192x8192.Idx) :
    val_main_v77 (F := Ideal) x0 x1 x2 x4 x5 i = ((ds q k v g o (i 0).val (i 1).val (i 2).val * sF : ℝ) : EReal) := by
  rw [val_main_v77_apply, r68 hq hk hv hg ho, val_main_v76_apply, val_main_cst_17_apply, Ideal.ofBits_def, ofBits_sF, Ideal.mulf_def, ← EReal.coe_mul]

/-- The gradient of the keys, by head. -/
theorem r78 (hq : ∀ i, x0 i = ((q (i 0).val (i 1).val : ℝ) : EReal)) (hk : ∀ i, x1 i = ((k (i 0).val (i 1).val : ℝ) : EReal)) (hv : ∀ i, x2 i = ((v (i 0).val (i 1).val : ℝ) : EReal)) (hg : ∀ i, x4 i = ((g (i 0).val (i 1).val : ℝ) : EReal)) (ho : ∀ i, x5 i = ((o (i 0).val (i 1).val : ℝ) : EReal)) (i : S16x8192x128.Idx) :
    val_main_v78 (F := Ideal) x0 x1 x2 x4 x5 i = ((∑ x ∈ Finset.range 8192, ds q k v g o (i 0).val x (i 1).val * sF * q x ((i 0).val * 128 + (i 2).val) : ℝ) : EReal) := by
  rw [val_main_v78_apply, ← coe_sum 8192 (fun x => ds q k v g o (i 0).val x (i 1).val * sF * q x ((i 0).val * 128 + (i 2).val))]
  refine Finset.sum_congr rfl fun x _ => ?_
  rw [r77 hq hk hv hg ho, r0 hq, ← EReal.coe_mul]

/-- The gradient of the queries, by head. -/
theorem r80 (hq : ∀ i, x0 i = ((q (i 0).val (i 1).val : ℝ) : EReal)) (hk : ∀ i, x1 i = ((k (i 0).val (i 1).val : ℝ) : EReal)) (hv : ∀ i, x2 i = ((v (i 0).val (i 1).val : ℝ) : EReal)) (hg : ∀ i, x4 i = ((g (i 0).val (i 1).val : ℝ) : EReal)) (ho : ∀ i, x5 i = ((o (i 0).val (i 1).val : ℝ) : EReal)) (i : S16x8192x128.Idx) :
    val_main_v80 (F := Ideal) x0 x1 x2 x4 x5 i = ((∑ x ∈ Finset.range 8192, ds q k v g o (i 0).val (i 1).val x * sF * k x ((i 0).val * 128 + (i 2).val) : ℝ) : EReal) := by
  rw [val_main_v80_apply, ← coe_sum 8192 (fun x => ds q k v g o (i 0).val (i 1).val x * sF * k x ((i 0).val * 128 + (i 2).val))]
  refine Finset.sum_congr rfl fun x _ => ?_
  rw [r77 hq hk hv hg ho, r1 hk, ← EReal.coe_mul]

/-- The gradient of the keys. -/
theorem r86 (hq : ∀ i, x0 i = ((q (i 0).val (i 1).val : ℝ) : EReal)) (hk : ∀ i, x1 i = ((k (i 0).val (i 1).val : ℝ) : EReal)) (hv : ∀ i, x2 i = ((v (i 0).val (i 1).val : ℝ) : EReal)) (hg : ∀ i, x4 i = ((g (i 0).val (i 1).val : ℝ) : EReal)) (ho : ∀ i, x5 i = ((o (i 0).val (i 1).val : ℝ) : EReal)) (i : S8192x2048.Idx) :
    val_main_v86 (F := Ideal) x0 x1 x2 x4 x5 i = ((∑ x ∈ Finset.range 8192, ds q k v g o ((i 1).val / 128) x (i 0).val * sF * q x (i 1).val : ℝ) : EReal) := by
  rw [val_main_v86_apply, val_main_v82_apply, val_main_v79_apply, r78 hq hk hv hg ho, Ideal.truncf_def]
  have h1 : (i 1).val < 2048 := (i 1).isLt
  show ((∑ x ∈ Finset.range 8192, ds q k v g o (((i 0).val * 2048 + (i 1).val) / 128 % 16) x (((i 0).val * 2048 + (i 1).val) / 2048) * sF * q x ((((i 0).val * 2048 + (i 1).val) / 128 % 16) * 128 + (((i 0).val * 2048 + (i 1).val) % 128)) : ℝ) : EReal) = _
  rw [show ((i 0).val * 2048 + (i 1).val) / 2048 = (i 0).val by omega, show ((i 0).val * 2048 + (i 1).val) / 128 % 16 = (i 1).val / 128 by omega,
    show ((i 0).val * 2048 + (i 1).val) % 128 = (i 1).val % 128 by omega, show (i 1).val / 128 * 128 + (i 1).val % 128 = (i 1).val by omega]

/-- The gradient of the queries. -/
theorem r84 (hq : ∀ i, x0 i = ((q (i 0).val (i 1).val : ℝ) : EReal)) (hk : ∀ i, x1 i = ((k (i 0).val (i 1).val : ℝ) : EReal)) (hv : ∀ i, x2 i = ((v (i 0).val (i 1).val : ℝ) : EReal)) (hg : ∀ i, x4 i = ((g (i 0).val (i 1).val : ℝ) : EReal)) (ho : ∀ i, x5 i = ((o (i 0).val (i 1).val : ℝ) : EReal)) (i : S8192x2048.Idx) :
    val_main_v84 (F := Ideal) x0 x1 x2 x4 x5 i = ((∑ x ∈ Finset.range 8192, ds q k v g o ((i 1).val / 128) (i 0).val x * sF * k x (i 1).val : ℝ) : EReal) := by
  rw [val_main_v84_apply, val_main_v83_apply, val_main_v81_apply, r80 hq hk hv hg ho, Ideal.truncf_def]
  have h1 : (i 1).val < 2048 := (i 1).isLt
  show ((∑ x ∈ Finset.range 8192, ds q k v g o (((i 0).val * 2048 + (i 1).val) / 128 % 16) (((i 0).val * 2048 + (i 1).val) / 2048) x * sF * k x ((((i 0).val * 2048 + (i 1).val) / 128 % 16) * 128 + (((i 0).val * 2048 + (i 1).val) % 128)) : ℝ) : EReal) = _
  rw [show ((i 0).val * 2048 + (i 1).val) / 2048 = (i 0).val by omega, show ((i 0).val * 2048 + (i 1).val) / 128 % 16 = (i 1).val / 128 by omega,
    show ((i 0).val * 2048 + (i 1).val) % 128 = (i 1).val % 128 by omega, show (i 1).val / 128 * 128 + (i 1).val % 128 = (i 1).val by omega]

/-- The gradient of the values. -/
theorem r87 (hq : ∀ i, x0 i = ((q (i 0).val (i 1).val : ℝ) : EReal)) (hk : ∀ i, x1 i = ((k (i 0).val (i 1).val : ℝ) : EReal)) (hg : ∀ i, x4 i = ((g (i 0).val (i 1).val : ℝ) : EReal)) (ho : ∀ i, x5 i = ((o (i 0).val (i 1).val : ℝ) : EReal)) (i : S8192x2048.Idx) :
    val_main_v87 (F := Ideal) x0 x1 x4 x5 i = ((∑ x ∈ Finset.range 8192, o x (i 1).val * wt (sc q k g ((i 1).val / 128) x) x (i 0).val : ℝ) : EReal) := by
  rw [val_main_v87_apply, val_main_v55_apply, val_main_v54_apply, r53 hq hk hg ho, Ideal.truncf_def]
  have h1 : (i 1).val < 2048 := (i 1).isLt
  show ((∑ x ∈ Finset.range 8192, o x ((((i 0).val * 2048 + (i 1).val) / 128 % 16) * 128 + (((i 0).val * 2048 + (i 1).val) % 128)) * wt (sc q k g (((i 0).val * 2048 + (i 1).val) / 128 % 16) x) x (((i 0).val * 2048 + (i 1).val) / 2048) : ℝ) : EReal) = _
  rw [show ((i 0).val * 2048 + (i 1).val) / 2048 = (i 0).val by omega, show ((i 0).val * 2048 + (i 1).val) / 128 % 16 = (i 1).val / 128 by omega,
    show ((i 0).val * 2048 + (i 1).val) % 128 = (i 1).val % 128 by omega, show (i 1).val / 128 * 128 + (i 1).val % 128 = (i 1).val by omega]

end Cert.ReferenceIdeal.Fox

end
-- ==== Proof.Bridge.lean ====
module

public import proofs.«01_k».proof.Proof.Lanes
public import proofs.«01_k».proof.Proof.Refs

/-! The kernel's sums over the arrays it reads are the reference's sums over the arguments. -/

@[expose] public section

noncomputable section

namespace Cert.KernelIdeal.Fox

open Cert.Fox
open Cert.ReferenceIdeal.Fox (sc dp ds)

variable (q k v g o : ℕ → ℕ → ℝ)

/-- Adding a number to a whole row of scores changes no weight. -/
theorem wt_sc (n i : ℕ) : wt (sc q k g n i) i = wt (fs q k g n i) i := by
  funext j
  rw [← wt_add (fs q k g n i) (g n i) i j]
  congr 1
  funext l
  unfold sc fs
  ring

/-- The first 2048 columns of the packed array are the scaled queries. -/
theorem arr_q (r : ℕ) {d : ℕ} (hd : d < 2048) : (arr q k v g o).P r d = q r d * sF / Real.log 2 := if_pos hd

/-- The next 2048 columns are the keys. -/
theorem arr_k (r : ℕ) {d : ℕ} (hd : d < 2048) : (arr q k v g o).P r (2048 + d) = k r d := by
  show (if 2048 + d < 2048 then _ else if 2048 + d < 4096 then k r (2048 + d - 2048) else _) = _
  rw [if_neg (by omega), if_pos (by omega), Nat.add_sub_cancel_left]

/-- The next 2048 columns are the values. -/
theorem arr_v (r : ℕ) {d : ℕ} (hd : d < 2048) : (arr q k v g o).P r (4096 + d) = v r d := by
  show (if 4096 + d < 2048 then _ else if 4096 + d < 4096 then _ else v r (4096 + d - 4096)) = _
  rw [if_neg (by omega), if_neg (by omega), Nat.add_sub_cancel_left]

/-- The extra lanes' products. -/
theorem lanes (n i j : ℕ) : ∑ x ∈ Finset.range 128, (arr q k v g o).KA j (n * 128 + x) * (arr q k v g o).QA i (n * 128 + x)
    = (-g n j - lse q k g n i) / Real.log 2 := by
  have h : ∀ x ∈ Finset.range 128, (arr q k v g o).KA j (n * 128 + x) * (arr q k v g o).QA i (n * 128 + x)
      = (if x = 0 then -g n j / Real.log 2 else 0) + (if x = 3 then -(lse q k g n i / Real.log 2) else 0) := by
    intro x hx
    have hx' : x < 128 := Finset.mem_range.1 hx
    have e1 : (n * 128 + x) % 128 = x := by omega
    have e2 : (n * 128 + x) / 128 = n := by omega
    show (if (n * 128 + x) % 128 = 0 then -g ((n * 128 + x) / 128) j / Real.log 2 else if (n * 128 + x) % 128 = 1 then 0 else if (n * 128 + x) % 128 = 2 then 0
      else if (n * 128 + x) % 128 < 6 then 1 else 0) * (if (n * 128 + x) % 128 < 3 then 1 else if (n * 128 + x) % 128 = 3 then -(lse q k g ((n * 128 + x) / 128) i / Real.log 2) else 0) = _
    rw [e1, e2]
    split_ifs <;> first | omega | ring
  rw [Finset.sum_congr rfl h, Finset.sum_add_distrib, Finset.sum_ite_eq' (Finset.range 128) 0, Finset.sum_ite_eq' (Finset.range 128) 3,
    if_pos (by simp), if_pos (by simp)]
  ring

/-- The kernel's exponential. -/
theorem gE_arr {n : ℕ} (hn : n < 16) (i j : ℕ) : gE (arr q k v g o) n j i = (2 : ℝ) ^ ((fs q k g n i j - lse q k g n i) / Real.log 2) := by
  unfold gE
  rw [lanes]
  have h : ∀ x ∈ Finset.range 128, (arr q k v g o).P j (2048 + (n * 128 + x)) * (arr q k v g o).P i (n * 128 + x)
      = q i (n * 128 + x) * k j (n * 128 + x) * (sF / Real.log 2) := by
    intro x hx
    have hx' : x < 128 := Finset.mem_range.1 hx
    rw [arr_k q k v g o j (by omega), arr_q q k v g o i (by omega)]
    ring
  rw [Finset.sum_congr rfl h, ← Finset.sum_mul]
  congr 1
  unfold fs
  ring

/-- The kernel's weights are the reference's. -/
theorem gP_arr {n : ℕ} (hn : n < 16) (i j : ℕ) : gP (arr q k v g o) n j i = wt (sc q k g n i) i j := by
  rw [wt_sc, wt_eq]
  unfold gP
  rw [gE_arr q k v g o hn]
  rfl

/-- The row sums of the output times its gradient are the weighted sums of the weights' gradients. -/
theorem dl_eq (n i : ℕ) : dl q k v g o n i = ∑ j ∈ Finset.range 8192, wt (sc q k g n i) i j * dp v o n i j := by
  unfold dl att dp
  rw [wt_sc]
  simp only [Finset.mul_sum]
  rw [Finset.sum_comm]
  refine Finset.sum_congr rfl fun j _ => Finset.sum_congr rfl fun x _ => ?_
  ring

/-- The kernel's gradients of the scores are the reference's. -/
theorem gS_arr {n : ℕ} (hn : n < 16) (i j : ℕ) : gS (arr q k v g o) n j i = ds q k v g o n i j := by
  have h1 : ∑ x ∈ Finset.range 128, (arr q k v g o).P j (4096 + (n * 128 + x)) * (arr q k v g o).DO i (n * 128 + x) = dp v o n i j := by
    unfold dp
    refine Finset.sum_congr rfl fun x hx => ?_
    have hx' : x < 128 := Finset.mem_range.1 hx
    rw [arr_v q k v g o j (by omega)]
    exact mul_comm _ _
  have h2 : ∑ x ∈ Finset.range 128, (if x < 3 then 1 else 0) * (arr q k v g o).DA i (n * 128 + x) = -dl q k v g o n i := by
    have h : ∀ x ∈ Finset.range 128, (if x < 3 then 1 else 0) * (arr q k v g o).DA i (n * 128 + x) = if x = 0 then -dl q k v g o n i else 0 := by
      intro x hx
      have hx' : x < 128 := Finset.mem_range.1 hx
      show (if x < 3 then (1 : ℝ) else 0) * (if (n * 128 + x) % 128 = 0 then -dl q k v g o ((n * 128 + x) / 128) i else 0) = _
      rw [show (n * 128 + x) % 128 = x by omega, show (n * 128 + x) / 128 = n by omega]
      split_ifs <;> first | omega | ring
    rw [Finset.sum_congr rfl h, Finset.sum_ite_eq' (Finset.range 128) 0, if_pos (by simp)]
  have hP := gP_arr q k v g o hn i j
  unfold gP at hP
  unfold gS ds
  rw [h1, h2, dl_eq, ← hP]
  split_ifs
  · ring
  · ring

/-- The gradient of the queries. -/
theorem sum7 {d : ℕ} (hd : d < 2048) (r : ℕ) : (∑ x ∈ Finset.range 8192, gS (arr q k v g o) (d / 128) x r * (arr q k v g o).P x (2048 + d)) * sF
    = ∑ x ∈ Finset.range 8192, ds q k v g o (d / 128) r x * sF * k x d := by
  rw [Finset.sum_mul]
  refine Finset.sum_congr rfl fun x _ => ?_
  rw [gS_arr q k v g o (by omega), arr_k q k v g o x hd]
  ring

/-- The gradient of the gates from the query rows. -/
theorem sum8 {n : ℕ} (hn : n < 16) (r : ℕ) : ∑ x ∈ Finset.range 8192, gS (arr q k v g o) n x r = ∑ x ∈ Finset.range 8192, ds q k v g o n r x :=
  Finset.sum_congr rfl fun x _ => gS_arr q k v g o hn r x

/-- The gradient of the keys. -/
theorem sum9 {d : ℕ} (hd : d < 2048) (r : ℕ) : (∑ x ∈ Finset.range 8192, gS (arr q k v g o) (d / 128) r x * (arr q k v g o).P x d) * Real.log 2
    = ∑ x ∈ Finset.range 8192, ds q k v g o (d / 128) x r * sF * q x d := by
  have h2 : Real.log 2 ≠ 0 := (Real.log_pos (by norm_num)).ne'
  rw [Finset.sum_mul]
  refine Finset.sum_congr rfl fun x _ => ?_
  rw [gS_arr q k v g o (by omega), arr_q q k v g o x hd]
  field_simp

/-- The gradient of the values. -/
theorem sum10 {d : ℕ} (hd : d < 2048) (r : ℕ) : ∑ x ∈ Finset.range 8192, gP (arr q k v g o) (d / 128) r x * (arr q k v g o).DO x d
    = ∑ x ∈ Finset.range 8192, o x d * wt (sc q k g (d / 128) x) x r := by
  refine Finset.sum_congr rfl fun x _ => ?_
  rw [gP_arr q k v g o (by omega)]
  exact mul_comm _ _

/-- The gradient of the gates from the key rows. -/
theorem sum11 {n : ℕ} (hn : n < 16) (r : ℕ) : -∑ x ∈ Finset.range 8192, gS (arr q k v g o) n r x = ∑ x ∈ Finset.range 8192, -ds q k v g o n x r := by
  rw [← Finset.sum_neg_distrib]
  exact Finset.sum_congr rfl fun x _ => congrArg Neg.neg (gS_arr q k v g o hn x r)

end Cert.KernelIdeal.Fox

end
-- ==== Proof.Final.lean ====
module

public import proofs.«01_k».proof.Defs
public import proofs.«01_k».proof.Proof.Gen.Pre_finite
public import proofs.«01_k».proof.Proof.Arrays
public import proofs.«01_k».proof.Proof.Bridge

/-! From the same finite arguments, the kernel and the reference leave the same results. -/

@[expose] public section

noncomputable section

namespace Cert.KernelIdeal.Fox

open Cert.KernelIdeal Cert.KernelIdeal.Gen
open Idealize.ShloMosaic Idealize.ShloMosaic.TcCoe Idealize.SL.Sem
open Cert.Fox
open Cert.ReferenceIdeal.Fox (sc dp ds)

/-- The word of plus infinity. -/
theorem ofBits_top : Ideal.ofBits .f32 0x7F800000#32 = ⊤ := by
  simp [Ideal.ofBits, Ideal.ieee]

/-- An extended real whose magnitude is below plus infinity is a real. -/
theorem real_of_mask {x : EReal} (h : Ideal.cmp .olt (max x (-x)) (Ideal.ofBits .f32 0x7F800000#32) = 1#1) : x = ((x.toReal : ℝ) : EReal) := by
  rw [ofBits_top] at h
  have h' : max x (-x) < ⊤ := by
    by_contra hn
    simp [Ideal.cmp, hn] at h
  refine (EReal.coe_toReal (fun e => ?_) (fun e => ?_)).symm
  · rw [e] at h'; simp at h'
  · rw [e] at h'; simp at h'

/-- The reals in an array of two axes, by row and lane. -/
def tab (s0 s1 : ℕ) (x : (⟨2, ![s0, s1]⟩ : Shape).Idx → EReal) (r d : ℕ) : ℝ :=
  if h : r < s0 ∧ d < s1 then (x (ix2 (⟨r, h.1⟩ : Fin s0) (⟨d, h.2⟩ : Fin s1))).toReal else 0

/-- An array of reals is the array of its table. -/
theorem eq_tab {s0 s1 : ℕ} {x : (⟨2, ![s0, s1]⟩ : Shape).Idx → EReal} (h : ∀ i, x i = (((x i).toReal : ℝ) : EReal)) : x = lift2 (tab s0 s1 x) := by
  refine eq_lift2 fun a b => ?_
  have e : tab s0 s1 x a.val b.val = (x (ix2 a b)).toReal := dif_pos ⟨a.isLt, b.isLt⟩
  rw [e]
  exact h (ix2 a b)

variable {m : (ℓ : Loc nD τ sig) → Buf (Elt Ideal) ℓ}

/-- Finite arguments are tables of reals. -/
theorem tables (h : Pre_KernelIdeal_finite m) (c : Dev nD) : ∃ q k v g o : ℕ → ℕ → ℝ,
    @Eq (S8192x2048.Idx → EReal) (m ((c.tc : Thread nD τ).loc main_arg0)) (lift2 q) ∧ @Eq (S8192x2048.Idx → EReal) (m ((c.tc : Thread nD τ).loc main_arg1)) (lift2 k)
    ∧ @Eq (S8192x2048.Idx → EReal) (m ((c.tc : Thread nD τ).loc main_arg2)) (lift2 v) ∧ @Eq (S16x8192.Idx → EReal) (m ((c.tc : Thread nD τ).loc main_arg4)) (lift2 g)
    ∧ @Eq (S8192x2048.Idx → EReal) (m ((c.tc : Thread nD τ).loc main_arg5)) (lift2 o) := by
  obtain ⟨h0, h1, h2, h4, h5⟩ := h c
  exact ⟨_, _, _, _, _, eq_tab fun i => real_of_mask (congrFun h0 i), eq_tab fun i => real_of_mask (congrFun h1 i), eq_tab fun i => real_of_mask (congrFun h2 i),
    eq_tab fun i => real_of_mask (congrFun h4 i), eq_tab fun i => real_of_mask (congrFun h5 i)⟩

variable (m) (c : Dev nD) {q k v g o : ℕ → ℕ → ℝ}

/-- What the kernel's call reads, from the arguments. -/
theorem holds (H : Args m c q k v g o) : Holds m c (arr q k v g o) where
  P := fun i hi => by
    have e : i = ix2 (i 0) (i 1) := funext fun a => match a with
      | ⟨0, _⟩ => rfl
      | ⟨1, _⟩ => rfl
    exact (congrArg (V m c main_v37 : S8192x8192.Idx → EReal) e).trans (holdsP H (i 0) (i 1) hi)
  KA := holdsKA H
  QA := holdsQA H
  DO := holdsDO H
  DA := holdsDA H

/-- The gradient of the queries. -/
theorem G7_eq (H : Holds m c (arr q k v g o)) : @Eq (Vec Ideal S8192x2048 .bf16) (Value.G7 m c)
    (lift2 fun r d => ∑ x ∈ Finset.range 8192, ds q k v g o (d / 128) r x * sF * k x d) :=
  (arr7 m c _ H).trans (funext fun i => congrArg Real.toEReal (sum7 q k v g o (i 1).isLt (i 0).val))

/-- The gradient of the running sum met by the queries. -/
theorem G8_eq (H : Holds m c (arr q k v g o)) : @Eq (Vec Ideal S16x1x8192 .f32) (Value.G8 m c)
    (lift3 fun n _ r => ∑ x ∈ Finset.range 8192, ds q k v g o n r x) :=
  (arr8 m c _ H).trans (funext fun i => congrArg Real.toEReal (sum8 q k v g o (i 0).isLt (i 2).val))

/-- The gradient of the keys. -/
theorem G9_eq (H : Holds m c (arr q k v g o)) : @Eq (Vec Ideal S8192x2048 .bf16) (Value.G9 m c)
    (lift2 fun r d => ∑ x ∈ Finset.range 8192, ds q k v g o (d / 128) x r * sF * q x d) :=
  (arr9 m c _ H).trans (funext fun i => congrArg Real.toEReal (sum9 q k v g o (i 1).isLt (i 0).val))

/-- The gradient of the values. -/
theorem G10_eq (H : Holds m c (arr q k v g o)) : @Eq (Vec Ideal S8192x2048 .bf16) (Value.G10 m c)
    (lift2 fun r d => ∑ x ∈ Finset.range 8192, o x d * wt (sc q k g (d / 128) x) x r) :=
  (arr10 m c _ H).trans (funext fun i => congrArg Real.toEReal (sum10 q k v g o (i 1).isLt (i 0).val))

/-- The gradient of the running sum met by the keys. -/
theorem G11_eq (H : Holds m c (arr q k v g o)) : @Eq (Vec Ideal S16x1x8192 .f32) (Value.G11 m c)
    (lift3 fun n _ r => ∑ x ∈ Finset.range 8192, -ds q k v g o n x r) :=
  (arr11 m c _ H).trans (funext fun i => congrArg Real.toEReal (sum11 q k v g o (i 0).isLt (i 2).val))

/-- The call's arguments, from the memory. -/
theorem args (h0 : @Eq (S8192x2048.Idx → EReal) (m ((c.tc : Thread nD τ).loc main_arg0)) (lift2 q)) (h1 : @Eq (S8192x2048.Idx → EReal) (m ((c.tc : Thread nD τ).loc main_arg1)) (lift2 k))
    (h2 : @Eq (S8192x2048.Idx → EReal) (m ((c.tc : Thread nD τ).loc main_arg2)) (lift2 v)) (h4 : @Eq (S16x8192.Idx → EReal) (m ((c.tc : Thread nD τ).loc main_arg4)) (lift2 g))
    (h5 : @Eq (S8192x2048.Idx → EReal) (m ((c.tc : Thread nD τ).loc main_arg5)) (lift2 o)) : Args m c q k v g o where
  q := (V_main_arg0 m c).trans h0
  k := (V_main_arg1 m c).trans h1
  v := (V_main_arg2 m c).trans h2
  g := (V_main_arg4 m c).trans h4
  o := (V_main_arg5 m c).trans h5

variable {c} {m' : (ℓ : Loc Cert.ReferenceIdeal.nD Cert.ReferenceIdeal.τ Cert.ReferenceIdeal.sig) → Buf (Elt Ideal) ℓ}

/-- The reference's five results are the kernel's. -/
theorem same (h : Pre_KernelIdeal_finite m)
    (a : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    @Eq (S8192x2048.Idx → EReal) (Cert.ReferenceIdeal.Value.res_main_v84 m' c) (Value.G7 m c)
    ∧ @Eq (S16x1x8192.Idx → EReal) (Cert.ReferenceIdeal.Value.res_main_v85 m' c) (Value.G8 m c)
    ∧ @Eq (S8192x2048.Idx → EReal) (Cert.ReferenceIdeal.Value.res_main_v86 m' c) (Value.G9 m c)
    ∧ @Eq (S8192x2048.Idx → EReal) (Cert.ReferenceIdeal.Value.res_main_v87 m' c) (Value.G10 m c)
    ∧ @Eq (S16x1x8192.Idx → EReal) (Cert.ReferenceIdeal.Value.res_main_v88 m' c) (Value.G11 m c) := by
  obtain ⟨q, k, v, g, o, h0, h1, h2, h4, h5⟩ := tables h c
  obtain ⟨a0, a1, a2, a3, a4, a5⟩ := a
  have H := holds m c (args m c h0 h1 h2 h4 h5)
  have k0 := fun i => congrFun (a0.trans h0) i
  have k1 := fun i => congrFun (a1.trans h1) i
  have k2 := fun i => congrFun (a2.trans h2) i
  have k4 := fun i => congrFun (a4.trans h4) i
  have k5 := fun i => congrFun (a5.trans h5) i
  refine ⟨?_, ?_, ?_, ?_, ?_⟩
  · exact (Cert.ReferenceIdeal.Read.val_main_v84_eq m' c).trans ((funext fun i => Cert.ReferenceIdeal.Fox.r84 k0 k1 k2 k4 k5 i).trans (G7_eq m c H).symm)
  · exact (Cert.ReferenceIdeal.Read.val_main_v85_eq m' c).trans ((funext fun i => Cert.ReferenceIdeal.Fox.r85 k0 k1 k2 k4 k5 i).trans (G8_eq m c H).symm)
  · exact (Cert.ReferenceIdeal.Read.val_main_v86_eq m' c).trans ((funext fun i => Cert.ReferenceIdeal.Fox.r86 k0 k1 k2 k4 k5 i).trans (G9_eq m c H).symm)
  · exact (Cert.ReferenceIdeal.Read.val_main_v87_eq m' c).trans ((funext fun i => Cert.ReferenceIdeal.Fox.r87 k0 k1 k4 k5 i).trans (G10_eq m c H).symm)
  · exact (Cert.ReferenceIdeal.Read.val_main_v88_eq m' c).trans ((funext fun i => Cert.ReferenceIdeal.Fox.r88 k0 k1 k2 k4 k5 i).trans (G11_eq m c H).symm)

end Cert.KernelIdeal.Fox

end
-- ==== Proof.At.lean ====
module

public import Idealize.ShloMosaic.Lib.Pipeline.Value
public import Idealize.ShloMosaic.Lib.ValueIdx
public import Idealize.ShloMosaic.Lib.KernelVsHost
public import Idealize.ShloMosaic.PureOps.Ideal.Laws

/-! Arrays of rank 2 read at plain numbers, and sums over them. -/

@[expose] public section

noncomputable section

namespace Cert.At

open Idealize.ShloMosaic Idealize.ShloMosaic.ValueIdx

/-- An array of rank 2 read at two numbers, zero outside it. -/
def at2 {m n : ℕ} (v : (⟨2, ![m, n]⟩ : Shape).Idx → EReal) (a b : ℕ) : EReal :=
  if h : a < m ∧ b < n then v (ix2 ⟨a, h.1⟩ ⟨b, h.2⟩) else 0

/-- An entry of an array, by the numbers of its position. -/
theorem at2_idx {m n : ℕ} (v : (⟨2, ![m, n]⟩ : Shape).Idx → EReal) (y : (⟨2, ![m, n]⟩ : Shape).Idx) {a b : ℕ}
    (ha : (y 0).val = a) (hb : (y 1).val = b) : v y = at2 v a b := by
  subst ha hb
  unfold at2
  rw [dif_pos ⟨(y 0).isLt, (y 1).isLt⟩]
  refine congrArg v (funext fun x => ?_)
  match x with
  | ⟨0, _⟩ => rfl
  | ⟨1, _⟩ => rfl

/-- A sum grows by its next block of terms. -/
theorem sum_block (n k : ℕ) (T : ℕ → EReal) (s : EReal) (g : Fin n → EReal) (hs : s = ∑ x ∈ Finset.range (k * n), T x)
    (hg : ∀ x : Fin n, g x = T (k * n + x.val)) : s + ∑ x : Fin n, g x = ∑ x ∈ Finset.range ((k + 1) * n), T x := by
  rw [hs, add_mul, one_mul, Finset.sum_range_add, Finset.sum_range]
  congr 1
  rw [Finset.sum_range]
  exact Finset.sum_congr rfl fun x _ => hg x

/-- Four arrays of 2048 columns side by side, read at two numbers. -/
def cat4 (a0 a1 a2 a3 : (⟨2, ![8192, 2048]⟩ : Shape).Idx → EReal) (r x : ℕ) : EReal :=
  if x < 2048 then at2 a0 r x else if x < 4096 then at2 a1 r (x - 2048)
    else if x < 6144 then at2 a2 r (x - 4096) else at2 a3 r (x - 6144)

/-- The same as a concatenation. -/
theorem cat4_eq (x0 x1 x2 x3 : (⟨2, ![8192, 2048]⟩ : Shape).Idx → EReal) (h) (y : (⟨2, ![8192, 8192]⟩ : Shape).Idx) {r x : ℕ}
    (hr : (y 0).val = r) (hx : (y 1).val = x) :
    concatenate (⟨2, ![8192, 8192]⟩ : Shape) 1 [⟨(⟨2, ![8192, 2048]⟩ : Shape), x0⟩, ⟨(⟨2, ![8192, 2048]⟩ : Shape), x1⟩, ⟨(⟨2, ![8192, 2048]⟩ : Shape), x2⟩, ⟨(⟨2, ![8192, 2048]⟩ : Shape), x3⟩] h y
      = cat4 x0 x1 x2 x3 r x := by
  have h0 : (y 0).val < 8192 := (y 0).isLt
  have h1 : (y 1).val < 8192 := (y 1).isLt
  have hb : ∀ (e : Fin 2048) (b : Fin 2), b ≠ 1 → ((ix2 (⟨(y 0).val, h0⟩ : Fin 8192) e : (⟨2, ![8192, 2048]⟩ : Shape).Idx) b).val = (y b).val := by
    intro e b hb
    match b with
    | ⟨0, _⟩ => rfl
    | ⟨1, _⟩ => exact absurd rfl hb
  subst hr hx
  unfold cat4
  split
  · exact (concatenate_apply_piece 1 _ h y 0 (by simp) _ x0 rfl rfl 0 rfl (ix2 (⟨(y 0).val, h0⟩ : Fin 8192) (⟨(y 1).val, by omega⟩ : Fin 2048)) (hb _) (by show 0 + (y 1).val = (y 1).val; omega)).trans (at2_idx _ _ rfl rfl)
  split
  · exact (concatenate_apply_piece 1 _ h y 1 (by simp) _ x1 rfl rfl 2048 rfl (ix2 (⟨(y 0).val, h0⟩ : Fin 8192) (⟨(y 1).val - 2048, by omega⟩ : Fin 2048)) (hb _) (by show 2048 + ((y 1).val - 2048) = (y 1).val; omega)).trans (at2_idx _ _ rfl rfl)
  split
  · exact (concatenate_apply_piece 1 _ h y 2 (by simp) _ x2 rfl rfl 4096 rfl (ix2 (⟨(y 0).val, h0⟩ : Fin 8192) (⟨(y 1).val - 4096, by omega⟩ : Fin 2048)) (hb _) (by show 4096 + ((y 1).val - 4096) = (y 1).val; omega)).trans (at2_idx _ _ rfl rfl)
  · exact (concatenate_apply_piece 1 _ h y 3 (by simp) _ x3 rfl rfl 6144 rfl (ix2 (⟨(y 0).val, h0⟩ : Fin 8192) (⟨(y 1).val - 6144, by omega⟩ : Fin 2048)) (hb _) (by show 6144 + ((y 1).val - 6144) = (y 1).val; omega)).trans (at2_idx _ _ rfl rfl)

end Cert.At

end
-- ==== Proof.DwPoint.lean ====
module

public import proofs.«01_k».proof.Proof.Gen.Kernel2Ideal.Frame
public import Idealize.ShloMosaic.Lib.Pipeline.Value
public import Idealize.ShloMosaic.PureOps.Ideal.Laws

/-! What each kind of grid point of the weight's gradient leaves in the accumulator and in the result's block. -/

@[expose] public section

set_option maxRecDepth 16384
set_option maxHeartbeats 4000000

noncomputable section

namespace Cert.Kernel2Ideal.Dw

open Cert.Kernel2Ideal Cert.Kernel2Ideal.Gen
open Idealize.ShloMosaic Idealize.ShloMosaic.TcCoe Idealize.ShloMosaic.Tactic
open Idealize.SL Idealize.SL.RA Idealize.SL.BI

/-- Zero offsets, as a function. -/
theorem hz : (![0, 0] : Fin 2 → Nat) = fun _ => 0 := funext fun a => by match a with | ⟨0, _⟩ => rfl | ⟨1, _⟩ => rfl

variable (c : Dev nD) (i : grid0.Coords) (arg3 : Memref sig .tc .vmem S512x2048 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S2048x1024 .bf16) (harg8 : arg8.IsWhole) (arg9 : Memref sig .tc .vmem S2048x1024 .f32) (harg9 : arg9.IsWhole) (x0 : Vec Ideal S512x2048 .bf16) (x1 : Vec Ideal S512x1024 .bf16) (x2 : Vec Ideal S512x1024 .bf16) (x3 : Vec Ideal S512x1024 .bf16) (x4 : Vec Ideal S512x1024 .bf16) (xs0 : Vec Ideal S2048x1024 .f32)

/-- The first point of a sweep with operand 1: the accumulator is cleared, then the first products are added. -/
theorem acc_A (hc0 : cond0_0 i) (hc1 : cond0_1 i) (hc2 : ¬cond0_2 i) (hc3 : ¬cond0_3 i) (hc4 : ¬cond0_4 i) (hc5 : ¬cond0_5 i) :
    sout0_A_0 (F := Ideal) c i arg3 harg3 arg4 harg4 arg5 harg5 arg6 harg6 arg7 harg7 arg8 harg8 arg9 harg9 hc0 hc1 hc2 hc3 hc4 hc5 x0 x1 x2 x3 x4 = k0_pay1 (F := Ideal) (k0_pay3 (F := Ideal)) x0 x1 := by
  unfold sout0_A_0
  rw [View.read_writes_eq_canon _ _ _ (scover0_A_0 (F := Ideal) _ _ _ _ _ _ _ _ _ _ _ _ _ _ _ _ _ _ _ _ _ _ _ _ _ _ _)]
  unfold kernelRun0_A
  dsimp only
  sl_unfold_words
  rw [View.canon_cons_unit_zero (S := S2048x1024) hz, View.readCov_unit_zero (S := S2048x1024) _ hz]
  simp only [k0_pay1, k0_pay4, k0_pay5, k0_pay6, View.readAt_eq_ld, harg3.read_unread, harg4.read_unread, View.ld_unit_zero (S := S512x1024) hz, View.ld_unit_zero (S := S512x2048) hz, View.ld_unit_zero (S := S2048x1024) hz, shapeCast_self]

/-- A point with operand 1 adds its products to the accumulator. -/
theorem acc_B (hc0 : ¬cond0_0 i) (hc1 : cond0_1 i) (hc2 : ¬cond0_2 i) (hc3 : ¬cond0_3 i) (hc4 : ¬cond0_4 i) (hc5 : ¬cond0_5 i) :
    sout0_B_0 (F := Ideal) c i arg3 harg3 arg4 harg4 arg5 harg5 arg6 harg6 arg7 harg7 arg8 harg8 arg9 harg9 hc0 hc1 hc2 hc3 hc4 hc5 x0 x1 x2 x3 x4 xs0 = k0_pay1 (F := Ideal) xs0 x0 x1 := by
  unfold sout0_B_0
  rw [View.read_writes_eq_canon _ _ _ (scover0_B_0 (F := Ideal) _ _ _ _ _ _ _ _ _ _ _ _ _ _ _ _ _ _ _ _ _ _ _ _ _ _ _ _)]
  unfold kernelRun0_B
  dsimp only
  sl_unfold_words
  rw [View.canon_unit_zero hz]
  simp only [k0_pay1, k0_pay4, k0_pay5, k0_pay6, View.readAt_eq_ld, harg3.read_unread, harg4.read_unread, harg9.read_unread, View.ld_unit_zero (S := S512x1024) hz, View.ld_unit_zero (S := S512x2048) hz, View.ld_unit_zero (S := S2048x1024) hz, shapeCast_self]

/-- The last point of a sweep with operand 1 adds its products likewise. -/
theorem acc_C (hc0 : ¬cond0_0 i) (hc1 : cond0_1 i) (hc2 : ¬cond0_2 i) (hc3 : ¬cond0_3 i) (hc4 : ¬cond0_4 i) (hc5 : cond0_5 i) :
    sout0_C_0 (F := Ideal) c i arg3 harg3 arg4 harg4 arg5 harg5 arg6 harg6 arg7 harg7 arg8 harg8 arg9 harg9 hc0 hc1 hc2 hc3 hc4 hc5 x0 x1 x2 x3 x4 xs0 = k0_pay1 (F := Ideal) xs0 x0 x1 := by
  unfold sout0_C_0
  rw [View.read_writes_eq_canon _ _ _ (scover0_C_0 (F := Ideal) _ _ _ _ _ _ _ _ _ _ _ _ _ _ _ _ _ _ _ _ _ _ _ _ _ _ _ _)]
  unfold kernelRun0_C
  dsimp only
  sl_unfold_words
  rw [View.canon_unit_zero hz]
  simp only [k0_pay1, k0_pay4, k0_pay5, k0_pay6, View.readAt_eq_ld, harg3.read_unread, harg4.read_unread, harg9.read_unread, View.ld_unit_zero (S := S512x1024) hz, View.ld_unit_zero (S := S512x2048) hz, View.ld_unit_zero (S := S2048x1024) hz, shapeCast_self]

/-- The last point of a sweep with operand 1 writes the accumulator out. -/
theorem res_C (hc0 : ¬cond0_0 i) (hc1 : cond0_1 i) (hc2 : ¬cond0_2 i) (hc3 : ¬cond0_3 i) (hc4 : ¬cond0_4 i) (hc5 : cond0_5 i) :
    out0_C_5 (F := Ideal) c i arg3 harg3 arg4 harg4 arg5 harg5 arg6 harg6 arg7 harg7 arg8 harg8 arg9 harg9 hc0 hc1 hc2 hc3 hc4 hc5 x0 x1 x2 x3 x4 xs0 = k0_pay2 (F := Ideal) (k0_pay1 (F := Ideal) xs0 x0 x1) := by
  unfold out0_C_5
  rw [View.read_writes_eq_canon _ _ _ (cover0_C_5 (F := Ideal) _ _ _ _ _ _ _ _ _ _ _ _ _ _ _ _ _ _ _ _ _ _ _ _ _ _ _ _)]
  unfold kernelRun0_C
  dsimp only
  sl_unfold_words
  rw [View.canon_unit_zero hz, View.readCov_unit_zero (S := S2048x1024) _ hz]
  simp only [k0_pay1, k0_pay4, k0_pay5, k0_pay6, View.readAt_eq_ld, harg3.read_unread, harg4.read_unread, harg9.read_unread, View.ld_unit_zero (S := S512x1024) hz, View.ld_unit_zero (S := S512x2048) hz, View.ld_unit_zero (S := S2048x1024) hz, shapeCast_self]

/-- The first point of a sweep with operand 2: the accumulator is cleared, then the first products are added. -/
theorem acc_D (hc0 : cond0_0 i) (hc1 : ¬cond0_1 i) (hc2 : cond0_2 i) (hc3 : ¬cond0_3 i) (hc4 : ¬cond0_4 i) (hc5 : ¬cond0_5 i) :
    sout0_D_0 (F := Ideal) c i arg3 harg3 arg4 harg4 arg5 harg5 arg6 harg6 arg7 harg7 arg8 harg8 arg9 harg9 hc0 hc1 hc2 hc3 hc4 hc5 x0 x1 x2 x3 x4 = k0_pay1 (F := Ideal) (k0_pay3 (F := Ideal)) x0 x2 := by
  unfold sout0_D_0
  rw [View.read_writes_eq_canon _ _ _ (scover0_D_0 (F := Ideal) _ _ _ _ _ _ _ _ _ _ _ _ _ _ _ _ _ _ _ _ _ _ _ _ _ _ _)]
  unfold kernelRun0_D
  dsimp only
  sl_unfold_words
  rw [View.canon_cons_unit_zero (S := S2048x1024) hz, View.readCov_unit_zero (S := S2048x1024) _ hz]
  simp only [k0_pay1, k0_pay4, k0_pay5, k0_pay6, View.readAt_eq_ld, harg3.read_unread, harg5.read_unread, View.ld_unit_zero (S := S512x1024) hz, View.ld_unit_zero (S := S512x2048) hz, View.ld_unit_zero (S := S2048x1024) hz, shapeCast_self]

/-- A point with operand 2 adds its products to the accumulator. -/
theorem acc_E (hc0 : ¬cond0_0 i) (hc1 : ¬cond0_1 i) (hc2 : cond0_2 i) (hc3 : ¬cond0_3 i) (hc4 : ¬cond0_4 i) (hc5 : ¬cond0_5 i) :
    sout0_E_0 (F := Ideal) c i arg3 harg3 arg4 harg4 arg5 harg5 arg6 harg6 arg7 harg7 arg8 harg8 arg9 harg9 hc0 hc1 hc2 hc3 hc4 hc5 x0 x1 x2 x3 x4 xs0 = k0_pay1 (F := Ideal) xs0 x0 x2 := by
  unfold sout0_E_0
  rw [View.read_writes_eq_canon _ _ _ (scover0_E_0 (F := Ideal) _ _ _ _ _ _ _ _ _ _ _ _ _ _ _ _ _ _ _ _ _ _ _ _ _ _ _ _)]
  unfold kernelRun0_E
  dsimp only
  sl_unfold_words
  rw [View.canon_unit_zero hz]
  simp only [k0_pay1, k0_pay4, k0_pay5, k0_pay6, View.readAt_eq_ld, harg3.read_unread, harg5.read_unread, harg9.read_unread, View.ld_unit_zero (S := S512x1024) hz, View.ld_unit_zero (S := S512x2048) hz, View.ld_unit_zero (S := S2048x1024) hz, shapeCast_self]

/-- The last point of a sweep with operand 2 adds its products likewise. -/
theorem acc_F (hc0 : ¬cond0_0 i) (hc1 : ¬cond0_1 i) (hc2 : cond0_2 i) (hc3 : ¬cond0_3 i) (hc4 : ¬cond0_4 i) (hc5 : cond0_5 i) :
    sout0_F_0 (F := Ideal) c i arg3 harg3 arg4 harg4 arg5 harg5 arg6 harg6 arg7 harg7 arg8 harg8 arg9 harg9 hc0 hc1 hc2 hc3 hc4 hc5 x0 x1 x2 x3 x4 xs0 = k0_pay1 (F := Ideal) xs0 x0 x2 := by
  unfold sout0_F_0
  rw [View.read_writes_eq_canon _ _ _ (scover0_F_0 (F := Ideal) _ _ _ _ _ _ _ _ _ _ _ _ _ _ _ _ _ _ _ _ _ _ _ _ _ _ _ _)]
  unfold kernelRun0_F
  dsimp only
  sl_unfold_words
  rw [View.canon_unit_zero hz]
  simp only [k0_pay1, k0_pay4, k0_pay5, k0_pay6, View.readAt_eq_ld, harg3.read_unread, harg5.read_unread, harg9.read_unread, View.ld_unit_zero (S := S512x1024) hz, View.ld_unit_zero (S := S512x2048) hz, View.ld_unit_zero (S := S2048x1024) hz, shapeCast_self]

/-- The last point of a sweep with operand 2 writes the accumulator out. -/
theorem res_F (hc0 : ¬cond0_0 i) (hc1 : ¬cond0_1 i) (hc2 : cond0_2 i) (hc3 : ¬cond0_3 i) (hc4 : ¬cond0_4 i) (hc5 : cond0_5 i) :
    out0_F_5 (F := Ideal) c i arg3 harg3 arg4 harg4 arg5 harg5 arg6 harg6 arg7 harg7 arg8 harg8 arg9 harg9 hc0 hc1 hc2 hc3 hc4 hc5 x0 x1 x2 x3 x4 xs0 = k0_pay2 (F := Ideal) (k0_pay1 (F := Ideal) xs0 x0 x2) := by
  unfold out0_F_5
  rw [View.read_writes_eq_canon _ _ _ (cover0_F_5 (F := Ideal) _ _ _ _ _ _ _ _ _ _ _ _ _ _ _ _ _ _ _ _ _ _ _ _ _ _ _ _)]
  unfold kernelRun0_F
  dsimp only
  sl_unfold_words
  rw [View.canon_unit_zero hz, View.readCov_unit_zero (S := S2048x1024) _ hz]
  simp only [k0_pay1, k0_pay4, k0_pay5, k0_pay6, View.readAt_eq_ld, harg3.read_unread, harg5.read_unread, harg9.read_unread, View.ld_unit_zero (S := S512x1024) hz, View.ld_unit_zero (S := S512x2048) hz, View.ld_unit_zero (S := S2048x1024) hz, shapeCast_self]

/-- The first point of a sweep with operand 3: the accumulator is cleared, then the first products are added. -/
theorem acc_G (hc0 : cond0_0 i) (hc1 : ¬cond0_1 i) (hc2 : ¬cond0_2 i) (hc3 : cond0_3 i) (hc4 : ¬cond0_4 i) (hc5 : ¬cond0_5 i) :
    sout0_G_0 (F := Ideal) c i arg3 harg3 arg4 harg4 arg5 harg5 arg6 harg6 arg7 harg7 arg8 harg8 arg9 harg9 hc0 hc1 hc2 hc3 hc4 hc5 x0 x1 x2 x3 x4 = k0_pay1 (F := Ideal) (k0_pay3 (F := Ideal)) x0 x3 := by
  unfold sout0_G_0
  rw [View.read_writes_eq_canon _ _ _ (scover0_G_0 (F := Ideal) _ _ _ _ _ _ _ _ _ _ _ _ _ _ _ _ _ _ _ _ _ _ _ _ _ _ _)]
  unfold kernelRun0_G
  dsimp only
  sl_unfold_words
  rw [View.canon_cons_unit_zero (S := S2048x1024) hz, View.readCov_unit_zero (S := S2048x1024) _ hz]
  simp only [k0_pay1, k0_pay4, k0_pay5, k0_pay6, View.readAt_eq_ld, harg3.read_unread, harg6.read_unread, View.ld_unit_zero (S := S512x1024) hz, View.ld_unit_zero (S := S512x2048) hz, View.ld_unit_zero (S := S2048x1024) hz, shapeCast_self]

/-- A point with operand 3 adds its products to the accumulator. -/
theorem acc_H (hc0 : ¬cond0_0 i) (hc1 : ¬cond0_1 i) (hc2 : ¬cond0_2 i) (hc3 : cond0_3 i) (hc4 : ¬cond0_4 i) (hc5 : ¬cond0_5 i) :
    sout0_H_0 (F := Ideal) c i arg3 harg3 arg4 harg4 arg5 harg5 arg6 harg6 arg7 harg7 arg8 harg8 arg9 harg9 hc0 hc1 hc2 hc3 hc4 hc5 x0 x1 x2 x3 x4 xs0 = k0_pay1 (F := Ideal) xs0 x0 x3 := by
  unfold sout0_H_0
  rw [View.read_writes_eq_canon _ _ _ (scover0_H_0 (F := Ideal) _ _ _ _ _ _ _ _ _ _ _ _ _ _ _ _ _ _ _ _ _ _ _ _ _ _ _ _)]
  unfold kernelRun0_H
  dsimp only
  sl_unfold_words
  rw [View.canon_unit_zero hz]
  simp only [k0_pay1, k0_pay4, k0_pay5, k0_pay6, View.readAt_eq_ld, harg3.read_unread, harg6.read_unread, harg9.read_unread, View.ld_unit_zero (S := S512x1024) hz, View.ld_unit_zero (S := S512x2048) hz, View.ld_unit_zero (S := S2048x1024) hz, shapeCast_self]

/-- The last point of a sweep with operand 3 adds its products likewise. -/
theorem acc_I (hc0 : ¬cond0_0 i) (hc1 : ¬cond0_1 i) (hc2 : ¬cond0_2 i) (hc3 : cond0_3 i) (hc4 : ¬cond0_4 i) (hc5 : cond0_5 i) :
    sout0_I_0 (F := Ideal) c i arg3 harg3 arg4 harg4 arg5 harg5 arg6 harg6 arg7 harg7 arg8 harg8 arg9 harg9 hc0 hc1 hc2 hc3 hc4 hc5 x0 x1 x2 x3 x4 xs0 = k0_pay1 (F := Ideal) xs0 x0 x3 := by
  unfold sout0_I_0
  rw [View.read_writes_eq_canon _ _ _ (scover0_I_0 (F := Ideal) _ _ _ _ _ _ _ _ _ _ _ _ _ _ _ _ _ _ _ _ _ _ _ _ _ _ _ _)]
  unfold kernelRun0_I
  dsimp only
  sl_unfold_words
  rw [View.canon_unit_zero hz]
  simp only [k0_pay1, k0_pay4, k0_pay5, k0_pay6, View.readAt_eq_ld, harg3.read_unread, harg6.read_unread, harg9.read_unread, View.ld_unit_zero (S := S512x1024) hz, View.ld_unit_zero (S := S512x2048) hz, View.ld_unit_zero (S := S2048x1024) hz, shapeCast_self]

/-- The last point of a sweep with operand 3 writes the accumulator out. -/
theorem res_I (hc0 : ¬cond0_0 i) (hc1 : ¬cond0_1 i) (hc2 : ¬cond0_2 i) (hc3 : cond0_3 i) (hc4 : ¬cond0_4 i) (hc5 : cond0_5 i) :
    out0_I_5 (F := Ideal) c i arg3 harg3 arg4 harg4 arg5 harg5 arg6 harg6 arg7 harg7 arg8 harg8 arg9 harg9 hc0 hc1 hc2 hc3 hc4 hc5 x0 x1 x2 x3 x4 xs0 = k0_pay2 (F := Ideal) (k0_pay1 (F := Ideal) xs0 x0 x3) := by
  unfold out0_I_5
  rw [View.read_writes_eq_canon _ _ _ (cover0_I_5 (F := Ideal) _ _ _ _ _ _ _ _ _ _ _ _ _ _ _ _ _ _ _ _ _ _ _ _ _ _ _ _)]
  unfold kernelRun0_I
  dsimp only
  sl_unfold_words
  rw [View.canon_unit_zero hz, View.readCov_unit_zero (S := S2048x1024) _ hz]
  simp only [k0_pay1, k0_pay4, k0_pay5, k0_pay6, View.readAt_eq_ld, harg3.read_unread, harg6.read_unread, harg9.read_unread, View.ld_unit_zero (S := S512x1024) hz, View.ld_unit_zero (S := S512x2048) hz, View.ld_unit_zero (S := S2048x1024) hz, shapeCast_self]

/-- The first point of a sweep with operand 4: the accumulator is cleared, then the first products are added. -/
theorem acc_J (hc0 : cond0_0 i) (hc1 : ¬cond0_1 i) (hc2 : ¬cond0_2 i) (hc3 : ¬cond0_3 i) (hc4 : cond0_4 i) (hc5 : ¬cond0_5 i) :
    sout0_J_0 (F := Ideal) c i arg3 harg3 arg4 harg4 arg5 harg5 arg6 harg6 arg7 harg7 arg8 harg8 arg9 harg9 hc0 hc1 hc2 hc3 hc4 hc5 x0 x1 x2 x3 x4 = k0_pay1 (F := Ideal) (k0_pay3 (F := Ideal)) x0 x4 := by
  unfold sout0_J_0
  rw [View.read_writes_eq_canon _ _ _ (scover0_J_0 (F := Ideal) _ _ _ _ _ _ _ _ _ _ _ _ _ _ _ _ _ _ _ _ _ _ _ _ _ _ _)]
  unfold kernelRun0_J
  dsimp only
  sl_unfold_words
  rw [View.canon_cons_unit_zero (S := S2048x1024) hz, View.readCov_unit_zero (S := S2048x1024) _ hz]
  simp only [k0_pay1, k0_pay4, k0_pay5, k0_pay6, View.readAt_eq_ld, harg3.read_unread, harg7.read_unread, View.ld_unit_zero (S := S512x1024) hz, View.ld_unit_zero (S := S512x2048) hz, View.ld_unit_zero (S := S2048x1024) hz, shapeCast_self]

/-- A point with operand 4 adds its products to the accumulator. -/
theorem acc_K (hc0 : ¬cond0_0 i) (hc1 : ¬cond0_1 i) (hc2 : ¬cond0_2 i) (hc3 : ¬cond0_3 i) (hc4 : cond0_4 i) (hc5 : ¬cond0_5 i) :
    sout0_K_0 (F := Ideal) c i arg3 harg3 arg4 harg4 arg5 harg5 arg6 harg6 arg7 harg7 arg8 harg8 arg9 harg9 hc0 hc1 hc2 hc3 hc4 hc5 x0 x1 x2 x3 x4 xs0 = k0_pay1 (F := Ideal) xs0 x0 x4 := by
  unfold sout0_K_0
  rw [View.read_writes_eq_canon _ _ _ (scover0_K_0 (F := Ideal) _ _ _ _ _ _ _ _ _ _ _ _ _ _ _ _ _ _ _ _ _ _ _ _ _ _ _ _)]
  unfold kernelRun0_K
  dsimp only
  sl_unfold_words
  rw [View.canon_unit_zero hz]
  simp only [k0_pay1, k0_pay4, k0_pay5, k0_pay6, View.readAt_eq_ld, harg3.read_unread, harg7.read_unread, harg9.read_unread, View.ld_unit_zero (S := S512x1024) hz, View.ld_unit_zero (S := S512x2048) hz, View.ld_unit_zero (S := S2048x1024) hz, shapeCast_self]

/-- The last point of a sweep with operand 4 adds its products likewise. -/
theorem acc_L (hc0 : ¬cond0_0 i) (hc1 : ¬cond0_1 i) (hc2 : ¬cond0_2 i) (hc3 : ¬cond0_3 i) (hc4 : cond0_4 i) (hc5 : cond0_5 i) :
    sout0_L_0 (F := Ideal) c i arg3 harg3 arg4 harg4 arg5 harg5 arg6 harg6 arg7 harg7 arg8 harg8 arg9 harg9 hc0 hc1 hc2 hc3 hc4 hc5 x0 x1 x2 x3 x4 xs0 = k0_pay1 (F := Ideal) xs0 x0 x4 := by
  unfold sout0_L_0
  rw [View.read_writes_eq_canon _ _ _ (scover0_L_0 (F := Ideal) _ _ _ _ _ _ _ _ _ _ _ _ _ _ _ _ _ _ _ _ _ _ _ _ _ _ _ _)]
  unfold kernelRun0_L
  dsimp only
  sl_unfold_words
  rw [View.canon_unit_zero hz]
  simp only [k0_pay1, k0_pay4, k0_pay5, k0_pay6, View.readAt_eq_ld, harg3.read_unread, harg7.read_unread, harg9.read_unread, View.ld_unit_zero (S := S512x1024) hz, View.ld_unit_zero (S := S512x2048) hz, View.ld_unit_zero (S := S2048x1024) hz, shapeCast_self]

/-- The last point of a sweep with operand 4 writes the accumulator out. -/
theorem res_L (hc0 : ¬cond0_0 i) (hc1 : ¬cond0_1 i) (hc2 : ¬cond0_2 i) (hc3 : ¬cond0_3 i) (hc4 : cond0_4 i) (hc5 : cond0_5 i) :
    out0_L_5 (F := Ideal) c i arg3 harg3 arg4 harg4 arg5 harg5 arg6 harg6 arg7 harg7 arg8 harg8 arg9 harg9 hc0 hc1 hc2 hc3 hc4 hc5 x0 x1 x2 x3 x4 xs0 = k0_pay2 (F := Ideal) (k0_pay1 (F := Ideal) xs0 x0 x4) := by
  unfold out0_L_5
  rw [View.read_writes_eq_canon _ _ _ (cover0_L_5 (F := Ideal) _ _ _ _ _ _ _ _ _ _ _ _ _ _ _ _ _ _ _ _ _ _ _ _ _ _ _ _)]
  unfold kernelRun0_L
  dsimp only
  sl_unfold_words
  rw [View.canon_unit_zero hz, View.readCov_unit_zero (S := S2048x1024) _ hz]
  simp only [k0_pay1, k0_pay4, k0_pay5, k0_pay6, View.readAt_eq_ld, harg3.read_unread, harg7.read_unread, harg9.read_unread, View.ld_unit_zero (S := S512x1024) hz, View.ld_unit_zero (S := S512x2048) hz, View.ld_unit_zero (S := S2048x1024) hz, shapeCast_self]

end Cert.Kernel2Ideal.Dw

end
-- ==== Proof.DwSum.lean ====
module

public import proofs.«01_k».proof.Proof.At
public import proofs.«01_k».proof.Proof.DwPoint
public import proofs.«01_k».proof.Proof.Gen.Kernel2Ideal.Value

/-! The gradient of the weight: the accumulator along a sweep, and the result. -/

@[expose] public section

set_option maxRecDepth 16384
set_option maxHeartbeats 4000000

noncomputable section

namespace Cert.Kernel2Ideal.Dw

open Cert.Kernel2Ideal Cert.Kernel2Ideal.Gen Cert.At
open Idealize.ShloMosaic Idealize.ShloMosaic.TcCoe Idealize.ShloMosaic.Tactic Idealize.ShloMosaic.ValueIdx
open Idealize.SL Idealize.SL.RA Idealize.SL.BI

/-- The block product: which axes it contracts. -/
abbrev prod := dot_S512x2048_S512x1024_S2048x1024_0_0_1_1_n_n

/-- The block product's left column. -/
theorem lhs1 (i : S2048x1024.Idx) (q : prod.contr.Idx) :
    (prod.lhsIdx i q 1).val = (i 0).val := by
  unfold DotDims.lhsIdx
  rw [dif_neg (show ¬(1 : Fin S512x2048.rank) ∈ prod.lhsBatch by decide), dif_pos (show (1 : Fin S512x2048.rank) ∈ prod.lhsNonContracting by decide)]
  rfl

/-- The block product's right column. -/
theorem rhs1 (i : S2048x1024.Idx) (q : prod.contr.Idx) :
    (prod.rhsIdx i q 1).val = (i 1).val := by
  unfold DotDims.rhsIdx
  rw [dif_neg (show ¬(1 : Fin S512x1024.rank) ∈ prod.rhsBatch by decide), dif_pos (show (1 : Fin S512x1024.rank) ∈ prod.rhsNonContracting by decide)]
  rfl

/-- One point's step: the products of a column of the left block and a column of the right block are added. -/
theorem step_apply (acc : Vec Ideal S2048x1024 .f32) (a : Vec Ideal S512x2048 .bf16) (w : Vec Ideal S512x1024 .bf16) (r : Fin 2048) (q : Fin 1024) :
    k0_pay1 (F := Ideal) acc a w (ix2 r q) = acc (ix2 r q) + ∑ x : Fin 512, a (ix2 x r) * w (ix2 x q) := by
  unfold k0_pay1
  simp only [shapeCast_self]
  show acc (ix2 r q) + FloatOps.matmul (F := Ideal) prod none a w (constant S2048x1024 .f32 0x00000000#32) (ix2 r q) = _
  rw [Ideal.matmul_constant_zero_apply, ← Equiv.sum_comp (ValueIdx.contrEquiv1 prod 512 rfl rfl).symm]
  congr 1
  refine Finset.sum_congr rfl fun k _ => ?_
  have hk := ValueIdx.contrEquiv1_symm_val prod 512 rfl rfl k
  have el : prod.lhsIdx (ix2 r q) ((ValueIdx.contrEquiv1 prod 512 rfl rfl).symm k) = ix2 k r := funext fun a => Fin.ext (by
    match a with
    | ⟨0, _⟩ => exact (prod.lhsIdx_val_of_single rfl _ _).trans hk
    | ⟨1, _⟩ => exact lhs1 _ _)
  have er : prod.rhsIdx (ix2 r q) ((ValueIdx.contrEquiv1 prod 512 rfl rfl).symm k) = ix2 k q := funext fun a => Fin.ext (by
    match a with
    | ⟨0, _⟩ => exact (prod.rhsIdx_val_of_single rfl _ _).trans hk
    | ⟨1, _⟩ => exact rhs1 _ _)
  rw [el, er]

variable (m : (ℓ : Loc nD τ sig) → Buf (Elt Ideal) ℓ) (c : Dev nD)

/-- The input. -/
abbrev H : S8192x2048.Idx → EReal := m ((c : Thread nD τ).loc main_arg0)

/-- The gradient at the first output. -/
abbrev A0 : S8192x2048.Idx → EReal := m ((c : Thread nD τ).loc main_arg1)

/-- The gradient at the second output. -/
abbrev A1 : S8192x2048.Idx → EReal := m ((c : Thread nD τ).loc main_arg2)

/-- The gradient at the third output. -/
abbrev A2 : S8192x2048.Idx → EReal := m ((c : Thread nD τ).loc main_arg3)

/-- The gradient at the fourth output. -/
abbrev A3 : S8192x2048.Idx → EReal := m ((c : Thread nD τ).loc main_arg4)

/-- The four gradients side by side. -/
def cat (r x : ℕ) : EReal := cat4 (A0 m c) (A1 m c) (A2 m c) (A3 m c) r x

/-- One term of the result's entry at row `r` and column `q`. -/
def term (r q x : ℕ) : EReal := at2 (H m c) x r * cat m c x q

/-- Which block of the input a grid point reads. -/
theorem idx0 : ∀ t : Fin cfg0.N, win0_0.index t (0 : Fin 2) = t.val % 16 ∧ win0_0.index t (1 : Fin 2) = 0 := (by decide +kernel : ∀ t : Fin grid0.N, _)

/-- The block of the input. -/
theorem blk0 (t : Fin cfg0.N) (d : Fin 512) (r : Fin 2048) :
    (iblk m c 0 t : Vec Ideal S512x2048 .bf16) (ix2 d r) = at2 (H m c) (t.val % 16 * 512 + d.val) r.val := by
  obtain ⟨e0, e1⟩ := idx0 t
  have hb0 : (((cfg0.win 0).blk t).view.emb (ix2 d r) 0).val = win0_0.index t (0 : Fin 2) * 512 + 1 * d.val := rfl
  have hb1 : (((cfg0.win 0).blk t).view.emb (ix2 d r) 1).val = win0_0.index t (1 : Fin 2) * 2048 + 1 * r.val := rfl
  refine at2_idx (H m c) (((cfg0.win 0).blk t).view.emb (ix2 d r)) (hb0.trans ?_) (hb1.trans ?_)
  · rw [e0]; omega
  · rw [e1]; omega

/-- Which block of gradient 0 a grid point reads, when it uses it. -/
theorem idx1 : ∀ t : Fin cfg0.N, t.val < 32 → win0_1.index t (0 : Fin 2) = t.val % 16 ∧ 0 + win0_1.index t (1 : Fin 2) = t.val / 16 := (by decide +kernel : ∀ t : Fin grid0.N, _)

/-- The block of gradient 0. -/
theorem blk1 (t : Fin cfg0.N) (h : t.val < 32) (d : Fin 512) (q : Fin 1024) :
    (iblk m c 1 t : Vec Ideal S512x1024 .bf16) (ix2 d q) = cat m c (t.val % 16 * 512 + d.val) (t.val / 16 * 1024 + q.val) := by
  obtain ⟨e0, e1⟩ := idx1 t h
  have hq := q.isLt
  have hN : cfg0.N = 128 := N_0
  have ht := t.isLt
  have hb0 : (((cfg0.win 1).blk t).view.emb (ix2 d q) 0).val = win0_1.index t (0 : Fin 2) * 512 + 1 * d.val := rfl
  have hb1 : (((cfg0.win 1).blk t).view.emb (ix2 d q) 1).val = win0_1.index t (1 : Fin 2) * 1024 + 1 * q.val := rfl
  refine (at2_idx (A0 m c) (((cfg0.win 1).blk t).view.emb (ix2 d q)) (a := t.val % 16 * 512 + d.val) (b := t.val / 16 * 1024 + q.val - 0) (hb0.trans ?_) (hb1.trans ?_)).trans ?_
  · rw [e0]; omega
  · omega
  · unfold cat cat4
    rw [if_pos (by omega)]
    rfl
/-- Which block of gradient 1 a grid point reads, when it uses it. -/
theorem idx2 : ∀ t : Fin cfg0.N, 2 ≤ t.val / 16 % 8 ∧ t.val / 16 % 8 ≤ 3 → win0_2.index t (0 : Fin 2) = t.val % 16 ∧ 2 + win0_2.index t (1 : Fin 2) = t.val / 16 := (by decide +kernel : ∀ t : Fin grid0.N, _)

/-- The block of gradient 1. -/
theorem blk2 (t : Fin cfg0.N) (h : 2 ≤ t.val / 16 % 8 ∧ t.val / 16 % 8 ≤ 3) (d : Fin 512) (q : Fin 1024) :
    (iblk m c 2 t : Vec Ideal S512x1024 .bf16) (ix2 d q) = cat m c (t.val % 16 * 512 + d.val) (t.val / 16 * 1024 + q.val) := by
  obtain ⟨e0, e1⟩ := idx2 t h
  have hq := q.isLt
  have hN : cfg0.N = 128 := N_0
  have ht := t.isLt
  have hb0 : (((cfg0.win 2).blk t).view.emb (ix2 d q) 0).val = win0_2.index t (0 : Fin 2) * 512 + 1 * d.val := rfl
  have hb1 : (((cfg0.win 2).blk t).view.emb (ix2 d q) 1).val = win0_2.index t (1 : Fin 2) * 1024 + 1 * q.val := rfl
  refine (at2_idx (A1 m c) (((cfg0.win 2).blk t).view.emb (ix2 d q)) (a := t.val % 16 * 512 + d.val) (b := t.val / 16 * 1024 + q.val - 2048) (hb0.trans ?_) (hb1.trans ?_)).trans ?_
  · rw [e0]; omega
  · omega
  · unfold cat cat4
    rw [if_neg (by omega), if_pos (by omega)]

/-- Which block of gradient 2 a grid point reads, when it uses it. -/
theorem idx3 : ∀ t : Fin cfg0.N, 4 ≤ t.val / 16 % 8 ∧ t.val / 16 % 8 ≤ 5 → win0_3.index t (0 : Fin 2) = t.val % 16 ∧ 4 + win0_3.index t (1 : Fin 2) = t.val / 16 := (by decide +kernel : ∀ t : Fin grid0.N, _)

/-- The block of gradient 2. -/
theorem blk3 (t : Fin cfg0.N) (h : 4 ≤ t.val / 16 % 8 ∧ t.val / 16 % 8 ≤ 5) (d : Fin 512) (q : Fin 1024) :
    (iblk m c 3 t : Vec Ideal S512x1024 .bf16) (ix2 d q) = cat m c (t.val % 16 * 512 + d.val) (t.val / 16 * 1024 + q.val) := by
  obtain ⟨e0, e1⟩ := idx3 t h
  have hq := q.isLt
  have hN : cfg0.N = 128 := N_0
  have ht := t.isLt
  have hb0 : (((cfg0.win 3).blk t).view.emb (ix2 d q) 0).val = win0_3.index t (0 : Fin 2) * 512 + 1 * d.val := rfl
  have hb1 : (((cfg0.win 3).blk t).view.emb (ix2 d q) 1).val = win0_3.index t (1 : Fin 2) * 1024 + 1 * q.val := rfl
  refine (at2_idx (A2 m c) (((cfg0.win 3).blk t).view.emb (ix2 d q)) (a := t.val % 16 * 512 + d.val) (b := t.val / 16 * 1024 + q.val - 4096) (hb0.trans ?_) (hb1.trans ?_)).trans ?_
  · rw [e0]; omega
  · omega
  · unfold cat cat4
    rw [if_neg (by omega), if_neg (by omega), if_pos (by omega)]

/-- Which block of gradient 3 a grid point reads, when it uses it. -/
theorem idx4 : ∀ t : Fin cfg0.N, 96 ≤ t.val → win0_4.index t (0 : Fin 2) = t.val % 16 ∧ 6 + win0_4.index t (1 : Fin 2) = t.val / 16 := (by decide +kernel : ∀ t : Fin grid0.N, _)

/-- The block of gradient 3. -/
theorem blk4 (t : Fin cfg0.N) (h : 96 ≤ t.val) (d : Fin 512) (q : Fin 1024) :
    (iblk m c 4 t : Vec Ideal S512x1024 .bf16) (ix2 d q) = cat m c (t.val % 16 * 512 + d.val) (t.val / 16 * 1024 + q.val) := by
  obtain ⟨e0, e1⟩ := idx4 t h
  have hq := q.isLt
  have hN : cfg0.N = 128 := N_0
  have ht := t.isLt
  have hb0 : (((cfg0.win 4).blk t).view.emb (ix2 d q) 0).val = win0_4.index t (0 : Fin 2) * 512 + 1 * d.val := rfl
  have hb1 : (((cfg0.win 4).blk t).view.emb (ix2 d q) 1).val = win0_4.index t (1 : Fin 2) * 1024 + 1 * q.val := rfl
  refine (at2_idx (A3 m c) (((cfg0.win 4).blk t).view.emb (ix2 d q)) (a := t.val % 16 * 512 + d.val) (b := t.val / 16 * 1024 + q.val - 6144) (hb0.trans ?_) (hb1.trans ?_)).trans ?_
  · rw [e0]; omega
  · omega
  · unfold cat cat4
    rw [if_neg (by omega), if_neg (by omega), if_neg (by omega)]

/-- A step takes the sum of the terms so far to the sum with the next block of terms. -/
theorem step_sum (t : Fin cfg0.N) (acc : Vec Ideal S2048x1024 .f32) (w : Vec Ideal S512x1024 .bf16) (r : Fin 2048) (q : Fin 1024)
    (hw : ∀ d : Fin 512, w (ix2 d q) = cat m c (t.val % 16 * 512 + d.val) (t.val / 16 * 1024 + q.val))
    (hacc : acc (ix2 r q) = ∑ x ∈ Finset.range (t.val % 16 * 512), term m c r.val (t.val / 16 * 1024 + q.val) x) :
    k0_pay1 (F := Ideal) acc (iblk m c 0 t) w (ix2 r q) = ∑ x ∈ Finset.range ((t.val % 16 + 1) * 512), term m c r.val (t.val / 16 * 1024 + q.val) x := by
  rw [step_apply]
  refine sum_block 512 (t.val % 16) _ _ _ hacc fun d => ?_
  rw [hw d, blk0 m c t d r]
  rfl

/-- A cleared accumulator is the empty sum. -/
theorem zero_sum {n : ℕ} (h0 : n % 16 = 0) (i : S2048x1024.Idx) (T : ℕ → EReal) :
    k0_pay3 (F := Ideal) i = ∑ x ∈ Finset.range (n % 16 * 512), T x := by
  rw [h0, Nat.zero_mul, Finset.range_zero, Finset.sum_empty]
  unfold k0_pay3
  rw [shapeCast_self]
  exact Ideal.ofBits_zero_f32

/-- The accumulator before a point that is not the first of its sweep. -/
theorem prev_sum {n k : ℕ} (hk : n % 16 ≠ 0) (x : EReal) (T : ℕ → ℕ → EReal)
    (ih : x = ∑ y ∈ Finset.range (((n - 1) % 16 + 1) * 512), T ((n - 1) / 16 * 1024 + k) y) :
    x = ∑ y ∈ Finset.range (n % 16 * 512), T (n / 16 * 1024 + k) y := by
  have e0 : (n - 1) % 16 + 1 = n % 16 := by omega
  have e1 : (n - 1) / 16 = n / 16 := by omega
  rw [ih, e0, e1]

/-- The accumulator after a grid point. -/
theorem acc_eq : ∀ (n : ℕ) (hn : n < cfg0.N) (r : Fin 2048) (q : Fin 1024),
    (outsAt0 m c n hn).2 (ix2 r q) = ∑ x ∈ Finset.range ((n % 16 + 1) * 512), term m c r.val (n / 16 * 1024 + q.val) x := by
  intro n
  induction n using Nat.strong_induction_on with
  | _ n ih =>
    intro hn r q
    have hN : cfg0.N = 128 := N_0
    by_cases h0 : n % 16 = 0
    · by_cases g0 : n < 32
      · rw [outsAt0_A m c ⟨n, hn⟩ (by dsimp only; omega) (by dsimp only; omega) (by dsimp only; omega) (by dsimp only; omega) (by dsimp only; omega) (by dsimp only; omega)]
        dsimp only
        rw [acc_A]
        exact step_sum m c ⟨n, hn⟩ _ _ r q (fun d => blk1 m c ⟨n, hn⟩ (by dsimp only; omega) d q) (zero_sum h0 _ _)
      by_cases g1 : n < 64
      · rw [outsAt0_D m c ⟨n, hn⟩ (by dsimp only; omega) (by dsimp only; omega) (by dsimp only; omega) (by dsimp only; omega) (by dsimp only; omega) (by dsimp only; omega)]
        dsimp only
        rw [acc_D]
        exact step_sum m c ⟨n, hn⟩ _ _ r q (fun d => blk2 m c ⟨n, hn⟩ (by dsimp only; omega) d q) (zero_sum h0 _ _)
      by_cases g2 : n < 96
      · rw [outsAt0_G m c ⟨n, hn⟩ (by dsimp only; omega) (by dsimp only; omega) (by dsimp only; omega) (by dsimp only; omega) (by dsimp only; omega) (by dsimp only; omega)]
        dsimp only
        rw [acc_G]
        exact step_sum m c ⟨n, hn⟩ _ _ r q (fun d => blk3 m c ⟨n, hn⟩ (by dsimp only; omega) d q) (zero_sum h0 _ _)
      rw [outsAt0_J m c ⟨n, hn⟩ (by dsimp only; omega) (by dsimp only; omega) (by dsimp only; omega) (by dsimp only; omega) (by dsimp only; omega) (by dsimp only; omega)]
      dsimp only
      rw [acc_J]
      exact step_sum m c ⟨n, hn⟩ _ _ r q (fun d => blk4 m c ⟨n, hn⟩ (by dsimp only; omega) d q) (zero_sum h0 _ _)
    · have hp := prev_sum (k := q.val) h0 _ (fun a => term m c r.val a) (ih (n - 1) (by omega) (Nat.lt_of_le_of_lt (Nat.sub_le _ _) hn) r q)
      by_cases h5 : n % 16 = 15
      · by_cases g0 : n < 32
        · rw [outsAt0_C m c ⟨n, hn⟩ (by dsimp only; omega) (by dsimp only; omega) (by dsimp only; omega) (by dsimp only; omega) (by dsimp only; omega) (by dsimp only; omega)]
          dsimp only
          rw [acc_C]
          exact step_sum m c ⟨n, hn⟩ _ _ r q (fun d => blk1 m c ⟨n, hn⟩ (by dsimp only; omega) d q) hp
        by_cases g1 : n < 64
        · rw [outsAt0_F m c ⟨n, hn⟩ (by dsimp only; omega) (by dsimp only; omega) (by dsimp only; omega) (by dsimp only; omega) (by dsimp only; omega) (by dsimp only; omega)]
          dsimp only
          rw [acc_F]
          exact step_sum m c ⟨n, hn⟩ _ _ r q (fun d => blk2 m c ⟨n, hn⟩ (by dsimp only; omega) d q) hp
        by_cases g2 : n < 96
        · rw [outsAt0_I m c ⟨n, hn⟩ (by dsimp only; omega) (by dsimp only; omega) (by dsimp only; omega) (by dsimp only; omega) (by dsimp only; omega) (by dsimp only; omega)]
          dsimp only
          rw [acc_I]
          exact step_sum m c ⟨n, hn⟩ _ _ r q (fun d => blk3 m c ⟨n, hn⟩ (by dsimp only; omega) d q) hp
        rw [outsAt0_L m c ⟨n, hn⟩ (by dsimp only; omega) (by dsimp only; omega) (by dsimp only; omega) (by dsimp only; omega) (by dsimp only; omega) (by dsimp only; omega)]
        dsimp only
        rw [acc_L]
        exact step_sum m c ⟨n, hn⟩ _ _ r q (fun d => blk4 m c ⟨n, hn⟩ (by dsimp only; omega) d q) hp
      · by_cases g0 : n < 32
        · rw [outsAt0_B m c ⟨n, hn⟩ (by dsimp only; omega) (by dsimp only; omega) (by dsimp only; omega) (by dsimp only; omega) (by dsimp only; omega) (by dsimp only; omega)]
          dsimp only
          rw [acc_B]
          exact step_sum m c ⟨n, hn⟩ _ _ r q (fun d => blk1 m c ⟨n, hn⟩ (by dsimp only; omega) d q) hp
        by_cases g1 : n < 64
        · rw [outsAt0_E m c ⟨n, hn⟩ (by dsimp only; omega) (by dsimp only; omega) (by dsimp only; omega) (by dsimp only; omega) (by dsimp only; omega) (by dsimp only; omega)]
          dsimp only
          rw [acc_E]
          exact step_sum m c ⟨n, hn⟩ _ _ r q (fun d => blk2 m c ⟨n, hn⟩ (by dsimp only; omega) d q) hp
        by_cases g2 : n < 96
        · rw [outsAt0_H m c ⟨n, hn⟩ (by dsimp only; omega) (by dsimp only; omega) (by dsimp only; omega) (by dsimp only; omega) (by dsimp only; omega) (by dsimp only; omega)]
          dsimp only
          rw [acc_H]
          exact step_sum m c ⟨n, hn⟩ _ _ r q (fun d => blk3 m c ⟨n, hn⟩ (by dsimp only; omega) d q) hp
        rw [outsAt0_K m c ⟨n, hn⟩ (by dsimp only; omega) (by dsimp only; omega) (by dsimp only; omega) (by dsimp only; omega) (by dsimp only; omega) (by dsimp only; omega)]
        dsimp only
        rw [acc_K]
        exact step_sum m c ⟨n, hn⟩ _ _ r q (fun d => blk4 m c ⟨n, hn⟩ (by dsimp only; omega) d q) hp

/-- A full sweep's sum. -/
theorem full {n : ℕ} (h : n % 16 = 15) (T : ℕ → EReal) : ∑ x ∈ Finset.range ((n % 16 + 1) * 512), T x = ∑ x ∈ Finset.range 8192, T x := by
  rw [h]

/-- The block a sweep's last point writes. -/
theorem res_eq (n : ℕ) (hn : n < cfg0.N) (h5 : n % 16 = 15) (r : Fin 2048) (q : Fin 1024) :
    (outsAt0 m c n hn).1 (ix2 r q) = ∑ x ∈ Finset.range 8192, term m c r.val (n / 16 * 1024 + q.val) x := by
  have hN : cfg0.N = 128 := N_0
  have hp := prev_sum (k := q.val) (by omega : n % 16 ≠ 0) _ (fun a => term m c r.val a) (acc_eq m c (n - 1) (Nat.lt_of_le_of_lt (Nat.sub_le _ _) hn) r q)
  by_cases g0 : n < 32
  · rw [outsAt0_C m c ⟨n, hn⟩ (by dsimp only; omega) (by dsimp only; omega) (by dsimp only; omega) (by dsimp only; omega) (by dsimp only; omega) (by dsimp only; omega)]
    dsimp only
    rw [res_C]
    exact (step_sum m c ⟨n, hn⟩ _ _ r q (fun d => blk1 m c ⟨n, hn⟩ (by dsimp only; omega) d q) hp).trans (full h5 _)
  by_cases g1 : n < 64
  · rw [outsAt0_F m c ⟨n, hn⟩ (by dsimp only; omega) (by dsimp only; omega) (by dsimp only; omega) (by dsimp only; omega) (by dsimp only; omega) (by dsimp only; omega)]
    dsimp only
    rw [res_F]
    exact (step_sum m c ⟨n, hn⟩ _ _ r q (fun d => blk2 m c ⟨n, hn⟩ (by dsimp only; omega) d q) hp).trans (full h5 _)
  by_cases g2 : n < 96
  · rw [outsAt0_I m c ⟨n, hn⟩ (by dsimp only; omega) (by dsimp only; omega) (by dsimp only; omega) (by dsimp only; omega) (by dsimp only; omega) (by dsimp only; omega)]
    dsimp only
    rw [res_I]
    exact (step_sum m c ⟨n, hn⟩ _ _ r q (fun d => blk3 m c ⟨n, hn⟩ (by dsimp only; omega) d q) hp).trans (full h5 _)
  rw [outsAt0_L m c ⟨n, hn⟩ (by dsimp only; omega) (by dsimp only; omega) (by dsimp only; omega) (by dsimp only; omega) (by dsimp only; omega) (by dsimp only; omega)]
  dsimp only
  rw [res_L]
  exact (step_sum m c ⟨n, hn⟩ _ _ r q (fun d => blk4 m c ⟨n, hn⟩ (by dsimp only; omega) d q) hp).trans (full h5 _)

/-- The result's entry at row `r` and column `q`. -/
def total (r q : ℕ) : EReal := ∑ x ∈ Finset.range 8192, term m c r q x

/-- The result, entry by entry. -/
theorem result_eq (i : S2048x8192.Idx) :
    Cert.Kernel2Ideal.Value.G5 m c i = total m c (i 0).val (i 1).val := by
  have h0 : (i 0).val < 2048 := (i 0).isLt
  have h1 : (i 1).val < 8192 := (i 1).isLt
  have hN : cfg0.N = 128 := N_0
  have hr : Cert.Kernel2Ideal.Value.run5Of i = (i 1).val / 1024 := by
    show 8 * ((i 0).val / 2048 - 0) + 1 * ((i 1).val / 1024 - 0) = _
    omega
  have hpt : Cert.Kernel2Ideal.Value.pt5Of i = 16 * ((i 1).val / 1024) + 15 := by
    show 16 * Cert.Kernel2Ideal.Value.run5Of i + 15 = _
    rw [hr]
  have hn : Cert.Kernel2Ideal.Value.pt5Of i < cfg0.N := by omega
  unfold Cert.Kernel2Ideal.Value.G5
  rw [dif_pos hn, ← Cert.Kernel2Ideal.Value.outsAt0_sweep m c _ hn]
  have hl : Cert.Kernel2Ideal.Value.loc5Of i = ix2 (⟨(i 0).val % 2048, by omega⟩ : Fin 2048) (⟨(i 1).val % 1024, by omega⟩ : Fin 1024) := by
    funext a
    match a with
    | ⟨0, _⟩ => rfl
    | ⟨1, _⟩ => rfl
  rw [hl]
  refine (res_eq m c _ hn (by omega) _ _).trans (congrArg₂ (total m c) (Nat.mod_eq_of_lt h0) ?_)
  show _ / 16 * 1024 + (i 1).val % 1024 = _
  omega

end Cert.Kernel2Ideal.Dw

end
-- ==== Proof.DwRef.lean ====
module

public import proofs.«01_k».proof.Proof.At
public import proofs.«01_k».proof.Proof.Gen.Reference2Ideal.Read

/-! The reference's gradient of the weight, entry by entry. -/

@[expose] public section

set_option maxRecDepth 16384
set_option maxHeartbeats 4000000

noncomputable section

namespace Cert.Reference2Ideal.Dw

open Cert.Reference2Ideal Cert.Reference2Ideal.Gen Cert.At
open Idealize.ShloMosaic Idealize.ShloMosaic.TcCoe

/-- Each entry of the reference's result is the sum, over the rows, of the products of the input and the four gradients side by side. -/
theorem ref_eq (x0 x1 x2 x3 x4 : S8192x2048.Idx → EReal) (i : S2048x8192.Idx) :
    Cert.Reference2Ideal.Read.val_main_v14 (F := Ideal) x0 x1 x2 x3 x4 i
      = ∑ x ∈ Finset.range 8192, at2 x0 x (i 0).val * cat4 x1 x2 x3 x4 x (i 1).val := by
  refine ((Cert.Reference2Ideal.Read.val_main_v13_apply (F := Ideal) x0 x1 x2 x3 x4 i).trans (Cert.Reference2Ideal.Read.val_main_v12_apply x0 x1 x2 x3 x4 _)).trans ?_
  rw [Finset.sum_range]
  refine Finset.sum_congr rfl fun k _ => (mul_comm _ _).trans (congrArg₂ (· * ·) ?_ ?_)
  · exact at2_idx x0 _ rfl rfl
  · exact cat4_eq x1 x2 x3 x4 _ _ rfl rfl

end Cert.Reference2Ideal.Dw

end
-- ==== Proof.DwFinal.lean ====
module

public import proofs.«01_k».proof.Defs
public import proofs.«01_k».proof.Proof.DwSum
public import proofs.«01_k».proof.Proof.DwRef
public import proofs.«01_k».proof.Proof.Gen.Kernel2.Frame
public import Idealize.ShloMosaic.Lib.Quiescent

/-! The claims on the gradient of the weight. -/

@[expose] public section

set_option maxRecDepth 16384
set_option maxHeartbeats 4000000

noncomputable section

namespace Cert.Proof

open Idealize.ShloMosaic Idealize.ShloMosaic.TcCoe Idealize.SL.Sem

/-- The kernel of the weight's gradient, over machine numbers, terminates with its arguments unchanged and every counter at zero. -/
theorem frame_kernel2 : Cert.quiescent_Kernel2 := fun m g _ => Cert.Kernel2.Gen.frame m g

/-- The same over the extended reals. -/
theorem frame_kernel2_ideal : Cert.quiescent_Kernel2Ideal := fun m g _ => Cert.Kernel2Ideal.Gen.frame m g

/-- The reference of the weight's gradient terminates with its arguments unchanged and every counter at zero: it has no counter. -/
theorem frame_reference2_ideal : Cert.quiescent_Reference2Ideal := fun m g _ =>
  (θ_run Cert.Reference2Ideal.defs _ _).mono (fun r h => ⟨fun c => (h c).2, sem_eq_zero_of_no_sems (by decide) _⟩) (Cert.Reference2Ideal.Value.run (F := Ideal) m g)

/-- Kernel and reference leave the same gradient of the weight. -/
theorem equal2 : Cert.algebraic_Kernel2Ideal_Reference2Ideal := fun m g m' g' _ hargs =>
  ⟨Cert.Kernel2Ideal.Value.G5 m, Cert.Kernel2Ideal.Value.run m g,
    (θ_run Cert.Reference2Ideal.defs _ _).mono (fun r h c => by
      obtain ⟨h0, h1⟩ := h c
      obtain ⟨e0, e1, e2, e3, e4⟩ := hargs c
      refine ⟨h0.trans ?_, h1⟩
      rw [Cert.Reference2Ideal.Read.val_main_v14_eq, e0, e1, e2, e3, e4]
      funext i
      refine (Cert.Reference2Ideal.Dw.ref_eq _ _ _ _ _ i).trans ?_
      exact (Cert.Kernel2Ideal.Dw.result_eq m c i).symm) (Cert.Reference2Ideal.Value.run m' g')⟩

end Cert.Proof

end
-- ==== Proof.DxPoint.lean ====
module

public import proofs.«01_k».proof.Proof.Gen.Kernel3Ideal.Frame
public import Idealize.ShloMosaic.Lib.Pipeline.Value
public import Idealize.ShloMosaic.PureOps.Ideal.Laws

/-! What each kind of grid point of the input's gradient leaves in the accumulator and in the result's block. -/

@[expose] public section

set_option maxRecDepth 16384
set_option maxHeartbeats 4000000

noncomputable section

namespace Cert.Kernel3Ideal.Dx

open Cert.Kernel3Ideal Cert.Kernel3Ideal.Gen
open Idealize.ShloMosaic Idealize.ShloMosaic.TcCoe Idealize.ShloMosaic.Tactic
open Idealize.SL Idealize.SL.RA Idealize.SL.BI

/-- Zero offsets, as a function. -/
theorem hz : (![0, 0] : Fin 2 → Nat) = fun _ => 0 := funext fun a => by match a with | ⟨0, _⟩ => rfl | ⟨1, _⟩ => rfl

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1024x2048 .f32) (harg9 : arg9.IsWhole) (x0 : Vec Ideal S1024x1024 .bf16) (x1 : Vec Ideal S1024x1024 .bf16) (x2 : Vec Ideal S1024x1024 .bf16) (x3 : Vec Ideal S1024x1024 .bf16) (x4 : Vec Ideal S2048x1024 .bf16) (xs0 : Vec Ideal S1024x2048 .f32)

/-- At the first point of a sweep the accumulator is cleared, then the first products are added. -/
theorem acc_A (hc0 : cond0_0 i) (hc1 : cond0_1 i) (hc2 : ¬cond0_2 i) (hc3 : ¬cond0_3 i) (hc4 : ¬cond0_4 i) (hc5 : ¬cond0_5 i) :
    sout0_A_0 (F := Ideal) c i arg3 harg3 arg4 harg4 arg5 harg5 arg6 harg6 arg7 harg7 arg8 harg8 arg9 harg9 hc0 hc1 hc2 hc3 hc4 hc5 x0 x1 x2 x3 x4 = k0_pay1 (F := Ideal) (k0_pay3 (F := Ideal)) x0 x4 := by
  unfold sout0_A_0
  rw [View.read_writes_eq_canon _ _ _ (scover0_A_0 (F := Ideal) _ _ _ _ _ _ _ _ _ _ _ _ _ _ _ _ _ _ _ _ _ _ _ _ _ _ _)]
  unfold kernelRun0_A
  dsimp only
  sl_unfold_words
  rw [View.canon_cons_unit_zero (S := S1024x2048) hz, View.readCov_unit_zero (S := S1024x2048) _ hz]
  simp only [k0_pay1, k0_pay4, k0_pay5, k0_pay6, View.readAt_eq_ld, harg3.read_unread, harg7.read_unread, View.ld_unit_zero (S := S1024x1024) hz, View.ld_unit_zero (S := S2048x1024) hz, View.ld_unit_zero (S := S1024x2048) hz, shapeCast_self]

/-- A point with operand 0 adds its products to the accumulator. -/
theorem acc_B (hc0 : ¬cond0_0 i) (hc1 : cond0_1 i) (hc2 : ¬cond0_2 i) (hc3 : ¬cond0_3 i) (hc4 : ¬cond0_4 i) (hc5 : ¬cond0_5 i) :
    sout0_B_0 (F := Ideal) c i arg3 harg3 arg4 harg4 arg5 harg5 arg6 harg6 arg7 harg7 arg8 harg8 arg9 harg9 hc0 hc1 hc2 hc3 hc4 hc5 x0 x1 x2 x3 x4 xs0 = k0_pay1 (F := Ideal) xs0 x0 x4 := by
  unfold sout0_B_0
  rw [View.read_writes_eq_canon _ _ _ (scover0_B_0 (F := Ideal) _ _ _ _ _ _ _ _ _ _ _ _ _ _ _ _ _ _ _ _ _ _ _ _ _ _ _ _)]
  unfold kernelRun0_B
  dsimp only
  sl_unfold_words
  rw [View.canon_unit_zero hz]
  simp only [k0_pay1, k0_pay4, k0_pay5, k0_pay6, View.readAt_eq_ld, harg3.read_unread, harg7.read_unread, harg9.read_unread, View.ld_unit_zero (S := S1024x1024) hz, View.ld_unit_zero (S := S2048x1024) hz, View.ld_unit_zero (S := S1024x2048) hz, shapeCast_self]

/-- A point with operand 1 adds its products to the accumulator. -/
theorem acc_C (hc0 : ¬cond0_0 i) (hc1 : ¬cond0_1 i) (hc2 : cond0_2 i) (hc3 : ¬cond0_3 i) (hc4 : ¬cond0_4 i) (hc5 : ¬cond0_5 i) :
    sout0_C_0 (F := Ideal) c i arg3 harg3 arg4 harg4 arg5 harg5 arg6 harg6 arg7 harg7 arg8 harg8 arg9 harg9 hc0 hc1 hc2 hc3 hc4 hc5 x0 x1 x2 x3 x4 xs0 = k0_pay1 (F := Ideal) xs0 x1 x4 := by
  unfold sout0_C_0
  rw [View.read_writes_eq_canon _ _ _ (scover0_C_0 (F := Ideal) _ _ _ _ _ _ _ _ _ _ _ _ _ _ _ _ _ _ _ _ _ _ _ _ _ _ _ _)]
  unfold kernelRun0_C
  dsimp only
  sl_unfold_words
  rw [View.canon_unit_zero hz]
  simp only [k0_pay1, k0_pay4, k0_pay5, k0_pay6, View.readAt_eq_ld, harg4.read_unread, harg7.read_unread, harg9.read_unread, View.ld_unit_zero (S := S1024x1024) hz, View.ld_unit_zero (S := S2048x1024) hz, View.ld_unit_zero (S := S1024x2048) hz, shapeCast_self]

/-- A point with operand 2 adds its products to the accumulator. -/
theorem acc_D (hc0 : ¬cond0_0 i) (hc1 : ¬cond0_1 i) (hc2 : ¬cond0_2 i) (hc3 : cond0_3 i) (hc4 : ¬cond0_4 i) (hc5 : ¬cond0_5 i) :
    sout0_D_0 (F := Ideal) c i arg3 harg3 arg4 harg4 arg5 harg5 arg6 harg6 arg7 harg7 arg8 harg8 arg9 harg9 hc0 hc1 hc2 hc3 hc4 hc5 x0 x1 x2 x3 x4 xs0 = k0_pay1 (F := Ideal) xs0 x2 x4 := by
  unfold sout0_D_0
  rw [View.read_writes_eq_canon _ _ _ (scover0_D_0 (F := Ideal) _ _ _ _ _ _ _ _ _ _ _ _ _ _ _ _ _ _ _ _ _ _ _ _ _ _ _ _)]
  unfold kernelRun0_D
  dsimp only
  sl_unfold_words
  rw [View.canon_unit_zero hz]
  simp only [k0_pay1, k0_pay4, k0_pay5, k0_pay6, View.readAt_eq_ld, harg5.read_unread, harg7.read_unread, harg9.read_unread, View.ld_unit_zero (S := S1024x1024) hz, View.ld_unit_zero (S := S2048x1024) hz, View.ld_unit_zero (S := S1024x2048) hz, shapeCast_self]

/-- A point with operand 3 adds its products to the accumulator. -/
theorem acc_E (hc0 : ¬cond0_0 i) (hc1 : ¬cond0_1 i) (hc2 : ¬cond0_2 i) (hc3 : ¬cond0_3 i) (hc4 : cond0_4 i) (hc5 : ¬cond0_5 i) :
    sout0_E_0 (F := Ideal) c i arg3 harg3 arg4 harg4 arg5 harg5 arg6 harg6 arg7 harg7 arg8 harg8 arg9 harg9 hc0 hc1 hc2 hc3 hc4 hc5 x0 x1 x2 x3 x4 xs0 = k0_pay1 (F := Ideal) xs0 x3 x4 := by
  unfold sout0_E_0
  rw [View.read_writes_eq_canon _ _ _ (scover0_E_0 (F := Ideal) _ _ _ _ _ _ _ _ _ _ _ _ _ _ _ _ _ _ _ _ _ _ _ _ _ _ _ _)]
  unfold kernelRun0_E
  dsimp only
  sl_unfold_words
  rw [View.canon_unit_zero hz]
  simp only [k0_pay1, k0_pay4, k0_pay5, k0_pay6, View.readAt_eq_ld, harg6.read_unread, harg7.read_unread, harg9.read_unread, View.ld_unit_zero (S := S1024x1024) hz, View.ld_unit_zero (S := S2048x1024) hz, View.ld_unit_zero (S := S1024x2048) hz, shapeCast_self]

/-- A point with operand 3 adds its products to the accumulator. -/
theorem acc_F (hc0 : ¬cond0_0 i) (hc1 : ¬cond0_1 i) (hc2 : ¬cond0_2 i) (hc3 : ¬cond0_3 i) (hc4 : cond0_4 i) (hc5 : cond0_5 i) :
    sout0_F_0 (F := Ideal) c i arg3 harg3 arg4 harg4 arg5 harg5 arg6 harg6 arg7 harg7 arg8 harg8 arg9 harg9 hc0 hc1 hc2 hc3 hc4 hc5 x0 x1 x2 x3 x4 xs0 = k0_pay1 (F := Ideal) xs0 x3 x4 := by
  unfold sout0_F_0
  rw [View.read_writes_eq_canon _ _ _ (scover0_F_0 (F := Ideal) _ _ _ _ _ _ _ _ _ _ _ _ _ _ _ _ _ _ _ _ _ _ _ _ _ _ _ _)]
  unfold kernelRun0_F
  dsimp only
  sl_unfold_words
  rw [View.canon_unit_zero hz]
  simp only [k0_pay1, k0_pay4, k0_pay5, k0_pay6, View.readAt_eq_ld, harg6.read_unread, harg7.read_unread, harg9.read_unread, View.ld_unit_zero (S := S1024x1024) hz, View.ld_unit_zero (S := S2048x1024) hz, View.ld_unit_zero (S := S1024x2048) hz, shapeCast_self]

/-- The last point of a sweep writes the accumulator out. -/
theorem res_F (hc0 : ¬cond0_0 i) (hc1 : ¬cond0_1 i) (hc2 : ¬cond0_2 i) (hc3 : ¬cond0_3 i) (hc4 : cond0_4 i) (hc5 : cond0_5 i) :
    out0_F_5 (F := Ideal) c i arg3 harg3 arg4 harg4 arg5 harg5 arg6 harg6 arg7 harg7 arg8 harg8 arg9 harg9 hc0 hc1 hc2 hc3 hc4 hc5 x0 x1 x2 x3 x4 xs0 = k0_pay2 (F := Ideal) (k0_pay1 (F := Ideal) xs0 x3 x4) := by
  unfold out0_F_5
  rw [View.read_writes_eq_canon _ _ _ (cover0_F_5 (F := Ideal) _ _ _ _ _ _ _ _ _ _ _ _ _ _ _ _ _ _ _ _ _ _ _ _ _ _ _ _)]
  unfold kernelRun0_F
  dsimp only
  sl_unfold_words
  rw [View.canon_unit_zero hz, View.readCov_unit_zero (S := S1024x2048) _ hz]
  simp only [k0_pay1, k0_pay4, k0_pay5, k0_pay6, View.readAt_eq_ld, harg6.read_unread, harg7.read_unread, harg9.read_unread, View.ld_unit_zero (S := S1024x1024) hz, View.ld_unit_zero (S := S2048x1024) hz, View.ld_unit_zero (S := S1024x2048) hz, shapeCast_self]

end Cert.Kernel3Ideal.Dx

end
-- ==== Proof.DxSum.lean ====
module

public import proofs.«01_k».proof.Proof.At
public import proofs.«01_k».proof.Proof.DxPoint
public import proofs.«01_k».proof.Proof.Gen.Kernel3Ideal.Value

/-! The gradient of the input: the accumulator along a sweep, and the result. -/

@[expose] public section

set_option maxRecDepth 16384
set_option maxHeartbeats 4000000

noncomputable section

namespace Cert.Kernel3Ideal.Dx

open Cert.Kernel3Ideal Cert.Kernel3Ideal.Gen Cert.At
open Idealize.ShloMosaic Idealize.ShloMosaic.TcCoe Idealize.ShloMosaic.Tactic Idealize.ShloMosaic.ValueIdx
open Idealize.SL Idealize.SL.RA Idealize.SL.BI

/-- The block product: which axes it contracts. -/
abbrev prod := dot_S1024x1024_S2048x1024_S1024x2048_1_1_0_0_n_n

/-- The block product's left row. -/
theorem lhs0 (i : S1024x2048.Idx) (q : prod.contr.Idx) :
    (prod.lhsIdx i q 0).val = (i 0).val := by
  unfold DotDims.lhsIdx
  rw [dif_neg (show ¬(0 : Fin S1024x1024.rank) ∈ prod.lhsBatch by decide), dif_pos (show (0 : Fin S1024x1024.rank) ∈ prod.lhsNonContracting by decide)]
  rfl

/-- The block product's right row. -/
theorem rhs0 (i : S1024x2048.Idx) (q : prod.contr.Idx) :
    (prod.rhsIdx i q 0).val = (i 1).val := by
  unfold DotDims.rhsIdx
  rw [dif_neg (show ¬(0 : Fin S2048x1024.rank) ∈ prod.rhsBatch by decide), dif_pos (show (0 : Fin S2048x1024.rank) ∈ prod.rhsNonContracting by decide)]
  rfl

/-- One point's step: the products of a row of the left block and a row of the right block are added. -/
theorem step_apply (acc : Vec Ideal S1024x2048 .f32) (a : Vec Ideal S1024x1024 .bf16) (w : Vec Ideal S2048x1024 .bf16) (r : Fin 1024) (q : Fin 2048) :
    k0_pay1 (F := Ideal) acc a w (ix2 r q) = acc (ix2 r q) + ∑ x : Fin 1024, a (ix2 r x) * w (ix2 q x) := by
  unfold k0_pay1
  simp only [shapeCast_self]
  show acc (ix2 r q) + FloatOps.matmul (F := Ideal) prod none a w (constant S1024x2048 .f32 0x00000000#32) (ix2 r q) = _
  rw [Ideal.matmul_constant_zero_apply, ← Equiv.sum_comp (ValueIdx.contrEquiv1 prod 1024 rfl rfl).symm]
  congr 1
  refine Finset.sum_congr rfl fun k _ => ?_
  have hk := ValueIdx.contrEquiv1_symm_val prod 1024 rfl rfl k
  have el : prod.lhsIdx (ix2 r q) ((ValueIdx.contrEquiv1 prod 1024 rfl rfl).symm k) = ix2 r k := funext fun a => Fin.ext (by
    match a with
    | ⟨0, _⟩ => exact lhs0 _ _
    | ⟨1, _⟩ => exact (prod.lhsIdx_val_of_single rfl _ _).trans hk)
  have er : prod.rhsIdx (ix2 r q) ((ValueIdx.contrEquiv1 prod 1024 rfl rfl).symm k) = ix2 q k := funext fun a => Fin.ext (by
    match a with
    | ⟨0, _⟩ => exact rhs0 _ _
    | ⟨1, _⟩ => exact (prod.rhsIdx_val_of_single rfl _ _).trans hk)
  rw [el, er]

variable (m : (ℓ : Loc nD τ sig) → Buf (Elt Ideal) ℓ) (c : Dev nD)

/-- The weight. -/
abbrev W : S2048x8192.Idx → EReal := m ((c : Thread nD τ).loc main_arg0)

/-- The gradient at the first output. -/
abbrev A0 : S8192x2048.Idx → EReal := m ((c : Thread nD τ).loc main_arg1)

/-- The gradient at the second output. -/
abbrev A1 : S8192x2048.Idx → EReal := m ((c : Thread nD τ).loc main_arg2)

/-- The gradient at the third output. -/
abbrev A2 : S8192x2048.Idx → EReal := m ((c : Thread nD τ).loc main_arg3)

/-- The gradient at the fourth output. -/
abbrev A3 : S8192x2048.Idx → EReal := m ((c : Thread nD τ).loc main_arg4)

/-- The four gradients side by side. -/
def cat (r x : ℕ) : EReal := cat4 (A0 m c) (A1 m c) (A2 m c) (A3 m c) r x

/-- One term of the result's entry at row `r` and column `q`. -/
def term (r q x : ℕ) : EReal := cat m c r x * at2 (W m c) q x

/-- Which block of operand 0 a grid point reads, when it uses it. -/
theorem idx0 : ∀ t : Fin cfg0.N, t.val % 8 ≤ 1 → win0_0.index t (0 : Fin 2) = t.val / 8 ∧ 0 + win0_0.index t (1 : Fin 2) = t.val % 8 := (by decide +kernel : ∀ t : Fin grid0.N, _)

/-- The block of operand 0. -/
theorem blk0 (t : Fin cfg0.N) (h : t.val % 8 ≤ 1) (r d : Fin 1024) :
    (iblk m c 0 t : Vec Ideal S1024x1024 .bf16) (ix2 r d) = cat m c (t.val / 8 * 1024 + r.val) (t.val % 8 * 1024 + d.val) := by
  obtain ⟨e0, e1⟩ := idx0 t h
  have hd := d.isLt
  have hb0 : (((cfg0.win 0).blk t).view.emb (ix2 r d) 0).val = win0_0.index t (0 : Fin 2) * 1024 + 1 * r.val := rfl
  have hb1 : (((cfg0.win 0).blk t).view.emb (ix2 r d) 1).val = win0_0.index t (1 : Fin 2) * 1024 + 1 * d.val := rfl
  refine (at2_idx (A0 m c) (((cfg0.win 0).blk t).view.emb (ix2 r d)) (a := t.val / 8 * 1024 + r.val) (b := t.val % 8 * 1024 + d.val - 0) (hb0.trans ?_) (hb1.trans ?_)).trans ?_
  · rw [e0]; omega
  · omega
  · unfold cat cat4
    rw [if_pos (by omega)]
    rfl

/-- Which block of operand 1 a grid point reads, when it uses it. -/
theorem idx1 : ∀ t : Fin cfg0.N, 2 ≤ t.val % 8 ∧ t.val % 8 ≤ 3 → win0_1.index t (0 : Fin 2) = t.val / 8 ∧ 2 + win0_1.index t (1 : Fin 2) = t.val % 8 := (by decide +kernel : ∀ t : Fin grid0.N, _)

/-- The block of operand 1. -/
theorem blk1 (t : Fin cfg0.N) (h : 2 ≤ t.val % 8 ∧ t.val % 8 ≤ 3) (r d : Fin 1024) :
    (iblk m c 1 t : Vec Ideal S1024x1024 .bf16) (ix2 r d) = cat m c (t.val / 8 * 1024 + r.val) (t.val % 8 * 1024 + d.val) := by
  obtain ⟨e0, e1⟩ := idx1 t h
  have hd := d.isLt
  have hb0 : (((cfg0.win 1).blk t).view.emb (ix2 r d) 0).val = win0_1.index t (0 : Fin 2) * 1024 + 1 * r.val := rfl
  have hb1 : (((cfg0.win 1).blk t).view.emb (ix2 r d) 1).val = win0_1.index t (1 : Fin 2) * 1024 + 1 * d.val := rfl
  refine (at2_idx (A1 m c) (((cfg0.win 1).blk t).view.emb (ix2 r d)) (a := t.val / 8 * 1024 + r.val) (b := t.val % 8 * 1024 + d.val - 2048) (hb0.trans ?_) (hb1.trans ?_)).trans ?_
  · rw [e0]; omega
  · omega
  · unfold cat cat4
    rw [if_neg (by omega), if_pos (by omega)]

/-- Which block of operand 2 a grid point reads, when it uses it. -/
theorem idx2 : ∀ t : Fin cfg0.N, 4 ≤ t.val % 8 ∧ t.val % 8 ≤ 5 → win0_2.index t (0 : Fin 2) = t.val / 8 ∧ 4 + win0_2.index t (1 : Fin 2) = t.val % 8 := (by decide +kernel : ∀ t : Fin grid0.N, _)

/-- The block of operand 2. -/
theorem blk2 (t : Fin cfg0.N) (h : 4 ≤ t.val % 8 ∧ t.val % 8 ≤ 5) (r d : Fin 1024) :
    (iblk m c 2 t : Vec Ideal S1024x1024 .bf16) (ix2 r d) = cat m c (t.val / 8 * 1024 + r.val) (t.val % 8 * 1024 + d.val) := by
  obtain ⟨e0, e1⟩ := idx2 t h
  have hd := d.isLt
  have hb0 : (((cfg0.win 2).blk t).view.emb (ix2 r d) 0).val = win0_2.index t (0 : Fin 2) * 1024 + 1 * r.val := rfl
  have hb1 : (((cfg0.win 2).blk t).view.emb (ix2 r d) 1).val = win0_2.index t (1 : Fin 2) * 1024 + 1 * d.val := rfl
  refine (at2_idx (A2 m c) (((cfg0.win 2).blk t).view.emb (ix2 r d)) (a := t.val / 8 * 1024 + r.val) (b := t.val % 8 * 1024 + d.val - 4096) (hb0.trans ?_) (hb1.trans ?_)).trans ?_
  · rw [e0]; omega
  · omega
  · unfold cat cat4
    rw [if_neg (by omega), if_neg (by omega), if_pos (by omega)]

/-- Which block of operand 3 a grid point reads, when it uses it. -/
theorem idx3 : ∀ t : Fin cfg0.N, 6 ≤ t.val % 8 → win0_3.index t (0 : Fin 2) = t.val / 8 ∧ 6 + win0_3.index t (1 : Fin 2) = t.val % 8 := (by decide +kernel : ∀ t : Fin grid0.N, _)

/-- The block of operand 3. -/
theorem blk3 (t : Fin cfg0.N) (h : 6 ≤ t.val % 8) (r d : Fin 1024) :
    (iblk m c 3 t : Vec Ideal S1024x1024 .bf16) (ix2 r d) = cat m c (t.val / 8 * 1024 + r.val) (t.val % 8 * 1024 + d.val) := by
  obtain ⟨e0, e1⟩ := idx3 t h
  have hd := d.isLt
  have hb0 : (((cfg0.win 3).blk t).view.emb (ix2 r d) 0).val = win0_3.index t (0 : Fin 2) * 1024 + 1 * r.val := rfl
  have hb1 : (((cfg0.win 3).blk t).view.emb (ix2 r d) 1).val = win0_3.index t (1 : Fin 2) * 1024 + 1 * d.val := rfl
  refine (at2_idx (A3 m c) (((cfg0.win 3).blk t).view.emb (ix2 r d)) (a := t.val / 8 * 1024 + r.val) (b := t.val % 8 * 1024 + d.val - 6144) (hb0.trans ?_) (hb1.trans ?_)).trans ?_
  · rw [e0]; omega
  · omega
  · unfold cat cat4
    rw [if_neg (by omega), if_neg (by omega), if_neg (by omega)]

/-- Which block of the weight a grid point reads. -/
theorem idx4 : ∀ t : Fin cfg0.N, win0_4.index t (0 : Fin 2) = 0 ∧ win0_4.index t (1 : Fin 2) = t.val % 8 := (by decide +kernel : ∀ t : Fin grid0.N, _)

/-- The block of the weight. -/
theorem blk4 (t : Fin cfg0.N) (q : Fin 2048) (d : Fin 1024) :
    (iblk m c 4 t : Vec Ideal S2048x1024 .bf16) (ix2 q d) = at2 (W m c) q.val (t.val % 8 * 1024 + d.val) := by
  obtain ⟨e0, e1⟩ := idx4 t
  have hb0 : (((cfg0.win 4).blk t).view.emb (ix2 q d) 0).val = win0_4.index t (0 : Fin 2) * 2048 + 1 * q.val := rfl
  have hb1 : (((cfg0.win 4).blk t).view.emb (ix2 q d) 1).val = win0_4.index t (1 : Fin 2) * 1024 + 1 * d.val := rfl
  refine at2_idx (W m c) (((cfg0.win 4).blk t).view.emb (ix2 q d)) (hb0.trans ?_) (hb1.trans ?_)
  · rw [e0]; omega
  · rw [e1]; omega

/-- A step takes the sum of the terms so far to the sum with the next block of terms. -/
theorem step_sum (t : Fin cfg0.N) (acc : Vec Ideal S1024x2048 .f32) (a : Vec Ideal S1024x1024 .bf16) (r : Fin 1024) (q : Fin 2048)
    (ha : ∀ d : Fin 1024, a (ix2 r d) = cat m c (t.val / 8 * 1024 + r.val) (t.val % 8 * 1024 + d.val))
    (hacc : acc (ix2 r q) = ∑ x ∈ Finset.range (t.val % 8 * 1024), term m c (t.val / 8 * 1024 + r.val) q.val x) :
    k0_pay1 (F := Ideal) acc a (iblk m c 4 t) (ix2 r q) = ∑ x ∈ Finset.range ((t.val % 8 + 1) * 1024), term m c (t.val / 8 * 1024 + r.val) q.val x := by
  rw [step_apply]
  refine sum_block 1024 (t.val % 8) _ _ _ hacc fun d => ?_
  rw [ha d, blk4 m c t q d]
  rfl

/-- The accumulator before a point that is not the first of its sweep. -/
theorem prev_sum {n k j : ℕ} (hk : n % 8 ≠ 0) (x : EReal) (T : ℕ → ℕ → EReal)
    (ih : x = ∑ y ∈ Finset.range (((n - 1) % 8 + 1) * 1024), T ((n - 1) / 8 * 1024 + k) y) :
    x = ∑ y ∈ Finset.range (n % 8 * 1024), T (n / 8 * 1024 + k) y := by
  have e0 : (n - 1) % 8 + 1 = n % 8 := by omega
  have e1 : (n - 1) / 8 = n / 8 := by omega
  rw [ih, e0, e1]

/-- The accumulator after a grid point. -/
theorem acc_eq : ∀ (n : ℕ) (hn : n < cfg0.N) (r : Fin 1024) (q : Fin 2048),
    (outsAt0 m c n hn).2 (ix2 r q) = ∑ x ∈ Finset.range ((n % 8 + 1) * 1024), term m c (n / 8 * 1024 + r.val) q.val x := by
  intro n
  induction n using Nat.strong_induction_on with
  | _ n ih =>
    intro hn r q
    by_cases h0 : n % 8 = 0
    · rw [outsAt0_A m c ⟨n, hn⟩ h0 (by dsimp only; omega) (by dsimp only; omega) (by dsimp only; omega) (by dsimp only; omega) (by dsimp only; omega)]
      dsimp only
      rw [acc_A]
      refine step_sum m c ⟨n, hn⟩ _ _ r q (fun d => blk0 m c ⟨n, hn⟩ (by dsimp only; omega) r d) ?_
      dsimp only
      rw [h0, Nat.zero_mul, Finset.range_zero, Finset.sum_empty]
      unfold k0_pay3
      rw [shapeCast_self]
      exact Ideal.ofBits_zero_f32
    · have hp := prev_sum (k := r.val) (j := 0) h0 _ (fun a => term m c a q.val) (ih (n - 1) (by omega) (Nat.lt_of_le_of_lt (Nat.sub_le _ _) hn) r q)
      by_cases h : n % 8 = 1
      · rw [outsAt0_B m c ⟨n, hn⟩ h0 (by dsimp only; omega) (by dsimp only; omega) (by dsimp only; omega) (by dsimp only; omega) (by dsimp only; omega)]
        dsimp only
        rw [acc_B]
        exact step_sum m c ⟨n, hn⟩ _ _ r q (fun d => blk0 m c ⟨n, hn⟩ (by dsimp only; omega) r d) hp
      by_cases h : 2 ≤ n % 8 ∧ n % 8 ≤ 3
      · rw [outsAt0_C m c ⟨n, hn⟩ h0 (by dsimp only; omega) (by dsimp only; omega) (by dsimp only; omega) (by dsimp only; omega) (by dsimp only; omega)]
        dsimp only
        rw [acc_C]
        exact step_sum m c ⟨n, hn⟩ _ _ r q (fun d => blk1 m c ⟨n, hn⟩ (by dsimp only; omega) r d) hp
      by_cases h : 4 ≤ n % 8 ∧ n % 8 ≤ 5
      · rw [outsAt0_D m c ⟨n, hn⟩ h0 (by dsimp only; omega) (by dsimp only; omega) (by dsimp only; omega) (by dsimp only; omega) (by dsimp only; omega)]
        dsimp only
        rw [acc_D]
        exact step_sum m c ⟨n, hn⟩ _ _ r q (fun d => blk2 m c ⟨n, hn⟩ (by dsimp only; omega) r d) hp
      by_cases h : n % 8 = 6
      · rw [outsAt0_E m c ⟨n, hn⟩ h0 (by dsimp only; omega) (by dsimp only; omega) (by dsimp only; omega) (by dsimp only; omega) (by dsimp only; omega)]
        dsimp only
        rw [acc_E]
        exact step_sum m c ⟨n, hn⟩ _ _ r q (fun d => blk3 m c ⟨n, hn⟩ (by dsimp only; omega) r d) hp
      rw [outsAt0_F m c ⟨n, hn⟩ h0 (by dsimp only; omega) (by dsimp only; omega) (by dsimp only; omega) (by dsimp only; omega) (by dsimp only; omega)]
      dsimp only
      rw [acc_F]
      exact step_sum m c ⟨n, hn⟩ _ _ r q (fun d => blk3 m c ⟨n, hn⟩ (by dsimp only; omega) r d) hp

/-- The block a sweep's last point writes. -/
theorem res_eq (n : ℕ) (hn : n < cfg0.N) (h7 : n % 8 = 7) (r : Fin 1024) (q : Fin 2048) :
    (outsAt0 m c n hn).1 (ix2 r q) = ∑ x ∈ Finset.range 8192, term m c (n / 8 * 1024 + r.val) q.val x := by
  have hp := prev_sum (k := r.val) (j := 0) (by omega : n % 8 ≠ 0) _ (fun a => term m c a q.val) (acc_eq m c (n - 1) (Nat.lt_of_le_of_lt (Nat.sub_le _ _) hn) r q)
  rw [outsAt0_F m c ⟨n, hn⟩ (by dsimp only; omega) (by dsimp only; omega) (by dsimp only; omega) (by dsimp only; omega) (by dsimp only; omega) h7]
  dsimp only
  rw [res_F]
  refine (step_sum m c ⟨n, hn⟩ _ _ r q (fun d => blk3 m c ⟨n, hn⟩ (by dsimp only; omega) r d) hp).trans ?_
  dsimp only
  rw [h7]

/-- The result's entry at row `r` and column `q`. -/
def total (r q : ℕ) : EReal := ∑ x ∈ Finset.range 8192, term m c r q x

/-- The result, entry by entry. -/
theorem result_eq (i : S8192x2048.Idx) :
    Cert.Kernel3Ideal.Value.G5 m c i = total m c (i 0).val (i 1).val := by
  have h0 : (i 0).val < 8192 := (i 0).isLt
  have h1 : (i 1).val < 2048 := (i 1).isLt
  have hN : cfg0.N = 64 := N_0
  have hr : Cert.Kernel3Ideal.Value.run5Of i = (i 0).val / 1024 := by
    show 1 * ((i 0).val / 1024 - 0) + 1 * ((i 1).val / 2048 - 0) = _
    omega
  have hpt : Cert.Kernel3Ideal.Value.pt5Of i = 8 * ((i 0).val / 1024) + 7 := by
    show 8 * Cert.Kernel3Ideal.Value.run5Of i + 7 = _
    rw [hr]
  have hn : Cert.Kernel3Ideal.Value.pt5Of i < cfg0.N := by omega
  unfold Cert.Kernel3Ideal.Value.G5
  rw [dif_pos hn, ← Cert.Kernel3Ideal.Value.outsAt0_sweep m c _ hn]
  have hl : Cert.Kernel3Ideal.Value.loc5Of i = ix2 (⟨(i 0).val % 1024, by omega⟩ : Fin 1024) (⟨(i 1).val % 2048, by omega⟩ : Fin 2048) := by
    funext a
    match a with
    | ⟨0, _⟩ => rfl
    | ⟨1, _⟩ => rfl
  rw [hl]
  refine (res_eq m c _ hn (by omega) _ _).trans (congrArg₂ (total m c) ?_ (Nat.mod_eq_of_lt h1))
  show _ / 8 * 1024 + (i 0).val % 1024 = _
  omega

end Cert.Kernel3Ideal.Dx

end
-- ==== Proof.DxRef.lean ====
module

public import proofs.«01_k».proof.Proof.At
public import proofs.«01_k».proof.Proof.Gen.Reference3Ideal.Read

/-! The reference's gradient of the input, entry by entry. -/

@[expose] public section

set_option maxRecDepth 16384
set_option maxHeartbeats 4000000

noncomputable section

namespace Cert.Reference3Ideal.Dx

open Cert.Reference3Ideal Cert.Reference3Ideal.Gen Cert.At
open Idealize.ShloMosaic Idealize.ShloMosaic.TcCoe

/-- Each entry of the reference's result is the sum of the products over the four gradients side by side. -/
theorem ref_eq (x0 : S2048x8192.Idx → EReal) (x1 x2 x3 x4 : S8192x2048.Idx → EReal) (i : S8192x2048.Idx) :
    Cert.Reference3Ideal.Read.val_main_v13 (F := Ideal) x0 x1 x2 x3 x4 i
      = ∑ x ∈ Finset.range 8192, cat4 x1 x2 x3 x4 (i 0).val x * at2 x0 (i 1).val x := by
  refine (Cert.Reference3Ideal.Read.val_main_v12_apply x0 x1 x2 x3 x4 i).trans ?_
  rw [Finset.sum_range]
  refine Finset.sum_congr rfl fun k _ => congrArg₂ (· * ·) ?_ ?_
  · exact cat4_eq x1 x2 x3 x4 _ _ rfl rfl
  · exact at2_idx x0 _ rfl rfl

end Cert.Reference3Ideal.Dx

end
-- ==== Proof.DxFinal.lean ====
module

public import proofs.«01_k».proof.Defs
public import proofs.«01_k».proof.Proof.DxSum
public import proofs.«01_k».proof.Proof.DxRef
public import proofs.«01_k».proof.Proof.Gen.Kernel3.Frame
public import Idealize.ShloMosaic.Lib.Quiescent

/-! The claims on the gradient of the input. -/

@[expose] public section

set_option maxRecDepth 16384
set_option maxHeartbeats 4000000

noncomputable section

namespace Cert.Proof

open Idealize.ShloMosaic Idealize.ShloMosaic.TcCoe Idealize.SL.Sem

/-- The kernel of the input's gradient, over machine numbers, terminates with its arguments unchanged and every counter at zero. -/
theorem frame_kernel3 : Cert.quiescent_Kernel3 := fun m g _ => Cert.Kernel3.Gen.frame m g

/-- The same over the extended reals. -/
theorem frame_kernel3_ideal : Cert.quiescent_Kernel3Ideal := fun m g _ => Cert.Kernel3Ideal.Gen.frame m g

/-- The reference of the input's gradient terminates with its arguments unchanged and every counter at zero: it has no counter. -/
theorem frame_reference3_ideal : Cert.quiescent_Reference3Ideal := fun m g _ =>
  (θ_run Cert.Reference3Ideal.defs _ _).mono (fun r h => ⟨fun c => (h c).2, sem_eq_zero_of_no_sems (by decide) _⟩) (Cert.Reference3Ideal.Value.run (F := Ideal) m g)

/-- Kernel and reference leave the same gradient of the input. -/
theorem equal3 : Cert.algebraic_Kernel3Ideal_Reference3Ideal := fun m g m' g' _ hargs =>
  ⟨Cert.Kernel3Ideal.Value.G5 m, Cert.Kernel3Ideal.Value.run m g,
    (θ_run Cert.Reference3Ideal.defs _ _).mono (fun r h c => by
      obtain ⟨h0, h1⟩ := h c
      obtain ⟨e0, e1, e2, e3, e4⟩ := hargs c
      refine ⟨h0.trans ?_, h1⟩
      rw [Cert.Reference3Ideal.Read.val_main_v13_eq, e0, e1, e2, e3, e4]
      funext i
      refine (Cert.Reference3Ideal.Dx.ref_eq _ _ _ _ _ i).trans ?_
      exact (Cert.Kernel3Ideal.Dx.result_eq m c i).symm) (Cert.Reference3Ideal.Value.run m' g')⟩

end Cert.Proof

end
-- ==== Proof.FxPoint.lean ====
module

public import proofs.«01_k».proof.Proof.Gen.Kernel4Ideal.Frame
public import Idealize.ShloMosaic.Lib.Pipeline.Value
public import Idealize.ShloMosaic.PureOps.Ideal.Laws

/-! What each kind of grid point of the attention's input's gradient leaves in the accumulator and in the result's block. -/

@[expose] public section

set_option maxRecDepth 16384
set_option maxHeartbeats 4000000

noncomputable section

namespace Cert.Kernel4Ideal.Fx

open Cert.Kernel4Ideal Cert.Kernel4Ideal.Gen
open Idealize.ShloMosaic Idealize.ShloMosaic.TcCoe Idealize.ShloMosaic.Tactic
open Idealize.SL Idealize.SL.RA Idealize.SL.BI

/-- Zero offsets, as a function. -/
theorem hz : (![0, 0] : Fin 2 → Nat) = fun _ => 0 := funext fun a => by match a with | ⟨0, _⟩ => rfl | ⟨1, _⟩ => rfl

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S2048x1024 .bf16) (harg7 : arg7.IsWhole) (arg8 : Memref sig .tc .vmem S1024x2048 .bf16) (harg8 : arg8.IsWhole) (arg9 : Memref sig .tc .vmem S1024x2048 .bf16) (harg9 : arg9.IsWhole) (arg10 : Memref sig .tc .vmem S1024x2048 .f32) (harg10 : arg10.IsWhole) (x0 : Vec Ideal S1024x1024 .bf16) (x1 : Vec Ideal S1024x1024 .bf16) (x2 : Vec Ideal S1024x1024 .bf16) (x3 : Vec Ideal S1024x1024 .bf16) (x4 : Vec Ideal S2048x1024 .bf16) (x5 : Vec Ideal S1024x2048 .bf16) (xs0 : Vec Ideal S1024x2048 .f32)

/-- At the first point of a sweep the accumulator is cleared, then the first products are added. -/
theorem acc_A (hc0 : cond0_0 i) (hc1 : cond0_1 i) (hc2 : ¬cond0_2 i) (hc3 : ¬cond0_3 i) (hc4 : ¬cond0_4 i) (hc5 : ¬cond0_5 i) :
    sout0_A_0 (F := Ideal) c i arg3 harg3 arg4 harg4 arg5 harg5 arg6 harg6 arg7 harg7 arg8 harg8 arg9 harg9 arg10 harg10 hc0 hc1 hc2 hc3 hc4 hc5 x0 x1 x2 x3 x4 x5 = k0_pay1 (F := Ideal) (k0_pay3 (F := Ideal)) x0 x4 := by
  unfold sout0_A_0
  rw [View.read_writes_eq_canon _ _ _ (scover0_A_0 (F := Ideal) _ _ _ _ _ _ _ _ _ _ _ _ _ _ _ _ _ _ _ _ _ _ _ _ _ _ _ _ _ _)]
  unfold kernelRun0_A
  dsimp only
  sl_unfold_words
  rw [View.canon_cons_unit_zero (S := S1024x2048) hz, View.readCov_unit_zero (S := S1024x2048) _ hz]
  simp only [k0_pay1, k0_pay4, k0_pay5, k0_pay6, View.readAt_eq_ld, harg3.read_unread, harg7.read_unread, View.ld_unit_zero (S := S1024x1024) hz, View.ld_unit_zero (S := S2048x1024) hz, View.ld_unit_zero (S := S1024x2048) hz, shapeCast_self]

/-- A point with operand 0 adds its products to the accumulator. -/
theorem acc_B (hc0 : ¬cond0_0 i) (hc1 : cond0_1 i) (hc2 : ¬cond0_2 i) (hc3 : ¬cond0_3 i) (hc4 : ¬cond0_4 i) (hc5 : ¬cond0_5 i) :
    sout0_B_0 (F := Ideal) c i arg3 harg3 arg4 harg4 arg5 harg5 arg6 harg6 arg7 harg7 arg8 harg8 arg9 harg9 arg10 harg10 hc0 hc1 hc2 hc3 hc4 hc5 x0 x1 x2 x3 x4 x5 xs0 = k0_pay1 (F := Ideal) xs0 x0 x4 := by
  unfold sout0_B_0
  rw [View.read_writes_eq_canon _ _ _ (scover0_B_0 (F := Ideal) _ _ _ _ _ _ _ _ _ _ _ _ _ _ _ _ _ _ _ _ _ _ _ _ _ _ _ _ _ _ _)]
  unfold kernelRun0_B
  dsimp only
  sl_unfold_words
  rw [View.canon_unit_zero hz]
  simp only [k0_pay1, k0_pay4, k0_pay5, k0_pay6, View.readAt_eq_ld, harg3.read_unread, harg7.read_unread, harg10.read_unread, View.ld_unit_zero (S := S1024x1024) hz, View.ld_unit_zero (S := S2048x1024) hz, View.ld_unit_zero (S := S1024x2048) hz, shapeCast_self]

/-- A point with operand 1 adds its products to the accumulator. -/
theorem acc_C (hc0 : ¬cond0_0 i) (hc1 : ¬cond0_1 i) (hc2 : cond0_2 i) (hc3 : ¬cond0_3 i) (hc4 : ¬cond0_4 i) (hc5 : ¬cond0_5 i) :
    sout0_C_0 (F := Ideal) c i arg3 harg3 arg4 harg4 arg5 harg5 arg6 harg6 arg7 harg7 arg8 harg8 arg9 harg9 arg10 harg10 hc0 hc1 hc2 hc3 hc4 hc5 x0 x1 x2 x3 x4 x5 xs0 = k0_pay1 (F := Ideal) xs0 x1 x4 := by
  unfold sout0_C_0
  rw [View.read_writes_eq_canon _ _ _ (scover0_C_0 (F := Ideal) _ _ _ _ _ _ _ _ _ _ _ _ _ _ _ _ _ _ _ _ _ _ _ _ _ _ _ _ _ _ _)]
  unfold kernelRun0_C
  dsimp only
  sl_unfold_words
  rw [View.canon_unit_zero hz]
  simp only [k0_pay1, k0_pay4, k0_pay5, k0_pay6, View.readAt_eq_ld, harg4.read_unread, harg7.read_unread, harg10.read_unread, View.ld_unit_zero (S := S1024x1024) hz, View.ld_unit_zero (S := S2048x1024) hz, View.ld_unit_zero (S := S1024x2048) hz, shapeCast_self]

/-- A point with operand 2 adds its products to the accumulator. -/
theorem acc_D (hc0 : ¬cond0_0 i) (hc1 : ¬cond0_1 i) (hc2 : ¬cond0_2 i) (hc3 : cond0_3 i) (hc4 : ¬cond0_4 i) (hc5 : ¬cond0_5 i) :
    sout0_D_0 (F := Ideal) c i arg3 harg3 arg4 harg4 arg5 harg5 arg6 harg6 arg7 harg7 arg8 harg8 arg9 harg9 arg10 harg10 hc0 hc1 hc2 hc3 hc4 hc5 x0 x1 x2 x3 x4 x5 xs0 = k0_pay1 (F := Ideal) xs0 x2 x4 := by
  unfold sout0_D_0
  rw [View.read_writes_eq_canon _ _ _ (scover0_D_0 (F := Ideal) _ _ _ _ _ _ _ _ _ _ _ _ _ _ _ _ _ _ _ _ _ _ _ _ _ _ _ _ _ _ _)]
  unfold kernelRun0_D
  dsimp only
  sl_unfold_words
  rw [View.canon_unit_zero hz]
  simp only [k0_pay1, k0_pay4, k0_pay5, k0_pay6, View.readAt_eq_ld, harg5.read_unread, harg7.read_unread, harg10.read_unread, View.ld_unit_zero (S := S1024x1024) hz, View.ld_unit_zero (S := S2048x1024) hz, View.ld_unit_zero (S := S1024x2048) hz, shapeCast_self]

/-- A point with operand 3 adds its products to the accumulator. -/
theorem acc_E (hc0 : ¬cond0_0 i) (hc1 : ¬cond0_1 i) (hc2 : ¬cond0_2 i) (hc3 : ¬cond0_3 i) (hc4 : cond0_4 i) (hc5 : ¬cond0_5 i) :
    sout0_E_0 (F := Ideal) c i arg3 harg3 arg4 harg4 arg5 harg5 arg6 harg6 arg7 harg7 arg8 harg8 arg9 harg9 arg10 harg10 hc0 hc1 hc2 hc3 hc4 hc5 x0 x1 x2 x3 x4 x5 xs0 = k0_pay1 (F := Ideal) xs0 x3 x4 := by
  unfold sout0_E_0
  rw [View.read_writes_eq_canon _ _ _ (scover0_E_0 (F := Ideal) _ _ _ _ _ _ _ _ _ _ _ _ _ _ _ _ _ _ _ _ _ _ _ _ _ _ _ _ _ _ _)]
  unfold kernelRun0_E
  dsimp only
  sl_unfold_words
  rw [View.canon_unit_zero hz]
  simp only [k0_pay1, k0_pay4, k0_pay5, k0_pay6, View.readAt_eq_ld, harg6.read_unread, harg7.read_unread, harg10.read_unread, View.ld_unit_zero (S := S1024x1024) hz, View.ld_unit_zero (S := S2048x1024) hz, View.ld_unit_zero (S := S1024x2048) hz, shapeCast_self]

/-- A point with operand 3 adds its products to the accumulator. -/
theorem acc_F (hc0 : ¬cond0_0 i) (hc1 : ¬cond0_1 i) (hc2 : ¬cond0_2 i) (hc3 : ¬cond0_3 i) (hc4 : cond0_4 i) (hc5 : cond0_5 i) :
    sout0_F_0 (F := Ideal) c i arg3 harg3 arg4 harg4 arg5 harg5 arg6 harg6 arg7 harg7 arg8 harg8 arg9 harg9 arg10 harg10 hc0 hc1 hc2 hc3 hc4 hc5 x0 x1 x2 x3 x4 x5 xs0 = k0_pay1 (F := Ideal) xs0 x3 x4 := by
  unfold sout0_F_0
  rw [View.read_writes_eq_canon _ _ _ (scover0_F_0 (F := Ideal) _ _ _ _ _ _ _ _ _ _ _ _ _ _ _ _ _ _ _ _ _ _ _ _ _ _ _ _ _ _ _)]
  unfold kernelRun0_F
  dsimp only
  sl_unfold_words
  rw [View.canon_unit_zero hz]
  simp only [k0_pay1, k0_pay4, k0_pay5, k0_pay6, View.readAt_eq_ld, harg6.read_unread, harg7.read_unread, harg10.read_unread, View.ld_unit_zero (S := S1024x1024) hz, View.ld_unit_zero (S := S2048x1024) hz, View.ld_unit_zero (S := S1024x2048) hz, shapeCast_self]

/-- The last point of a sweep adds the other gradient and writes the sum out. -/
theorem res_F (hc0 : ¬cond0_0 i) (hc1 : ¬cond0_1 i) (hc2 : ¬cond0_2 i) (hc3 : ¬cond0_3 i) (hc4 : cond0_4 i) (hc5 : cond0_5 i) :
    out0_F_6 (F := Ideal) c i arg3 harg3 arg4 harg4 arg5 harg5 arg6 harg6 arg7 harg7 arg8 harg8 arg9 harg9 arg10 harg10 hc0 hc1 hc2 hc3 hc4 hc5 x0 x1 x2 x3 x4 x5 xs0 = k0_pay2 (F := Ideal) (k0_pay1 (F := Ideal) xs0 x3 x4) x5 := by
  unfold out0_F_6
  rw [View.read_writes_eq_canon _ _ _ (cover0_F_6 (F := Ideal) _ _ _ _ _ _ _ _ _ _ _ _ _ _ _ _ _ _ _ _ _ _ _ _ _ _ _ _ _ _ _)]
  unfold kernelRun0_F
  dsimp only
  sl_unfold_words
  rw [View.canon_unit_zero hz, View.readCov_unit_zero (S := S1024x2048) _ hz]
  simp only [k0_pay1, k0_pay4, k0_pay5, k0_pay6, View.readAt_eq_ld, harg6.read_unread, harg8.read_unread, harg7.read_unread, harg10.read_unread, View.ld_unit_zero (S := S1024x1024) hz, View.ld_unit_zero (S := S2048x1024) hz, View.ld_unit_zero (S := S1024x2048) hz, shapeCast_self]

end Cert.Kernel4Ideal.Fx

end
-- ==== Proof.FxSum.lean ====
module

public import proofs.«01_k».proof.Proof.DxSum
public import proofs.«01_k».proof.Proof.FxPoint
public import proofs.«01_k».proof.Proof.Gen.Kernel4Ideal.Value

/-! The gradient of the attention's input: the accumulator along a sweep, and the result. -/

@[expose] public section

set_option maxRecDepth 16384
set_option maxHeartbeats 4000000

noncomputable section

namespace Cert.Kernel4Ideal.Fx

open Cert.Kernel4Ideal Cert.Kernel4Ideal.Gen Cert.At
open Idealize.ShloMosaic Idealize.ShloMosaic.TcCoe Idealize.ShloMosaic.Tactic Idealize.ShloMosaic.ValueIdx
open Idealize.SL Idealize.SL.RA Idealize.SL.BI

/-- One point's step: the products of a row of the left block and a row of the right block are added. -/
theorem step_apply (acc : Vec Ideal S1024x2048 .f32) (a : Vec Ideal S1024x1024 .bf16) (w : Vec Ideal S2048x1024 .bf16) (r : Fin 1024) (q : Fin 2048) :
    k0_pay1 (F := Ideal) acc a w (ix2 r q) = acc (ix2 r q) + ∑ x : Fin 1024, a (ix2 r x) * w (ix2 q x) :=
  Cert.Kernel3Ideal.Dx.step_apply acc a w r q

variable (m : (ℓ : Loc nD τ sig) → Buf (Elt Ideal) ℓ) (c : Dev nD)

/-- The weight. -/
abbrev W : S2048x8192.Idx → EReal := m ((c : Thread nD τ).loc main_arg0)

/-- The gradient at the first output. -/
abbrev A0 : S8192x2048.Idx → EReal := m ((c : Thread nD τ).loc main_arg1)

/-- The gradient at the second output. -/
abbrev A1 : S8192x2048.Idx → EReal := m ((c : Thread nD τ).loc main_arg2)

/-- The gradient at the third output. -/
abbrev A2 : S8192x2048.Idx → EReal := m ((c : Thread nD τ).loc main_arg3)

/-- The gradient at the fourth output. -/
abbrev A3 : S8192x2048.Idx → EReal := m ((c : Thread nD τ).loc main_arg4)

/-- The gradient from the input's other use. -/
abbrev O : S8192x2048.Idx → EReal := m ((c : Thread nD τ).loc main_arg5)

/-- The four gradients side by side. -/
def cat (r x : ℕ) : EReal := cat4 (A0 m c) (A1 m c) (A2 m c) (A3 m c) r x

/-- One term of the result's entry at row `r` and column `q`. -/
def term (r q x : ℕ) : EReal := cat m c r x * at2 (W m c) q x

/-- Which block of operand 0 a grid point reads, when it uses it. -/
theorem idx0 : ∀ t : Fin cfg0.N, t.val % 8 ≤ 1 → win0_0.index t (0 : Fin 2) = t.val / 8 ∧ 0 + win0_0.index t (1 : Fin 2) = t.val % 8 := (by decide +kernel : ∀ t : Fin grid0.N, _)

/-- The block of operand 0. -/
theorem blk0 (t : Fin cfg0.N) (h : t.val % 8 ≤ 1) (r d : Fin 1024) :
    (iblk m c 0 t : Vec Ideal S1024x1024 .bf16) (ix2 r d) = cat m c (t.val / 8 * 1024 + r.val) (t.val % 8 * 1024 + d.val) := by
  obtain ⟨e0, e1⟩ := idx0 t h
  have hd := d.isLt
  have hb0 : (((cfg0.win 0).blk t).view.emb (ix2 r d) 0).val = win0_0.index t (0 : Fin 2) * 1024 + 1 * r.val := rfl
  have hb1 : (((cfg0.win 0).blk t).view.emb (ix2 r d) 1).val = win0_0.index t (1 : Fin 2) * 1024 + 1 * d.val := rfl
  refine (at2_idx (A0 m c) (((cfg0.win 0).blk t).view.emb (ix2 r d)) (a := t.val / 8 * 1024 + r.val) (b := t.val % 8 * 1024 + d.val - 0) (hb0.trans ?_) (hb1.trans ?_)).trans ?_
  · rw [e0]; omega
  · omega
  · unfold cat cat4
    rw [if_pos (by omega)]
    rfl

/-- Which block of operand 1 a grid point reads, when it uses it. -/
theorem idx1 : ∀ t : Fin cfg0.N, 2 ≤ t.val % 8 ∧ t.val % 8 ≤ 3 → win0_1.index t (0 : Fin 2) = t.val / 8 ∧ 2 + win0_1.index t (1 : Fin 2) = t.val % 8 := (by decide +kernel : ∀ t : Fin grid0.N, _)

/-- The block of operand 1. -/
theorem blk1 (t : Fin cfg0.N) (h : 2 ≤ t.val % 8 ∧ t.val % 8 ≤ 3) (r d : Fin 1024) :
    (iblk m c 1 t : Vec Ideal S1024x1024 .bf16) (ix2 r d) = cat m c (t.val / 8 * 1024 + r.val) (t.val % 8 * 1024 + d.val) := by
  obtain ⟨e0, e1⟩ := idx1 t h
  have hd := d.isLt
  have hb0 : (((cfg0.win 1).blk t).view.emb (ix2 r d) 0).val = win0_1.index t (0 : Fin 2) * 1024 + 1 * r.val := rfl
  have hb1 : (((cfg0.win 1).blk t).view.emb (ix2 r d) 1).val = win0_1.index t (1 : Fin 2) * 1024 + 1 * d.val := rfl
  refine (at2_idx (A1 m c) (((cfg0.win 1).blk t).view.emb (ix2 r d)) (a := t.val / 8 * 1024 + r.val) (b := t.val % 8 * 1024 + d.val - 2048) (hb0.trans ?_) (hb1.trans ?_)).trans ?_
  · rw [e0]; omega
  · omega
  · unfold cat cat4
    rw [if_neg (by omega), if_pos (by omega)]

/-- Which block of operand 2 a grid point reads, when it uses it. -/
theorem idx2 : ∀ t : Fin cfg0.N, 4 ≤ t.val % 8 ∧ t.val % 8 ≤ 5 → win0_2.index t (0 : Fin 2) = t.val / 8 ∧ 4 + win0_2.index t (1 : Fin 2) = t.val % 8 := (by decide +kernel : ∀ t : Fin grid0.N, _)

/-- The block of operand 2. -/
theorem blk2 (t : Fin cfg0.N) (h : 4 ≤ t.val % 8 ∧ t.val % 8 ≤ 5) (r d : Fin 1024) :
    (iblk m c 2 t : Vec Ideal S1024x1024 .bf16) (ix2 r d) = cat m c (t.val / 8 * 1024 + r.val) (t.val % 8 * 1024 + d.val) := by
  obtain ⟨e0, e1⟩ := idx2 t h
  have hd := d.isLt
  have hb0 : (((cfg0.win 2).blk t).view.emb (ix2 r d) 0).val = win0_2.index t (0 : Fin 2) * 1024 + 1 * r.val := rfl
  have hb1 : (((cfg0.win 2).blk t).view.emb (ix2 r d) 1).val = win0_2.index t (1 : Fin 2) * 1024 + 1 * d.val := rfl
  refine (at2_idx (A2 m c) (((cfg0.win 2).blk t).view.emb (ix2 r d)) (a := t.val / 8 * 1024 + r.val) (b := t.val % 8 * 1024 + d.val - 4096) (hb0.trans ?_) (hb1.trans ?_)).trans ?_
  · rw [e0]; omega
  · omega
  · unfold cat cat4
    rw [if_neg (by omega), if_neg (by omega), if_pos (by omega)]

/-- Which block of operand 3 a grid point reads, when it uses it. -/
theorem idx3 : ∀ t : Fin cfg0.N, 6 ≤ t.val % 8 → win0_3.index t (0 : Fin 2) = t.val / 8 ∧ 6 + win0_3.index t (1 : Fin 2) = t.val % 8 := (by decide +kernel : ∀ t : Fin grid0.N, _)

/-- The block of operand 3. -/
theorem blk3 (t : Fin cfg0.N) (h : 6 ≤ t.val % 8) (r d : Fin 1024) :
    (iblk m c 3 t : Vec Ideal S1024x1024 .bf16) (ix2 r d) = cat m c (t.val / 8 * 1024 + r.val) (t.val % 8 * 1024 + d.val) := by
  obtain ⟨e0, e1⟩ := idx3 t h
  have hd := d.isLt
  have hb0 : (((cfg0.win 3).blk t).view.emb (ix2 r d) 0).val = win0_3.index t (0 : Fin 2) * 1024 + 1 * r.val := rfl
  have hb1 : (((cfg0.win 3).blk t).view.emb (ix2 r d) 1).val = win0_3.index t (1 : Fin 2) * 1024 + 1 * d.val := rfl
  refine (at2_idx (A3 m c) (((cfg0.win 3).blk t).view.emb (ix2 r d)) (a := t.val / 8 * 1024 + r.val) (b := t.val % 8 * 1024 + d.val - 6144) (hb0.trans ?_) (hb1.trans ?_)).trans ?_
  · rw [e0]; omega
  · omega
  · unfold cat cat4
    rw [if_neg (by omega), if_neg (by omega), if_neg (by omega)]

/-- Which block of the weight a grid point reads. -/
theorem idx4 : ∀ t : Fin cfg0.N, win0_4.index t (0 : Fin 2) = 0 ∧ win0_4.index t (1 : Fin 2) = t.val % 8 := (by decide +kernel : ∀ t : Fin grid0.N, _)

/-- The block of the weight. -/
theorem blk4 (t : Fin cfg0.N) (q : Fin 2048) (d : Fin 1024) :
    (iblk m c 4 t : Vec Ideal S2048x1024 .bf16) (ix2 q d) = at2 (W m c) q.val (t.val % 8 * 1024 + d.val) := by
  obtain ⟨e0, e1⟩ := idx4 t
  have hb0 : (((cfg0.win 4).blk t).view.emb (ix2 q d) 0).val = win0_4.index t (0 : Fin 2) * 2048 + 1 * q.val := rfl
  have hb1 : (((cfg0.win 4).blk t).view.emb (ix2 q d) 1).val = win0_4.index t (1 : Fin 2) * 1024 + 1 * d.val := rfl
  refine at2_idx (W m c) (((cfg0.win 4).blk t).view.emb (ix2 q d)) (hb0.trans ?_) (hb1.trans ?_)
  · rw [e0]; omega
  · rw [e1]; omega

/-- Which block of the other gradient a grid point reads. -/
theorem idx5 : ∀ t : Fin cfg0.N, win0_5.index t (0 : Fin 2) = t.val / 8 ∧ win0_5.index t (1 : Fin 2) = 0 := (by decide +kernel : ∀ t : Fin grid0.N, _)

/-- The block of the other gradient. -/
theorem blk5 (t : Fin cfg0.N) (r : Fin 1024) (q : Fin 2048) :
    (iblk m c 5 t : Vec Ideal S1024x2048 .bf16) (ix2 r q) = at2 (O m c) (t.val / 8 * 1024 + r.val) q.val := by
  obtain ⟨e0, e1⟩ := idx5 t
  have hb0 : (((cfg0.win 5).blk t).view.emb (ix2 r q) 0).val = win0_5.index t (0 : Fin 2) * 1024 + 1 * r.val := rfl
  have hb1 : (((cfg0.win 5).blk t).view.emb (ix2 r q) 1).val = win0_5.index t (1 : Fin 2) * 2048 + 1 * q.val := rfl
  refine at2_idx (O m c) (((cfg0.win 5).blk t).view.emb (ix2 r q)) (hb0.trans ?_) (hb1.trans ?_)
  · rw [e0]; omega
  · rw [e1]; omega

/-- A step takes the sum of the terms so far to the sum with the next block of terms. -/
theorem step_sum (t : Fin cfg0.N) (acc : Vec Ideal S1024x2048 .f32) (a : Vec Ideal S1024x1024 .bf16) (r : Fin 1024) (q : Fin 2048)
    (ha : ∀ d : Fin 1024, a (ix2 r d) = cat m c (t.val / 8 * 1024 + r.val) (t.val % 8 * 1024 + d.val))
    (hacc : acc (ix2 r q) = ∑ x ∈ Finset.range (t.val % 8 * 1024), term m c (t.val / 8 * 1024 + r.val) q.val x) :
    k0_pay1 (F := Ideal) acc a (iblk m c 4 t) (ix2 r q) = ∑ x ∈ Finset.range ((t.val % 8 + 1) * 1024), term m c (t.val / 8 * 1024 + r.val) q.val x := by
  rw [step_apply]
  refine sum_block 1024 (t.val % 8) _ _ _ hacc fun d => ?_
  rw [ha d, blk4 m c t q d]
  rfl

/-- The accumulator after a grid point. -/
theorem acc_eq : ∀ (n : ℕ) (hn : n < cfg0.N) (r : Fin 1024) (q : Fin 2048),
    (outsAt0 m c n hn).2 (ix2 r q) = ∑ x ∈ Finset.range ((n % 8 + 1) * 1024), term m c (n / 8 * 1024 + r.val) q.val x := by
  intro n
  induction n using Nat.strong_induction_on with
  | _ n ih =>
    intro hn r q
    by_cases h0 : n % 8 = 0
    · rw [outsAt0_A m c ⟨n, hn⟩ h0 (by dsimp only; omega) (by dsimp only; omega) (by dsimp only; omega) (by dsimp only; omega) (by dsimp only; omega)]
      dsimp only
      rw [acc_A]
      refine step_sum m c ⟨n, hn⟩ _ _ r q (fun d => blk0 m c ⟨n, hn⟩ (by dsimp only; omega) r d) ?_
      dsimp only
      rw [h0, Nat.zero_mul, Finset.range_zero, Finset.sum_empty]
      unfold k0_pay3
      rw [shapeCast_self]
      exact Ideal.ofBits_zero_f32
    · have hp := Cert.Kernel3Ideal.Dx.prev_sum (k := r.val) (j := 0) h0 _ (fun a => term m c a q.val) (ih (n - 1) (by omega) (Nat.lt_of_le_of_lt (Nat.sub_le _ _) hn) r q)
      by_cases h : n % 8 = 1
      · rw [outsAt0_B m c ⟨n, hn⟩ h0 (by dsimp only; omega) (by dsimp only; omega) (by dsimp only; omega) (by dsimp only; omega) (by dsimp only; omega)]
        dsimp only
        rw [acc_B]
        exact step_sum m c ⟨n, hn⟩ _ _ r q (fun d => blk0 m c ⟨n, hn⟩ (by dsimp only; omega) r d) hp
      by_cases h : 2 ≤ n % 8 ∧ n % 8 ≤ 3
      · rw [outsAt0_C m c ⟨n, hn⟩ h0 (by dsimp only; omega) (by dsimp only; omega) (by dsimp only; omega) (by dsimp only; omega) (by dsimp only; omega)]
        dsimp only
        rw [acc_C]
        exact step_sum m c ⟨n, hn⟩ _ _ r q (fun d => blk1 m c ⟨n, hn⟩ (by dsimp only; omega) r d) hp
      by_cases h : 4 ≤ n % 8 ∧ n % 8 ≤ 5
      · rw [outsAt0_D m c ⟨n, hn⟩ h0 (by dsimp only; omega) (by dsimp only; omega) (by dsimp only; omega) (by dsimp only; omega) (by dsimp only; omega)]
        dsimp only
        rw [acc_D]
        exact step_sum m c ⟨n, hn⟩ _ _ r q (fun d => blk2 m c ⟨n, hn⟩ (by dsimp only; omega) r d) hp
      by_cases h : n % 8 = 6
      · rw [outsAt0_E m c ⟨n, hn⟩ h0 (by dsimp only; omega) (by dsimp only; omega) (by dsimp only; omega) (by dsimp only; omega) (by dsimp only; omega)]
        dsimp only
        rw [acc_E]
        exact step_sum m c ⟨n, hn⟩ _ _ r q (fun d => blk3 m c ⟨n, hn⟩ (by dsimp only; omega) r d) hp
      rw [outsAt0_F m c ⟨n, hn⟩ h0 (by dsimp only; omega) (by dsimp only; omega) (by dsimp only; omega) (by dsimp only; omega) (by dsimp only; omega)]
      dsimp only
      rw [acc_F]
      exact step_sum m c ⟨n, hn⟩ _ _ r q (fun d => blk3 m c ⟨n, hn⟩ (by dsimp only; omega) r d) hp

/-- The result's entry at row `r` and column `q`. -/
def total (r q : ℕ) : EReal := (∑ x ∈ Finset.range 8192, term m c r q x) + at2 (O m c) r q

/-- What a sweep's last point writes: the accumulator and the other gradient, added. -/
theorem fin_apply (acc : Vec Ideal S1024x2048 .f32) (o : Vec Ideal S1024x2048 .bf16) (i : S1024x2048.Idx) :
    k0_pay2 (F := Ideal) acc o i = acc i + o i := rfl

/-- The block a sweep's last point writes. -/
theorem res_eq (n : ℕ) (hn : n < cfg0.N) (h7 : n % 8 = 7) (r : Fin 1024) (q : Fin 2048) :
    (outsAt0 m c n hn).1 (ix2 r q) = total m c (n / 8 * 1024 + r.val) q.val := by
  have hp := Cert.Kernel3Ideal.Dx.prev_sum (k := r.val) (j := 0) (by omega : n % 8 ≠ 0) _ (fun a => term m c a q.val) (acc_eq m c (n - 1) (Nat.lt_of_le_of_lt (Nat.sub_le _ _) hn) r q)
  rw [outsAt0_F m c ⟨n, hn⟩ (by dsimp only; omega) (by dsimp only; omega) (by dsimp only; omega) (by dsimp only; omega) (by dsimp only; omega) h7]
  dsimp only
  rw [res_F, fin_apply, blk5 m c ⟨n, hn⟩ r q, step_sum m c ⟨n, hn⟩ _ _ r q (fun d => blk3 m c ⟨n, hn⟩ (by dsimp only; omega) r d) hp]
  dsimp only
  rw [h7]
  rfl

/-- The result, entry by entry. -/
theorem result_eq (i : S8192x2048.Idx) :
    Cert.Kernel4Ideal.Value.G6 m c i = total m c (i 0).val (i 1).val := by
  have h0 : (i 0).val < 8192 := (i 0).isLt
  have h1 : (i 1).val < 2048 := (i 1).isLt
  have hN : cfg0.N = 64 := N_0
  have hr : Cert.Kernel4Ideal.Value.run6Of i = (i 0).val / 1024 := by
    show 1 * ((i 0).val / 1024 - 0) + 1 * ((i 1).val / 2048 - 0) = _
    omega
  have hpt : Cert.Kernel4Ideal.Value.pt6Of i = 8 * ((i 0).val / 1024) + 7 := by
    show 8 * Cert.Kernel4Ideal.Value.run6Of i + 7 = _
    rw [hr]
  have hn : Cert.Kernel4Ideal.Value.pt6Of i < cfg0.N := by omega
  unfold Cert.Kernel4Ideal.Value.G6
  rw [dif_pos hn, ← Cert.Kernel4Ideal.Value.outsAt0_sweep m c _ hn]
  have hl : Cert.Kernel4Ideal.Value.loc6Of i = ix2 (⟨(i 0).val % 1024, by omega⟩ : Fin 1024) (⟨(i 1).val % 2048, by omega⟩ : Fin 2048) := by
    funext a
    match a with
    | ⟨0, _⟩ => rfl
    | ⟨1, _⟩ => rfl
  rw [hl]
  refine (res_eq m c _ hn (by omega) _ _).trans (congrArg₂ (total m c) ?_ (Nat.mod_eq_of_lt h1))
  show _ / 8 * 1024 + (i 0).val % 1024 = _
  omega

end Cert.Kernel4Ideal.Fx

end
-- ==== Proof.FxRef.lean ====
module

public import proofs.«01_k».proof.Proof.At
public import proofs.«01_k».proof.Proof.Gen.Reference4Ideal.Read

/-! The reference's gradient of the attention's input, entry by entry. -/

@[expose] public section

set_option maxRecDepth 16384
set_option maxHeartbeats 4000000

noncomputable section

namespace Cert.Reference4Ideal.Fx

open Cert.Reference4Ideal Cert.Reference4Ideal.Gen Cert.At
open Idealize.ShloMosaic Idealize.ShloMosaic.TcCoe

/-- Each entry of the reference's result is the sum of the products over the four gradients side by side, and the other gradient. -/
theorem ref_eq (x0 : S2048x8192.Idx → EReal) (x1 x2 x3 x4 x5 : S8192x2048.Idx → EReal) (i : S8192x2048.Idx) :
    Cert.Reference4Ideal.Read.val_main_v15 (F := Ideal) x0 x1 x2 x3 x4 x5 i
      = (∑ x ∈ Finset.range 8192, cat4 x1 x2 x3 x4 (i 0).val x * at2 x0 (i 1).val x) + at2 x5 (i 0).val (i 1).val := by
  refine (add_comm (x5 i) (Cert.Reference4Ideal.Read.val_main_v13 (F := Ideal) x0 x1 x2 x3 x4 i)).trans (congrArg₂ (· + ·) ?_ (at2_idx x5 i rfl rfl))
  refine (Cert.Reference4Ideal.Read.val_main_v13_apply x0 x1 x2 x3 x4 i).trans ?_
  rw [Finset.sum_range]
  refine Finset.sum_congr rfl fun k _ => congrArg₂ (· * ·) ?_ ?_
  · exact cat4_eq x1 x2 x3 x4 _ _ rfl rfl
  · exact at2_idx x0 _ rfl rfl

end Cert.Reference4Ideal.Fx

end
-- ==== Proof.FxFinal.lean ====
module

public import proofs.«01_k».proof.Defs
public import proofs.«01_k».proof.Proof.FxSum
public import proofs.«01_k».proof.Proof.FxRef
public import proofs.«01_k».proof.Proof.Gen.Kernel4.Frame
public import Idealize.ShloMosaic.Lib.Quiescent

/-! The claims on the gradient of the attention's input. -/

@[expose] public section

set_option maxRecDepth 16384
set_option maxHeartbeats 4000000

noncomputable section

namespace Cert.Proof

open Idealize.ShloMosaic Idealize.ShloMosaic.TcCoe Idealize.SL.Sem

/-- The kernel of the attention's input's gradient, over machine numbers, terminates with its arguments unchanged and every counter at zero. -/
theorem frame_kernel4 : Cert.quiescent_Kernel4 := fun m g _ => Cert.Kernel4.Gen.frame m g

/-- The same over the extended reals. -/
theorem frame_kernel4_ideal : Cert.quiescent_Kernel4Ideal := fun m g _ => Cert.Kernel4Ideal.Gen.frame m g

/-- The reference of the attention's input's gradient terminates with its arguments unchanged and every counter at zero: it has no counter. -/
theorem frame_reference4_ideal : Cert.quiescent_Reference4Ideal := fun m g _ =>
  (θ_run Cert.Reference4Ideal.defs _ _).mono (fun r h => ⟨fun c => (h c).2, sem_eq_zero_of_no_sems (by decide) _⟩) (Cert.Reference4Ideal.Value.run (F := Ideal) m g)

/-- Kernel and reference leave the same gradient of the attention's input. -/
theorem equal4 : Cert.algebraic_Kernel4Ideal_Reference4Ideal := fun m g m' g' _ hargs =>
  ⟨Cert.Kernel4Ideal.Value.G6 m, Cert.Kernel4Ideal.Value.run m g,
    (θ_run Cert.Reference4Ideal.defs _ _).mono (fun r h c => by
      obtain ⟨h0, h1⟩ := h c
      obtain ⟨e0, e1, e2, e3, e4, e5⟩ := hargs c
      refine ⟨h0.trans ?_, h1⟩
      rw [Cert.Reference4Ideal.Read.val_main_v15_eq, e0, e1, e2, e3, e4, e5]
      funext i
      refine (Cert.Reference4Ideal.Fx.ref_eq _ _ _ _ _ _ i).trans ?_
      exact (Cert.Kernel4Ideal.Fx.result_eq m c i).symm) (Cert.Reference4Ideal.Value.run m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Reference
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init
public import Idealize.ShloMosaic.Lib.Quiescent
public import proofs.«01_k».proof.Proof.RefFrame
public import proofs.«01_k».proof.Proof.Final
public import proofs.«01_k».proof.Proof.DwFinal
public import proofs.«01_k».proof.Proof.DxFinal
public import proofs.«01_k».proof.Proof.FxFinal

@[expose] public section

noncomputable section

namespace Cert.Proof

open Idealize.ShloMosaic Idealize.SL.Sem

/-- The kernel, over machine numbers, terminates with its arguments unchanged and every counter at zero. -/
theorem frame_kernel : Cert.quiescent_Kernel := fun m g _ => Cert.Kernel.Gen.frame m g

/-- The kernel, over the extended reals, terminates with its arguments unchanged and every counter at zero. -/
theorem frame_kernel_ideal : Cert.quiescent_KernelIdeal := fun m g _ => Cert.KernelIdeal.Gen.frame m g

/-- Kernel and reference leave the same five arrays. -/
theorem equal : Cert.algebraic_KernelIdeal_ReferenceIdeal_pre_finite := fun m g m' g' hpre hargs =>
  ⟨Cert.KernelIdeal.Value.G7 m, Cert.KernelIdeal.Value.G8 m, Cert.KernelIdeal.Value.G9 m, Cert.KernelIdeal.Value.G10 m, Cert.KernelIdeal.Value.G11 m,
    Cert.KernelIdeal.Value.run m g,
    (θ_run Cert.ReferenceIdeal.defs _ _).mono (fun r h c => by
      obtain ⟨h0, h1, h2, h3, h4, h5⟩ := h c
      obtain ⟨e0, e1, e2, e3, e4⟩ := Cert.KernelIdeal.Fox.same m (c := c) hpre (hargs c)
      exact ⟨h0.trans e0, h1.trans e1, h2.trans e2, h3.trans e3, h4.trans e4, h5⟩) (Cert.ReferenceIdeal.Value.run m' g')⟩

/-- Every claim. -/
theorem claim : Cert.Claim :=
  ⟨Cert.Kernel.Gen.facts, Cert.KernelIdeal.Gen.facts, Cert.ReferenceIdeal.Gen.facts, Cert.Reference.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Gen.facts,
    frame_kernel, frame_kernel_ideal, fun m g _ => frame_kernel_ideal m g trivial, frame_reference_ideal, fun m g _ => frame_reference_ideal m g trivial,
    frame_reference, frame_kernel2, frame_kernel2_ideal, frame_reference2_ideal, frame_kernel3, frame_kernel3_ideal, frame_reference3_ideal,
    frame_kernel4, frame_kernel4_ideal, frame_reference4_ideal,
    IdealRules.named_const.statement Cert.KernelIdeal.κ "ln2" .f32 0x3F317218#32 _ rfl, trivial, equal, trivial, equal2, trivial, equal3, trivial, equal4⟩

end Cert.Proof

end
